-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_MemoryKernel (m : (ℓ : Loc Cert.MemoryKernel.nD Cert.MemoryKernel.τ Cert.MemoryKernel.sig) → Buf (Elt Bits) ℓ) : Prop :=
  True

def Pre_MemoryKernelIdeal (m : (ℓ : Loc Cert.MemoryKernelIdeal.nD Cert.MemoryKernelIdeal.τ Cert.MemoryKernelIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_UpKernel [hPre_blocks_fit : Cert.Pre_blocks_fit.Facts] (m : (ℓ : Loc Cert.UpKernel.nD Cert.UpKernel.τ Cert.UpKernel.sig) → Buf (Elt Bits) ℓ) : Prop :=
  ∀ c : Dev Cert.UpKernel.nD,
    (Cert.Pre_blocks_fit.fn (F := Bits) (m ((c.tc : Thread Cert.UpKernel.nD Cert.UpKernel.τ).loc Cert.UpKernel.main_arg0)) (m ((c.tc : Thread Cert.UpKernel.nD Cert.UpKernel.τ).loc Cert.UpKernel.main_arg1)) (m ((c.tc : Thread Cert.UpKernel.nD Cert.UpKernel.τ).loc Cert.UpKernel.main_arg2)) (m ((c.tc : Thread Cert.UpKernel.nD Cert.UpKernel.τ).loc Cert.UpKernel.main_arg3)) (m ((c.tc : Thread Cert.UpKernel.nD Cert.UpKernel.τ).loc Cert.UpKernel.main_arg4)) (m ((c.tc : Thread Cert.UpKernel.nD Cert.UpKernel.τ).loc Cert.UpKernel.main_arg5))) = (fun _ => 1#1)

def Pre_UpKernelIdeal [hPre_blocks_fit : Cert.Pre_blocks_fit.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_blocks_fit.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_blocks_fit [hPre_blocks_fit : Cert.Pre_blocks_fit.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_blocks_fit.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeKernelIdeal_finite_projection [hPre_finite_projection : Cert.Pre_finite_projection.Facts] (m : (ℓ : Loc Cert.RopeKernelIdeal.nD Cert.RopeKernelIdeal.τ Cert.RopeKernelIdeal.sig) → Buf (Elt Ideal) ℓ) : Prop :=
  ∀ c : Dev Cert.RopeKernelIdeal.nD,
    (Cert.Pre_finite_projection.fn (F := Ideal) (m ((c.tc : Thread Cert.RopeKernelIdeal.nD Cert.RopeKernelIdeal.τ).loc Cert.RopeKernelIdeal.main_arg0)) (m ((c.tc : Thread Cert.RopeKernelIdeal.nD Cert.RopeKernelIdeal.τ).loc Cert.RopeKernelIdeal.main_arg1)) (m ((c.tc : Thread Cert.RopeKernelIdeal.nD Cert.RopeKernelIdeal.τ).loc Cert.RopeKernelIdeal.main_arg2)) (m ((c.tc : Thread Cert.RopeKernelIdeal.nD Cert.RopeKernelIdeal.τ).loc Cert.RopeKernelIdeal.main_arg3)) (m ((c.tc : Thread Cert.RopeKernelIdeal.nD Cert.RopeKernelIdeal.τ).loc Cert.RopeKernelIdeal.main_arg4))) = (fun _ => 1#1)

def Pre_RopeReferenceIdeal (m : (ℓ : Loc Cert.RopeReferenceIdeal.nD Cert.RopeReferenceIdeal.τ Cert.RopeReferenceIdeal.sig) → Buf (Elt Ideal) ℓ) : Prop :=
  True

def Pre_RopeReferenceIdeal_finite_projection [hPre_finite_projection : Cert.Pre_finite_projection.Facts] (m : (ℓ : Loc Cert.RopeReferenceIdeal.nD Cert.RopeReferenceIdeal.τ Cert.RopeReferenceIdeal.sig) → Buf (Elt Ideal) ℓ) : Prop :=
  ∀ c : Dev Cert.RopeReferenceIdeal.nD,
    (Cert.Pre_finite_projection.fn (F := Ideal) (m ((c.tc : Thread Cert.RopeReferenceIdeal.nD Cert.RopeReferenceIdeal.τ).loc Cert.RopeReferenceIdeal.main_arg0)) (m ((c.tc : Thread Cert.RopeReferenceIdeal.nD Cert.RopeReferenceIdeal.τ).loc Cert.RopeReferenceIdeal.main_arg1)) (m ((c.tc : Thread Cert.RopeReferenceIdeal.nD Cert.RopeReferenceIdeal.τ).loc Cert.RopeReferenceIdeal.main_arg2)) (m ((c.tc : Thread Cert.RopeReferenceIdeal.nD Cert.RopeReferenceIdeal.τ).loc Cert.RopeReferenceIdeal.main_arg3)) (m ((c.tc : Thread Cert.RopeReferenceIdeal.nD Cert.RopeReferenceIdeal.τ).loc Cert.RopeReferenceIdeal.main_arg4))) = (fun _ => 1#1)

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleKernelIdeal_finite_sample [hPre_finite_sample : Cert.Pre_finite_sample.Facts] (m : (ℓ : Loc Cert.SampleKernelIdeal.nD Cert.SampleKernelIdeal.τ Cert.SampleKernelIdeal.sig) → Buf (Elt Ideal) ℓ) : Prop :=
  ∀ c : Dev Cert.SampleKernelIdeal.nD,
    (Cert.Pre_finite_sample.fn (F := Ideal) (m ((c.tc : Thread Cert.SampleKernelIdeal.nD Cert.SampleKernelIdeal.τ).loc Cert.SampleKernelIdeal.main_arg0)) (m ((c.tc : Thread Cert.SampleKernelIdeal.nD Cert.SampleKernelIdeal.τ).loc Cert.SampleKernelIdeal.main_arg1)) (m ((c.tc : Thread Cert.SampleKernelIdeal.nD Cert.SampleKernelIdeal.τ).loc Cert.SampleKernelIdeal.main_arg2)) (m ((c.tc : Thread Cert.SampleKernelIdeal.nD Cert.SampleKernelIdeal.τ).loc Cert.SampleKernelIdeal.main_arg3)) (m ((c.tc : Thread Cert.SampleKernelIdeal.nD Cert.SampleKernelIdeal.τ).loc Cert.SampleKernelIdeal.main_arg4)) (m ((c.tc : Thread Cert.SampleKernelIdeal.nD Cert.SampleKernelIdeal.τ).loc Cert.SampleKernelIdeal.main_arg5)) (m ((c.tc : Thread Cert.SampleKernelIdeal.nD Cert.SampleKernelIdeal.τ).loc Cert.SampleKernelIdeal.main_arg6)) (m ((c.tc : Thread Cert.SampleKernelIdeal.nD Cert.SampleKernelIdeal.τ).loc Cert.SampleKernelIdeal.main_arg7))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_finite_sample [hPre_finite_sample : Cert.Pre_finite_sample.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_finite_sample.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5)
      ∧ r.2.mem ((c.tc : Thread Cert.InputKernel.nD Cert.InputKernel.τ).loc Cert.InputKernel.main_arg6) = m ((c.tc : Thread Cert.InputKernel.nD Cert.InputKernel.τ).loc Cert.InputKernel.main_arg6))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5)
      ∧ r.2.mem ((c.tc : Thread Cert.InputKernelIdeal.nD Cert.InputKernelIdeal.τ).loc Cert.InputKernelIdeal.main_arg6) = m ((c.tc : Thread Cert.InputKernelIdeal.nD Cert.InputKernelIdeal.τ).loc Cert.InputKernelIdeal.main_arg6))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)
      ∧ r.2.mem ((c.tc : Thread Cert.InputReferenceIdeal.nD Cert.InputReferenceIdeal.τ).loc Cert.InputReferenceIdeal.main_arg6) = m ((c.tc : Thread Cert.InputReferenceIdeal.nD Cert.InputReferenceIdeal.τ).loc Cert.InputReferenceIdeal.main_arg6))
      ∧ r.2.sem = fun _ => 0)

def quiescent_MemoryKernel [hMemoryKernel : Cert.MemoryKernel.Facts] : Prop :=
  ∀ (m : (ℓ : Loc Cert.MemoryKernel.nD Cert.MemoryKernel.τ Cert.MemoryKernel.sig) → Buf (Elt Bits) ℓ) (g : Dev Cert.MemoryKernel.nD → PrngReg), Pre_MemoryKernel m →
    θ_run (Cert.MemoryKernel.defs (F := Bits)) (onTc (τ := Cert.MemoryKernel.τ) (Cert.MemoryKernel.main (F := Bits))) ⟨m, fun _ => 0, g⟩ (fun r => (∀ c : Dev Cert.MemoryKernel.nD,
      r.2.mem ((c.tc : Thread Cert.MemoryKernel.nD Cert.MemoryKernel.τ).loc Cert.MemoryKernel.main_arg0) = m ((c.tc : Thread Cert.MemoryKernel.nD Cert.MemoryKernel.τ).loc Cert.MemoryKernel.main_arg0)
      ∧ r.2.mem ((c.tc : Thread Cert.MemoryKernel.nD Cert.MemoryKernel.τ).loc Cert.MemoryKernel.main_arg1) = m ((c.tc : Thread Cert.MemoryKernel.nD Cert.MemoryKernel.τ).loc Cert.MemoryKernel.main_arg1)
      ∧ r.2.mem ((c.tc : Thread Cert.MemoryKernel.nD Cert.MemoryKernel.τ).loc Cert.MemoryKernel.main_arg2) = m ((c.tc : Thread Cert.MemoryKernel.nD Cert.MemoryKernel.τ).loc Cert.MemoryKernel.main_arg2)
      ∧ r.2.mem ((c.tc : Thread Cert.MemoryKernel.nD Cert.MemoryKernel.τ).loc Cert.MemoryKernel.main_arg3) = m ((c.tc : Thread Cert.MemoryKernel.nD Cert.MemoryKernel.τ).loc Cert.MemoryKernel.main_arg3))
      ∧ r.2.sem = fun _ => 0)

def quiescent_MemoryKernelIdeal [hMemoryKernelIdeal : Cert.MemoryKernelIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg), Pre_MemoryKernelIdeal m →
    θ_run (Cert.MemoryKernelIdeal.defs (F := Ideal)) (onTc (τ := Cert.MemoryKernelIdeal.τ) (Cert.MemoryKernelIdeal.main (F := Ideal))) ⟨m, fun _ => 0, g⟩ (fun r => (∀ c : Dev Cert.MemoryKernelIdeal.nD,
      r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
      ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
      ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2)
      ∧ r.2.mem ((c.tc : Thread Cert.MemoryKernelIdeal.nD Cert.MemoryKernelIdeal.τ).loc Cert.MemoryKernelIdeal.main_arg3) = m ((c.tc : Thread Cert.MemoryKernelIdeal.nD Cert.MemoryKernelIdeal.τ).loc Cert.MemoryKernelIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_UpKernel [hUpKernel : Cert.UpKernel.Facts] [hPre_blocks_fit : Cert.Pre_blocks_fit.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] [hPre_blocks_fit : Cert.Pre_blocks_fit.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_UpReferenceIdeal_pre_blocks_fit [hUpReferenceIdeal : Cert.UpReferenceIdeal.Facts] [hPre_blocks_fit : Cert.Pre_blocks_fit.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_blocks_fit m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3)
      ∧ r.2.mem ((c.tc : Thread Cert.RopeKernel.nD Cert.RopeKernel.τ).loc Cert.RopeKernel.main_arg4) = m ((c.tc : Thread Cert.RopeKernel.nD Cert.RopeKernel.τ).loc Cert.RopeKernel.main_arg4))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4))
      ∧ r.2.sem = fun _ => 0)

def quiescent_RopeKernelIdeal_pre_finite_projection [hRopeKernelIdeal : Cert.RopeKernelIdeal.Facts] [hPre_finite_projection : Cert.Pre_finite_projection.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal_finite_projection m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_RopeReferenceIdeal_pre_finite_projection [hRopeReferenceIdeal : Cert.RopeReferenceIdeal.Facts] [hPre_finite_projection : Cert.Pre_finite_projection.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal_finite_projection m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6)
      ∧ r.2.mem ((c.tc : Thread Cert.SampleKernel.nD Cert.SampleKernel.τ).loc Cert.SampleKernel.main_arg7) = m ((c.tc : Thread Cert.SampleKernel.nD Cert.SampleKernel.τ).loc Cert.SampleKernel.main_arg7))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7))
      ∧ r.2.sem = fun _ => 0)

def quiescent_SampleKernelIdeal_pre_finite_sample [hSampleKernelIdeal : Cert.SampleKernelIdeal.Facts] [hPre_finite_sample : Cert.Pre_finite_sample.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal_finite_sample m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def quiescent_SampleReferenceIdeal_pre_finite_sample [hSampleReferenceIdeal : Cert.SampleReferenceIdeal.Facts] [hPre_finite_sample : Cert.Pre_finite_sample.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_finite_sample m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_prompt_rows_pre_finite [hKernelIdeal : Cert.KernelIdeal.Facts] [hReferenceIdeal : Cert.ReferenceIdeal.Facts] [hPre_finite : Cert.Pre_finite.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![18432, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![18432, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v42) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InputKernel_InputKernelIdeal : Prop :=
  True

def algebraic_InputKernelIdeal_InputReferenceIdeal [hInputKernelIdeal : Cert.InputKernelIdeal.Facts] [hInputReferenceIdeal : Cert.InputReferenceIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)
      ∧ m' ((c.tc : Thread Cert.InputReferenceIdeal.nD Cert.InputReferenceIdeal.τ).loc Cert.InputReferenceIdeal.main_arg6) = m ((c.tc : Thread Cert.InputKernelIdeal.nD Cert.InputKernelIdeal.τ).loc Cert.InputKernelIdeal.main_arg6)) →
    ∃ (v0 : (c : Dev Cert.InputKernelIdeal.nD) → Buf (Elt Ideal) ((c.tc : Thread Cert.InputKernelIdeal.nD Cert.InputKernelIdeal.τ).loc Cert.InputKernelIdeal.main_v27)) (v1 : (c : Dev Cert.InputKernelIdeal.nD) → Buf (Elt Ideal) ((c.tc : Thread Cert.InputKernelIdeal.nD Cert.InputKernelIdeal.τ).loc Cert.InputKernelIdeal.main_v29)) (v2 : (c : Dev Cert.InputKernelIdeal.nD) → Buf (Elt Ideal) ((c.tc : Thread Cert.InputKernelIdeal.nD Cert.InputKernelIdeal.τ).loc Cert.InputKernelIdeal.main_v31)) (v3 : (c : Dev Cert.InputKernelIdeal.nD) → Buf (Elt Ideal) ((c.tc : Thread Cert.InputKernelIdeal.nD Cert.InputKernelIdeal.τ).loc Cert.InputKernelIdeal.main_v33)) (v4 : (c : Dev Cert.InputKernelIdeal.nD) → Buf (Elt Ideal) ((c.tc : Thread Cert.InputKernelIdeal.nD Cert.InputKernelIdeal.τ).loc Cert.InputKernelIdeal.main_v37)) (v5 : (c : Dev Cert.InputKernelIdeal.nD) → Buf (Elt Ideal) ((c.tc : Thread Cert.InputKernelIdeal.nD Cert.InputKernelIdeal.τ).loc Cert.InputKernelIdeal.main_v72)) (v6 : (c : Dev Cert.InputKernelIdeal.nD) → Buf (Elt Ideal) ((c.tc : Thread Cert.InputKernelIdeal.nD Cert.InputKernelIdeal.τ).loc Cert.InputKernelIdeal.main_v73)) (v7 : (c : Dev Cert.InputKernelIdeal.nD) → Buf (Elt Ideal) ((c.tc : Thread Cert.InputKernelIdeal.nD Cert.InputKernelIdeal.τ).loc Cert.InputKernelIdeal.main_v75)) (v8 : (c : Dev Cert.InputKernelIdeal.nD) → Buf (Elt Ideal) ((c.tc : Thread Cert.InputKernelIdeal.nD Cert.InputKernelIdeal.τ).loc Cert.InputKernelIdeal.main_v77)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v27) = v0 c
          ∧ r.2.mem ((c.tc : Thread Cert.InputKernelIdeal.nD Cert.InputKernelIdeal.τ).loc Cert.InputKernelIdeal.main_v29) = v1 c
          ∧ r.2.mem ((c.tc : Thread Cert.InputKernelIdeal.nD Cert.InputKernelIdeal.τ).loc Cert.InputKernelIdeal.main_v31) = v2 c
          ∧ r.2.mem ((c.tc : Thread Cert.InputKernelIdeal.nD Cert.InputKernelIdeal.τ).loc Cert.InputKernelIdeal.main_v33) = v3 c
          ∧ r.2.mem ((c.tc : Thread Cert.InputKernelIdeal.nD Cert.InputKernelIdeal.τ).loc Cert.InputKernelIdeal.main_v37) = v4 c
          ∧ r.2.mem ((c.tc : Thread Cert.InputKernelIdeal.nD Cert.InputKernelIdeal.τ).loc Cert.InputKernelIdeal.main_v72) = v5 c
          ∧ r.2.mem ((c.tc : Thread Cert.InputKernelIdeal.nD Cert.InputKernelIdeal.τ).loc Cert.InputKernelIdeal.main_v73) = v6 c
          ∧ r.2.mem ((c.tc : Thread Cert.InputKernelIdeal.nD Cert.InputKernelIdeal.τ).loc Cert.InputKernelIdeal.main_v75) = v7 c
          ∧ r.2.mem ((c.tc : Thread Cert.InputKernelIdeal.nD Cert.InputKernelIdeal.τ).loc Cert.InputKernelIdeal.main_v77) = v8 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5)
          ∧ r.2.mem ((c.tc : Thread Cert.InputKernelIdeal.nD Cert.InputKernelIdeal.τ).loc Cert.InputKernelIdeal.main_arg6) = m ((c.tc : Thread Cert.InputKernelIdeal.nD Cert.InputKernelIdeal.τ).loc Cert.InputKernelIdeal.main_arg6))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v162) = v0 c
          ∧ r.2.mem ((c.tc : Thread Cert.InputReferenceIdeal.nD Cert.InputReferenceIdeal.τ).loc Cert.InputReferenceIdeal.main_v166) = v1 c
          ∧ r.2.mem ((c.tc : Thread Cert.InputReferenceIdeal.nD Cert.InputReferenceIdeal.τ).loc Cert.InputReferenceIdeal.main_v170) = v2 c
          ∧ r.2.mem ((c.tc : Thread Cert.InputReferenceIdeal.nD Cert.InputReferenceIdeal.τ).loc Cert.InputReferenceIdeal.main_v174) = v3 c
          ∧ r.2.mem ((c.tc : Thread Cert.InputReferenceIdeal.nD Cert.InputReferenceIdeal.τ).loc Cert.InputReferenceIdeal.main_v178) = v4 c
          ∧ r.2.mem ((c.tc : Thread Cert.InputReferenceIdeal.nD Cert.InputReferenceIdeal.τ).loc Cert.InputReferenceIdeal.main_v180) = v5 c
          ∧ r.2.mem ((c.tc : Thread Cert.InputReferenceIdeal.nD Cert.InputReferenceIdeal.τ).loc Cert.InputReferenceIdeal.main_v182) = v6 c
          ∧ r.2.mem ((c.tc : Thread Cert.InputReferenceIdeal.nD Cert.InputReferenceIdeal.τ).loc Cert.InputReferenceIdeal.main_v183) = v7 c
          ∧ r.2.mem ((c.tc : Thread Cert.InputReferenceIdeal.nD Cert.InputReferenceIdeal.τ).loc Cert.InputReferenceIdeal.main_v184) = v8 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5)
          ∧ r.2.mem ((c.tc : Thread Cert.InputReferenceIdeal.nD Cert.InputReferenceIdeal.τ).loc Cert.InputReferenceIdeal.main_arg6) = m' ((c.tc : Thread Cert.InputReferenceIdeal.nD Cert.InputReferenceIdeal.τ).loc Cert.InputReferenceIdeal.main_arg6))

def preserves_MemoryKernel_MemoryKernelIdeal : Prop :=
  True

def algebraic_MemoryKernelIdeal_MemoryReferenceIdeal [hMemoryKernelIdeal : Cert.MemoryKernelIdeal.Facts] [hMemoryReferenceIdeal : Cert.MemoryReferenceIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryKernelIdeal m →
    (∀ c : Dev Cert.MemoryKernelIdeal.nD,
      m' ((c.tc : Thread Cert.MemoryReferenceIdeal.nD Cert.MemoryReferenceIdeal.τ).loc Cert.MemoryReferenceIdeal.main_arg0) = m ((c.tc : Thread Cert.MemoryKernelIdeal.nD Cert.MemoryKernelIdeal.τ).loc Cert.MemoryKernelIdeal.main_arg0)
      ∧ m' ((c.tc : Thread Cert.MemoryReferenceIdeal.nD Cert.MemoryReferenceIdeal.τ).loc Cert.MemoryReferenceIdeal.main_arg1) = m ((c.tc : Thread Cert.MemoryKernelIdeal.nD Cert.MemoryKernelIdeal.τ).loc Cert.MemoryKernelIdeal.main_arg1)
      ∧ m' ((c.tc : Thread Cert.MemoryReferenceIdeal.nD Cert.MemoryReferenceIdeal.τ).loc Cert.MemoryReferenceIdeal.main_arg2) = m ((c.tc : Thread Cert.MemoryKernelIdeal.nD Cert.MemoryKernelIdeal.τ).loc Cert.MemoryKernelIdeal.main_arg2)
      ∧ m' ((c.tc : Thread Cert.MemoryReferenceIdeal.nD Cert.MemoryReferenceIdeal.τ).loc Cert.MemoryReferenceIdeal.main_arg3) = m ((c.tc : Thread Cert.MemoryKernelIdeal.nD Cert.MemoryKernelIdeal.τ).loc Cert.MemoryKernelIdeal.main_arg3)) →
    ∃ (v0 : (c : Dev Cert.MemoryKernelIdeal.nD) → Buf (Elt Ideal) ((c.tc : Thread Cert.MemoryKernelIdeal.nD Cert.MemoryKernelIdeal.τ).loc Cert.MemoryKernelIdeal.main_v12)) (v1 : (c : Dev Cert.MemoryKernelIdeal.nD) → Buf (Elt Ideal) ((c.tc : Thread Cert.MemoryKernelIdeal.nD Cert.MemoryKernelIdeal.τ).loc Cert.MemoryKernelIdeal.main_v13)),
      θ_run (Cert.MemoryKernelIdeal.defs (F := Ideal)) (onTc (τ := Cert.MemoryKernelIdeal.τ) (Cert.MemoryKernelIdeal.main (F := Ideal))) ⟨m, fun _ => 0, g⟩ (fun r => ∀ c : Dev Cert.MemoryKernelIdeal.nD,
          r.2.mem ((c.tc : Thread Cert.MemoryKernelIdeal.nD Cert.MemoryKernelIdeal.τ).loc Cert.MemoryKernelIdeal.main_v12) = v0 c
          ∧ r.2.mem ((c.tc : Thread Cert.MemoryKernelIdeal.nD Cert.MemoryKernelIdeal.τ).loc Cert.MemoryKernelIdeal.main_v13) = v1 c
          ∧ r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
          ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
          ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2)
          ∧ r.2.mem ((c.tc : Thread Cert.MemoryKernelIdeal.nD Cert.MemoryKernelIdeal.τ).loc Cert.MemoryKernelIdeal.main_arg3) = m ((c.tc : Thread Cert.MemoryKernelIdeal.nD Cert.MemoryKernelIdeal.τ).loc Cert.MemoryKernelIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v16) = v0 c
          ∧ r.2.mem ((c.tc : Thread Cert.MemoryReferenceIdeal.nD Cert.MemoryReferenceIdeal.τ).loc Cert.MemoryReferenceIdeal.main_v19) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v11)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v11) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v16) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_UpKernel_UpKernelIdeal : Prop :=
  True

def algebraic_UpKernelIdeal_UpReferenceIdeal_on_rows_used [hUpKernelIdeal : Cert.UpKernelIdeal.Facts] [hUpReferenceIdeal : Cert.UpReferenceIdeal.Facts] [hPre_blocks_fit : Cert.Pre_blocks_fit.Facts] [hOn_rows_used : Cert.On_rows_used.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v58)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          (∀ i : (⟨2, ![90112, 2048]⟩ : Shape).Idx, (Cert.On_rows_used.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5))) i = 1#1 → r.2.mem ((c.tc : Thread Cert.UpKernelIdeal.nD Cert.UpKernelIdeal.τ).loc Cert.UpKernelIdeal.main_v58) i = v0 c i)
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          (∀ i : (⟨2, ![90112, 2048]⟩ : Shape).Idx, (Cert.On_rows_used.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5))) i = 1#1 → r.2.mem ((c.tc : Thread Cert.UpReferenceIdeal.nD Cert.UpReferenceIdeal.τ).loc Cert.UpReferenceIdeal.main_v71) i = v0 c i)
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_RopeKernel_RopeKernelIdeal : Prop :=
  True

def algebraic_RopeKernelIdeal_RopeReferenceIdeal_pre_finite_projection [hRopeKernelIdeal : Cert.RopeKernelIdeal.Facts] [hRopeReferenceIdeal : Cert.RopeReferenceIdeal.Facts] [hPre_finite_projection : Cert.Pre_finite_projection.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal_finite_projection m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)
      ∧ m' ((c.tc : Thread Cert.RopeReferenceIdeal.nD Cert.RopeReferenceIdeal.τ).loc Cert.RopeReferenceIdeal.main_arg2) = m ((c.tc : Thread Cert.RopeKernelIdeal.nD Cert.RopeKernelIdeal.τ).loc Cert.RopeKernelIdeal.main_arg2)
      ∧ m' ((c.tc : Thread Cert.RopeReferenceIdeal.nD Cert.RopeReferenceIdeal.τ).loc Cert.RopeReferenceIdeal.main_arg3) = m ((c.tc : Thread Cert.RopeKernelIdeal.nD Cert.RopeKernelIdeal.τ).loc Cert.RopeKernelIdeal.main_arg3)
      ∧ m' ((c.tc : Thread Cert.RopeReferenceIdeal.nD Cert.RopeReferenceIdeal.τ).loc Cert.RopeReferenceIdeal.main_arg4) = m ((c.tc : Thread Cert.RopeKernelIdeal.nD Cert.RopeKernelIdeal.τ).loc Cert.RopeKernelIdeal.main_arg4)) →
    ∃ (v0 : (c : Dev Cert.RopeKernelIdeal.nD) → Buf (Elt Ideal) ((c.tc : Thread Cert.RopeKernelIdeal.nD Cert.RopeKernelIdeal.τ).loc Cert.RopeKernelIdeal.main_v52)) (v1 : (c : Dev Cert.RopeKernelIdeal.nD) → Buf (Elt Ideal) ((c.tc : Thread Cert.RopeKernelIdeal.nD Cert.RopeKernelIdeal.τ).loc Cert.RopeKernelIdeal.main_v54)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v52) = v0 c
          ∧ r.2.mem ((c.tc : Thread Cert.RopeKernelIdeal.nD Cert.RopeKernelIdeal.τ).loc Cert.RopeKernelIdeal.main_v54) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
          ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
          ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
          ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v62) = v0 c
          ∧ r.2.mem ((c.tc : Thread Cert.RopeReferenceIdeal.nD Cert.RopeReferenceIdeal.τ).loc Cert.RopeReferenceIdeal.main_v121) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)) →
    ∃ (v0 : (c : Dev Cert.KvKernelIdeal.nD) → Buf (Elt Ideal) ((c.tc : Thread Cert.KvKernelIdeal.nD Cert.KvKernelIdeal.τ).loc Cert.KvKernelIdeal.main_v6)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v6) = v0 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v9) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_SampleKernel_SampleKernelIdeal : Prop :=
  True

def algebraic_SampleKernelIdeal_SampleReferenceIdeal_pre_finite_sample [hSampleKernelIdeal : Cert.SampleKernelIdeal.Facts] [hSampleReferenceIdeal : Cert.SampleReferenceIdeal.Facts] [hPre_finite_sample : Cert.Pre_finite_sample.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal_finite_sample m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)
      ∧ m' ((c.tc : Thread Cert.SampleReferenceIdeal.nD Cert.SampleReferenceIdeal.τ).loc Cert.SampleReferenceIdeal.main_arg7) = m ((c.tc : Thread Cert.SampleKernelIdeal.nD Cert.SampleKernelIdeal.τ).loc Cert.SampleKernelIdeal.main_arg7)) →
    ∃ (v0 : (c : Dev Cert.SampleKernelIdeal.nD) → Buf (Elt Ideal) ((c.tc : Thread Cert.SampleKernelIdeal.nD Cert.SampleKernelIdeal.τ).loc Cert.SampleKernelIdeal.main_v10)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v10) = v0 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
          ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v49) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7))

def Claim : Prop :=
  ∃ (hKernel : Cert.Kernel.Facts) (hKernelIdeal : Cert.KernelIdeal.Facts) (hReferenceIdeal : Cert.ReferenceIdeal.Facts) (hInputKernel : Cert.InputKernel.Facts) (hInputKernelIdeal : Cert.InputKernelIdeal.Facts) (hInputReferenceIdeal : Cert.InputReferenceIdeal.Facts) (hMemoryKernel : Cert.MemoryKernel.Facts) (hMemoryKernelIdeal : Cert.MemoryKernelIdeal.Facts) (hMemoryReferenceIdeal : Cert.MemoryReferenceIdeal.Facts) (hMergeKernel : Cert.MergeKernel.Facts) (hMergeKernelIdeal : Cert.MergeKernelIdeal.Facts) (hMergeReferenceIdeal : Cert.MergeReferenceIdeal.Facts) (hUpKernel : Cert.UpKernel.Facts) (hUpKernelIdeal : Cert.UpKernelIdeal.Facts) (hUpReferenceIdeal : Cert.UpReferenceIdeal.Facts) (hRopeKernel : Cert.RopeKernel.Facts) (hRopeKernelIdeal : Cert.RopeKernelIdeal.Facts) (hRopeReferenceIdeal : Cert.RopeReferenceIdeal.Facts) (hKvKernel : Cert.KvKernel.Facts) (hKvKernelIdeal : Cert.KvKernelIdeal.Facts) (hKvReferenceIdeal : Cert.KvReferenceIdeal.Facts) (hSampleKernel : Cert.SampleKernel.Facts) (hSampleKernelIdeal : Cert.SampleKernelIdeal.Facts) (hSampleReferenceIdeal : Cert.SampleReferenceIdeal.Facts) (hPre_finite : Cert.Pre_finite.Facts) (hPre_blocks_fit : Cert.Pre_blocks_fit.Facts) (hPre_finite_projection : Cert.Pre_finite_projection.Facts) (hPre_finite_sample : Cert.Pre_finite_sample.Facts) (hOn_prompt_rows : Cert.On_prompt_rows.Facts) (hOn_rows_used : Cert.On_rows_used.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InputKernel (hInputKernel := hInputKernel)
    ∧ quiescent_InputKernelIdeal (hInputKernelIdeal := hInputKernelIdeal)
    ∧ quiescent_InputReferenceIdeal (hInputReferenceIdeal := hInputReferenceIdeal)
    ∧ quiescent_MemoryKernel (hMemoryKernel := hMemoryKernel)
    ∧ quiescent_MemoryKernelIdeal (hMemoryKernelIdeal := hMemoryKernelIdeal)
    ∧ quiescent_MemoryReferenceIdeal (hMemoryReferenceIdeal := hMemoryReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_UpKernel (hUpKernel := hUpKernel) (hPre_blocks_fit := hPre_blocks_fit)
    ∧ quiescent_UpKernelIdeal (hUpKernelIdeal := hUpKernelIdeal) (hPre_blocks_fit := hPre_blocks_fit)
    ∧ quiescent_UpReferenceIdeal (hUpReferenceIdeal := hUpReferenceIdeal)
    ∧ quiescent_UpReferenceIdeal_pre_blocks_fit (hUpReferenceIdeal := hUpReferenceIdeal) (hPre_blocks_fit := hPre_blocks_fit)
    ∧ quiescent_RopeKernel (hRopeKernel := hRopeKernel)
    ∧ quiescent_RopeKernelIdeal (hRopeKernelIdeal := hRopeKernelIdeal)
    ∧ quiescent_RopeKernelIdeal_pre_finite_projection (hRopeKernelIdeal := hRopeKernelIdeal) (hPre_finite_projection := hPre_finite_projection)
    ∧ quiescent_RopeReferenceIdeal (hRopeReferenceIdeal := hRopeReferenceIdeal)
    ∧ quiescent_RopeReferenceIdeal_pre_finite_projection (hRopeReferenceIdeal := hRopeReferenceIdeal) (hPre_finite_projection := hPre_finite_projection)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_SampleKernel (hSampleKernel := hSampleKernel)
    ∧ quiescent_SampleKernelIdeal (hSampleKernelIdeal := hSampleKernelIdeal)
    ∧ quiescent_SampleKernelIdeal_pre_finite_sample (hSampleKernelIdeal := hSampleKernelIdeal) (hPre_finite_sample := hPre_finite_sample)
    ∧ quiescent_SampleReferenceIdeal (hSampleReferenceIdeal := hSampleReferenceIdeal)
    ∧ quiescent_SampleReferenceIdeal_pre_finite_sample (hSampleReferenceIdeal := hSampleReferenceIdeal) (hPre_finite_sample := hPre_finite_sample)
    ∧ preserves_Kernel_KernelIdeal
    ∧ algebraic_KernelIdeal_ReferenceIdeal_on_prompt_rows_pre_finite (hKernelIdeal := hKernelIdeal) (hReferenceIdeal := hReferenceIdeal) (hPre_finite := hPre_finite) (hOn_prompt_rows := hOn_prompt_rows)
    ∧ preserves_InputKernel_InputKernelIdeal
    ∧ algebraic_InputKernelIdeal_InputReferenceIdeal (hInputKernelIdeal := hInputKernelIdeal) (hInputReferenceIdeal := hInputReferenceIdeal)
    ∧ preserves_MemoryKernel_MemoryKernelIdeal
    ∧ algebraic_MemoryKernelIdeal_MemoryReferenceIdeal (hMemoryKernelIdeal := hMemoryKernelIdeal) (hMemoryReferenceIdeal := hMemoryReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_UpKernel_UpKernelIdeal
    ∧ algebraic_UpKernelIdeal_UpReferenceIdeal_on_rows_used (hUpKernelIdeal := hUpKernelIdeal) (hUpReferenceIdeal := hUpReferenceIdeal) (hPre_blocks_fit := hPre_blocks_fit) (hOn_rows_used := hOn_rows_used)
    ∧ preserves_RopeKernel_RopeKernelIdeal
    ∧ algebraic_RopeKernelIdeal_RopeReferenceIdeal_pre_finite_projection (hRopeKernelIdeal := hRopeKernelIdeal) (hRopeReferenceIdeal := hRopeReferenceIdeal) (hPre_finite_projection := hPre_finite_projection)
    ∧ preserves_KvKernel_KvKernelIdeal
    ∧ algebraic_KvKernelIdeal_KvReferenceIdeal (hKvKernelIdeal := hKvKernelIdeal) (hKvReferenceIdeal := hKvReferenceIdeal)
    ∧ preserves_SampleKernel_SampleKernelIdeal
    ∧ algebraic_SampleKernelIdeal_SampleReferenceIdeal_pre_finite_sample (hSampleKernelIdeal := hSampleKernelIdeal) (hSampleReferenceIdeal := hSampleReferenceIdeal) (hPre_finite_sample := hPre_finite_sample)
-- ==== On_prompt_rows.lean ====
abbrev S18432x4096 : Shape := ⟨2, ![18432, 4096]⟩
abbrev S16384x4096 : Shape := ⟨2, ![16384, 4096]⟩
abbrev S18432x128 : Shape := ⟨2, ![18432, 128]⟩
abbrev S18432x2048 : Shape := ⟨2, ![18432, 2048]⟩
abbrev S_ : Shape := ⟨0, ![]⟩

class Facts : Prop where
  bcast_S_S18432x2048 : S_.BroadcastsInDim S18432x2048 (![] : Fin 0 → Fin S18432x2048.rank)

variable [Facts]

def fn {F : FTy → Type} [FloatOps F] (main_arg0 : FVec F S18432x4096 .bf16) (main_arg1 : FVec F S16384x4096 .bf16) (main_arg2 : FVec F S18432x128 .f32) : IVec S18432x2048 1 :=
  let main_v0 : IVec S18432x2048 32 := iotaInDim S18432x2048 32 0
  let main_c : IVec S_ 32 := constantI S_ 32 16384#32
  let main_v1 : IVec S18432x2048 32 := broadcastInDim S18432x2048 ![] bcast_S_S18432x2048 main_c
  let main_v2 : IVec S18432x2048 1 := cmpi .slt main_v0 main_v1
  main_v2
-- ==== On_rows_used.lean ====
abbrev S32 : Shape := ⟨1, ![32]⟩
abbrev S90112x1024 : Shape := ⟨2, ![90112, 1024]⟩
abbrev S32x2048x2048 : Shape := ⟨3, ![32, 2048, 2048]⟩
abbrev S32x2048 : Shape := ⟨2, ![32, 2048]⟩
abbrev S90112x2048 : Shape := ⟨2, ![90112, 2048]⟩
abbrev S_ : Shape := ⟨0, ![]⟩

class Facts : Prop where
  reducesTo_S32_S_d0 : S32.ReducesTo [0] S_
  h_S_ : 0 < S_.numel
  bcast_S_S90112x2048 : S_.BroadcastsInDim S90112x2048 (![] : Fin 0 → Fin S90112x2048.rank)

variable [Facts]

def fn {F : FTy → Type} [FloatOps F] (main_arg0 : IVec S32 32) (main_arg1 : IVec S90112x1024 32) (main_arg2 : FVec F S32x2048x2048 .f32) (main_arg3 : FVec F S32x2048 .f32) (main_arg4 : FVec F S32x2048x2048 .f32) (main_arg5 : FVec F S32x2048 .f32) : IVec S90112x2048 1 :=
  let main_v0 : IVec S90112x2048 32 := iotaInDim S90112x2048 32 0
  let main_c : IVec S_ 32 := constantI S_ 32 0#32
  let main_v1 : IVec S_ 32 := (fun x v => Host.reduce IntOp.addi x v reducesTo_S32_S_d0 h_S_) main_arg0 main_c
  let main_c_0 : IVec S_ 32 := constantI S_ 32 512#32
  let main_v2 : IVec S_ 32 := muli main_c_0 main_v1
  let main_v3 : IVec S90112x2048 32 := broadcastInDim S90112x2048 ![] bcast_S_S90112x2048 main_v2
  let main_v4 : IVec S90112x2048 1 := cmpi .slt main_v0 main_v3
  main_v4
-- ==== Pre_blocks_fit.lean ====
abbrev S32 : Shape := ⟨1, ![32]⟩
abbrev S90112x1024 : Shape := ⟨2, ![90112, 1024]⟩
abbrev S32x2048x2048 : Shape := ⟨3, ![32, 2048, 2048]⟩
abbrev S32x2048 : Shape := ⟨2, ![32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : IVec S90112x1024 32) (main_arg2 : FVec F S32x2048x2048 .f32) (main_arg3 : FVec F S32x2048 .f32) (main_arg4 : FVec F S32x2048x2048 .f32) (main_arg5 : FVec F S32x2048 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 176#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 176#32
  let main_v7 : IVec S_ 1 := cmpi .sle main_v6 main_c_3
  let main_v8 : IVec S_ 1 := andi main_v5 main_v7
  let main_c_4 : IVec S_ 32 := constantI S_ 32 0#32
  let main_v9 : IVec S_ 32 := (fun x v => Host.reduce IntOp.addi x v reducesTo_S32_S_d0 h_S_) main_arg0 main_c_4
  let main_c_5 : IVec S_ 32 := constantI S_ 32 1#32
  let main_v10 : IVec S_ 1 := cmpi .sge main_v9 main_c_5
  let main_v11 : IVec S_ 1 := andi main_v8 main_v10
  main_v11
-- ==== Pre_finite.lean ====
abbrev S18432x4096 : Shape := ⟨2, ![18432, 4096]⟩
abbrev S16384x4096 : Shape := ⟨2, ![16384, 4096]⟩
abbrev S18432x128 : Shape := ⟨2, ![18432, 128]⟩
abbrev S_ : Shape := ⟨0, ![]⟩

class Facts : Prop where
  bitsLt_bf16_f32 : FTy.bits .bf16 < FTy.bits .f32
  bcast_S_S18432x4096 : S_.BroadcastsInDim S18432x4096 (![] : Fin 0 → Fin S18432x4096.rank)
  reducesTo_S18432x4096_S_d0_1 : S18432x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S18432x128 : S_.BroadcastsInDim S18432x128 (![] : Fin 0 → Fin S18432x128.rank)
  reducesTo_S18432x128_S_d0_1 : S18432x128.ReducesTo [0, 1] S_

variable [Facts]

def fn {F : FTy → Type} [FloatOps F] (main_arg0 : FVec F S18432x4096 .bf16) (main_arg1 : FVec F S16384x4096 .bf16) (main_arg2 : FVec F S18432x128 .f32) : IVec S_ 1 :=
  let main_v0 : FVec F S18432x4096 .f32 := (extf .f32 · bitsLt_bf16_f32) main_arg0
  let main_v1 : FVec F S18432x4096 .f32 := Host.absf main_v0
  let main_cst : FVec F S_ .f32 := constant S_ .f32 0x7F800000#32
  let main_v2 : FVec F S18432x4096 .f32 := broadcastInDim S18432x4096 ![] bcast_S_S18432x4096 main_cst
  let main_v3 : IVec S18432x4096 1 := cmpf .olt main_v1 main_v2
  let main_c : IVec S_ 1 := constantI S_ 1 1#1
  let main_v4 : IVec S_ 1 := (fun x v => Host.reduce IntOp.andi x v reducesTo_S18432x4096_S_d0_1 h_S_) main_v3 main_c
  let main_v5 : FVec F S16384x4096 .f32 := (extf .f32 · bitsLt_bf16_f32) main_arg1
  let main_v6 : FVec F S16384x4096 .f32 := Host.absf main_v5
  let main_cst_0 : FVec F S_ .f32 := constant S_ .f32 0x7F800000#32
  let main_v7 : FVec F S16384x4096 .f32 := broadcastInDim S16384x4096 ![] bcast_S_S16384x4096 main_cst_0
  let main_v8 : IVec S16384x4096 1 := cmpf .olt main_v6 main_v7
  let main_c_1 : IVec S_ 1 := constantI S_ 1 1#1
  let main_v9 : IVec S_ 1 := (fun x v => Host.reduce IntOp.andi x v reducesTo_S16384x4096_S_d0_1 h_S_) main_v8 main_c_1
  let main_v10 : IVec S_ 1 := andi main_v4 main_v9
  let main_v11 : FVec F S18432x128 .f32 := Host.absf main_arg2
  let main_cst_2 : FVec F S_ .f32 := constant S_ .f32 0x7F800000#32
  let main_v12 : FVec F S18432x128 .f32 := broadcastInDim S18432x128 ![] bcast_S_S18432x128 main_cst_2
  let main_v13 : IVec S18432x128 1 := cmpf .olt main_v11 main_v12
  let main_c_3 : IVec S_ 1 := constantI S_ 1 1#1
  let main_v14 : IVec S_ 1 := (fun x v => Host.reduce IntOp.andi x v reducesTo_S18432x128_S_d0_1 h_S_) main_v13 main_c_3
  let main_v15 : IVec S_ 1 := andi main_v10 main_v14
  main_v15
-- ==== Pre_finite_projection.lean ====
abbrev S4x4096x2048 : Shape := ⟨3, ![4, 4096, 2048]⟩
abbrev S32x64x2048 : Shape := ⟨3, ![32, 64, 2048]⟩
abbrev S1x2048 : Shape := ⟨2, ![1, 2048]⟩
abbrev S1x2048x9280 : Shape := ⟨3, ![1, 2048, 9280]⟩
abbrev S1x9280 : Shape := ⟨2, ![1, 9280]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x9280 : S_.BroadcastsInDim S1x2048x9280 (![] : Fin 0 → Fin S1x2048x9280.rank)
  reducesTo_S1x2048x9280_S_d0_1_2 : S1x2048x9280.ReducesTo [0, 1, 2] S_

variable [Facts]

def fn {F : FTy → Type} [FloatOps F] (main_arg0 : FVec F S4x4096x2048 .f32) (main_arg1 : FVec F S32x64x2048 .f32) (main_arg2 : FVec F S1x2048 .f32) (main_arg3 : FVec F S1x2048x9280 .f32) (main_arg4 : FVec F S1x9280 .f32) : IVec S_ 1 :=
  let main_v0 : FVec F S1x2048 .f32 := Host.absf main_arg2
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x9280 .f32 := Host.absf main_arg3
  let main_cst_0 : FVec F S_ .f32 := constant S_ .f32 0x7F800000#32
  let main_v5 : FVec F S1x2048x9280 .f32 := broadcastInDim S1x2048x9280 ![] bcast_S_S1x2048x9280 main_cst_0
  let main_v6 : IVec S1x2048x9280 1 := cmpf .olt main_v4 main_v5
  let main_c_1 : IVec S_ 1 := constantI S_ 1 1#1
  let main_v7 : IVec S_ 1 := (fun x v => Host.reduce IntOp.andi x v reducesTo_S1x2048x9280_S_d0_1_2 h_S_) main_v6 main_c_1
  let main_v8 : IVec S_ 1 := andi main_v3 main_v7
  main_v8
-- ==== Pre_finite_sample.lean ====
abbrev S18432x4096 : Shape := ⟨2, ![18432, 4096]⟩
abbrev S18432x512 : Shape := ⟨2, ![18432, 512]⟩
abbrev S18432x128 : Shape := ⟨2, ![18432, 128]⟩
abbrev S1x32x1024x512 : Shape := ⟨4, ![1, 32, 1024, 512]⟩
abbrev S1x32x1024x64 : Shape := ⟨4, ![1, 32, 1024, 64]⟩
abbrev S1x512x16x128 : Shape := ⟨4, ![1, 512, 16, 128]⟩
abbrev S18432x2048 : Shape := ⟨2, ![18432, 2048]⟩
abbrev S_ : Shape := ⟨0, ![]⟩

class Facts : Prop where
  bitsLt_bf16_f32 : FTy.bits .bf16 < FTy.bits .f32
  bcast_S_S18432x4096 : S_.BroadcastsInDim S18432x4096 (![] : Fin 0 → Fin S18432x4096.rank)
  reducesTo_S18432x4096_S_d0_1 : S18432x4096.ReducesTo [0, 1] S_
  h_S_ : 0 < S_.numel
  bcast_S_S18432x512 : S_.BroadcastsInDim S18432x512 (![] : Fin 0 → Fin S18432x512.rank)
  reducesTo_S18432x512_S_d0_1 : S18432x512.ReducesTo [0, 1] S_
  bcast_S_S18432x128 : S_.BroadcastsInDim S18432x128 (![] : Fin 0 → Fin S18432x128.rank)
  reducesTo_S18432x128_S_d0_1 : S18432x128.ReducesTo [0, 1] S_
  bcast_S_S1x32x1024x512 : S_.BroadcastsInDim S1x32x1024x512 (![] : Fin 0 → Fin S1x32x1024x512.rank)
  reducesTo_S1x32x1024x512_S_d0_1_2_3 : S1x32x1024x512.ReducesTo [0, 1, 2, 3] S_
  bcast_S_S1x32x1024x64 : S_.BroadcastsInDim S1x32x1024x64 (![] : Fin 0 → Fin S1x32x1024x64.rank)
  reducesTo_S1x32x1024x64_S_d0_1_2_3 : S1x32x1024x64.ReducesTo [0, 1, 2, 3] S_
  bcast_S_S1x512x16x128 : S_.BroadcastsInDim S1x512x16x128 (![] : Fin 0 → Fin S1x512x16x128.rank)
  reducesTo_S1x512x16x128_S_d0_1_2_3 : S1x512x16x128.ReducesTo [0, 1, 2, 3] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1x32x1024x64 .f32) (main_arg5 : FVec F S1x512x16x128 .f32) (main_arg6 : FVec F S1x512x16x128 .f32) (main_v14 : IVec S_ 1) (main_v15 : FVec F S1x32x1024x512 .f32) (main_v16 : FVec F S1x32x1024x512 .f32) : IVec S_ 1 :=
  let main_v17 : IVec S1x32x1024x512 1 := cmpf .olt main_v15 main_v16
  let main_c_5 : IVec S_ 1 := constantI S_ 1 1#1
  let main_v18 : IVec S_ 1 := (fun x v => Host.reduce IntOp.andi x v reducesTo_S1x32x1024x512_S_d0_1_2_3 h_S_) main_v17 main_c_5
  let main_v19 : IVec S_ 1 := andi main_v14 main_v18
  let main_v20 : FVec F S1x32x1024x64 .f32 := Host.absf main_arg4
  let main_cst_6 : FVec F S_ .f32 := constant S_ .f32 0x7F800000#32
  let main_v21 : FVec F S1x32x1024x64 .f32 := broadcastInDim S1x32x1024x64 ![] bcast_S_S1x32x1024x64 main_cst_6
  let main_v22 : IVec S1x32x1024x64 1 := cmpf .olt main_v20 main_v21
  let main_c_7 : IVec S_ 1 := constantI S_ 1 1#1
  let main_v23 : IVec S_ 1 := (fun x v => Host.reduce IntOp.andi x v reducesTo_S1x32x1024x64_S_d0_1_2_3 h_S_) main_v22 main_c_7
  let main_v24 : IVec S_ 1 := andi main_v19 main_v23
  let main_v25 : FVec F S1x512x16x128 .f32 := Host.absf main_arg5
  let main_cst_8 : FVec F S_ .f32 := constant S_ .f32 0x7F800000#32
  let main_v26 : FVec F S1x512x16x128 .f32 := broadcastInDim S1x512x16x128 ![] bcast_S_S1x512x16x128 main_cst_8
  let main_v27 : IVec S1x512x16x128 1 := cmpf .olt main_v25 main_v26
  let main_c_9 : IVec S_ 1 := constantI S_ 1 1#1
  let main_v28 : IVec S_ 1 := (fun x v => Host.reduce IntOp.andi x v reducesTo_S1x512x16x128_S_d0_1_2_3 h_S_) main_v27 main_c_9
  let main_v29 : IVec S_ 1 := andi main_v24 main_v28
  let main_v30 : FVec F S1x512x16x128 .f32 := Host.absf main_arg6
  let main_cst_10 : FVec F S_ .f32 := constant S_ .f32 0x7F800000#32
  let main_v31 : FVec F S1x512x16x128 .f32 := broadcastInDim S1x512x16x128 ![] bcast_S_S1x512x16x128 main_cst_10
  let main_v32 : IVec S1x512x16x128 1 := cmpf .olt main_v30 main_v31
  let main_c_11 : IVec S_ 1 := constantI S_ 1 1#1
  let main_v33 : IVec S_ 1 := (fun x v => Host.reduce IntOp.andi x v reducesTo_S1x512x16x128_S_d0_1_2_3 h_S_) main_v32 main_c_11
  fn_part2 (F := F) main_v29 main_v33

def fn {F : FTy → Type} [FloatOps F] (main_arg0 : FVec F S18432x4096 .bf16) (main_arg1 : FVec F S18432x512 .f32) (main_arg2 : FVec F S18432x128 .f32) (main_arg3 : FVec F S1x32x1024x512 .f32) (main_arg4 : FVec F S1x32x1024x64 .f32) (main_arg5 : FVec F S1x512x16x128 .f32) (main_arg6 : FVec F S1x512x16x128 .f32) (main_arg7 : FVec F S18432x2048 .bf16) : IVec S_ 1 :=
  let main_v0 : FVec F S18432x4096 .f32 := (extf .f32 · bitsLt_bf16_f32) main_arg0
  let main_v1 : FVec F S18432x4096 .f32 := Host.absf main_v0
  let main_cst : FVec F S_ .f32 := constant S_ .f32 0x7F800000#32
  let main_v2 : FVec F S18432x4096 .f32 := broadcastInDim S18432x4096 ![] bcast_S_S18432x4096 main_cst
  let main_v3 : IVec S18432x4096 1 := cmpf .olt main_v1 main_v2
  let main_c : IVec S_ 1 := constantI S_ 1 1#1
  let main_v4 : IVec S_ 1 := (fun x v => Host.reduce IntOp.andi x v reducesTo_S18432x4096_S_d0_1 h_S_) main_v3 main_c
  let main_v5 : FVec F S18432x512 .f32 := Host.absf main_arg1
  let main_cst_0 : FVec F S_ .f32 := constant S_ .f32 0x7F800000#32
  let main_v6 : FVec F S18432x512 .f32 := broadcastInDim S18432x512 ![] bcast_S_S18432x512 main_cst_0
  let main_v7 : IVec S18432x512 1 := cmpf .olt main_v5 main_v6
  let main_c_1 : IVec S_ 1 := constantI S_ 1 1#1
  let main_v8 : IVec S_ 1 := (fun x v => Host.reduce IntOp.andi x v reducesTo_S18432x512_S_d0_1 h_S_) main_v7 main_c_1
  let main_v9 : IVec S_ 1 := andi main_v4 main_v8
  let main_v10 : FVec F S18432x128 .f32 := Host.absf main_arg2
  let main_cst_2 : FVec F S_ .f32 := constant S_ .f32 0x7F800000#32
  let main_v11 : FVec F S18432x128 .f32 := broadcastInDim S18432x128 ![] bcast_S_S18432x128 main_cst_2
  let main_v12 : IVec S18432x128 1 := cmpf .olt main_v10 main_v11
  let main_c_3 : IVec S_ 1 := constantI S_ 1 1#1
  let main_v13 : IVec S_ 1 := (fun x v => Host.reduce IntOp.andi x v reducesTo_S18432x128_S_d0_1 h_S_) main_v12 main_c_3
  let main_v14 : IVec S_ 1 := andi main_v9 main_v13
  let main_v15 : FVec F S1x32x1024x512 .f32 := Host.absf main_arg3
  let main_cst_4 : FVec F S_ .f32 := constant S_ .f32 0x7F800000#32
  let main_v16 : FVec F S1x32x1024x512 .f32 := broadcastInDim S1x32x1024x512 ![] bcast_S_S1x32x1024x512 main_cst_4
  fn_part1 (F := F) main_arg4 main_arg5 main_arg6 main_v14 main_v15 main_v16
-- ==== Kernel.lean ====
abbrev S18432x4096 : Shape := ⟨2, ![18432, 4096]⟩
abbrev S16384x4096 : Shape := ⟨2, ![16384, 4096]⟩
abbrev S18432x128 : Shape := ⟨2, ![18432, 128]⟩
abbrev S18432x2048 : Shape := ⟨2, ![18432, 2048]⟩
abbrev S512x256 : Shape := ⟨2, ![512, 256]⟩
abbrev S4096x128 : Shape := ⟨2, ![4096, 128]⟩
abbrev S512x128 : Shape := ⟨2, ![512, 128]⟩
abbrev S512x1 : Shape := ⟨2, ![512, 1]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S18432x4096, .bf16⟩
  | .hbm, ⟨1, _⟩ => ⟨S16384x4096, .bf16⟩
  | .hbm, ⟨2, _⟩ => ⟨S18432x128, .f32⟩
  | .hbm, ⟨3, _⟩ => ⟨S18432x2048, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S512x128, .bf16⟩
  | .local _ .vmem, ⟨9, _⟩ => ⟨S512x128, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 8], ![false, false, false]⟩

@[reducible] def k0_t1_loop (i : grid0.Coords) : Scf.Loop 32 :=
  let c0_i32_7 : BitVec 32 := 0#32
  let arg2 : BitVec 32 := BitVec.ofNat 32 (i 2).val
  let c0_i32 : BitVec 32 := 0#32
  let v5 : BitVec 1 := Scalar.cmpi .sgt arg2 c0_i32
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_9 : BitVec 32 := 1#32
  ⟨c0_i32_7, v25, c1_i32_9⟩
def k0_mult1 (i : grid0.Coords) (k0_t1 : Fin (k0_t1_loop i).trips) : BitVec 32 :=
  let c0_i32_7 : BitVec 32 := 0#32
  let c1_i32_9 : BitVec 32 := 1#32
  let arg8 : BitVec 32 := Scf.iv c0_i32_7 c1_i32_9 k0_t1
  let c2_i32_21 : BitVec 32 := 2#32
  let v46 : BitVec 32 := Scalar.muli arg8 c2_i32_21
  let c512_i32 : BitVec 32 := 512#32
  let v47 : BitVec 32 := Scalar.muli v46 c512_i32
  v47
def k0_off1 (i : grid0.Coords) (k0_t1 : Fin (k0_t1_loop i).trips) : Fin 2 → Nat :=
  let c0_i32_7 : BitVec 32 := 0#32
  let c1_i32_9 : BitVec 32 := 1#32
  let arg8 : BitVec 32 := Scf.iv c0_i32_7 c1_i32_9 k0_t1
  let c2_i32_21 : BitVec 32 := 2#32
  let v46 : BitVec 32 := Scalar.muli arg8 c2_i32_21
  let c512_i32 : BitVec 32 := 512#32
  let v47 : BitVec 32 := Scalar.muli v46 c512_i32
  let v48 : BitVec 32 := v47
  let v49 : Index := Scalar.indexCast v48
  let c0_22 : Index := 0#32
  ![v49.toNat, 0]
@[reducible] def k0_t2_loop (i : grid0.Coords) : Scf.Loop 32 :=
  let c0_i32_7 : BitVec 32 := 0#32
  let arg2 : BitVec 32 := BitVec.ofNat 32 (i 2).val
  let c0_i32 : BitVec 32 := 0#32
  let v5 : BitVec 1 := Scalar.cmpi .sgt arg2 c0_i32
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let v22 : BitVec 32 := Scalar.addi c0_i32_7 v21
  let c1_i32_10 : BitVec 32 := 1#32
  ⟨v25, v22, c1_i32_10⟩
def k0_mult2 (i : grid0.Coords) (k0_t2 : Fin (k0_t2_loop i).trips) : BitVec 32 :=
  let c0_i32_7 : BitVec 32 := 0#32
  let arg2 : BitVec 32 := BitVec.ofNat 32 (i 2).val
  let c0_i32 : BitVec 32 := 0#32
  let v5 : BitVec 1 := Scalar.cmpi .sgt arg2 c0_i32
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg8 : BitVec 32 := Scf.iv v25 c1_i32_10 k0_t2
  let c2_i32_21 : BitVec 32 := 2#32
  let v46 : BitVec 32 := Scalar.muli arg8 c2_i32_21
  let c512_i32 : BitVec 32 := 512#32
  let v47 : BitVec 32 := Scalar.muli v46 c512_i32
  v47
def k0_off2 (i : grid0.Coords) (k0_t2 : Fin (k0_t2_loop i).trips) : Fin 2 → Nat :=
  let c0_i32_7 : BitVec 32 := 0#32
  let arg2 : BitVec 32 := BitVec.ofNat 32 (i 2).val
  let c0_i32 : BitVec 32 := 0#32
  let v5 : BitVec 1 := Scalar.cmpi .sgt arg2 c0_i32
  let v6 : BitVec 32 := Scalar.extui v5
  let c0_i32_3 : BitVec 32 := 0#32
  let v7 : BitVec 1 := Scalar.cmpi .slt arg2 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg2 c2_i32
  let c0_i32_6 : BitVec 32 := 0#32
  let v17 : BitVec 1 := Scalar.cmpi .ne v16 c0_i32_6
  let v18 : BitVec 1 := Scalar.andi v15 v17
  let v4 : BitVec 32 := Scalar.divsi arg2 c2_i32
  let c1_i32 : BitVec 32 := 1#32
  let v19 : BitVec 32 := Scalar.subi v4 c1_i32
  let v20 : BitVec 32 := Scalar.select v18 v19 v4
  let v21 : BitVec 32 := Scalar.subi v20 c0_i32_7
  let c1_i32_8 : BitVec 32 := 1#32
  let v23 : BitVec 32 := Scalar.divsi v21 c1_i32_8
  let v24 : BitVec 32 := Scalar.muli v23 c1_i32_8
  let v25 : BitVec 32 := Scalar.addi c0_i32_7 v24
  let c1_i32_10 : BitVec 32 := 1#32
  let arg8 : BitVec 32 := Scf.iv v25 c1_i32_10 k0_t2
  let c2_i32_21 : BitVec 32 := 2#32
  let v46 : BitVec 32 := Scalar.muli arg8 c2_i32_21
  let c512_i32 : BitVec 32 := 512#32
  let v47 : BitVec 32 := Scalar.muli v46 c512_i32
  let v48 : BitVec 32 := v47
  let v49 : Index := Scalar.indexCast v48
  let c0_22 : Index := 0#32
  ![v49.toNat, 0]
def k0_cond1 (i : grid0.Coords) : BitVec 1 :=
  let arg2 : BitVec 32 := BitVec.ofNat 32 (i 2).val
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg2 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let c1_i32_17 : BitVec 32 := 1#32
  let v38 : BitVec 1 := Scalar.cmpi .eq v37 c1_i32_17
  let v39 : BitVec 32 := Scalar.extui v38
  let c0_i32_18 : BitVec 32 := 0#32
  let v40 : BitVec 1 := Scalar.cmpi .ne v39 c0_i32_18
  v40

def k0_mult3 (i : grid0.Coords) : BitVec 32 :=
  let arg2 : BitVec 32 := BitVec.ofNat 32 (i 2).val
  let c1_i32_21 : BitVec 32 := 1#32
  let v46 : BitVec 32 := Scalar.subi arg2 c1_i32_21
  let c512_i32 : BitVec 32 := 512#32
  let v47 : BitVec 32 := Scalar.muli v46 c512_i32
  v47
def k0_off3 (i : grid0.Coords) : Fin 2 → Nat :=
  let arg2 : BitVec 32 := BitVec.ofNat 32 (i 2).val
  let c1_i32_21 : BitVec 32 := 1#32
  let v46 : BitVec 32 := Scalar.subi arg2 c1_i32_21
  let c512_i32 : BitVec 32 := 512#32
  let v47 : BitVec 32 := Scalar.muli v46 c512_i32
  let v101 : BitVec 32 := v47
  let v102 : Index := Scalar.indexCast v101
  let c0_35 : Index := 0#32
  ![v102.toNat, 0]
def k0_mult4 (i : grid0.Coords) : BitVec 32 :=
  let arg2 : BitVec 32 := BitVec.ofNat 32 (i 2).val
  let c512_i32 : BitVec 32 := 512#32
  let v46 : BitVec 32 := Scalar.muli arg2 c512_i32
  v46
def k0_off4 (i : grid0.Coords) : Fin 2 → Nat :=
  let arg2 : BitVec 32 := BitVec.ofNat 32 (i 2).val
  let c512_i32 : BitVec 32 := 512#32
  let v46 : BitVec 32 := Scalar.muli arg2 c512_i32
  let v100 : BitVec 32 := v46
  let v101 : Index := Scalar.indexCast v100
  let c0_35 : Index := 0#32
  ![v101.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S18432x4096 : Shape := ⟨2, ![18432, 4096]⟩
abbrev S16384x4096 : Shape := ⟨2, ![16384, 4096]⟩
abbrev S18432x128 : Shape := ⟨2, ![18432, 128]⟩
abbrev S4x4096x16x256 : Shape := ⟨4, ![4, 4096, 16, 256]⟩
abbrev S4x4096x16x128 : Shape := ⟨4, ![4, 4096, 16, 128]⟩
abbrev S16384x2048 : Shape := ⟨2, ![16384, 2048]⟩
abbrev S16384x128 : Shape := ⟨2, ![16384, 128]⟩
abbrev S4x4096x128 : Shape := ⟨3, ![4, 4096, 128]⟩
abbrev S4x16x4096x4096 : Shape := ⟨4, ![4, 16, 4096, 4096]⟩
abbrev S4x4096x4096x16 : Shape := ⟨4, ![4, 4096, 4096, 16]⟩
abbrev S4096x4096 : Shape := ⟨2, ![4096, 4096]⟩
abbrev S_ : Shape := ⟨0, ![]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S18432x2048 : Shape := ⟨2, ![18432, 2048]⟩

abbrev nBuf : Space → Nat
  | .hbm => 57
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S16384x4096, .bf16⟩
  | .hbm, ⟨2, _⟩ => ⟨S18432x128, .f32⟩
  | .hbm, ⟨3, _⟩ => ⟨S16384x4096, .bf16⟩
  | .hbm, ⟨4, _⟩ => ⟨S16384x4096, .f32⟩
  | .hbm, ⟨5, _⟩ => ⟨S4x4096x16x256, .f32⟩
  | .hbm, ⟨6, _⟩ => ⟨S4x4096x16x128, .f32⟩
  | .hbm, ⟨7, _⟩ => ⟨S4x4096x16x128, .f32⟩
  | .hbm, ⟨8, _⟩ => ⟨S16384x2048, .bf16⟩
  | .hbm, ⟨9, _⟩ => ⟨S16384x2048, .f32⟩
  | .hbm, ⟨10, _⟩ => ⟨S4x4096x16x128, .f32⟩
  | .hbm, ⟨11, _⟩ => ⟨S16384x2048, .bf16⟩
  | .hbm, ⟨12, _⟩ => ⟨S16384x2048, .f32⟩
  | .hbm, ⟨13, _⟩ => ⟨S4x4096x16x128, .f32⟩
  | .hbm, ⟨14, _⟩ => ⟨S16384x128, .f32⟩
  | .hbm, ⟨15, _⟩ => ⟨S4x4096x128, .f32⟩
  | .hbm, ⟨16, _⟩ => ⟨S4x16x4096x4096, .f32⟩
  | .hbm, ⟨17, _⟩ => ⟨S4x4096x4096x16, .f32⟩
  | .hbm, ⟨18, _⟩ => ⟨S4x16x4096x4096, .f32⟩
  | .hbm, ⟨19, _⟩ => ⟨S4x16x4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x4096x4096, .i1⟩
  | .hbm, ⟨30, _⟩ => ⟨S_, .f32⟩
  | .hbm, ⟨31, _⟩ => ⟨S_, .f32⟩
  | .hbm, ⟨32, _⟩ => ⟨S4x16x4096x4096, .i1⟩
  | .hbm, ⟨33, _⟩ => ⟨S4x16x4096x4096, .f32⟩
  | .hbm, ⟨34, _⟩ => ⟨S4x16x4096x4096, .f32⟩
  | .hbm, ⟨35, _⟩ => ⟨S_, .f32⟩
  | .hbm, ⟨36, _⟩ => ⟨S4x16x4096, .f32⟩
  | .hbm, ⟨37, _⟩ => ⟨S4x16x4096x1, .f32⟩
  | .hbm, ⟨38, _⟩ => ⟨S4x16x4096x4096, .f32⟩
  | .hbm, ⟨39, _⟩ => ⟨S4x16x4096x4096, .f32⟩
  | .hbm, ⟨40, _⟩ => ⟨S_, .f32⟩
  | .hbm, ⟨41, _⟩ => ⟨S4x16x4096x4096, .f32⟩
  | .hbm, ⟨42, _⟩ => ⟨S4x16x4096x4096, .f32⟩
  | .hbm, ⟨43, _⟩ => ⟨S_, .f32⟩
  | .hbm, ⟨44, _⟩ => ⟨S4x16x4096, .f32⟩
  | .hbm, ⟨45, _⟩ => ⟨S4x16x4096x1, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .bf16⟩
  | .hbm, ⟨49, _⟩ => ⟨S4x16x4096x4096, .f32⟩
  | .hbm, ⟨50, _⟩ => ⟨S4x16x128x4096, .f32⟩
  | .hbm, ⟨51, _⟩ => ⟨S4x4096x16x128, .f32⟩
  | .hbm, ⟨52, _⟩ => ⟨S16384x2048, .f32⟩
  | .hbm, ⟨53, _⟩ => ⟨S_, .i32⟩
  | .hbm, ⟨54, _⟩ => ⟨S_, .f32⟩
  | .hbm, ⟨55, _⟩ => ⟨S18432x2048, .f32⟩
  | .hbm, ⟨56, _⟩ => ⟨S18432x2048, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_call1_v0 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InputKernel.lean ====
abbrev S4x4096x2048 : Shape := ⟨3, ![4, 4096, 2048]⟩
abbrev S32x64x2048 : Shape := ⟨3, ![32, 64, 2048]⟩
abbrev S1x2048 : Shape := ⟨2, ![1, 2048]⟩
abbrev S1x2048x9280 : Shape := ⟨3, ![1, 2048, 9280]⟩
abbrev S1x9280 : Shape := ⟨2, ![1, 9280]⟩
abbrev S1x512 : Shape := ⟨2, ![1, 512]⟩
abbrev S2048x9280 : Shape := ⟨2, ![2048, 9280]⟩
abbrev S9280 : Shape := ⟨1, ![9280]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S16384x2048 : Shape := ⟨2, ![16384, 2048]⟩
abbrev S18432x2048 : Shape := ⟨2, ![18432, 2048]⟩
abbrev S512x2048 : Shape := ⟨2, ![512, 2048]⟩
abbrev S512x1 : Shape := ⟨2, ![512, 1]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S18432x512 : Shape := ⟨2, ![18432, 512]⟩
abbrev S1024x512 : Shape := ⟨2, ![1024, 512]⟩
abbrev S1024 : Shape := ⟨1, ![1024]⟩
abbrev S1024x1 : Shape := ⟨2, ![1024, 1]⟩
abbrev S3 : Shape := ⟨1, ![3]⟩
abbrev S_ : Shape := ⟨0, ![]⟩
abbrev S1x3 : Shape := ⟨2, ![1, 3]⟩
abbrev S4 : Shape := ⟨1, ![4]⟩
abbrev S4x1 : Shape := ⟨2, ![4, 1]⟩
abbrev S4x3 : Shape := ⟨2, ![4, 3]⟩
abbrev S32 : Shape := ⟨1, ![32]⟩
abbrev S32x1 : Shape := ⟨2, ![32, 1]⟩
abbrev S32x3 : Shape := ⟨2, ![32, 3]⟩
abbrev S12 : Shape := ⟨1, ![12]⟩
abbrev S12x1 : Shape := ⟨2, ![12, 1]⟩
abbrev S1 : Shape := ⟨1, ![1]⟩
abbrev S1x1 : Shape := ⟨2, ![1, 1]⟩
abbrev S12x2048 : Shape := ⟨2, ![12, 2048]⟩
abbrev S4x3x2048 : Shape := ⟨3, ![4, 3, 2048]⟩
abbrev S96 : Shape := ⟨1, ![96]⟩
abbrev S96x1 : Shape := ⟨2, ![96, 1]⟩
abbrev S96x2048 : Shape := ⟨2, ![96, 2048]⟩
abbrev S32x3x2048 : Shape := ⟨3, ![32, 3, 2048]⟩
abbrev S1x4x3x2048 : Shape := ⟨4, ![1, 4, 3, 2048]⟩
abbrev S1x32x3x2048 : Shape := ⟨4, ![1, 32, 3, 2048]⟩
abbrev S16384x512 : Shape := ⟨2, ![16384, 512]⟩
abbrev S1x4x4096x512 : Shape := ⟨4, ![1, 4, 4096, 512]⟩
abbrev S1x32x64x512 : Shape := ⟨4, ![1, 32, 64, 512]⟩

abbrev nBuf : Space → Nat
  | .hbm => 135
  | .vmem => 51
  | .smem => 0
  | _ => 0

abbrev hbmTy0_0 (i : Nat) : BufTy := match i % 128 with
  | 0 => ⟨S4x4096x2048, .f32⟩
  | 1 => ⟨S32x64x2048, .f32⟩
  | 2 => ⟨S1x2048, .f32⟩
  | 3 => ⟨S1x2048x9280, .f32⟩
  | 4 => ⟨S1x9280, .f32⟩
  | 5 => ⟨S1x512, .f32⟩
  | 6 => ⟨S1x512, .f32⟩
  | 7 => ⟨S2048x9280, .f32⟩
  | 8 => ⟨S9280, .f32⟩
  | 9 => ⟨S2048x2048, .f32⟩
  | 10 => ⟨S2048x2048, .bf16⟩
  | 11 => ⟨S2048, .f32⟩
  | 12 => ⟨S2048x2048, .f32⟩
  | 13 => ⟨S2048x2048, .bf16⟩
  | 14 => ⟨S2048, .f32⟩
  | 15 => ⟨S2048x512, .f32⟩
  | 16 => ⟨S2048x512, .bf16⟩
  | 17 => ⟨S512, .f32⟩
  | 18 => ⟨S2048x512, .f32⟩
  | 19 => ⟨S2048x512, .bf16⟩
  | 20 => ⟨S512, .f32⟩
  | 21 => ⟨S2048x2048, .f32⟩
  | 22 => ⟨S2048x2048, .bf16⟩
  | 23 => ⟨S2048, .f32⟩
  | 24 => ⟨S2048x2048, .f32⟩
  | 25 => ⟨S2048x2048, .bf16⟩
  | 26 => ⟨S2048, .f32⟩
  | 27 => ⟨S16384x2048, .f32⟩
  | 28 => ⟨S2048x2048, .f32⟩
  | 29 => ⟨S18432x2048, .f32⟩
  | 30 => ⟨S2048, .f32⟩
  | 31 => ⟨S1x2048, .f32⟩
  | 32 => ⟨S18432x2048, .bf16⟩
  | 33 => ⟨S1x2048, .f32⟩
  | 34 => ⟨S18432x2048, .f32⟩
  | 35 => ⟨S1x2048, .f32⟩
  | 36 => ⟨S18432x2048, .bf16⟩
  | 37 => ⟨S1x2048, .f32⟩
  | 38 => ⟨S18432x2048, .bf16⟩
  | 39 => ⟨S1x2048, .f32⟩
  | 40 => ⟨S18432x2048, .bf16⟩
  | 41 => ⟨S512, .f32⟩
  | 42 => ⟨S1x512, .f32⟩
  | 43 => ⟨S1x512, .f32⟩
  | 44 => ⟨S18432x512, .bf16⟩
  | 45 => ⟨S512, .f32⟩
  | 46 => ⟨S1x512, .f32⟩
  | 47 => ⟨S1x512, .f32⟩
  | 48 => ⟨S18432x512, .f32⟩
  | 49 => ⟨S3, .i32⟩
  | 50 => ⟨S_, .i32⟩
  | 51 => ⟨S3, .i32⟩
  | 52 => ⟨S3, .i32⟩
  | 53 => ⟨S1x3, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S4x1, .i32⟩
  | 62 => ⟨S4x3, .i32⟩
  | 63 => ⟨S4x3, .i32⟩
  | 64 => ⟨S4x3, .i32⟩
  | 65 => ⟨S32, .i32⟩
  | 66 => ⟨S_, .i32⟩
  | 67 => ⟨S32, .i32⟩
  | 68 => ⟨S32, .i32⟩
  | 69 => ⟨S_, .i32⟩
  | 70 => ⟨S32, .i32⟩
  | 71 => ⟨S32, .i32⟩
  | 72 => ⟨S32x1, .i32⟩
  | 73 => ⟨S_, .i32⟩
  | 74 => ⟨S32x1, .i32⟩
  | 75 => ⟨S32x1, .i32⟩
  | 76 => ⟨S32x3, .i32⟩
  | 77 => ⟨S32x3, .i32⟩
  | 78 => ⟨S32x3, .i32⟩
  | 79 => ⟨S12, .i32⟩
  | 80 => ⟨S_, .i32⟩
  | 81 => ⟨S12, .i32⟩
  | 82 => ⟨S12, .i1⟩
  | 83 => ⟨S_, .i32⟩
  | 84 => ⟨S12, .i32⟩
  | 85 => ⟨S12, .i32⟩
  | 86 => ⟨S12, .i32⟩
  | 87 => ⟨S12x1, .i32⟩
  | 88 => ⟨S1, .i32⟩
  | 89 => ⟨S_, .i32⟩
  | 90 => ⟨S12x1, .i32⟩
  | 91 => ⟨S12x1, .i1⟩
  | 92 => ⟨S1x1, .i32⟩
  | 93 => ⟨S12x1, .i32⟩
  | 94 => ⟨S12x1, .i1⟩
  | 95 => ⟨S12x1, .i1⟩
  | 96 => ⟨S_, .i1⟩
  | 97 => ⟨S12, .i1⟩
  | 98 => ⟨S12x2048, .f32⟩
  | 99 => ⟨S12x2048, .i1⟩
  | 100 => ⟨S_, .f32⟩
  | 101 => ⟨S12x2048, .f32⟩
  | 102 => ⟨S12x2048, .f32⟩
  | 103 => ⟨S4x3x2048, .f32⟩
  | 104 => ⟨S96, .i32⟩
  | 105 => ⟨S_, .i32⟩
  | 106 => ⟨S96, .i32⟩
  | 107 => ⟨S96, .i1⟩
  | 108 => ⟨S_, .i32⟩
  | 109 => ⟨S96, .i32⟩
  | 110 => ⟨S96, .i32⟩
  | 111 => ⟨S96, .i32⟩
  | 112 => ⟨S96x1, .i32⟩
  | 113 => ⟨S1, .i32⟩
  | 114 => ⟨S_, .i32⟩
  | 115 => ⟨S96x1, .i32⟩
  | 116 => ⟨S96x1, .i1⟩
  | 117 => ⟨S1x1, .i32⟩
  | 118 => ⟨S96x1, .i32⟩
  | 119 => ⟨S96x1, .i1⟩
  | 120 => ⟨S96x1, .i1⟩
  | 121 => ⟨S_, .i1⟩
  | 122 => ⟨S96, .i1⟩
  | 123 => ⟨S96x2048, .f32⟩
  | 124 => ⟨S96x2048, .i1⟩
  | 125 => ⟨S_, .f32⟩
  | 126 => ⟨S96x2048, .f32⟩
  | 127 => ⟨S96x2048, .f32⟩
  | _ => ⟨S4x4096x2048, .f32⟩

abbrev hbmTy0_1 (i : Nat) : BufTy := match i % 128 with
  | 0 => ⟨S32x3x2048, .f32⟩
  | 1 => ⟨S1x4x3x2048, .f32⟩
  | 2 => ⟨S1x32x3x2048, .f32⟩
  | 3 => ⟨S16384x512, .f32⟩
  | 4 => ⟨S1x4x4096x512, .f32⟩
  | 5 => ⟨S2048x512, .f32⟩
  | 6 => ⟨S1x32x64x512, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | .local _ .vmem, ⟨14, _⟩ => ⟨S1024x2048, .bf16⟩
  | .local _ .vmem, ⟨15, _⟩ => ⟨S2048x1024, .bf16⟩
  | .local _ .vmem, ⟨16, _⟩ => ⟨S2048x1024, .bf16⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x2048, .bf16⟩
  | .local _ .vmem, ⟨22, _⟩ => ⟨S1024x2048, .bf16⟩
  | .local _ .vmem, ⟨23, _⟩ => ⟨S2048x1024, .bf16⟩
  | .local _ .vmem, ⟨24, _⟩ => ⟨S2048x1024, .bf16⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x2048, .bf16⟩
  | .local _ .vmem, ⟨30, _⟩ => ⟨S1024x2048, .bf16⟩
  | .local _ .vmem, ⟨31, _⟩ => ⟨S2048x1024, .bf16⟩
  | .local _ .vmem, ⟨32, _⟩ => ⟨S2048x1024, .bf16⟩
  | .local _ .vmem, ⟨33, _⟩ => ⟨S1x1024, .f32⟩
  | .local _ .vmem, ⟨34, _⟩ => ⟨S1x1024, .f32⟩
  | .local _ .vmem, ⟨35, _⟩ => ⟨S1024x1024, .bf16⟩
  | .local _ .vmem, ⟨36, _⟩ => ⟨S1024x1024, .bf16⟩
  | .local _ .vmem, ⟨37, _⟩ => ⟨S1024x2048, .bf16⟩
  | .local _ .vmem, ⟨38, _⟩ => ⟨S1024x2048, .bf16⟩
  | .local _ .vmem, ⟨39, _⟩ => ⟨S2048x512, .bf16⟩
  | .local _ .vmem, ⟨40, _⟩ => ⟨S1x512, .f32⟩
  | .local _ .vmem, ⟨41, _⟩ => ⟨S1x512, .f32⟩
  | .local _ .vmem, ⟨42, _⟩ => ⟨S1024x512, .bf16⟩
  | .local _ .vmem, ⟨43, _⟩ => ⟨S1024x512, .bf16⟩
  | .local _ .vmem, ⟨44, _⟩ => ⟨S1024x2048, .bf16⟩
  | .local _ .vmem, ⟨45, _⟩ => ⟨S1024x2048, .bf16⟩
  | .local _ .vmem, ⟨46, _⟩ => ⟨S2048x512, .bf16⟩
  | .local _ .vmem, ⟨47, _⟩ => ⟨S1x512, .f32⟩
  | .local _ .vmem, ⟨48, _⟩ => ⟨S1x512, .f32⟩
  | .local _ .vmem, ⟨49, _⟩ => ⟨S1024x512, .f32⟩
  | .local _ .vmem, ⟨50, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_0 : Ref sig .tc := ⟨.hbm, 55, rfl⟩
abbrev main_v47 : Ref sig .tc := ⟨.hbm, 56, rfl⟩
abbrev main_v48 : Ref sig .tc := ⟨.hbm, 57, rfl⟩
abbrev main_c_1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_2 : Ref sig .tc := ⟨.hbm, 66, rfl⟩
abbrev main_v56 : Ref sig .tc := ⟨.hbm, 67, rfl⟩
abbrev main_v57 : Ref sig .tc := ⟨.hbm, 68, rfl⟩
abbrev main_c_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c_4 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_call0_c : Ref sig .tc := ⟨.hbm, 80, rfl⟩
abbrev main_call0_v0 : Ref sig .tc := ⟨.hbm, 81, rfl⟩
abbrev main_call0_v1 : Ref sig .tc := ⟨.hbm, 82, rfl⟩
abbrev main_call0_c_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_c_1 : Ref sig .tc := ⟨.hbm, 88, rfl⟩
abbrev main_call0_c_2 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_3 : Ref sig .tc := ⟨.hbm, 96, rfl⟩
abbrev main_call0_v12 : Ref sig .tc := ⟨.hbm, 97, rfl⟩
abbrev main_call0_v13 : Ref sig .tc := ⟨.hbm, 98, rfl⟩
abbrev main_call0_v14 : Ref sig .tc := ⟨.hbm, 99, rfl⟩
abbrev main_call0_cst : Ref sig .tc := ⟨.hbm, 100, rfl⟩
abbrev main_call0_v15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call1_c : Ref sig .tc := ⟨.hbm, 105, rfl⟩
abbrev main_call1_v0 : Ref sig .tc := ⟨.hbm, 106, rfl⟩
abbrev main_call1_v1 : Ref sig .tc := ⟨.hbm, 107, rfl⟩
abbrev main_call1_c_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_c_1 : Ref sig .tc := ⟨.hbm, 113, rfl⟩
abbrev main_call1_c_2 : Ref sig .tc := ⟨.hbm, 114, rfl⟩
abbrev main_call1_v6 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_c_3 : Ref sig .tc := ⟨.hbm, 121, rfl⟩
abbrev main_call1_v12 : Ref sig .tc := ⟨.hbm, 122, rfl⟩
abbrev main_call1_v13 : Ref sig .tc := ⟨.hbm, 123, rfl⟩
abbrev main_call1_v14 : Ref sig .tc := ⟨.hbm, 124, rfl⟩
abbrev main_call1_cst : Ref sig .tc := ⟨.hbm, 125, rfl⟩
abbrev main_call1_v15 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem4_1 : DmaSem sig := 50

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![18, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![18, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![18, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![18, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![18, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![18, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true]

abbrev stage6_4 : Fin 2 → Memref sig .tc .vmem S1024x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]
-- ==== InputReferenceIdeal.lean ====
abbrev S4x4096x2048 : Shape := ⟨3, ![4, 4096, 2048]⟩
abbrev S32x64x2048 : Shape := ⟨3, ![32, 64, 2048]⟩
abbrev S1x2048 : Shape := ⟨2, ![1, 2048]⟩
abbrev S1x2048x9280 : Shape := ⟨3, ![1, 2048, 9280]⟩
abbrev S1x9280 : Shape := ⟨2, ![1, 9280]⟩
abbrev S1x512 : Shape := ⟨2, ![1, 512]⟩
abbrev S2048 : Shape := ⟨1, ![2048]⟩
abbrev S2048x9280 : Shape := ⟨2, ![2048, 9280]⟩
abbrev S9280 : Shape := ⟨1, ![9280]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x9280 : Shape := ⟨3, ![4, 4096, 9280]⟩
abbrev S1x1x9280 : Shape := ⟨3, ![1, 1, 9280]⟩
abbrev S4x4096x512 : Shape := ⟨3, ![4, 4096, 512]⟩
abbrev S4x4096x64 : Shape := ⟨3, ![4, 4096, 64]⟩
abbrev S512 : Shape := ⟨1, ![512]⟩
abbrev S1x1x512 : Shape := ⟨3, ![1, 1, 512]⟩
abbrev S32x64 : Shape := ⟨2, ![32, 64]⟩
abbrev S32x64x1 : Shape := ⟨3, ![32, 64, 1]⟩
abbrev S32x64x9280 : Shape := ⟨3, ![32, 64, 9280]⟩
abbrev S32x64x512 : Shape := ⟨3, ![32, 64, 512]⟩
abbrev S32x64x64 : Shape := ⟨3, ![32, 64, 64]⟩
abbrev S16384x2048 : Shape := ⟨2, ![16384, 2048]⟩
abbrev S2048x2048 : Shape := ⟨2, ![2048, 2048]⟩
abbrev S18432x2048 : Shape := ⟨2, ![18432, 2048]⟩
abbrev S16384x512 : Shape := ⟨2, ![16384, 512]⟩
abbrev S2048x512 : Shape := ⟨2, ![2048, 512]⟩
abbrev S18432x512 : Shape := ⟨2, ![18432, 512]⟩
abbrev S4x3x2048 : Shape := ⟨3, ![4, 3, 2048]⟩
abbrev S1x4x3x2048 : Shape := ⟨4, ![1, 4, 3, 2048]⟩
abbrev S32x3x2048 : Shape := ⟨3, ![32, 3, 2048]⟩
abbrev S1x32x3x2048 : Shape := ⟨4, ![1, 32, 3, 2048]⟩
abbrev S1x4x4096x512 : Shape := ⟨4, ![1, 4, 4096, 512]⟩
abbrev S1x32x64x512 : Shape := ⟨4, ![1, 32, 64, 512]⟩

abbrev nBuf : Space → Nat
  | .hbm => 226
  | .vmem => 0
  | .smem => 0
  | _ => 0

abbrev hbmTy0_0 (i : Nat) : BufTy := match i % 128 with
  | 0 => ⟨S4x4096x2048, .f32⟩
  | 1 => ⟨S32x64x2048, .f32⟩
  | 2 => ⟨S1x2048, .f32⟩
  | 3 => ⟨S1x2048x9280, .f32⟩
  | 4 => ⟨S1x9280, .f32⟩
  | 5 => ⟨S1x512, .f32⟩
  | 6 => ⟨S1x512, .f32⟩
  | 7 => ⟨S2048, .f32⟩
  | 8 => ⟨S2048x9280, .f32⟩
  | 9 => ⟨S9280, .f32⟩
  | 10 => ⟨S4x4096x2048, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x2048, .f32⟩
  | 22 => ⟨S4x4096x2048, .f32⟩
  | 23 => ⟨S1x1x2048, .f32⟩
  | 24 => ⟨S4x4096x2048, .f32⟩
  | 25 => ⟨S4x4096x2048, .f32⟩
  | 26 => ⟨S4x4096x9280, .f32⟩
  | 27 => ⟨S1x1x9280, .f32⟩
  | 28 => ⟨S4x4096x9280, .f32⟩
  | 29 => ⟨S4x4096x9280, .f32⟩
  | 30 => ⟨S4x4096x2048, .f32⟩
  | 31 => ⟨S4x4096x2048, .f32⟩
  | 32 => ⟨S4x4096x512, .f32⟩
  | 33 => ⟨S4x4096x512, .f32⟩
  | 34 => ⟨S4x4096x64, .f32⟩
  | 35 => ⟨S4x4096x2048, .f32⟩
  | 36 => ⟨S4x4096x2048, .f32⟩
  | 37 => ⟨S4x4096x2048, .f32⟩
  | 38 => ⟨S4x4096x2048, .f32⟩
  | 39 => ⟨S_, .f32⟩
  | 40 => ⟨S4x4096x2048, .f32⟩
  | 41 => ⟨S4x4096x2048, .f32⟩
  | 42 => ⟨S4x4096x2048, .f32⟩
  | 43 => ⟨S_, .f32⟩
  | 44 => ⟨S4x4096x2048, .f32⟩
  | 45 => ⟨S4x4096x2048, .f32⟩
  | 46 => ⟨S4x4096x2048, .f32⟩
  | 47 => ⟨S_, .f32⟩
  | 48 => ⟨S4x4096x2048, .f32⟩
  | 49 => ⟨S4x4096x2048, .f32⟩
  | 50 => ⟨S_, .f32⟩
  | 51 => ⟨S4x4096x2048, .f32⟩
  | 52 => ⟨S4x4096x2048, .f32⟩
  | 53 => ⟨S4x4096x2048, .f32⟩
  | 54 => ⟨S4x4096x2048, .f32⟩
  | 55 => ⟨S4x4096x2048, .f32⟩
  | 56 => ⟨S_, .f32⟩
  | 57 => ⟨S4x4096x2048, .f32⟩
  | 58 => ⟨S4x4096x2048, .f32⟩
  | 59 => ⟨S_, .f32⟩
  | 60 => ⟨S4x4096x2048, .f32⟩
  | 61 => ⟨S4x4096x2048, .f32⟩
  | 62 => ⟨S4x4096x2048, .f32⟩
  | 63 => ⟨S4x4096x2048, .f32⟩
  | 64 => ⟨S_, .f32⟩
  | 65 => ⟨S4x4096x2048, .f32⟩
  | 66 => ⟨S4x4096x2048, .f32⟩
  | 67 => ⟨S_, .f32⟩
  | 68 => ⟨S4x4096x2048, .f32⟩
  | 69 => ⟨S4x4096x2048, .f32⟩
  | 70 => ⟨S512, .f32⟩
  | 71 => ⟨S4x4096x512, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x512, .f32⟩
  | 83 => ⟨S4x4096x512, .f32⟩
  | 84 => ⟨S1x1x512, .f32⟩
  | 85 => ⟨S4x4096x512, .f32⟩
  | 86 => ⟨S4x4096x512, .f32⟩
  | 87 => ⟨S512, .f32⟩
  | 88 => ⟨S4x4096x512, .f32⟩
  | 89 => ⟨S_, .f32⟩
  | 90 => ⟨S4x4096, .f32⟩
  | 91 => ⟨S4x4096x1, .f32⟩
  | 92 => ⟨S_, .f32⟩
  | 93 => ⟨S4x4096x1, .f32⟩
  | 94 => ⟨S4x4096x1, .f32⟩
  | 95 => ⟨S_, .f32⟩
  | 96 => ⟨S4x4096x1, .f32⟩
  | 97 => ⟨S4x4096x1, .f32⟩
  | 98 => ⟨S4x4096x1, .f32⟩
  | 99 => ⟨S4x4096x512, .f32⟩
  | 100 => ⟨S4x4096x512, .f32⟩
  | 101 => ⟨S1x1x512, .f32⟩
  | 102 => ⟨S4x4096x512, .f32⟩
  | 103 => ⟨S4x4096x512, .f32⟩
  | 104 => ⟨S2048, .f32⟩
  | 105 => ⟨S2048x9280, .f32⟩
  | 106 => ⟨S9280, .f32⟩
  | 107 => ⟨S32x64x2048, .f32⟩
  | 108 => ⟨S_, .f32⟩
  | 109 => ⟨S32x64, .f32⟩
  | 110 => ⟨S32x64x1, .f32⟩
  | 111 => ⟨S_, .f32⟩
  | 112 => ⟨S32x64x1, .f32⟩
  | 113 => ⟨S32x64x1, .f32⟩
  | 114 => ⟨S_, .f32⟩
  | 115 => ⟨S32x64x1, .f32⟩
  | 116 => ⟨S32x64x1, .f32⟩
  | 117 => ⟨S32x64x1, .f32⟩
  | 118 => ⟨S32x64x2048, .f32⟩
  | 119 => ⟨S32x64x2048, .f32⟩
  | 120 => ⟨S1x1x2048, .f32⟩
  | 121 => ⟨S32x64x2048, .f32⟩
  | 122 => ⟨S32x64x2048, .f32⟩
  | 123 => ⟨S32x64x9280, .f32⟩
  | 124 => ⟨S1x1x9280, .f32⟩
  | 125 => ⟨S32x64x9280, .f32⟩
  | 126 => ⟨S32x64x9280, .f32⟩
  | 127 => ⟨S32x64x2048, .f32⟩
  | _ => ⟨S4x4096x2048, .f32⟩

abbrev hbmTy0_1 (i : Nat) : BufTy := match i % 128 with
  | 0 => ⟨S32x64x2048, .f32⟩
  | 1 => ⟨S32x64x512, .f32⟩
  | 2 => ⟨S32x64x512, .f32⟩
  | 3 => ⟨S32x64x64, .f32⟩
  | 4 => ⟨S32x64x2048, .f32⟩
  | 5 => ⟨S32x64x2048, .f32⟩
  | 6 => ⟨S32x64x2048, .f32⟩
  | 7 => ⟨S32x64x2048, .f32⟩
  | 8 => ⟨S_, .f32⟩
  | 9 => ⟨S32x64x2048, .f32⟩
  | 10 => ⟨S32x64x2048, .f32⟩
  | 11 => ⟨S32x64x2048, .f32⟩
  | 12 => ⟨S_, .f32⟩
  | 13 => ⟨S32x64x2048, .f32⟩
  | 14 => ⟨S32x64x2048, .f32⟩
  | 15 => ⟨S32x64x2048, .f32⟩
  | 16 => ⟨S_, .f32⟩
  | 17 => ⟨S32x64x2048, .f32⟩
  | 18 => ⟨S32x64x2048, .f32⟩
  | 19 => ⟨S_, .f32⟩
  | 20 => ⟨S32x64x2048, .f32⟩
  | 21 => ⟨S32x64x2048, .f32⟩
  | 22 => ⟨S32x64x2048, .f32⟩
  | 23 => ⟨S32x64x2048, .f32⟩
  | 24 => ⟨S32x64x2048, .f32⟩
  | 25 => ⟨S_, .f32⟩
  | 26 => ⟨S32x64x2048, .f32⟩
  | 27 => ⟨S32x64x2048, .f32⟩
  | 28 => ⟨S_, .f32⟩
  | 29 => ⟨S32x64x2048, .f32⟩
  | 30 => ⟨S32x64x2048, .f32⟩
  | 31 => ⟨S32x64x2048, .f32⟩
  | 32 => ⟨S32x64x2048, .f32⟩
  | 33 => ⟨S_, .f32⟩
  | 34 => ⟨S32x64x2048, .f32⟩
  | 35 => ⟨S32x64x2048, .f32⟩
  | 36 => ⟨S_, .f32⟩
  | 37 => ⟨S32x64x2048, .f32⟩
  | 38 => ⟨S32x64x2048, .f32⟩
  | 39 => ⟨S512, .f32⟩
  | 40 => ⟨S32x64x512, .f32⟩
  | 41 => ⟨S_, .f32⟩
  | 42 => ⟨S32x64, .f32⟩
  | 43 => ⟨S32x64x1, .f32⟩
  | 44 => ⟨S_, .f32⟩
  | 45 => ⟨S32x64x1, .f32⟩
  | 46 => ⟨S32x64x1, .f32⟩
  | 47 => ⟨S_, .f32⟩
  | 48 => ⟨S32x64x1, .f32⟩
  | 49 => ⟨S32x64x1, .f32⟩
  | 50 => ⟨S32x64x1, .f32⟩
  | 51 => ⟨S32x64x512, .f32⟩
  | 52 => ⟨S32x64x512, .f32⟩
  | 53 => ⟨S1x1x512, .f32⟩
  | 54 => ⟨S32x64x512, .f32⟩
  | 55 => ⟨S32x64x512, .f32⟩
  | 56 => ⟨S512, .f32⟩
  | 57 => ⟨S32x64x512, .f32⟩
  | 58 => ⟨S_, .f32⟩
  | 59 => ⟨S32x64, .f32⟩
  | 60 => ⟨S32x64x1, .f32⟩
  | 61 => ⟨S_, .f32⟩
  | 62 => ⟨S32x64x1, .f32⟩
  | 63 => ⟨S32x64x1, .f32⟩
  | 64 => ⟨S_, .f32⟩
  | 65 => ⟨S32x64x1, .f32⟩
  | 66 => ⟨S32x64x1, .f32⟩
  | 67 => ⟨S32x64x1, .f32⟩
  | 68 => ⟨S32x64x512, .f32⟩
  | 69 => ⟨S32x64x512, .f32⟩
  | 70 => ⟨S1x1x512, .f32⟩
  | 71 => ⟨S32x64x512, .f32⟩
  | 72 => ⟨S32x64x512, .f32⟩
  | 73 => ⟨S16384x2048, .f32⟩
  | 74 => ⟨S2048x2048, .f32⟩
  | 75 => ⟨S18432x2048, .f32⟩
  | 76 => ⟨S16384x2048, .f32⟩
  | 77 => ⟨S2048x2048, .f32⟩
  | 78 => ⟨S18432x2048, .f32⟩
  | 79 => ⟨S18432x2048, .bf16⟩
  | 80 => ⟨S16384x2048, .f32⟩
  | 81 => ⟨S2048x2048, .f32⟩
  | 82 => ⟨S18432x2048, .f32⟩
  | 83 => ⟨S18432x2048, .bf16⟩
  | 84 => ⟨S16384x2048, .f32⟩
  | 85 => ⟨S2048x2048, .f32⟩
  | 86 => ⟨S18432x2048, .f32⟩
  | 87 => ⟨S18432x2048, .bf16⟩
  | 88 => ⟨S16384x512, .f32⟩
  | 89 => ⟨S2048x512, .f32⟩
  | 90 => ⟨S18432x512, .f32⟩
  | 91 => ⟨S18432x512, .bf16⟩
  | 92 => ⟨S4x3x2048, .f32⟩
  | 93 => ⟨S1x4x3x2048, .f32⟩
  | 94 => ⟨S32x3x2048, .f32⟩
  | 95 => ⟨S1x32x3x2048, .f32⟩
  | 96 => ⟨S1x4x4096x512, .f32⟩
  | 97 => ⟨S1x32x64x512, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_19 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_20 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_21 : Ref sig .tc := ⟨.hbm, 144, rfl⟩
abbrev main_v115 : Ref sig .tc := ⟨.hbm, 145, rfl⟩
abbrev main_v116 : Ref sig .tc := ⟨.hbm, 146, rfl⟩
abbrev main_cst_22 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_cst_24 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_25 : Ref sig .tc := ⟨.hbm, 161, rfl⟩
abbrev main_v128 : Ref sig .tc := ⟨.hbm, 162, rfl⟩
abbrev main_v129 : Ref sig .tc := ⟨.hbm, 163, rfl⟩
abbrev main_cst_26 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_27 : Ref sig .tc := ⟨.hbm, 169, rfl⟩
abbrev main_v134 : Ref sig .tc := ⟨.hbm, 170, rfl⟩
abbrev main_v135 : Ref sig .tc := ⟨.hbm, 171, rfl⟩
abbrev main_cst_28 : Ref sig .tc := ⟨.hbm, 172, rfl⟩
abbrev main_v136 : Ref sig .tc := ⟨.hbm, 173, rfl⟩
abbrev main_v137 : Ref sig .tc := ⟨.hbm, 174, rfl⟩
abbrev main_cst_29 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_30 : Ref sig .tc := ⟨.hbm, 186, rfl⟩
abbrev main_v148 : Ref sig .tc := ⟨.hbm, 187, rfl⟩
abbrev main_v149 : Ref sig .tc := ⟨.hbm, 188, rfl⟩
abbrev main_cst_31 : Ref sig .tc := ⟨.hbm, 189, rfl⟩
abbrev main_v150 : Ref sig .tc := ⟨.hbm, 190, rfl⟩
abbrev main_v151 : Ref sig .tc := ⟨.hbm, 191, rfl⟩
abbrev main_cst_32 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩

abbrev nD : Nat := 1
abbrev τ : Topo := Topo.v7x

variable {F : FTy → Type} [FloatOps F]
-- ==== MemoryKernel.lean ====
abbrev S4x256x2048 : Shape := ⟨3, ![4, 256, 2048]⟩
abbrev S1x2048 : Shape := ⟨2, ![1, 2048]⟩
abbrev S1x2048x4x128 : Shape := ⟨4, ![1, 2048, 4, 128]⟩
abbrev S1024x2048 : Shape := ⟨2, ![1024, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x4x128 : Shape := ⟨3, ![2048, 4, 128]⟩
abbrev S2048x512 : Shape := ⟨2, ![2048, 512]⟩
abbrev S1024x512 : Shape := ⟨2, ![1024, 512]⟩
abbrev S1x4x256x4x128 : Shape := ⟨5, ![1, 4, 256, 4, 128]⟩

abbrev nBuf : Space → Nat
  | .hbm => 18
  | .vmem => 11
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x4x128, .f32⟩
  | .hbm, ⟨3, _⟩ => ⟨S1x2048x4x128, .f32⟩
  | .hbm, ⟨4, _⟩ => ⟨S1024x2048, .f32⟩
  | .hbm, ⟨5, _⟩ => ⟨S2048, .f32⟩
  | .hbm, ⟨6, _⟩ => ⟨S1x2048, .f32⟩
  | .hbm, ⟨7, _⟩ => ⟨S1024x2048, .bf16⟩
  | .hbm, ⟨8, _⟩ => ⟨S2048x4x128, .f32⟩
  | .hbm, ⟨9, _⟩ => ⟨S2048x512, .f32⟩
  | .hbm, ⟨10, _⟩ => ⟨S2048x512, .bf16⟩
  | .hbm, ⟨11, _⟩ => ⟨S1024x512, .f32⟩
  | .hbm, ⟨12, _⟩ => ⟨S2048x4x128, .f32⟩
  | .hbm, ⟨13, _⟩ => ⟨S2048x512, .f32⟩
  | .hbm, ⟨14, _⟩ => ⟨S2048x512, .bf16⟩
  | .hbm, ⟨15, _⟩ => ⟨S1024x512, .f32⟩
  | .hbm, ⟨16, _⟩ => ⟨S1x4x256x4x128, .f32⟩
  | .hbm, ⟨17, _⟩ => ⟨S1x4x256x4x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S2048x512, .bf16⟩
  | .local _ .vmem, ⟨7, _⟩ => ⟨S1024x512, .f32⟩
  | .local _ .vmem, ⟨8, _⟩ => ⟨S1024x2048, .bf16⟩
  | .local _ .vmem, ⟨9, _⟩ => ⟨S2048x512, .bf16⟩
  | .local _ .vmem, ⟨10, _⟩ => ⟨S1024x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]
-- ==== MemoryReferenceIdeal.lean ====
abbrev S4x256x2048 : Shape := ⟨3, ![4, 256, 2048]⟩
abbrev S1x2048 : Shape := ⟨2, ![1, 2048]⟩
abbrev S1x2048x4x128 : Shape := ⟨4, ![1, 2048, 4, 128]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x4x128 : Shape := ⟨3, ![2048, 4, 128]⟩
abbrev S4x256x4x128 : Shape := ⟨4, ![4, 256, 4, 128]⟩
abbrev S1x4x256x4x128 : Shape := ⟨5, ![1, 4, 256, 4, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x4x128, .f32⟩
  | .hbm, ⟨3, _⟩ => ⟨S1x2048x4x128, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S2048x4x128, .f32⟩
  | .hbm, ⟨22, _⟩ => ⟨S4x256x4x128, .f32⟩
  | .hbm, ⟨23, _⟩ => ⟨S1x4x256x4x128, .f32⟩
  | .hbm, ⟨24, _⟩ => ⟨S2048x4x128, .f32⟩
  | .hbm, ⟨25, _⟩ => ⟨S4x256x4x128, .f32⟩
  | .hbm, ⟨26, _⟩ => ⟨S1x4x256x4x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MergeKernel.lean ====
abbrev S18432x2048 : Shape := ⟨2, ![18432, 2048]⟩
abbrev S4x4096x2048 : Shape := ⟨3, ![4, 4096, 2048]⟩
abbrev S32x64x2048 : Shape := ⟨3, ![32, 64, 2048]⟩
abbrev S1x2048x2048 : Shape := ⟨3, ![1, 2048, 2048]⟩
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 21
  | .vmem => 26
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .bf16⟩
  | .hbm, ⟨2, _⟩ => ⟨S18432x2048, .bf16⟩
  | .hbm, ⟨3, _⟩ => ⟨S18432x2048, .bf16⟩
  | .hbm, ⟨4, _⟩ => ⟨S4x4096x2048, .f32⟩
  | .hbm, ⟨5, _⟩ => ⟨S32x64x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S16384x2048, .f32⟩
  | .hbm, ⟨10, _⟩ => ⟨S2048x2048, .f32⟩
  | .hbm, ⟨11, _⟩ => ⟨S18432x2048, .f32⟩
  | .hbm, ⟨12, _⟩ => ⟨S2048x2048, .f32⟩
  | .hbm, ⟨13, _⟩ => ⟨S2048x2048, .bf16⟩
  | .hbm, ⟨14, _⟩ => ⟨S18432x2048, .bf16⟩
  | .hbm, ⟨15, _⟩ => ⟨S2048x2048, .f32⟩
  | .hbm, ⟨16, _⟩ => ⟨S2048x2048, .bf16⟩
  | .hbm, ⟨17, _⟩ => ⟨S18432x2048, .bf16⟩
  | .hbm, ⟨18, _⟩ => ⟨S2048x2048, .f32⟩
  | .hbm, ⟨19, _⟩ => ⟨S2048x2048, .bf16⟩
  | .hbm, ⟨20, _⟩ => ⟨S18432x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x2048, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![18, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![18, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== MergeReferenceIdeal.lean ====
abbrev S18432x2048 : Shape := ⟨2, ![18432, 2048]⟩
abbrev S4x4096x2048 : Shape := ⟨3, ![4, 4096, 2048]⟩
abbrev S32x64x2048 : Shape := ⟨3, ![32, 64, 2048]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .bf16⟩
  | .hbm, ⟨2, _⟩ => ⟨S18432x2048, .bf16⟩
  | .hbm, ⟨3, _⟩ => ⟨S18432x2048, .bf16⟩
  | .hbm, ⟨4, _⟩ => ⟨S4x4096x2048, .f32⟩
  | .hbm, ⟨5, _⟩ => ⟨S32x64x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S16384x2048, .f32⟩
  | .hbm, ⟨10, _⟩ => ⟨S2048x2048, .f32⟩
  | .hbm, ⟨11, _⟩ => ⟨S18432x2048, .f32⟩
  | .hbm, ⟨12, _⟩ => ⟨S18432x2048, .f32⟩
  | .hbm, ⟨13, _⟩ => ⟨S2048x2048, .f32⟩
  | .hbm, ⟨14, _⟩ => ⟨S18432x2048, .f32⟩
  | .hbm, ⟨15, _⟩ => ⟨S18432x2048, .f32⟩
  | .hbm, ⟨16, _⟩ => ⟨S2048x2048, .f32⟩
  | .hbm, ⟨17, _⟩ => ⟨S18432x2048, .f32⟩
  | .hbm, ⟨18, _⟩ => ⟨S18432x2048, .f32⟩
  | .hbm, ⟨19, _⟩ => ⟨S18432x2048, .f32⟩
  | .hbm, ⟨20, _⟩ => ⟨S18432x2048, .f32⟩
  | .hbm, ⟨21, _⟩ => ⟨S18432x2048, .f32⟩
  | .hbm, ⟨22, _⟩ => ⟨S18432x2048, .f32⟩
  | .hbm, ⟨23, _⟩ => ⟨S2048x2048, .f32⟩
  | .hbm, ⟨24, _⟩ => ⟨S18432x2048, .f32⟩
  | .hbm, ⟨25, _⟩ => ⟨S18432x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== UpKernel.lean ====
abbrev S32 : Shape := ⟨1, ![32]⟩
abbrev S90112x1024 : Shape := ⟨2, ![90112, 1024]⟩
abbrev S32x2048x2048 : Shape := ⟨3, ![32, 2048, 2048]⟩
abbrev S32x2048 : Shape := ⟨2, ![32, 2048]⟩
abbrev S_ : Shape := ⟨0, ![]⟩
abbrev S1 : Shape := ⟨1, ![1]⟩
abbrev S352 : Shape := ⟨1, ![352]⟩
abbrev S352x1 : Shape := ⟨2, ![352, 1]⟩
abbrev S1x32 : Shape := ⟨2, ![1, 32]⟩
abbrev S352x32 : Shape := ⟨2, ![352, 32]⟩
abbrev S32x1x2048 : Shape := ⟨3, ![32, 1, 2048]⟩
abbrev S90112x2048 : Shape := ⟨2, ![90112, 2048]⟩
abbrev S512x1024 : Shape := ⟨2, ![512, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S512x2048 : Shape := ⟨2, ![512, 2048]⟩
abbrev S1x1024 : Shape := ⟨2, ![1, 1024]⟩

abbrev nBuf : Space → Nat
  | .hbm => 113
  | .vmem => 14
  | .smem => 5
  | _ => 0

abbrev bufTy : (tb : Table) → Fin (tcTables nBuf tb) → BufTy
  | .hbm, ⟨0, _⟩ => ⟨S32, .i32⟩
  | .hbm, ⟨1, _⟩ => ⟨S90112x1024, .i32⟩
  | .hbm, ⟨2, _⟩ => ⟨S32x2048x2048, .f32⟩
  | .hbm, ⟨3, _⟩ => ⟨S32x2048, .f32⟩
  | .hbm, ⟨4, _⟩ => ⟨S32x2048x2048, .f32⟩
  | .hbm, ⟨5, _⟩ => ⟨S32x2048, .f32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S1, .i32⟩
  | .hbm, ⟨11, _⟩ => ⟨S_, .i32⟩
  | .hbm, ⟨12, _⟩ => ⟨S352, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S352, .i32⟩
  | .hbm, ⟨22, _⟩ => ⟨S352, .i32⟩
  | .hbm, ⟨23, _⟩ => ⟨S352, .i32⟩
  | .hbm, ⟨24, _⟩ => ⟨S352, .i32⟩
  | .hbm, ⟨25, _⟩ => ⟨S352x1, .i32⟩
  | .hbm, ⟨26, _⟩ => ⟨S1x32, .i32⟩
  | .hbm, ⟨27, _⟩ => ⟨S_, .i32⟩
  | .hbm, ⟨28, _⟩ => ⟨S1x32, .i32⟩
  | .hbm, ⟨29, _⟩ => ⟨S1x32, .i32⟩
  | .hbm, ⟨30, _⟩ => ⟨S352x32, .i32⟩
  | .hbm, ⟨31, _⟩ => ⟨S352x32, .i32⟩
  | .hbm, ⟨32, _⟩ => ⟨S352x32, .i1⟩
  | .hbm, ⟨33, _⟩ => ⟨S352x32, .i32⟩
  | .hbm, ⟨34, _⟩ => ⟨S_, .i32⟩
  | .hbm, ⟨35, _⟩ => ⟨S_, .i32⟩
  | .hbm, ⟨36, _⟩ => ⟨S352, .i32⟩
  | .hbm, ⟨37, _⟩ => ⟨S352, .i1⟩
  | .hbm, ⟨38, _⟩ => ⟨S_, .i32⟩
  | .hbm, ⟨39, _⟩ => ⟨S352, .i32⟩
  | .hbm, ⟨40, _⟩ => ⟨S352, .i32⟩
  | .hbm, ⟨41, _⟩ => ⟨S352, .i32⟩
  | .hbm, ⟨42, _⟩ => ⟨S352x1, .i32⟩
  | .hbm, ⟨43, _⟩ => ⟨S352, .i32⟩
  | .hbm, ⟨44, _⟩ => ⟨S_, .i32⟩
  | .hbm, ⟨45, _⟩ => ⟨S352, .i32⟩
  | .hbm, ⟨46, _⟩ => ⟨S352, .i32⟩
  | .hbm, ⟨47, _⟩ => ⟨S352, .i32⟩
  | .hbm, ⟨48, _⟩ => ⟨S_, .i32⟩
  | .hbm, ⟨49, _⟩ => ⟨S352, .i32⟩
  | .hbm, ⟨50, _⟩ => ⟨S352, .i1⟩
  | .hbm, ⟨51, _⟩ => ⟨S_, .i32⟩
  | .hbm, ⟨52, _⟩ => ⟨S352, .i32⟩
  | .hbm, ⟨53, _⟩ => ⟨S352, .i32⟩
  | .hbm, ⟨54, _⟩ => ⟨S352, .i32⟩
  | .hbm, ⟨55, _⟩ => ⟨S352x1, .i32⟩
  | .hbm, ⟨56, _⟩ => ⟨S352, .i32⟩
  | .hbm, ⟨57, _⟩ => ⟨S_, .i32⟩
  | .hbm, ⟨58, _⟩ => ⟨S352, .i32⟩
  | .hbm, ⟨59, _⟩ => ⟨S352, .i32⟩
  | .hbm, ⟨60, _⟩ => ⟨S352, .i32⟩
  | .hbm, ⟨61, _⟩ => ⟨S352, .i32⟩
  | .hbm, ⟨62, _⟩ => ⟨S352, .i32⟩
  | .hbm, ⟨63, _⟩ => ⟨S352, .i1⟩
  | .hbm, ⟨64, _⟩ => ⟨S352, .i32⟩
  | .hbm, ⟨65, _⟩ => ⟨S_, .i32⟩
  | .hbm, ⟨66, _⟩ => ⟨S352, .i32⟩
  | .hbm, ⟨67, _⟩ => ⟨S352, .i1⟩
  | .hbm, ⟨68, _⟩ => ⟨S352, .i1⟩
  | .hbm, ⟨69, _⟩ => ⟨S_, .i32⟩
  | .hbm, ⟨70, _⟩ => ⟨S352, .i32⟩
  | .hbm, ⟨71, _⟩ => ⟨S352, .i32⟩
  | .hbm, ⟨72, _⟩ => ⟨S_, .i32⟩
  | .hbm, ⟨73, _⟩ => ⟨S352, .i32⟩
  | .hbm, ⟨74, _⟩ => ⟨S352, .i1⟩
  | .hbm, ⟨75, _⟩ => ⟨S_, .i32⟩
  | .hbm, ⟨76, _⟩ => ⟨S352, .i32⟩
  | .hbm, ⟨77, _⟩ => ⟨S352, .i32⟩
  | .hbm, ⟨78, _⟩ => ⟨S352, .i32⟩
  | .hbm, ⟨79, _⟩ => ⟨S_, .i32⟩
  | .hbm, ⟨80, _⟩ => ⟨S352, .i32⟩
  | .hbm, ⟨81, _⟩ => ⟨S352, .i1⟩
  | .hbm, ⟨82, _⟩ => ⟨S_, .i32⟩
  | .hbm, ⟨83, _⟩ => ⟨S352, .i32⟩
  | .hbm, ⟨84, _⟩ => ⟨S352, .i1⟩
  | .hbm, ⟨85, _⟩ => ⟨S_, .i32⟩
  | .hbm, ⟨86, _⟩ => ⟨S352, .i32⟩
  | .hbm, ⟨87, _⟩ => ⟨S352, .i1⟩
  | .hbm, ⟨88, _⟩ => ⟨S352, .i1⟩
  | .hbm, ⟨89, _⟩ => ⟨S352, .i1⟩
  | .hbm, ⟨90, _⟩ => ⟨S352, .i32⟩
  | .hbm, ⟨91, _⟩ => ⟨S352, .i32⟩
  | .hbm, ⟨92, _⟩ => ⟨S352, .i32⟩
  | .hbm, ⟨93, _⟩ => ⟨S_, .i32⟩
  | .hbm, ⟨94, _⟩ => ⟨S_, .i32⟩
  | .hbm, ⟨95, _⟩ => ⟨S352, .i32⟩
  | .hbm, ⟨96, _⟩ => ⟨S352, .i1⟩
  | .hbm, ⟨97, _⟩ => ⟨S_, .i32⟩
  | .hbm, ⟨98, _⟩ => ⟨S352, .i32⟩
  | .hbm, ⟨99, _⟩ => ⟨S352, .i1⟩
  | .hbm, ⟨100, _⟩ => ⟨S352, .i32⟩
  | .hbm, ⟨101, _⟩ => ⟨S_, .i32⟩
  | .hbm, ⟨102, _⟩ => ⟨S352, .i32⟩
  | .hbm, ⟨103, _⟩ => ⟨S352, .i1⟩
  | .hbm, ⟨104, _⟩ => ⟨S_, .i32⟩
  | .hbm, ⟨105, _⟩ => ⟨S352, .i32⟩
  | .hbm, ⟨106, _⟩ => ⟨S352, .i32⟩
  | .hbm, ⟨107, _⟩ => ⟨S352, .i32⟩
  | .hbm, ⟨108, _⟩ => ⟨S352x1, .i32⟩
  | .hbm, ⟨109, _⟩ => ⟨S352, .i32⟩
  | .hbm, ⟨110, _⟩ => ⟨S32x1x2048, .f32⟩
  | .hbm, ⟨111, _⟩ => ⟨S32x1x2048, .f32⟩
  | .hbm, ⟨112, _⟩ => ⟨S90112x2048, .bf16⟩
  | .local _ .vmem, ⟨0, _⟩ => ⟨S512x1024, .i32⟩
  | .local _ .vmem, ⟨1, _⟩ => ⟨S512x1024, .i32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S2048x1024, .bf16⟩
  | .local _ .smem, ⟨0, _⟩ => ⟨S352, .i32⟩
  | .local _ .smem, ⟨1, _⟩ => ⟨S352, .i32⟩
  | .local _ .smem, ⟨2, _⟩ => ⟨S352, .i32⟩
  | .local _ .smem, ⟨3, _⟩ => ⟨S352, .i32⟩
  | .local _ .smem, ⟨4, _⟩ => ⟨S352, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_c_0 : Ref sig .tc := ⟨.hbm, 69, rfl⟩
abbrev main_call2_v8 : Ref sig .tc := ⟨.hbm, 70, rfl⟩
abbrev main_call2_v9 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_v38 : Ref sig .tc := ⟨.hbm, 91, rfl⟩
abbrev main_v39 : Ref sig .tc := ⟨.hbm, 92, rfl⟩
abbrev main_c_11 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_12 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_13 : Ref sig .tc := ⟨.hbm, 101, rfl⟩
abbrev main_v48 : Ref sig .tc := ⟨.hbm, 102, rfl⟩
abbrev main_v49 : Ref sig .tc := ⟨.hbm, 103, rfl⟩
abbrev main_c_14 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v17 : Ref sig .tc := ⟨.smem, 0, rfl⟩
abbrev main_v37 : Ref sig .tc := ⟨.smem, 1, rfl⟩
abbrev main_v55 : Ref sig .tc := ⟨.smem, 2, rfl⟩
abbrev main_v47 : Ref sig .tc := ⟨.smem, 3, rfl⟩
abbrev main_v43 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![352], ![false]⟩

abbrev pre0 : Pipeline.Prefetch sig := ⟨5, ![main_v17.idx, main_v37.idx, main_v55.idx, main_v47.idx, main_v43.idx], fun | 0 => main_v17.names | 1 => main_v37.names | 2 => main_v55.names | 3 => main_v47.names | 4 => main_v43.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S352.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S352) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let v2 : Index := Scalar.indexCast arg0
  let v3 : BitVec 32 := pf.at 1 (Rect.unit (s := S352) ![v2.toNat] S1.size (k0_off1_inb i)) numel1_S1
  let c0_i32 : BitVec 32 := 0#32
  let c0_i32_0 : BitVec 32 := 0#32
  ![v1.toNat, c0_i32.toNat, v3.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let v2 : Index := Scalar.indexCast arg0
  let v3 : BitVec 32 := pf.at 1 (Rect.unit (s := S352) ![v2.toNat] S1.size (k0_off1_inb i)) numel1_S1
  let c0_i32 : BitVec 32 := 0#32
  let c0_i32_0 : BitVec 32 := 0#32
  ![v1.toNat, c0_i32.toNat, v3.toNat]

def cc0_transform_3 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let v2 : Index := Scalar.indexCast arg0
  let v3 : BitVec 32 := pf.at 1 (Rect.unit (s := S352) ![v2.toNat] S1.size (k0_off1_inb i)) numel1_S1
  let c0_i32 : BitVec 32 := 0#32
  let c0_i32_0 : BitVec 32 := 0#32
  ![v1.toNat, c0_i32.toNat, v3.toNat]

def cc0_transform_4 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let v2 : Index := Scalar.indexCast arg0
  let v3 : BitVec 32 := pf.at 1 (Rect.unit (s := S352) ![v2.toNat] S1.size (k0_off1_inb i)) numel1_S1
  let c0_i32 : BitVec 32 := 0#32
  let c0_i32_0 : BitVec 32 := 0#32
  ![v1.toNat, c0_i32.toNat, v3.toNat]

def cc0_transform_5 (k0_off1_inb : ∀ i : grid0.Coords, ∀ a, (k0_off1 i) a + S1.size a ≤ S352.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S352) ![v0.toNat] S1.size (k0_off1_inb i)) numel1_S1
  let v2 : Index := Scalar.indexCast arg0
  let v3 : BitVec 32 := pf.at 1 (Rect.unit (s := S352) ![v2.toNat] S1.size (k0_off1_inb i)) numel1_S1
  let c0_i32 : BitVec 32 := 0#32
  ![v1.toNat, v3.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpReferenceIdeal.lean ====
abbrev S32 : Shape := ⟨1, ![32]⟩
abbrev S90112x1024 : Shape := ⟨2, ![90112, 1024]⟩
abbrev S32x2048x2048 : Shape := ⟨3, ![32, 2048, 2048]⟩
abbrev S32x2048 : Shape := ⟨2, ![32, 2048]⟩
abbrev S176 : Shape := ⟨1, ![176]⟩
abbrev S176x1 : Shape := ⟨2, ![176, 1]⟩
abbrev S_ : Shape := ⟨0, ![]⟩
abbrev S1x32 : Shape := ⟨2, ![1, 32]⟩
abbrev S176x32 : Shape := ⟨2, ![176, 32]⟩
abbrev S90112x2048 : Shape := ⟨2, ![90112, 2048]⟩
abbrev S176x512x2048 : Shape := ⟨3, ![176, 512, 2048]⟩
abbrev S176x2048x2048 : Shape := ⟨3, ![176, 2048, 2048]⟩
abbrev S176x2048 : Shape := ⟨2, ![176, 2048]⟩
abbrev S176x1x2048 : Shape := ⟨3, ![176, 1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S32, .i32⟩
  | .hbm, ⟨1, _⟩ => ⟨S90112x1024, .i32⟩
  | .hbm, ⟨2, _⟩ => ⟨S32x2048x2048, .f32⟩
  | .hbm, ⟨3, _⟩ => ⟨S32x2048, .f32⟩
  | .hbm, ⟨4, _⟩ => ⟨S32x2048x2048, .f32⟩
  | .hbm, ⟨5, _⟩ => ⟨S32x2048, .f32⟩
  | .hbm, ⟨6, _⟩ => ⟨S176, .i32⟩
  | .hbm, ⟨7, _⟩ => ⟨S176x1, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S1x32, .i32⟩
  | .hbm, ⟨12, _⟩ => ⟨S176x32, .i32⟩
  | .hbm, ⟨13, _⟩ => ⟨S176x32, .i32⟩
  | .hbm, ⟨14, _⟩ => ⟨S176x32, .i1⟩
  | .hbm, ⟨15, _⟩ => ⟨S176x32, .i32⟩
  | .hbm, ⟨16, _⟩ => ⟨S_, .i32⟩
  | .hbm, ⟨17, _⟩ => ⟨S176, .i32⟩
  | .hbm, ⟨18, _⟩ => ⟨S_, .i32⟩
  | .hbm, ⟨19, _⟩ => ⟨S176, .i32⟩
  | .hbm, ⟨20, _⟩ => ⟨S176, .i32⟩
  | .hbm, ⟨21, _⟩ => ⟨S_, .i32⟩
  | .hbm, ⟨22, _⟩ => ⟨S90112x1024, .i32⟩
  | .hbm, ⟨23, _⟩ => ⟨S90112x1024, .i32⟩
  | .hbm, ⟨24, _⟩ => ⟨S90112x1024, .f32⟩
  | .hbm, ⟨25, _⟩ => ⟨S_, .i32⟩
  | .hbm, ⟨26, _⟩ => ⟨S90112x1024, .i32⟩
  | .hbm, ⟨27, _⟩ => ⟨S90112x1024, .i32⟩
  | .hbm, ⟨28, _⟩ => ⟨S90112x1024, .f32⟩
  | .hbm, ⟨29, _⟩ => ⟨S90112x2048, .f32⟩
  | .hbm, ⟨30, _⟩ => ⟨S176x512x2048, .f32⟩
  | .hbm, ⟨31, _⟩ => ⟨S_, .i32⟩
  | .hbm, ⟨32, _⟩ => ⟨S176, .i32⟩
  | .hbm, ⟨33, _⟩ => ⟨S176, .i1⟩
  | .hbm, ⟨34, _⟩ => ⟨S_, .i32⟩
  | .hbm, ⟨35, _⟩ => ⟨S176, .i32⟩
  | .hbm, ⟨36, _⟩ => ⟨S176, .i32⟩
  | .hbm, ⟨37, _⟩ => ⟨S176, .i32⟩
  | .hbm, ⟨38, _⟩ => ⟨S176x1, .i32⟩
  | .hbm, ⟨39, _⟩ => ⟨S176x2048x2048, .f32⟩
  | .hbm, ⟨40, _⟩ => ⟨S176x512x2048, .f32⟩
  | .hbm, ⟨41, _⟩ => ⟨S_, .i32⟩
  | .hbm, ⟨42, _⟩ => ⟨S176, .i32⟩
  | .hbm, ⟨43, _⟩ => ⟨S176, .i1⟩
  | .hbm, ⟨44, _⟩ => ⟨S_, .i32⟩
  | .hbm, ⟨45, _⟩ => ⟨S176, .i32⟩
  | .hbm, ⟨46, _⟩ => ⟨S176, .i32⟩
  | .hbm, ⟨47, _⟩ => ⟨S176, .i32⟩
  | .hbm, ⟨48, _⟩ => ⟨S176x1, .i32⟩
  | .hbm, ⟨49, _⟩ => ⟨S176x2048, .f32⟩
  | .hbm, ⟨50, _⟩ => ⟨S176x1x2048, .f32⟩
  | .hbm, ⟨51, _⟩ => ⟨S176x512x2048, .f32⟩
  | .hbm, ⟨52, _⟩ => ⟨S176x512x2048, .f32⟩
  | .hbm, ⟨53, _⟩ => ⟨S_, .f32⟩
  | .hbm, ⟨54, _⟩ => ⟨S176x512x2048, .f32⟩
  | .hbm, ⟨55, _⟩ => ⟨S176x512x2048, .f32⟩
  | .hbm, ⟨56, _⟩ => ⟨S_, .i32⟩
  | .hbm, ⟨57, _⟩ => ⟨S176, .i32⟩
  | .hbm, ⟨58, _⟩ => ⟨S176, .i1⟩
  | .hbm, ⟨59, _⟩ => ⟨S_, .i32⟩
  | .hbm, ⟨60, _⟩ => ⟨S176, .i32⟩
  | .hbm, ⟨61, _⟩ => ⟨S176, .i32⟩
  | .hbm, ⟨62, _⟩ => ⟨S176, .i32⟩
  | .hbm, ⟨63, _⟩ => ⟨S176x1, .i32⟩
  | .hbm, ⟨64, _⟩ => ⟨S176x2048x2048, .f32⟩
  | .hbm, ⟨65, _⟩ => ⟨S176x512x2048, .f32⟩
  | .hbm, ⟨66, _⟩ => ⟨S_, .i32⟩
  | .hbm, ⟨67, _⟩ => ⟨S176, .i32⟩
  | .hbm, ⟨68, _⟩ => ⟨S176, .i1⟩
  | .hbm, ⟨69, _⟩ => ⟨S_, .i32⟩
  | .hbm, ⟨70, _⟩ => ⟨S176, .i32⟩
  | .hbm, ⟨71, _⟩ => ⟨S176, .i32⟩
  | .hbm, ⟨72, _⟩ => ⟨S176, .i32⟩
  | .hbm, ⟨73, _⟩ => ⟨S176x1, .i32⟩
  | .hbm, ⟨74, _⟩ => ⟨S176x2048, .f32⟩
  | .hbm, ⟨75, _⟩ => ⟨S176x1x2048, .f32⟩
  | .hbm, ⟨76, _⟩ => ⟨S176x512x2048, .f32⟩
  | .hbm, ⟨77, _⟩ => ⟨S176x512x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S176x512x2048, .f32⟩
  | .hbm, ⟨82, _⟩ => ⟨S176x512x2048, .f32⟩
  | .hbm, ⟨83, _⟩ => ⟨S_, .f32⟩
  | .hbm, ⟨84, _⟩ => ⟨S176x512x2048, .f32⟩
  | .hbm, ⟨85, _⟩ => ⟨S176x512x2048, .f32⟩
  | .hbm, ⟨86, _⟩ => ⟨S_, .f32⟩
  | .hbm, ⟨87, _⟩ => ⟨S176x512x2048, .f32⟩
  | .hbm, ⟨88, _⟩ => ⟨S176x512x2048, .f32⟩
  | .hbm, ⟨89, _⟩ => ⟨S176x512x2048, .f32⟩
  | .hbm, ⟨90, _⟩ => ⟨S_, .f32⟩
  | .hbm, ⟨91, _⟩ => ⟨S176x512x2048, .f32⟩
  | .hbm, ⟨92, _⟩ => ⟨S176x512x2048, .f32⟩
  | .hbm, ⟨93, _⟩ => ⟨S176x512x2048, .f32⟩
  | .hbm, ⟨94, _⟩ => ⟨S176x512x2048, .f32⟩
  | .hbm, ⟨95, _⟩ => ⟨S_, .f32⟩
  | .hbm, ⟨96, _⟩ => ⟨S176x512x2048, .f32⟩
  | .hbm, ⟨97, _⟩ => ⟨S176x512x2048, .f32⟩
  | .hbm, ⟨98, _⟩ => ⟨S_, .f32⟩
  | .hbm, ⟨99, _⟩ => ⟨S176x512x2048, .f32⟩
  | .hbm, ⟨100, _⟩ => ⟨S176x512x2048, .f32⟩
  | .hbm, ⟨101, _⟩ => ⟨S176x512x2048, .f32⟩
  | .hbm, ⟨102, _⟩ => ⟨S90112x2048, .f32⟩
  | .hbm, ⟨103, _⟩ => ⟨S90112x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== RopeKernel.lean ====
abbrev S4x4096x2048 : Shape := ⟨3, ![4, 4096, 2048]⟩
abbrev S32x64x2048 : Shape := ⟨3, ![32, 64, 2048]⟩
abbrev S1x2048 : Shape := ⟨2, ![1, 2048]⟩
abbrev S1x2048x9280 : Shape := ⟨3, ![1, 2048, 9280]⟩
abbrev S1x9280 : Shape := ⟨2, ![1, 9280]⟩
abbrev S2048x9280 : Shape := ⟨2, ![2048, 9280]⟩
abbrev S9280 : Shape := ⟨1, ![9280]⟩
abbrev S2048x64 : Shape := ⟨2, ![2048, 64]⟩
abbrev S2048x32 : Shape := ⟨2, ![2048, 32]⟩
abbrev S2048x128 : Shape := ⟨2, ![2048, 128]⟩
abbrev S64 : Shape := ⟨1, ![64]⟩
abbrev S32 : Shape := ⟨1, ![32]⟩
abbrev S128 : Shape := ⟨1, ![128]⟩
abbrev S_ : Shape := ⟨0, ![]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S1x64 : Shape := ⟨2, ![1, 64]⟩
abbrev S32x64 : Shape := ⟨2, ![32, 64]⟩
abbrev S2048 : Shape := ⟨1, ![2048]⟩
abbrev S18432 : Shape := ⟨1, ![18432]⟩
abbrev S18432x1 : Shape := ⟨2, ![18432, 1]⟩
abbrev S1x32 : Shape := ⟨2, ![1, 32]⟩
abbrev S18432x32 : Shape := ⟨2, ![18432, 32]⟩
abbrev S18432x128 : Shape := ⟨2, ![18432, 128]⟩
abbrev S16384x2048 : Shape := ⟨2, ![16384, 2048]⟩
abbrev S2048x2048 : Shape := ⟨2, ![2048, 2048]⟩
abbrev S18432x2048 : Shape := ⟨2, ![18432, 2048]⟩
abbrev S512x2048 : Shape := ⟨2, ![512, 2048]⟩
abbrev S512 : Shape := ⟨1, ![512]⟩
abbrev S512x1 : Shape := ⟨2, ![512, 1]⟩
abbrev S1x128 : Shape := ⟨2, ![1, 128]⟩
abbrev S1024x2048 : Shape := ⟨2, ![1024, 2048]⟩
abbrev S1024x128 : Shape := ⟨2, ![1024, 128]⟩
abbrev S16384x64 : Shape := ⟨2, ![16384, 64]⟩
abbrev S1x4x4096x64 : Shape := ⟨4, ![1, 4, 4096, 64]⟩
abbrev S1x32x64x64 : Shape := ⟨4, ![1, 32, 64, 64]⟩

abbrev nBuf : Space → Nat
  | .hbm => 63
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S32x64x2048, .f32⟩
  | .hbm, ⟨2, _⟩ => ⟨S1x2048, .f32⟩
  | .hbm, ⟨3, _⟩ => ⟨S1x2048x9280, .f32⟩
  | .hbm, ⟨4, _⟩ => ⟨S1x9280, .f32⟩
  | .hbm, ⟨5, _⟩ => ⟨S2048x9280, .f32⟩
  | .hbm, ⟨6, _⟩ => ⟨S9280, .f32⟩
  | .hbm, ⟨7, _⟩ => ⟨S2048x64, .f32⟩
  | .hbm, ⟨8, _⟩ => ⟨S2048x64, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S2048x64, .f32⟩
  | .hbm, ⟨13, _⟩ => ⟨S2048x128, .f32⟩
  | .hbm, ⟨14, _⟩ => ⟨S2048x128, .bf16⟩
  | .hbm, ⟨15, _⟩ => ⟨S64, .f32⟩
  | .hbm, ⟨16, _⟩ => ⟨S64, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S64, .f32⟩
  | .hbm, ⟨21, _⟩ => ⟨S128, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .i32⟩
  | .hbm, ⟨31, _⟩ => ⟨S1x4096, .i32⟩
  | .hbm, ⟨32, _⟩ => ⟨S4x4096, .i32⟩
  | .hbm, ⟨33, _⟩ => ⟨S16384, .i32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S1x64, .i32⟩
  | .hbm, ⟨39, _⟩ => ⟨S32x64, .i32⟩
  | .hbm, ⟨40, _⟩ => ⟨S2048, .i32⟩
  | .hbm, ⟨41, _⟩ => ⟨S18432, .i32⟩
  | .hbm, ⟨42, _⟩ => ⟨S18432, .f32⟩
  | .hbm, ⟨43, _⟩ => ⟨S18432x1, .f32⟩
  | .hbm, ⟨44, _⟩ => ⟨S1x32, .f32⟩
  | .hbm, ⟨45, _⟩ => ⟨S18432x32, .f32⟩
  | .hbm, ⟨46, _⟩ => ⟨S18432x32, .f32⟩
  | .hbm, ⟨47, _⟩ => ⟨S18432x32, .f32⟩
  | .hbm, ⟨48, _⟩ => ⟨S18432x32, .f32⟩
  | .hbm, ⟨49, _⟩ => ⟨S18432x32, .f32⟩
  | .hbm, ⟨50, _⟩ => ⟨S18432x128, .f32⟩
  | .hbm, ⟨51, _⟩ => ⟨S16384x2048, .f32⟩
  | .hbm, ⟨52, _⟩ => ⟨S2048x2048, .f32⟩
  | .hbm, ⟨53, _⟩ => ⟨S18432x2048, .f32⟩
  | .hbm, ⟨54, _⟩ => ⟨S2048, .f32⟩
  | .hbm, ⟨55, _⟩ => ⟨S1x2048, .f32⟩
  | .hbm, ⟨56, _⟩ => ⟨S18432x2048, .bf16⟩
  | .hbm, ⟨57, _⟩ => ⟨S1x128, .f32⟩
  | .hbm, ⟨58, _⟩ => ⟨S18432x128, .f32⟩
  | .hbm, ⟨59, _⟩ => ⟨S16384x64, .f32⟩
  | .hbm, ⟨60, _⟩ => ⟨S1x4x4096x64, .f32⟩
  | .hbm, ⟨61, _⟩ => ⟨S2048x64, .f32⟩
  | .hbm, ⟨62, _⟩ => ⟨S1x32x64x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x128, .bf16⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![18, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== RopeReferenceIdeal.lean ====
abbrev S4x4096x2048 : Shape := ⟨3, ![4, 4096, 2048]⟩
abbrev S32x64x2048 : Shape := ⟨3, ![32, 64, 2048]⟩
abbrev S1x2048 : Shape := ⟨2, ![1, 2048]⟩
abbrev S1x2048x9280 : Shape := ⟨3, ![1, 2048, 9280]⟩
abbrev S1x9280 : Shape := ⟨2, ![1, 9280]⟩
abbrev S4096 : Shape := ⟨1, ![4096]⟩
abbrev S64 : Shape := ⟨1, ![64]⟩
abbrev S_ : Shape := ⟨0, ![]⟩
abbrev S2048 : Shape := ⟨1, ![2048]⟩
abbrev S2048x9280 : Shape := ⟨2, ![2048, 9280]⟩
abbrev S9280 : Shape := ⟨1, ![9280]⟩
abbrev S4x4096 : Shape := ⟨2, ![4, 4096]⟩
abbrev S4x4096x1 : Shape := ⟨3, ![4, 4096, 1]⟩
abbrev S1x1x2048 : Shape := ⟨3, ![1, 1, 2048]⟩
abbrev S4x4096x9280 : Shape := ⟨3, ![4, 4096, 9280]⟩
abbrev S1x1x9280 : Shape := ⟨3, ![1, 1, 9280]⟩
abbrev S4x4096x512 : Shape := ⟨3, ![4, 4096, 512]⟩
abbrev S4x4096x64 : Shape := ⟨3, ![4, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x32 : Shape := ⟨3, ![4, 4096, 32]⟩
abbrev S1x4096x32 : Shape := ⟨3, ![1, 4096, 32]⟩
abbrev S1x4x4096x64 : Shape := ⟨4, ![1, 4, 4096, 64]⟩
abbrev S32x64 : Shape := ⟨2, ![32, 64]⟩
abbrev S32x64x1 : Shape := ⟨3, ![32, 64, 1]⟩
abbrev S32x64x9280 : Shape := ⟨3, ![32, 64, 9280]⟩
abbrev S32x64x512 : Shape := ⟨3, ![32, 64, 512]⟩
abbrev S32x64x64 : Shape := ⟨3, ![32, 64, 64]⟩
abbrev S64x1 : Shape := ⟨2, ![64, 1]⟩
abbrev S64x32 : Shape := ⟨2, ![64, 32]⟩
abbrev S32x64x32 : Shape := ⟨3, ![32, 64, 32]⟩
abbrev S1x64x32 : Shape := ⟨3, ![1, 64, 32]⟩
abbrev S1x32x64x64 : Shape := ⟨4, ![1, 32, 64, 64]⟩

abbrev nBuf : Space → Nat
  | .hbm => 138
  | .vmem => 0
  | .smem => 0
  | _ => 0

abbrev hbmTy0_0 (i : Nat) : BufTy := match i % 128 with
  | 0 => ⟨S4x4096x2048, .f32⟩
  | 1 => ⟨S32x64x2048, .f32⟩
  | 2 => ⟨S1x2048, .f32⟩
  | 3 => ⟨S1x2048x9280, .f32⟩
  | 4 => ⟨S1x9280, .f32⟩
  | 5 => ⟨S4096, .i32⟩
  | 6 => ⟨S64, .i32⟩
  | 7 => ⟨S_, .i32⟩
  | 8 => ⟨S64, .i32⟩
  | 9 => ⟨S64, .i32⟩
  | 10 => ⟨S2048, .f32⟩
  | 11 => ⟨S2048x9280, .f32⟩
  | 12 => ⟨S9280, .f32⟩
  | 13 => ⟨S4x4096x2048, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S4x4096x1, .f32⟩
  | 24 => ⟨S4x4096x2048, .f32⟩
  | 25 => ⟨S4x4096x2048, .f32⟩
  | 26 => ⟨S1x1x2048, .f32⟩
  | 27 => ⟨S4x4096x2048, .f32⟩
  | 28 => ⟨S4x4096x2048, .f32⟩
  | 29 => ⟨S4x4096x9280, .f32⟩
  | 30 => ⟨S1x1x9280, .f32⟩
  | 31 => ⟨S4x4096x9280, .f32⟩
  | 32 => ⟨S4x4096x9280, .f32⟩
  | 33 => ⟨S4x4096x2048, .f32⟩
  | 34 => ⟨S4x4096x2048, .f32⟩
  | 35 => ⟨S4x4096x512, .f32⟩
  | 36 => ⟨S4x4096x512, .f32⟩
  | 37 => ⟨S4x4096x64, .f32⟩
  | 38 => ⟨S4x4096x2048, .f32⟩
  | 39 => ⟨S4x4096x2048, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4096, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S4096x32, .f32⟩
  | 56 => ⟨S4x4096x32, .f32⟩
  | 57 => ⟨S4x4096x32, .f32⟩
  | 58 => ⟨S1x4096x32, .f32⟩
  | 59 => ⟨S4x4096x32, .f32⟩
  | 60 => ⟨S4x4096x32, .f32⟩
  | 61 => ⟨S1x4096x32, .f32⟩
  | 62 => ⟨S4x4096x32, .f32⟩
  | 63 => ⟨S4x4096x32, .f32⟩
  | 64 => ⟨S4x4096x32, .f32⟩
  | 65 => ⟨S1x4096x32, .f32⟩
  | 66 => ⟨S4x4096x32, .f32⟩
  | 67 => ⟨S4x4096x32, .f32⟩
  | 68 => ⟨S1x4096x32, .f32⟩
  | 69 => ⟨S4x4096x32, .f32⟩
  | 70 => ⟨S4x4096x32, .f32⟩
  | 71 => ⟨S4x4096x32, .f32⟩
  | 72 => ⟨S4x4096x64, .f32⟩
  | 73 => ⟨S1x4x4096x64, .f32⟩
  | 74 => ⟨S2048, .f32⟩
  | 75 => ⟨S2048x9280, .f32⟩
  | 76 => ⟨S9280, .f32⟩
  | 77 => ⟨S32x64x2048, .f32⟩
  | 78 => ⟨S_, .f32⟩
  | 79 => ⟨S32x64, .f32⟩
  | 80 => ⟨S32x64x1, .f32⟩
  | 81 => ⟨S_, .f32⟩
  | 82 => ⟨S32x64x1, .f32⟩
  | 83 => ⟨S32x64x1, .f32⟩
  | 84 => ⟨S_, .f32⟩
  | 85 => ⟨S32x64x1, .f32⟩
  | 86 => ⟨S32x64x1, .f32⟩
  | 87 => ⟨S32x64x1, .f32⟩
  | 88 => ⟨S32x64x2048, .f32⟩
  | 89 => ⟨S32x64x2048, .f32⟩
  | 90 => ⟨S1x1x2048, .f32⟩
  | 91 => ⟨S32x64x2048, .f32⟩
  | 92 => ⟨S32x64x2048, .f32⟩
  | 93 => ⟨S32x64x9280, .f32⟩
  | 94 => ⟨S1x1x9280, .f32⟩
  | 95 => ⟨S32x64x9280, .f32⟩
  | 96 => ⟨S32x64x9280, .f32⟩
  | 97 => ⟨S32x64x2048, .f32⟩
  | 98 => ⟨S32x64x2048, .f32⟩
  | 99 => ⟨S32x64x512, .f32⟩
  | 100 => ⟨S32x64x512, .f32⟩
  | 101 => ⟨S32x64x64, .f32⟩
  | 102 => ⟨S32x64x2048, .f32⟩
  | 103 => ⟨S32x64x2048, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S64, .f32⟩
  | 113 => ⟨S64x1, .f32⟩
  | 114 => ⟨S1x32, .f32⟩
  | 115 => ⟨S64x32, .f32⟩
  | 116 => ⟨S64x32, .f32⟩
  | 117 => ⟨S64x32, .f32⟩
  | 118 => ⟨S64x32, .f32⟩
  | 119 => ⟨S64x32, .f32⟩
  | 120 => ⟨S32x64x32, .f32⟩
  | 121 => ⟨S32x64x32, .f32⟩
  | 122 => ⟨S1x64x32, .f32⟩
  | 123 => ⟨S32x64x32, .f32⟩
  | 124 => ⟨S32x64x32, .f32⟩
  | 125 => ⟨S1x64x32, .f32⟩
  | 126 => ⟨S32x64x32, .f32⟩
  | 127 => ⟨S32x64x32, .f32⟩
  | _ => ⟨S4x4096x2048, .f32⟩

abbrev hbmTy0_1 (i : Nat) : BufTy := match i % 128 with
  | 0 => ⟨S32x64x32, .f32⟩
  | 1 => ⟨S1x64x32, .f32⟩
  | 2 => ⟨S32x64x32, .f32⟩
  | 3 => ⟨S32x64x32, .f32⟩
  | 4 => ⟨S1x64x32, .f32⟩
  | 5 => ⟨S32x64x32, .f32⟩
  | 6 => ⟨S32x64x32, .f32⟩
  | 7 => ⟨S32x64x32, .f32⟩
  | 8 => ⟨S32x64x64, .f32⟩
  | 9 => ⟨S1x32x64x64, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_cst_6 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_7 : Ref sig .tc := ⟨.hbm, 106, rfl⟩
abbrev main_v92 : Ref sig .tc := ⟨.hbm, 107, rfl⟩
abbrev main_v93 : Ref sig .tc := ⟨.hbm, 108, rfl⟩
abbrev main_cst_8 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩

abbrev nD : Nat := 1
abbrev τ : Topo := Topo.v7x

variable {F : FTy → Type} [FloatOps F]
-- ==== KvKernel.lean ====
abbrev S18432x512 : Shape := ⟨2, ![18432, 512]⟩
abbrev S1x512x16x128 : Shape := ⟨4, ![1, 512, 16, 128]⟩
abbrev S512x16x128 : Shape := ⟨3, ![512, 16, 128]⟩
abbrev S512x2048 : Shape := ⟨2, ![512, 2048]⟩
abbrev S512x4096 : Shape := ⟨2, ![512, 4096]⟩
abbrev S16384x4096 : Shape := ⟨2, ![16384, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S18432x512, .f32⟩
  | .hbm, ⟨1, _⟩ => ⟨S1x512x16x128, .f32⟩
  | .hbm, ⟨2, _⟩ => ⟨S1x512x16x128, .f32⟩
  | .hbm, ⟨3, _⟩ => ⟨S512x16x128, .f32⟩
  | .hbm, ⟨4, _⟩ => ⟨S512x2048, .f32⟩
  | .hbm, ⟨5, _⟩ => ⟨S512x16x128, .f32⟩
  | .hbm, ⟨6, _⟩ => ⟨S512x2048, .f32⟩
  | .hbm, ⟨7, _⟩ => ⟨S512x4096, .f32⟩
  | .hbm, ⟨8, _⟩ => ⟨S512x4096, .bf16⟩
  | .hbm, ⟨9, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S18432x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvReferenceIdeal.lean ====
abbrev S18432x512 : Shape := ⟨2, ![18432, 512]⟩
abbrev S1x512x16x128 : Shape := ⟨4, ![1, 512, 16, 128]⟩
abbrev S16384x512 : Shape := ⟨2, ![16384, 512]⟩
abbrev S4x4096x512 : Shape := ⟨3, ![4, 4096, 512]⟩
abbrev S512x16x128 : Shape := ⟨3, ![512, 16, 128]⟩
abbrev S4x4096x16x128 : Shape := ⟨4, ![4, 4096, 16, 128]⟩
abbrev S16384x2048 : Shape := ⟨2, ![16384, 2048]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S18432x512, .f32⟩
  | .hbm, ⟨1, _⟩ => ⟨S1x512x16x128, .f32⟩
  | .hbm, ⟨2, _⟩ => ⟨S1x512x16x128, .f32⟩
  | .hbm, ⟨3, _⟩ => ⟨S16384x512, .f32⟩
  | .hbm, ⟨4, _⟩ => ⟨S4x4096x512, .f32⟩
  | .hbm, ⟨5, _⟩ => ⟨S512x16x128, .f32⟩
  | .hbm, ⟨6, _⟩ => ⟨S4x4096x16x128, .f32⟩
  | .hbm, ⟨7, _⟩ => ⟨S512x16x128, .f32⟩
  | .hbm, ⟨8, _⟩ => ⟨S4x4096x16x128, .f32⟩
  | .hbm, ⟨9, _⟩ => ⟨S16384x2048, .f32⟩
  | .hbm, ⟨10, _⟩ => ⟨S16384x2048, .f32⟩
  | .hbm, ⟨11, _⟩ => ⟨S16384x4096, .f32⟩
  | .hbm, ⟨12, _⟩ => ⟨S16384x4096, .bf16⟩
  | _, _ => ⟨S18432x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SampleKernel.lean ====
abbrev S18432x4096 : Shape := ⟨2, ![18432, 4096]⟩
abbrev S18432x512 : Shape := ⟨2, ![18432, 512]⟩
abbrev S18432x128 : Shape := ⟨2, ![18432, 128]⟩
abbrev S1x32x1024x512 : Shape := ⟨4, ![1, 32, 1024, 512]⟩
abbrev S1x32x1024x64 : Shape := ⟨4, ![1, 32, 1024, 64]⟩
abbrev S1x512x16x128 : Shape := ⟨4, ![1, 512, 16, 128]⟩
abbrev S18432x2048 : Shape := ⟨2, ![18432, 2048]⟩
abbrev S512x16x128 : Shape := ⟨3, ![512, 16, 128]⟩
abbrev S16x128x512 : Shape := ⟨3, ![16, 128, 512]⟩
abbrev S16x512x128 : Shape := ⟨3, ![16, 512, 128]⟩
abbrev S32x1024x64 : Shape := ⟨3, ![32, 1024, 64]⟩
abbrev S32x1024x128 : Shape := ⟨3, ![32, 1024, 128]⟩
abbrev S32x1024x512 : Shape := ⟨3, ![32, 1024, 512]⟩
abbrev S64x4096 : Shape := ⟨2, ![64, 4096]⟩
abbrev S64x512 : Shape := ⟨2, ![64, 512]⟩
abbrev S64x128 : Shape := ⟨2, ![64, 128]⟩
abbrev S1x1024x512 : Shape := ⟨3, ![1, 1024, 512]⟩
abbrev S1x1024x128 : Shape := ⟨3, ![1, 1024, 128]⟩
abbrev S64x2048 : Shape := ⟨2, ![64, 2048]⟩
abbrev S1024x512 : Shape := ⟨2, ![1024, 512]⟩
abbrev S1088x512 : Shape := ⟨2, ![1088, 512]⟩
abbrev S1024x128 : Shape := ⟨2, ![1024, 128]⟩
abbrev S1088x128 : Shape := ⟨2, ![1088, 128]⟩
abbrev S1088x640 : Shape := ⟨2, ![1088, 640]⟩
abbrev S1x128x512 : Shape := ⟨3, ![1, 128, 512]⟩
abbrev S128x512 : Shape := ⟨2, ![128, 512]⟩
abbrev S64x640 : Shape := ⟨2, ![64, 640]⟩
abbrev S1024x640 : Shape := ⟨2, ![1024, 640]⟩
abbrev S1024x1088 : Shape := ⟨2, ![1024, 1088]⟩
abbrev S1024 : Shape := ⟨1, ![1024]⟩
abbrev S1024x1 : Shape := ⟨2, ![1024, 1]⟩
abbrev S1x512x128 : Shape := ⟨3, ![1, 512, 128]⟩
abbrev S512x128 : Shape := ⟨2, ![512, 128]⟩

abbrev nBuf : Space → Nat
  | .hbm => 19
  | .vmem => 14
  | .smem => 0
  | _ => 0

abbrev bufTy : (tb : Table) → Fin (tcTables nBuf tb) → BufTy
  | .hbm, ⟨0, _⟩ => ⟨S18432x4096, .bf16⟩
  | .hbm, ⟨1, _⟩ => ⟨S18432x512, .f32⟩
  | .hbm, ⟨2, _⟩ => ⟨S18432x128, .f32⟩
  | .hbm, ⟨3, _⟩ => ⟨S1x32x1024x512, .f32⟩
  | .hbm, ⟨4, _⟩ => ⟨S1x32x1024x64, .f32⟩
  | .hbm, ⟨5, _⟩ => ⟨S1x512x16x128, .f32⟩
  | .hbm, ⟨6, _⟩ => ⟨S1x512x16x128, .f32⟩
  | .hbm, ⟨7, _⟩ => ⟨S18432x2048, .bf16⟩
  | .hbm, ⟨8, _⟩ => ⟨S512x16x128, .f32⟩
  | .hbm, ⟨9, _⟩ => ⟨S16x128x512, .f32⟩
  | .hbm, ⟨10, _⟩ => ⟨S16x128x512, .bf16⟩
  | .hbm, ⟨11, _⟩ => ⟨S512x16x128, .f32⟩
  | .hbm, ⟨12, _⟩ => ⟨S16x512x128, .f32⟩
  | .hbm, ⟨13, _⟩ => ⟨S16x512x128, .bf16⟩
  | .hbm, ⟨14, _⟩ => ⟨S32x1024x64, .f32⟩
  | .hbm, ⟨15, _⟩ => ⟨S32x1024x64, .f32⟩
  | .hbm, ⟨16, _⟩ => ⟨S32x1024x128, .f32⟩
  | .hbm, ⟨17, _⟩ => ⟨S32x1024x512, .f32⟩
  | .hbm, ⟨18, _⟩ => ⟨S18432x2048, .bf16⟩
  | .local _ .vmem, ⟨0, _⟩ => ⟨S64x4096, .bf16⟩
  | .local _ .vmem, ⟨1, _⟩ => ⟨S64x4096, .bf16⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x128, .f32⟩
  | .local _ .vmem, ⟨9, _⟩ => ⟨S1x1024x128, .f32⟩
  | .local _ .vmem, ⟨10, _⟩ => ⟨S16x128x512, .bf16⟩
  | .local _ .vmem, ⟨11, _⟩ => ⟨S16x512x128, .bf16⟩
  | .local _ .vmem, ⟨12, _⟩ => ⟨S64x2048, .bf16⟩
  | .local _ .vmem, ⟨13, _⟩ => ⟨S64x2048, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

abbrev stage0_0 : Fin 2 → Memref sig .tc .vmem S64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleReferenceIdeal.lean ====
abbrev S18432x4096 : Shape := ⟨2, ![18432, 4096]⟩
abbrev S18432x512 : Shape := ⟨2, ![18432, 512]⟩
abbrev S18432x128 : Shape := ⟨2, ![18432, 128]⟩
abbrev S1x32x1024x512 : Shape := ⟨4, ![1, 32, 1024, 512]⟩
abbrev S1x32x1024x64 : Shape := ⟨4, ![1, 32, 1024, 64]⟩
abbrev S1x512x16x128 : Shape := ⟨4, ![1, 512, 16, 128]⟩
abbrev S18432x2048 : Shape := ⟨2, ![18432, 2048]⟩
abbrev S2048x4096 : Shape := ⟨2, ![2048, 4096]⟩
abbrev S32x64x16x256 : Shape := ⟨4, ![32, 64, 16, 256]⟩
abbrev S32x64x16x128 : Shape := ⟨4, ![32, 64, 16, 128]⟩
abbrev S32x1024x512 : Shape := ⟨3, ![32, 1024, 512]⟩
abbrev S2048x512 : Shape := ⟨2, ![2048, 512]⟩
abbrev S32x64x512 : Shape := ⟨3, ![32, 64, 512]⟩
abbrev S32x1088x512 : Shape := ⟨3, ![32, 1088, 512]⟩
abbrev S32x1024x64 : Shape := ⟨3, ![32, 1024, 64]⟩
abbrev S32x1024x128 : Shape := ⟨3, ![32, 1024, 128]⟩
abbrev S2048x128 : Shape := ⟨2, ![2048, 128]⟩
abbrev S32x64x128 : Shape := ⟨3, ![32, 64, 128]⟩
abbrev S32x1088x128 : Shape := ⟨3, ![32, 1088, 128]⟩
abbrev S512x16x128 : Shape := ⟨3, ![512, 16, 128]⟩
abbrev S32x1088x16x128 : Shape := ⟨4, ![32, 1088, 16, 128]⟩
abbrev S32x16x64x1088 : Shape := ⟨4, ![32, 16, 64, 1088]⟩
abbrev S32x1088x64x16 : Shape := ⟨4, ![32, 1088, 64, 16]⟩
abbrev S64x1088 : Shape := ⟨2, ![64, 1088]⟩
abbrev S_ : Shape := ⟨0, ![]⟩
abbrev S1x1x64x1088 : Shape := ⟨4, ![1, 1, 64, 1088]⟩
abbrev S32x16x64 : Shape := ⟨3, ![32, 16, 64]⟩
abbrev S32x16x64x1 : Shape := ⟨4, ![32, 16, 64, 1]⟩
abbrev S32x16x128x64 : Shape := ⟨4, ![32, 16, 128, 64]⟩
abbrev S16384x2048 : Shape := ⟨2, ![16384, 2048]⟩
abbrev S2048x2048 : Shape := ⟨2, ![2048, 2048]⟩

abbrev nBuf : Space → Nat
  | .hbm => 68
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S18432x512, .f32⟩
  | .hbm, ⟨2, _⟩ => ⟨S18432x128, .f32⟩
  | .hbm, ⟨3, _⟩ => ⟨S1x32x1024x512, .f32⟩
  | .hbm, ⟨4, _⟩ => ⟨S1x32x1024x64, .f32⟩
  | .hbm, ⟨5, _⟩ => ⟨S1x512x16x128, .f32⟩
  | .hbm, ⟨6, _⟩ => ⟨S1x512x16x128, .f32⟩
  | .hbm, ⟨7, _⟩ => ⟨S18432x2048, .bf16⟩
  | .hbm, ⟨8, _⟩ => ⟨S2048x4096, .bf16⟩
  | .hbm, ⟨9, _⟩ => ⟨S2048x4096, .f32⟩
  | .hbm, ⟨10, _⟩ => ⟨S32x64x16x256, .f32⟩
  | .hbm, ⟨11, _⟩ => ⟨S32x64x16x128, .f32⟩
  | .hbm, ⟨12, _⟩ => ⟨S32x64x16x128, .f32⟩
  | .hbm, ⟨13, _⟩ => ⟨S32x1024x512, .f32⟩
  | .hbm, ⟨14, _⟩ => ⟨S2048x512, .f32⟩
  | .hbm, ⟨15, _⟩ => ⟨S32x64x512, .f32⟩
  | .hbm, ⟨16, _⟩ => ⟨S32x1088x512, .f32⟩
  | .hbm, ⟨17, _⟩ => ⟨S32x1024x64, .f32⟩
  | .hbm, ⟨18, _⟩ => ⟨S32x1024x64, .f32⟩
  | .hbm, ⟨19, _⟩ => ⟨S32x1024x128, .f32⟩
  | .hbm, ⟨20, _⟩ => ⟨S2048x128, .f32⟩
  | .hbm, ⟨21, _⟩ => ⟨S32x64x128, .f32⟩
  | .hbm, ⟨22, _⟩ => ⟨S32x1088x128, .f32⟩
  | .hbm, ⟨23, _⟩ => ⟨S512x16x128, .f32⟩
  | .hbm, ⟨24, _⟩ => ⟨S32x1088x16x128, .f32⟩
  | .hbm, ⟨25, _⟩ => ⟨S512x16x128, .f32⟩
  | .hbm, ⟨26, _⟩ => ⟨S32x1088x16x128, .f32⟩
  | .hbm, ⟨27, _⟩ => ⟨S32x16x64x1088, .f32⟩
  | .hbm, ⟨28, _⟩ => ⟨S32x1088x64x16, .f32⟩
  | .hbm, ⟨29, _⟩ => ⟨S32x16x64x1088, .f32⟩
  | .hbm, ⟨30, _⟩ => ⟨S32x16x64x1088, .f32⟩
  | .hbm, ⟨31, _⟩ => ⟨S64x1088, .i32⟩
  | .hbm, ⟨32, _⟩ => ⟨S_, .i32⟩
  | .hbm, ⟨33, _⟩ => ⟨S64x1088, .i32⟩
  | .hbm, ⟨34, _⟩ => ⟨S64x1088, .i32⟩
  | .hbm, ⟨35, _⟩ => ⟨S64x1088, .i32⟩
  | .hbm, ⟨36, _⟩ => ⟨S_, .i32⟩
  | .hbm, ⟨37, _⟩ => ⟨S64x1088, .i32⟩
  | .hbm, ⟨38, _⟩ => ⟨S64x1088, .i32⟩
  | .hbm, ⟨39, _⟩ => ⟨S_, .i32⟩
  | .hbm, ⟨40, _⟩ => ⟨S64x1088, .i32⟩
  | .hbm, ⟨41, _⟩ => ⟨S64x1088, .i32⟩
  | .hbm, ⟨42, _⟩ => ⟨S64x1088, .i1⟩
  | .hbm, ⟨43, _⟩ => ⟨S1x1x64x1088, .i1⟩
  | .hbm, ⟨44, _⟩ => ⟨S_, .f32⟩
  | .hbm, ⟨45, _⟩ => ⟨S_, .f32⟩
  | .hbm, ⟨46, _⟩ => ⟨S32x16x64x1088, .i1⟩
  | .hbm, ⟨47, _⟩ => ⟨S32x16x64x1088, .f32⟩
  | .hbm, ⟨48, _⟩ => ⟨S32x16x64x1088, .f32⟩
  | .hbm, ⟨49, _⟩ => ⟨S_, .f32⟩
  | .hbm, ⟨50, _⟩ => ⟨S32x16x64, .f32⟩
  | .hbm, ⟨51, _⟩ => ⟨S32x16x64x1, .f32⟩
  | .hbm, ⟨52, _⟩ => ⟨S32x16x64x1088, .f32⟩
  | .hbm, ⟨53, _⟩ => ⟨S32x16x64x1088, .f32⟩
  | .hbm, ⟨54, _⟩ => ⟨S_, .f32⟩
  | .hbm, ⟨55, _⟩ => ⟨S32x16x64x1088, .f32⟩
  | .hbm, ⟨56, _⟩ => ⟨S32x16x64x1088, .f32⟩
  | .hbm, ⟨57, _⟩ => ⟨S_, .f32⟩
  | .hbm, ⟨58, _⟩ => ⟨S32x16x64, .f32⟩
  | .hbm, ⟨59, _⟩ => ⟨S32x16x64x1, .f32⟩
  | .hbm, ⟨60, _⟩ => ⟨S32x16x64x1088, .f32⟩
  | .hbm, ⟨61, _⟩ => ⟨S32x16x64x1088, .f32⟩
  | .hbm, ⟨62, _⟩ => ⟨S32x16x128x64, .f32⟩
  | .hbm, ⟨63, _⟩ => ⟨S32x64x16x128, .f32⟩
  | .hbm, ⟨64, _⟩ => ⟨S16384x2048, .bf16⟩
  | .hbm, ⟨65, _⟩ => ⟨S2048x2048, .f32⟩
  | .hbm, ⟨66, _⟩ => ⟨S2048x2048, .bf16⟩
  | .hbm, ⟨67, _⟩ => ⟨S18432x2048, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_0 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.BodyIdeal.lean ====
/- The body of the prompt attention at one grid point: what its loops carry and what it leaves in the output block,
   as plain functions of the four input blocks, and the triple that says so. -/
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- What a pass over some keys carries: the running maximum, the running sum, the running weighted values. -/
abbrev Carry (F : FTy → Type) : Type := FVec F S512x1 .f32 × FVec F S512x1 .f32 × FVec F S512x128 .f32

/-! ## The rectangles the body reads -/

abbrev rq : Rect S512x256 := Rect.unit (s := S512x256) ![0, 0] S512x256.size inb_S512x256_S512x256_0_0
abbrev r1 (i : grid0.Coords) (k : Fin (k0_t1_loop i).trips) : Rect S4096x128 :=
  Rect.unit (s := S4096x128) (k0_off1 i k) S1024x128.size (k0_off1_inb i k)
abbrev r3 (i : grid0.Coords) (h : k0_cond1 i = 1#1) : Rect S4096x128 :=
  Rect.unit (s := S4096x128) (k0_off3 i) S1024x128.size (k0_off3_inb i h)
abbrev r4 (i : grid0.Coords) (h : ¬(k0_cond1 i = 1#1)) : Rect S4096x128 :=
  Rect.unit (s := S4096x128) (k0_off4 i) S512x128.size (k0_off4_inb i h)
abbrev ro : Rect S512x128 := Rect.unit (s := S512x128) ![0, 0] S512x128.size inb_S512x128_S512x128_0_0

/-! ## The loop over the keys before the query block -/

/-- One trip: 1024 keys, none of them masked. -/
def step1 (i : grid0.Coords) (q : Vec F S512x256 .bf16) (x1 x2 : Vec F S4096x128 .bf16) (x3 : Vec F S4096x128 .f32)
    (k : Fin (k0_t1_loop i).trips) (a : Carry F) : Carry F :=
  (k0_pay27 q a.1 (View.ld x1 (r1 i k)) (View.ld x3 (r1 i k)),
   k0_pay30 q a.1 a.2.1 (View.ld x1 (r1 i k)) (View.ld x3 (r1 i k)),
   k0_pay31 q a.1 a.2.2 (View.ld x1 (r1 i k)) (View.ld x3 (r1 i k)) (View.ld x2 (r1 i k)))

/-- What is carried before trip `k`. -/
def st1 (i : grid0.Coords) (q : Vec F S512x256 .bf16) (x1 x2 : Vec F S4096x128 .bf16) (x3 : Vec F S4096x128 .f32)
    (init : Carry F) : ℕ → Carry F
  | 0 => init
  | k + 1 => if h : k < (k0_t1_loop i).trips then step1 i q x1 x2 x3 ⟨k, h⟩ (st1 i q x1 x2 x3 init k)
      else st1 i q x1 x2 x3 init k

theorem st1_zero (i : grid0.Coords) (q : Vec F S512x256 .bf16) (x1 x2 : Vec F S4096x128 .bf16) (x3 : Vec F S4096x128 .f32)
    (init : Carry F) : st1 i q x1 x2 x3 init 0 = init := rfl

theorem st1_succ (i : grid0.Coords) (q : Vec F S512x256 .bf16) (x1 x2 : Vec F S4096x128 .bf16) (x3 : Vec F S4096x128 .f32)
    (init : Carry F) (k : Fin (k0_t1_loop i).trips) :
    st1 i q x1 x2 x3 init (k.val + 1) = step1 i q x1 x2 x3 k (st1 i q x1 x2 x3 init k.val) := by
  rw [st1.eq_2]; exact dif_pos k.isLt

set_option warn.classDefReducibility false in
/-- The first loop by its invariant: the key, value and rotary-key buffers as they were, the carried value `st1`. -/
@[sl_loop] def loop1 (𝒱 : Variants) (c : Dev nD) (bd : Option 𝒱.V) (E : Set ℕ) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S512x128 .bf16) (harg7 : arg7.IsWhole) (v0 : Vec F S512x256 .bf16)
    (X4 : BufTy.Contents (Elt F) arg4.view.ty) (X5 : BufTy.Contents (Elt F) arg5.view.ty) (X6 : BufTy.Contents (Elt F) arg6.view.ty) (init : Carry F) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg3 harg3 arg4 harg4 arg5 harg5 arg6 harg6 arg7 harg7 v0) where
  inv k acc := iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = st1 i v0 (arg4.view.read (Elt F) X4) (arg5.view.read (Elt F) X5) (arg6.view.read (Elt F) X6) init k⌝)
  step k acc := by
    iintro ⟨H4, H5, H6, %h⟩
    subst h
    unfold k0_t1_body
    sl_exec
    sl_step
    isplitl [H4]; · iexact H4
    isplitl [H5]; · iexact H5
    isplitl [H6]; · iexact H6
    ipureintro
    rw [st1_succ]
    rfl

/-- The loop's remainder makes no trip. -/
theorem trips2 (i : grid0.Coords) : (k0_t2_loop i).trips = 0 := by
  revert i; decide +kernel

set_option warn.classDefReducibility false in
/-- The second loop by its invariant: it changes nothing. -/
@[sl_loop] def loop2 (𝒱 : Variants) (c : Dev nD) (bd : Option 𝒱.V) (E : Set ℕ) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S512x128 .bf16) (harg7 : arg7.IsWhole) (v0 : Vec F S512x256 .bf16) (init : Carry F) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) init
      (k0_t2_body (F := F) i arg3 harg3 arg4 harg4 arg5 harg5 arg6 harg6 arg7 harg7 v0) where
  inv k acc := iprop(⌜acc = init⌝)
  step k acc := absurd (lt_of_lt_of_eq k.isLt (trips2 i)) (Nat.not_lt_zero _)

/-! ## The block the body leaves -/

/-- The keys before the query block, all of them visible. -/
def past (i : grid0.Coords) (q : Vec F S512x256 .bf16) (x1 x2 : Vec F S4096x128 .bf16) (x3 : Vec F S4096x128 .f32) : Carry F :=
  st1 i q x1 x2 x3 (k0_pay23 (F := F), k0_pay24 (F := F), k0_pay25 (F := F)) (k0_t1_loop i).trips

/-- The output block: the masked keys last, then the division. -/
def outBlk (i : grid0.Coords) (x0 : Vec F S512x256 .bf16) (x1 x2 : Vec F S4096x128 .bf16) (x3 : Vec F S4096x128 .f32) : Vec F S512x128 .bf16 :=
  let q := View.ld x0 rq
  let a := past i q x1 x2 x3
  if h : k0_cond1 i = 1#1 then
    k0_pay13 (k0_pay5 q a.1 a.2.1 k0_pay14 k0_pay15 k0_pay16 k0_pay17 (View.ld x1 (r3 i h)) (View.ld x3 (r3 i h)))
      (k0_pay6 q a.1 a.2.2 k0_pay14 k0_pay15 k0_pay16 k0_pay17 (View.ld x1 (r3 i h)) (View.ld x3 (r3 i h)) (View.ld x2 (r3 i h)))
  else
    k0_pay13 (k0_pay11 q a.1 a.2.1 k0_pay18 k0_pay19 k0_pay20 k0_pay21 k0_pay22 (View.ld x1 (r4 i h)) (View.ld x3 (r4 i h)))
      (k0_pay12 q a.1 a.2.2 k0_pay18 k0_pay19 k0_pay20 k0_pay21 k0_pay22 (View.ld x1 (r4 i h)) (View.ld x3 (r4 i h)) (View.ld x2 (r4 i h)))

/-- The body's one store covers the block. -/
theorem cover_out (p0 : Vec F S512x128 .bf16) (y : S512x128.Idx) :
    ∃ pc ∈ ([⟨ro, p0⟩] : List (View.Piece (Elt F) S512x128 .bf16)), y ∈ pc.1.set :=
  View.cover_of_tiled [⟨ro, p0⟩] S512x128.size (by rfl) y

/-- What the body leaves in the output's buffer, as the one piece it stores. -/
def out4 (i : grid0.Coords) (x0 : Vec F S512x256 .bf16) (x1 x2 : Vec F S4096x128 .bf16) (x3 : Vec F S4096x128 .f32) : Vec F S512x128 .bf16 :=
  View.canon [⟨ro, outBlk i x0 x1 x2 x3⟩]

set_option maxHeartbeats 2000000 in
/-- The body's triple: the inputs' buffers as they were, the output's at `out4` of them. -/
theorem sound_kernel (c : Dev nD) (E : Set ℕ) (i : grid0.Coords) (arg3 : Memref sig .tc .vmem S512x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S512x128 .bf16) (harg7 : arg7.IsWhole)
    (x0 : Vec F S512x256 .bf16) (x1 x2 : Vec F S4096x128 .bf16) (x3 : Vec F S4096x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out4 i x0 x1 x2 x3)) -∗ K ⟨⟩))
      ⊢ wp frame (wpE (defs₀ (F := F)) Variants.none c none) E (cc0_attn_prompt i arg3 harg3 arg4 harg4 arg5 harg5 arg6 harg6 arg7 harg7) K := by
  unfold out4 outBlk past
  simp only [cc0_attn_prompt_eq_skeleton]; unfold cc0_attn_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  by_cases h : k0_cond1 i = 1#1
  · simp only [dif_pos h]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    exact View.read_writes_eq_canon _ _ _ (cover_out _)
  · simp only [dif_neg h]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    exact View.read_writes_eq_canon _ _ _ (cover_out _)

end Cert.KernelIdeal.Attn

end
-- ==== Proof.RunIdeal.lean ====
/- The prompt attention's run: the proof data of its one pipeline, the body obligation at every grid point, and the
   frame: every execution ends, its arguments as they were, every counter at zero. -/
module

public import proofs.«01_k».proof.Proof.BodyIdeal
public import proofs.«01_k».proof.Proof.Gen.KernelIdeal.Launch
public import proofs.«01_k».proof.Proof.Gen.KernelIdeal.Points
public import Idealize.ShloMosaic.Lib.Pipeline.FrameBody
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body each input's buffer at its block, the output's
    at `out4` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => out4 (grid0.coords t) (iblk m c 0 t) (iblk m c 1 t) (iblk m c 2 t) (X0_3 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t
    = out4 (grid0.coords t) (iblk m c 0 t) (iblk m c 1 t) (iblk m c 2 t) (X0_3 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, by its triple; the invariant and what is owed pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (X0_3 m c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, and every semaphore counter at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array of the pipeline ends at what the proof data compute. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Attn

end
-- ==== Proof.Softmax.lean ====
/- The mathematics of a softmax taken block by block, over the extended reals: a running maximum, a running sum of
   powers of two and a running weighted sum, each rescaled when the maximum grows, are the maximum and the sums over
   all the keys seen so far. -/
module

public import Idealize.ShloMosaic.PureOps.Ideal
public import Idealize.ShloMosaic.Lib.Pointwise

@[expose] public section

noncomputable section

namespace Cert.Softmax

open Idealize.ShloMosaic

/-- The power of two is nonnegative, -/
theorem exp2_nonneg (x : EReal) : 0 ≤ Ideal.exp2 x := by
  induction x using EReal.rec with
  | bot => simp
  | top => simp
  | coe r => rw [Ideal.exp2_coe]; exact EReal.coe_nonneg.2 (Real.rpow_nonneg (by norm_num) r)

/-- and finite where its argument is not positive infinity. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- A difference from something at least as large is not positive infinity. -/
theorem sub_ne_top {a b : EReal} (h : a ≤ b) : a - b ≠ ⊤ := by
  induction a using EReal.rec with
  | bot => simp
  | top => rw [top_le_iff.1 h]; simp
  | coe x =>
    induction b using EReal.rec with
    | bot => exact absurd h (by simp)
    | top => simp
    | coe y => rw [← EReal.coe_sub]; exact EReal.coe_ne_top _

/-- Rescaling: a weight relative to an old maximum, times the old maximum's weight relative to a new one, is the
    weight relative to the new one. -/
theorem exp2_rescale {s m m' : EReal} (h : s ≤ m) (h' : m ≤ m') :
    Ideal.exp2 (m - m') * Ideal.exp2 (s - m) = Ideal.exp2 (s - m') := by
  induction m' using EReal.rec with
  | bot =>
    have hm : m = ⊥ := le_bot_iff.1 h'
    subst hm
    have hs : s = ⊥ := le_bot_iff.1 h
    subst hs; simp
  | top =>
    rw [EReal.sub_top, EReal.sub_top, Ideal.exp2_bot, zero_mul]
  | coe c =>
    induction m using EReal.rec with
    | bot =>
      have hs : s = ⊥ := le_bot_iff.1 h
      subst hs; simp
    | top => exact absurd h' (by simp)
    | coe b =>
      induction s using EReal.rec with
      | bot => simp
      | top => exact absurd h (by simp)
      | coe a =>
        rw [← EReal.coe_sub, ← EReal.coe_sub, ← EReal.coe_sub, Ideal.exp2_coe, Ideal.exp2_coe, Ideal.exp2_coe, ← EReal.coe_mul]
        congr 1
        show (2 : ℝ) ^ (b - c) * (2 : ℝ) ^ (a - b) = (2 : ℝ) ^ (a - c)
        rw [← Real.rpow_add (by norm_num)]
        congr 1; ring

/-- A finite nonnegative factor goes into a sum. -/
theorem mul_sum_of_nonneg {ι : Type} (t : Finset ι) (a : EReal) (h0 : 0 ≤ a) (h1 : a ≠ ⊤) (f : ι → EReal) :
    a * ∑ i ∈ t, f i = ∑ i ∈ t, a * f i := by
  classical
  induction t using Finset.induction_on with
  | empty => simp
  | insert i t hi ih => rw [Finset.sum_insert hi, Finset.sum_insert hi, EReal.left_distrib_of_nonneg_of_ne_top h0 h1, ih]

/-! ## The three quantities over the first `n` keys -/

variable (s v : ℕ → EReal)

/-- The largest of the first `n` scores (negative infinity if there are none). -/
def top (n : ℕ) : EReal := (Finset.range n).sup s
/-- The sum of the first `n` weights. -/
def mass (n : ℕ) : EReal := ∑ k ∈ Finset.range n, Ideal.exp2 (s k - top s n)
/-- The sum of the first `n` values, each times its weight. -/
def dotv (n : ℕ) : EReal := ∑ k ∈ Finset.range n, Ideal.exp2 (s k - top s n) * v k

theorem top_zero : top s 0 = ⊥ := by simp [top]
theorem mass_zero : mass s 0 = 0 := by simp [mass]
theorem dotv_zero : dotv s v 0 = 0 := by simp [dotv]

theorem le_top {n k : ℕ} (h : k < n) : s k ≤ top s n := Finset.le_sup (f := s) (Finset.mem_range.2 h)

theorem top_mono {n n' : ℕ} (h : n ≤ n') : top s n ≤ top s n' :=
  Finset.sup_mono (Finset.range_mono h)

/-- The maximum folded over a block is its supremum. -/
theorem fold_max_eq_sup {w : ℕ} (f : Fin w → EReal) : Finset.univ.fold max ⊥ f = Finset.univ.sup f := rfl

/-- The maximum after a block of `w` keys. -/
theorem top_add (n w : ℕ) : max (top s n) (Finset.univ.fold max ⊥ fun k : Fin w => s (n + k)) = top s (n + w) := by
  rw [fold_max_eq_sup]
  apply le_antisymm
  · refine max_le (top_mono s (Nat.le_add_right _ _)) (Finset.sup_le fun k _ => le_top s (by have := k.isLt; omega))
  · refine Finset.sup_le fun k hk => ?_
    have hk' := Finset.mem_range.1 hk
    by_cases h : k < n
    · exact le_max_of_le_left (le_top s h)
    · refine le_max_of_le_right ?_
      have := Finset.le_sup (f := fun k : Fin w => s (n + k)) (Finset.mem_univ (⟨k - n, by omega⟩ : Fin w))
      simpa [Nat.add_sub_cancel' (Nat.le_of_not_lt h)] using this

/-- The weighted sum after a block of `w` keys: the old one rescaled, and the block's. -/
theorem dotv_add (n w : ℕ) :
    Ideal.exp2 (top s n - top s (n + w)) * dotv s v n + ∑ k : Fin w, Ideal.exp2 (s (n + k) - top s (n + w)) * v (n + k)
      = dotv s v (n + w) := by
  have hle : top s n ≤ top s (n + w) := top_mono s (Nat.le_add_right _ _)
  unfold dotv
  rw [mul_sum_of_nonneg _ _ (exp2_nonneg _) (exp2_ne_top (sub_ne_top hle)), Finset.sum_range_add,
    ← Fin.sum_univ_eq_sum_range (fun k => Ideal.exp2 (s (n + k) - top s (n + w)) * v (n + k)) w]
  congr 1
  refine Finset.sum_congr rfl fun k hk => ?_
  rw [← mul_assoc, exp2_rescale (le_top s (Finset.mem_range.1 hk)) hle]

/-- The sum of the weights after a block of `w` keys. -/
theorem mass_add (n w : ℕ) :
    Ideal.exp2 (top s n - top s (n + w)) * mass s n + ∑ k : Fin w, Ideal.exp2 (s (n + k) - top s (n + w))
      = mass s (n + w) := by
  have h := dotv_add s (fun _ => 1) n w
  simp only [dotv, mul_one] at h
  exact h

/-! ## Keys that are masked add nothing -/

theorem top_masked {n n' : ℕ} (h : n ≤ n') (hm : ∀ k, n ≤ k → k < n' → s k = ⊥) : top s n' = top s n := by
  refine le_antisymm (Finset.sup_le fun k hk => ?_) (top_mono s h)
  by_cases hk' : k < n
  · exact le_top s hk'
  · rw [hm k (Nat.le_of_not_lt hk') (Finset.mem_range.1 hk)]; exact bot_le

theorem dotv_masked {n n' : ℕ} (h : n ≤ n') (hm : ∀ k, n ≤ k → k < n' → s k = ⊥) : dotv s v n' = dotv s v n := by
  unfold dotv
  rw [top_masked s h hm]
  symm
  refine Finset.sum_subset (Finset.range_mono h) fun k hk hk' => ?_
  rw [hm k (Nat.le_of_not_lt fun hl => hk' (Finset.mem_range.2 hl)) (Finset.mem_range.1 hk)]
  simp

theorem mass_masked {n n' : ℕ} (h : n ≤ n') (hm : ∀ k, n ≤ k → k < n' → s k = ⊥) : mass s n' = mass s n := by
  have h' := dotv_masked s (fun _ => 1) h hm
  simp only [dotv, mul_one] at h'
  exact h'

/-! ## Scores and values that are real numbers: dividing first, or last -/

/-- The maximum over keys one of which is not masked is a real number. -/
theorem top_real {n k : ℕ} (hs : ∀ j, s j ≠ ⊤) (hk : k < n) (hb : s k ≠ ⊥) : ∃ r : ℝ, top s n = r := by
  have h1 : top s n ≠ ⊥ := fun h => hb (le_bot_iff.1 (h ▸ le_top s hk))
  have h2 : top s n ≠ ⊤ := by
    refine ne_of_lt ?_
    refine (Finset.sup_lt_iff (by simp)).2 fun j _ => lt_top_iff_ne_top.2 (hs j)
  exact ⟨(top s n).toReal, (EReal.coe_toReal h2 h1).symm⟩

/-- Then every weight is a nonnegative real number, -/
theorem weight_real {n k : ℕ} (hs : ∀ j, s j ≠ ⊤) (hk : k < n) (hb : s k ≠ ⊥) (j : ℕ) :
    ∃ r : ℝ, 0 ≤ r ∧ (s j ≠ ⊥ → 0 < r) ∧ Ideal.exp2 (s j - top s n) = r := by
  obtain ⟨t, ht⟩ := top_real s hs hk hb
  rw [ht]
  induction h : s j using EReal.rec with
  | bot => exact ⟨0, le_refl _, fun h => absurd rfl h, by simp⟩
  | top => exact absurd h (hs j)
  | coe r =>
    refine ⟨Real.rpow 2 (r - t), Real.rpow_nonneg (by norm_num) _, fun _ => Real.rpow_pos_of_pos (by norm_num) _, ?_⟩
    rw [← EReal.coe_sub, Ideal.exp2_coe]

/-- A sum of real numbers is a real number. -/
theorem sum_coe {ι : Type} (t : Finset ι) (f : ι → ℝ) : ∑ i ∈ t, (f i : EReal) = ((∑ i ∈ t, f i : ℝ) : EReal) := by
  classical
  induction t using Finset.induction_on with
  | empty => simp
  | insert i t hi ih => rw [Finset.sum_insert hi, Finset.sum_insert hi, ih, EReal.coe_add]

/-- so that the weighted mean is the same whether each weight is divided by the mass or the weighted sum is. -/
theorem div_dotv {n k : ℕ} (hs : ∀ j, s j ≠ ⊤) (hk : k < n) (hb : s k ≠ ⊥) (hv : ∀ j, v j ≠ ⊥ ∧ v j ≠ ⊤) :
    Ideal.div (dotv s v n) (mass s n)
      = ∑ j ∈ Finset.range n, v j * Ideal.div (Ideal.exp2 (s j - top s n)) (mass s n) := by
  choose w hw0 hwp hw using weight_real s hs hk hb
  have hvr : ∀ j, v j = ((v j).toReal : EReal) := fun j => (EReal.coe_toReal (hv j).2 (hv j).1).symm
  have hmass : mass s n = ((∑ j ∈ Finset.range n, w j : ℝ) : EReal) := by
    unfold mass; rw [← sum_coe]; exact Finset.sum_congr rfl fun j _ => hw j
  have hpos : 0 < ∑ j ∈ Finset.range n, w j :=
    lt_of_lt_of_le (hwp k hb) (Finset.single_le_sum (fun j _ => hw0 j) (Finset.mem_range.2 hk))
  have hne : ((∑ j ∈ Finset.range n, w j : ℝ) : EReal) ≠ 0 := by
    intro h; exact hpos.ne' (EReal.coe_eq_zero.1 h)
  rw [hmass]
  simp only [Ideal.div, if_neg hne]
  unfold dotv
  rw [← EReal.coe_inv, mul_comm, mul_sum_of_nonneg _ _ (EReal.coe_nonneg.2 (inv_nonneg.2 hpos.le)) (EReal.coe_ne_top _)]
  refine Finset.sum_congr rfl fun j _ => ?_
  rw [mul_comm (v j), mul_right_comm, mul_comm, mul_assoc, mul_comm (Ideal.exp2 _)]

end Cert.Softmax

end
-- ==== Proof.Payload.lean ====
/- The arithmetic of the prompt attention's body, read at an index: scores, masks, and one step of the running maximum,
   the running sum and the running weighted sum. -/
module

public import proofs.«01_k».proof.Proof.Softmax
public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.Softmax

/-- Negative infinity's pattern. -/
theorem neg_inf : Ideal.ofBits .f32 0xFF800000#32 = ⊥ := by simp [Ideal.ofBits, Ideal.ieee]

/-- The mask's constant is negative infinity. -/
theorem mask_bot : (Named.named (F := Ideal) κ "mask" (φ := .f32) 0xF149F2CA#32) = (⊥ : EReal) := rfl

/-! ## Chunks of 64 rows and of 64 keys -/

theorem chunk_row_A (r : Fin 512) (j : Fin 1024) : k0_pay14 (ix2 r j) = BitVec.ofNat 32 (r.val / 64) := by
  pointwise [k0_pay14]
  revert r; decide +kernel

theorem chunk_key_A (r : Fin 512) (j : Fin 1024) :
    Scalar.select (IntOp.andi (k0_pay16 (ix2 r j)) (IntOp.cmpi CmpIPredicate.ne (k0_pay17 (ix2 r j)) 0#32))
      (IntOp.subi (k0_pay15 (ix2 r j)) 1#32) (k0_pay15 (ix2 r j)) = BitVec.ofNat 32 (j.val / 64) := by
  pointwise [k0_pay15, k0_pay16, k0_pay17]
  revert j; decide +kernel

theorem chunk_row_B (r : Fin 512) (j : Fin 512) : k0_pay18 (ix2 r j) = BitVec.ofNat 32 (r.val / 64) := by
  pointwise [k0_pay18]
  revert r; decide +kernel

theorem chunk_key_B (r : Fin 512) (j : Fin 512) :
    Scalar.select (IntOp.andi (k0_pay20 (ix2 r j)) (IntOp.cmpi CmpIPredicate.ne (k0_pay21 (ix2 r j)) (k0_pay22 (ix2 r j))))
      (IntOp.subi (k0_pay19 (ix2 r j)) 1#32) (k0_pay19 (ix2 r j)) = BitVec.ofNat 32 (j.val / 64) := by
  pointwise [k0_pay19, k0_pay20, k0_pay21, k0_pay22]
  revert j; decide +kernel

/-- The comparison of chunks, the keys' 512 earlier than the rows, -/
theorem cmp_A : ∀ (a : Fin 16) (b : Fin 8),
    IntOp.cmpi CmpIPredicate.sle (IntOp.subi (BitVec.ofNat 32 a.val) 8#32) (BitVec.ofNat 32 b.val)
      = if a.val ≤ b.val + 8 then 1#1 else 0#1 := by decide +kernel

/-- and in line with them. -/
theorem cmp_B : ∀ (a : Fin 8) (b : Fin 8),
    IntOp.cmpi CmpIPredicate.sle (IntOp.subi (BitVec.ofNat 32 a.val) 0#32) (BitVec.ofNat 32 b.val)
      = if a.val ≤ b.val then 1#1 else 0#1 := by decide +kernel

/-! ## Scores -/

/-- The score of row `r` against key `j` of a block of `n`: the position-free columns, then the rotary ones. -/
def scoreOf {n : ℕ} (q : FVec Ideal S512x256 .bf16) (k : FVec Ideal ⟨2, ![n, 128]⟩ .bf16) (kr : FVec Ideal ⟨2, ![n, 128]⟩ .f32)
    (r : Fin 512) (j : Fin n) : EReal :=
  (∑ d : Fin 128, q (ix2 r ⟨d.val, by omega⟩) * k (ix2 j d)) + ∑ d : Fin 128, q (ix2 r ⟨128 + d.val, by omega⟩) * kr (ix2 j d)

theorem score_past (q : FVec Ideal S512x256 .bf16) (k : FVec Ideal S1024x128 .bf16) (kr : FVec Ideal S1024x128 .f32)
    (r : Fin 512) (j : Fin 1024) : k0_pay26 (F := Ideal) q k kr (ix2 r j) = scoreOf q k kr r j := by
  pointwise [k0_pay26, scoreOf]

theorem score_A (q : FVec Ideal S512x256 .bf16) (k : FVec Ideal S1024x128 .bf16) (kr : FVec Ideal S1024x128 .f32)
    (r : Fin 512) (j : Fin 1024) :
    k0_pay1 (F := Ideal) q k0_pay14 k0_pay15 k0_pay16 k0_pay17 k kr (ix2 r j)
      = if j.val / 64 ≤ r.val / 64 + 8 then scoreOf q k kr r j else ⊥ := by
  pointwise [k0_pay1, scoreOf]
  rw [chunk_key_A, chunk_row_A, cmp_A ⟨j.val / 64, by omega⟩ ⟨r.val / 64, by omega⟩, mask_bot]
  by_cases h : j.val / 64 ≤ r.val / 64 + 8
  · simp only [if_pos h]; rfl
  · simp only [if_neg h]; rfl

theorem score_B (q : FVec Ideal S512x256 .bf16) (k : FVec Ideal S512x128 .bf16) (kr : FVec Ideal S512x128 .f32)
    (r : Fin 512) (j : Fin 512) :
    k0_pay7 (F := Ideal) q k0_pay18 k0_pay19 k0_pay20 k0_pay21 k0_pay22 k kr (ix2 r j)
      = if j.val / 64 ≤ r.val / 64 then scoreOf q k kr r j else ⊥ := by
  pointwise [k0_pay7, scoreOf]
  rw [chunk_key_B, chunk_row_B, cmp_B ⟨j.val / 64, by omega⟩ ⟨r.val / 64, by omega⟩, mask_bot]
  by_cases h : j.val / 64 ≤ r.val / 64
  · simp only [if_pos h]; rfl
  · simp only [if_neg h]; rfl

/-! ## One step: if the carried values are the maximum, mass and weighted sum over the first `n` keys, the step's are
   those over its block too -/

/-- What a carried triple holds at row `r` and column `c`: the three quantities over the first `n` keys. -/
def Holds (a : FVec Ideal S512x1 .f32 × FVec Ideal S512x1 .f32 × FVec Ideal S512x128 .f32) (r : Fin 512) (c : Fin 128)
    (s v : ℕ → EReal) (n : ℕ) : Prop :=
  a.1 (ix2 r 0) = top s n ∧ a.2.1 (ix2 r 0) = mass s n ∧ a.2.2 (ix2 r c) = dotv s v n

theorem holds_init (r : Fin 512) (c : Fin 128) (s v : ℕ → EReal) :
    Holds (k0_pay23 (F := Ideal), k0_pay24 (F := Ideal), k0_pay25 (F := Ideal)) r c s v 0 := by
  unfold Holds
  rw [top_zero, mass_zero, dotv_zero]
  refine ⟨?_, ?_, ?_⟩
  · pointwise [k0_pay23]; exact mask_bot
  · pointwise [k0_pay24]
  · pointwise [k0_pay25]

/-- A block of 1024 keys before the query block. -/
theorem top_past {q : FVec Ideal S512x256 .bf16} {k : FVec Ideal S1024x128 .bf16} {kr : FVec Ideal S1024x128 .f32} {m : FVec Ideal S512x1 .f32}
    {r : Fin 512} {s : ℕ → EReal} {n : ℕ}
    (hs : ∀ j : Fin 1024, k0_pay26 (F := Ideal) q k kr (ix2 r j) = s (n + j)) (hm : m (ix2 r 0) = top s n) :
    k0_pay27 (F := Ideal) q m k kr (ix2 r 0) = top s (n + 1024) := by
  pointwise [k0_pay27]
  simp only [hs, hm, neg_inf]
  exact top_add s n 1024

theorem holds_past {q : FVec Ideal S512x256 .bf16} {k : FVec Ideal S1024x128 .bf16} {kr : FVec Ideal S1024x128 .f32} {vb : FVec Ideal S1024x128 .bf16}
    {a : FVec Ideal S512x1 .f32 × FVec Ideal S512x1 .f32 × FVec Ideal S512x128 .f32}
    {r : Fin 512} {c : Fin 128} {s v : ℕ → EReal} {n : ℕ}
    (hs : ∀ j : Fin 1024, k0_pay26 (F := Ideal) q k kr (ix2 r j) = s (n + j)) (hv : ∀ j : Fin 1024, vb (ix2 j c) = v (n + j))
    (ha : Holds a r c s v n) :
    Holds (k0_pay27 q a.1 k kr, k0_pay30 q a.1 a.2.1 k kr, k0_pay31 q a.1 a.2.2 k kr vb) r c s v (n + 1024) := by
  obtain ⟨h1, h2, h3⟩ := ha
  have ht := top_past (m := a.1) hs h1
  refine ⟨ht, ?_, ?_⟩
  · pointwise [k0_pay30, k0_pay28, k0_pay29]
    simp only [hs, ht, h1, h2]
    exact mass_add s n 1024
  · pointwise [k0_pay31, k0_pay28, k0_pay29]
    simp only [hs, ht, h1, h3, hv]
    exact dotv_add s v n 1024

/-- The last 1024 keys, masked. -/
theorem top_A {q : FVec Ideal S512x256 .bf16} {k : FVec Ideal S1024x128 .bf16} {kr : FVec Ideal S1024x128 .f32} {m : FVec Ideal S512x1 .f32}
    {r : Fin 512} {s : ℕ → EReal} {n : ℕ}
    (hs : ∀ j : Fin 1024, k0_pay1 (F := Ideal) q k0_pay14 k0_pay15 k0_pay16 k0_pay17 k kr (ix2 r j) = s (n + j)) (hm : m (ix2 r 0) = top s n) :
    k0_pay2 (F := Ideal) q m k0_pay14 k0_pay15 k0_pay16 k0_pay17 k kr (ix2 r 0) = top s (n + 1024) := by
  pointwise [k0_pay2]
  simp only [hs, hm, neg_inf]
  exact top_add s n 1024

theorem holds_A {q : FVec Ideal S512x256 .bf16} {k : FVec Ideal S1024x128 .bf16} {kr : FVec Ideal S1024x128 .f32} {vb : FVec Ideal S1024x128 .bf16}
    {a : FVec Ideal S512x1 .f32 × FVec Ideal S512x1 .f32 × FVec Ideal S512x128 .f32}
    {r : Fin 512} {c : Fin 128} {s v : ℕ → EReal} {n : ℕ}
    (hs : ∀ j : Fin 1024, k0_pay1 (F := Ideal) q k0_pay14 k0_pay15 k0_pay16 k0_pay17 k kr (ix2 r j) = s (n + j)) (hv : ∀ j : Fin 1024, vb (ix2 j c) = v (n + j))
    (ha : Holds a r c s v n) :
    Holds (k0_pay2 q a.1 k0_pay14 k0_pay15 k0_pay16 k0_pay17 k kr, k0_pay5 q a.1 a.2.1 k0_pay14 k0_pay15 k0_pay16 k0_pay17 k kr, k0_pay6 q a.1 a.2.2 k0_pay14 k0_pay15 k0_pay16 k0_pay17 k kr vb) r c s v (n + 1024) := by
  obtain ⟨h1, h2, h3⟩ := ha
  have ht := top_A (m := a.1) hs h1
  refine ⟨ht, ?_, ?_⟩
  · pointwise [k0_pay5, k0_pay3, k0_pay4]
    simp only [hs, ht, h1, h2]
    exact mass_add s n 1024
  · pointwise [k0_pay6, k0_pay3, k0_pay4]
    simp only [hs, ht, h1, h3, hv]
    exact dotv_add s v n 1024

/-- The last 512 keys, masked. -/
theorem top_B {q : FVec Ideal S512x256 .bf16} {k : FVec Ideal S512x128 .bf16} {kr : FVec Ideal S512x128 .f32} {m : FVec Ideal S512x1 .f32}
    {r : Fin 512} {s : ℕ → EReal} {n : ℕ}
    (hs : ∀ j : Fin 512, k0_pay7 (F := Ideal) q k0_pay18 k0_pay19 k0_pay20 k0_pay21 k0_pay22 k kr (ix2 r j) = s (n + j)) (hm : m (ix2 r 0) = top s n) :
    k0_pay8 (F := Ideal) q m k0_pay18 k0_pay19 k0_pay20 k0_pay21 k0_pay22 k kr (ix2 r 0) = top s (n + 512) := by
  pointwise [k0_pay8]
  simp only [hs, hm, neg_inf]
  exact top_add s n 512

theorem holds_B {q : FVec Ideal S512x256 .bf16} {k : FVec Ideal S512x128 .bf16} {kr : FVec Ideal S512x128 .f32} {vb : FVec Ideal S512x128 .bf16}
    {a : FVec Ideal S512x1 .f32 × FVec Ideal S512x1 .f32 × FVec Ideal S512x128 .f32}
    {r : Fin 512} {c : Fin 128} {s v : ℕ → EReal} {n : ℕ}
    (hs : ∀ j : Fin 512, k0_pay7 (F := Ideal) q k0_pay18 k0_pay19 k0_pay20 k0_pay21 k0_pay22 k kr (ix2 r j) = s (n + j)) (hv : ∀ j : Fin 512, vb (ix2 j c) = v (n + j))
    (ha : Holds a r c s v n) :
    Holds (k0_pay8 q a.1 k0_pay18 k0_pay19 k0_pay20 k0_pay21 k0_pay22 k kr, k0_pay11 q a.1 a.2.1 k0_pay18 k0_pay19 k0_pay20 k0_pay21 k0_pay22 k kr, k0_pay12 q a.1 a.2.2 k0_pay18 k0_pay19 k0_pay20 k0_pay21 k0_pay22 k kr vb) r c s v (n + 512) := by
  obtain ⟨h1, h2, h3⟩ := ha
  have ht := top_B (m := a.1) hs h1
  refine ⟨ht, ?_, ?_⟩
  · pointwise [k0_pay11, k0_pay9, k0_pay10]
    simp only [hs, ht, h1, h2]
    exact mass_add s n 512
  · pointwise [k0_pay12, k0_pay9, k0_pay10]
    simp only [hs, ht, h1, h3, hv]
    exact dotv_add s v n 512

/-- The division that ends the body. -/
theorem quot_apply (l : FVec Ideal S512x1 .f32) (a : FVec Ideal S512x128 .f32) (r : Fin 512) (c : Fin 128) :
    k0_pay13 (F := Ideal) l a (ix2 r c) = Ideal.div (a (ix2 r c)) (l (ix2 r 0)) := by
  pointwise [k0_pay13]

end Cert.KernelIdeal.Attn

end
-- ==== Proof.Block.lean ====
/- The output block of the prompt attention, read at an index: the weighted sum of the values over the sum of the weights,
   over all 4096 keys of the sequence, those in a later chunk than the query masked. -/
module

public import proofs.«01_k».proof.Proof.BodyIdeal
public import proofs.«01_k».proof.Proof.Payload

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.Softmax

/-! ## Where the body reads, decided over the grid -/

theorem trips1 : ∀ i : grid0.Coords, (k0_t1_loop i).trips = (i 2).val / 2 := by decide +kernel
theorem off1_eq : ∀ (i : grid0.Coords) (k : Fin (k0_t1_loop i).trips), k0_off1 i k = ![1024 * k.val, 0] := by decide +kernel
theorem off3_eq : ∀ i : grid0.Coords, k0_cond1 i = 1#1 → k0_off3 i = ![1024 * ((i 2).val / 2), 0] ∧ (i 2).val % 2 = 1 := by decide +kernel
theorem off4_eq : ∀ i : grid0.Coords, ¬(k0_cond1 i = 1#1) → k0_off4 i = ![1024 * ((i 2).val / 2), 0] ∧ (i 2).val % 2 = 0 := by decide +kernel

/-- A block of rows read out of a buffer of 4096 rows. -/
theorem ld_rows {e : EltTy} {n : ℕ} (x : Vec Ideal S4096x128 e) (off : Fin 2 → ℕ) (h) (o : ℕ) (ho : off = ![o, 0])
    (j : Fin n) (d : Fin 128) (hj : o + j.val < 4096) :
    View.ld (Val := Elt Ideal) (e' := e) x (Rect.unit (s := S4096x128) off ![n, 128] h) (ix2 j d) = x (ix2 ⟨o + j.val, hj⟩ d) := by
  subst ho
  refine congrArg x (funext fun a => Fin.ext ?_)
  match a with
  | ⟨0, _⟩ => show o + 1 * j.val = _; simp
  | ⟨1, _⟩ => show 0 + 1 * d.val = _; simp

/-- The whole query block. -/
theorem ld_q (x : Vec Ideal S512x256 .bf16) : View.ld (Val := Elt Ideal) (e' := .bf16) x rq = x :=
  View.ld_unit_zero (funext fun a => by fin_cases a <;> rfl) _ x

/-! ## Scores and values of one row, over all the keys -/

/-- Key `k`'s score against row `r` of query block `b`, masked where the key is in a later chunk. -/
def scores (b : ℕ) (q : FVec Ideal S512x256 .bf16) (x1 : FVec Ideal S4096x128 .bf16) (x3 : FVec Ideal S4096x128 .f32)
    (r : Fin 512) (k : ℕ) : EReal :=
  if h : k < 4096 then (if k / 64 ≤ (512 * b + r.val) / 64 then scoreOf q x1 x3 r ⟨k, h⟩ else ⊥) else ⊥

/-- Key `k`'s value in column `c`. -/
def values (x2 : FVec Ideal S4096x128 .bf16) (c : Fin 128) (k : ℕ) : EReal :=
  if h : k < 4096 then x2 (ix2 ⟨k, h⟩ c) else 0

theorem values_at (x2 : FVec Ideal S4096x128 .bf16) (c : Fin 128) (k : ℕ) (h : k < 4096) :
    values x2 c k = x2 (ix2 ⟨k, h⟩ c) := dif_pos h

/-- A block's scores are the row's. -/
theorem scoreOf_ld {n : ℕ} (q : FVec Ideal S512x256 .bf16) (x1 : FVec Ideal S4096x128 .bf16) (x3 : FVec Ideal S4096x128 .f32)
    (off : Fin 2 → ℕ) (h) (o : ℕ) (ho : off = ![o, 0]) (r : Fin 512) (j : Fin n) (hj : o + j.val < 4096) :
    scoreOf (n := n) q (View.ld (Val := Elt Ideal) (e' := .bf16) x1 (Rect.unit (s := S4096x128) off ![n, 128] h)) (View.ld (Val := Elt Ideal) (e' := .f32) x3 (Rect.unit (s := S4096x128) off ![n, 128] h)) r j
      = scoreOf q x1 x3 r ⟨o + j.val, hj⟩ := by
  unfold scoreOf
  congr 1
  · exact Finset.sum_congr rfl fun d _ => congrArg _ (ld_rows (e := .bf16) x1 off h o ho j d hj)
  · exact Finset.sum_congr rfl fun d _ => congrArg _ (ld_rows (e := .f32) x3 off h o ho j d hj)

theorem holds_st1 (i : grid0.Coords) (q : FVec Ideal S512x256 .bf16) (x1 x2 : FVec Ideal S4096x128 .bf16) (x3 : FVec Ideal S4096x128 .f32)
    (r : Fin 512) (c : Fin 128) (n : ℕ) (hn : n ≤ (k0_t1_loop i).trips) :
    Holds (st1 i q x1 x2 x3 (k0_pay23 (F := Ideal), k0_pay24 (F := Ideal), k0_pay25 (F := Ideal)) n) r c
      (scores (i 2).val q x1 x3 r) (values x2 c) (1024 * n) := by
  have hb : (i 2).val < 8 := (i 2).isLt
  have htr := trips1 i
  induction n with
  | zero => rw [st1_zero]; exact holds_init r c _ _
  | succ n ih =>
    have hlt : n < (k0_t1_loop i).trips := hn
    have hst := st1_succ i q x1 x2 x3 (k0_pay23 (F := Ideal), k0_pay24 (F := Ideal), k0_pay25 (F := Ideal)) ⟨n, hlt⟩
    rw [hst, show 1024 * (n + 1) = 1024 * n + 1024 from rfl]
    unfold step1
    have hoff := off1_eq i ⟨n, hlt⟩
    refine holds_past (fun j => ?_) (fun j => ?_) (ih (Nat.le_of_succ_le hn))
    · have hj : 1024 * n + j.val < 4096 := by omega
      rw [score_past]
      refine (scoreOf_ld q x1 x3 _ _ (1024 * n) hoff r j hj).trans ?_
      unfold scores
      rw [dif_pos hj, if_pos (by omega)]
    · have hj : 1024 * n + j.val < 4096 := by omega
      rw [values_at x2 c _ hj]
      exact ld_rows (e := .bf16) x2 _ _ (1024 * n) hoff j c hj

/-- The output block at row `r` and column `c`. -/
theorem outBlk_apply (i : grid0.Coords) (x0 : Vec Ideal S512x256 .bf16) (x1 x2 : Vec Ideal S4096x128 .bf16) (x3 : Vec Ideal S4096x128 .f32)
    (r : Fin 512) (c : Fin 128) :
    outBlk (F := Ideal) i x0 x1 x2 x3 (ix2 r c)
      = Ideal.div (dotv (scores (i 2).val x0 x1 x3 r) (values x2 c) 4096) (mass (scores (i 2).val x0 x1 x3 r) 4096) := by
  have hb : (i 2).val < 8 := (i 2).isLt
  have htr := trips1 i
  have hp := holds_st1 i x0 x1 x2 x3 r c _ (Nat.le_refl _)
  rw [htr] at hp
  have hmask : ∀ k, 512 * ((i 2).val + 1) ≤ k → k < 4096 → scores (i 2).val x0 x1 x3 r k = ⊥ := by
    intro k h1 h2
    unfold scores
    rw [dif_pos h2, if_neg (by omega)]
  rw [dotv_masked _ _ (n := 512 * ((i 2).val + 1)) (by omega) hmask, mass_masked _ (n := 512 * ((i 2).val + 1)) (by omega) hmask]
  unfold outBlk past
  rw [ld_q, htr]
  by_cases h : k0_cond1 i = 1#1
  · obtain ⟨hoff, hpar⟩ := off3_eq i h
    simp only [dif_pos h]
    rw [quot_apply, show 512 * ((i 2).val + 1) = 1024 * ((i 2).val / 2) + 1024 by omega]
    obtain ⟨-, h2, h3⟩ := holds_A (q := x0) (k := View.ld x1 (r3 i h)) (kr := View.ld x3 (r3 i h)) (vb := View.ld x2 (r3 i h)) (fun j => by
      have hj : 1024 * ((i 2).val / 2) + j.val < 4096 := by omega
      rw [score_A]
      rw [show scoreOf x0 (View.ld x1 (r3 i h)) (View.ld x3 (r3 i h)) r j = _ from scoreOf_ld x0 x1 x3 _ _ _ hoff r j hj]
      unfold scores
      rw [dif_pos hj]
      by_cases hv : j.val / 64 ≤ r.val / 64 + 8
      · rw [if_pos hv, if_pos (by omega)]
      · rw [if_neg hv, if_neg (by omega)]) (fun j => by
      have hj : 1024 * ((i 2).val / 2) + j.val < 4096 := by omega
      rw [values_at x2 c _ hj]
      exact ld_rows (e := .bf16) x2 _ _ _ hoff j c hj) hp
    exact congrArg₂ Ideal.div h3 h2
  · obtain ⟨hoff, hpar⟩ := off4_eq i h
    simp only [dif_neg h]
    rw [quot_apply, show 512 * ((i 2).val + 1) = 1024 * ((i 2).val / 2) + 512 by omega]
    obtain ⟨-, h2, h3⟩ := holds_B (q := x0) (k := View.ld x1 (r4 i h)) (kr := View.ld x3 (r4 i h)) (vb := View.ld x2 (r4 i h)) (fun j => by
      have hj : 1024 * ((i 2).val / 2) + j.val < 4096 := by omega
      rw [score_B]
      rw [show scoreOf x0 (View.ld x1 (r4 i h)) (View.ld x3 (r4 i h)) r j = _ from scoreOf_ld x0 x1 x3 _ _ _ hoff r j hj]
      unfold scores
      rw [dif_pos hj]
      by_cases hv : j.val / 64 ≤ r.val / 64
      · rw [if_pos hv, if_pos (by omega)]
      · rw [if_neg hv, if_neg (by omega)]) (fun j => by
      have hj : 1024 * ((i 2).val / 2) + j.val < 4096 := by omega
      rw [values_at x2 c _ hj]
      exact ld_rows (e := .bf16) x2 _ _ _ hoff j c hj) hp
    exact congrArg₂ Ideal.div h3 h2

end Cert.KernelIdeal.Attn

end
-- ==== Proof.Attention.lean ====
/- Block-causal attention as a function of the three argument arrays: what both programs are shown to compute. -/
module

public import proofs.«01_k».proof.Proof.Softmax

@[expose] public section

noncomputable section

namespace Cert.Attention

open Idealize.ShloMosaic
open Cert.Softmax

abbrev Queries : Type := FVec Ideal ⟨2, ![18432, 4096]⟩ .bf16
abbrev KeyValues : Type := FVec Ideal ⟨2, ![16384, 4096]⟩ .bf16
abbrev Rotary : Type := FVec Ideal ⟨2, ![18432, 128]⟩ .f32

/-- The score of query row `R` (of all four sequences) in the head of column `C` against key `k` of its sequence:
    the position-free product plus the rotary one; masked where the key's chunk of 64 is later than the query's. -/
def scoreAt (Q : Queries) (KV : KeyValues) (KR : Rotary) (R : Fin 16384) (C : Fin 2048) (k : ℕ) : EReal :=
  if h : k < 4096 then
    if k / 64 ≤ R.val % 4096 / 64 then
      (∑ d : Fin 128, Q (ix2 ⟨R.val, by omega⟩ ⟨256 * (C.val / 128) + d.val, by omega⟩)
        * KV (ix2 ⟨4096 * (R.val / 4096) + k, by omega⟩ ⟨128 * (C.val / 128) + d.val, by omega⟩))
      + ∑ d : Fin 128, Q (ix2 ⟨R.val, by omega⟩ ⟨256 * (C.val / 128) + (128 + d.val), by omega⟩)
        * KR (ix2 ⟨4096 * (R.val / 4096) + k, by omega⟩ d)
    else ⊥
  else ⊥

/-- Key `k`'s value for column `C`. -/
def valueAt (KV : KeyValues) (R : Fin 16384) (C : Fin 2048) (k : ℕ) : EReal :=
  if h : k < 4096 then KV (ix2 ⟨4096 * (R.val / 4096) + k, by omega⟩ ⟨2048 + C.val, by omega⟩) else 0

/-- The attention at row `R` and column `C`: the weighted sum of the values over the sum of the weights. -/
def attend (Q : Queries) (KV : KeyValues) (KR : Rotary) (R : Fin 16384) (C : Fin 2048) : EReal :=
  Ideal.div (dotv (scoreAt Q KV KR R C) (valueAt KV R C) 4096) (mass (scoreAt Q KV KR R C) 4096)

end Cert.Attention

end
-- ==== Proof.Final.lean ====
/- The prompt attention's result array after the run, on the prompt's rows: `Attention.attend` of the argument arrays. -/
module

public import proofs.«01_k».proof.Proof.RunIdeal
public import proofs.«01_k».proof.Proof.Block
public import proofs.«01_k».proof.Proof.Attention
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen
open Cert.Softmax Cert.Attention

variable (m : (ℓ : Loc nD τ sig) → Buf (Elt Ideal) ℓ)

/-- Every window's block index at every point, and the point's query block. -/
theorem idx : ∀ t : Fin cfg0.N, win0_0.index t = ![t.val / 128 * 8 + t.val % 8, t.val / 8 % 16] ∧ win0_1.index t = ![t.val / 128, t.val / 8 % 16]
    ∧ win0_2.index t = ![t.val / 128, 16 + t.val / 8 % 16] ∧ win0_3.index t = ![t.val / 128, 0]
    ∧ win0_4.index t = ![t.val / 128 * 8 + t.val % 8, t.val / 8 % 16] ∧ (grid0.coords t 2).val = t.val % 8 ∧ t.val < 512 :=
  (by decide +kernel : ∀ t : Fin grid0.N, _)

/-! The four input blocks of a point, read off the argument arrays. -/

theorem blk_q (c : Dev nD) (t : Fin cfg0.N) (r : Fin 512) (d : Fin 256) (a : Fin 18432) (b : Fin 4096)
    (ha : a.val = 512 * (t.val / 128 * 8 + t.val % 8) + r.val) (hb : b.val = 256 * (t.val / 8 % 16) + d.val) :
    iblk m c 0 t (ix2 r d) = (m ((c : Thread nD τ).loc main_arg0) : Queries) (ix2 a b) := by
  blk_ext [iblk, V, idx t]

theorem blk_k (c : Dev nD) (t : Fin cfg0.N) (k : Fin 4096) (d : Fin 128) (a : Fin 16384) (b : Fin 4096)
    (ha : a.val = 4096 * (t.val / 128) + k.val) (hb : b.val = 128 * (t.val / 8 % 16) + d.val) :
    iblk m c 1 t (ix2 k d) = (m ((c : Thread nD τ).loc main_arg1) : KeyValues) (ix2 a b) := by
  blk_ext [iblk, V, idx t]

theorem blk_v (c : Dev nD) (t : Fin cfg0.N) (k : Fin 4096) (d : Fin 128) (a : Fin 16384) (b : Fin 4096)
    (ha : a.val = 4096 * (t.val / 128) + k.val) (hb : b.val = 2048 + (128 * (t.val / 8 % 16) + d.val)) :
    iblk m c 2 t (ix2 k d) = (m ((c : Thread nD τ).loc main_arg1) : KeyValues) (ix2 a b) := by
  blk_ext [iblk, V, idx t]

theorem blk_r (c : Dev nD) (t : Fin cfg0.N) (k : Fin 4096) (d : Fin 128) (a : Fin 18432)
    (ha : a.val = 4096 * (t.val / 128) + k.val) :
    X0_3 m c t (ix2 k d) = (m ((c : Thread nD τ).loc main_arg2) : Rotary) (ix2 a d) := by
  unfold X0_3 Pipeline.Window.fill
  rw [dif_pos (moved0_3 t _)]
  blk_ext [iblk, V, idx t]

/-- What the result array is shown to hold on the prompt's rows. -/
def G (c : Dev nD) : FVec Ideal S18432x2048 .bf16 := fun i =>
  if h : (i 0).val < 16384 then
    attend (m ((c : Thread nD τ).loc main_arg0)) (m ((c : Thread nD τ).loc main_arg1)) (m ((c : Thread nD τ).loc main_arg2)) ⟨(i 0).val, h⟩ (i 1)
  else 0

theorem G_row (c : Dev nD) (i : S18432x2048.Idx) (h : (i 0).val < 16384) : G m c i =
    attend (m ((c : Thread nD τ).loc main_arg0)) (m ((c : Thread nD τ).loc main_arg1)) (m ((c : Thread nD τ).loc main_arg2)) ⟨(i 0).val, h⟩ (i 1) :=
  dif_pos h

/-- The scores of a row of a point's query block are the array's. -/
theorem scores_at (c : Dev nD) (t : Fin cfg0.N) (r : Fin 512) (cc : Fin 128) (R : Fin 16384) (C : Fin 2048)
    (hR : R.val = 512 * (t.val / 128 * 8 + t.val % 8) + r.val) (hC : C.val = 128 * (t.val / 8 % 16) + cc.val) :
    scores (grid0.coords t 2).val (iblk m c 0 t) (iblk m c 1 t) (X0_3 m c t) r
      = scoreAt (m ((c : Thread nD τ).loc main_arg0)) (m ((c : Thread nD τ).loc main_arg1)) (m ((c : Thread nD τ).loc main_arg2)) R C := by
  obtain ⟨-, -, -, -, -, hq, ht⟩ := idx t
  rw [hq]
  funext k
  unfold scores scoreAt
  by_cases h : k < 4096
  · rw [dif_pos h, dif_pos h, show (512 * (t.val % 8) + r.val) = R.val % 4096 by omega]
    congr 1
    unfold scoreOf
    congr 1
    · exact Finset.sum_congr rfl fun d _ => congrArg₂ (· * ·)
        (blk_q m c t r ⟨d.val, by omega⟩ _ _ hR (by dsimp only; omega)) (blk_k m c t ⟨k, h⟩ d _ _ (by dsimp only; omega) (by dsimp only; omega))
    · exact Finset.sum_congr rfl fun d _ => congrArg₂ (· * ·)
        (blk_q m c t r ⟨128 + d.val, by omega⟩ _ _ hR (by dsimp only; omega)) (blk_r m c t ⟨k, h⟩ d _ (by dsimp only; omega))
  · rw [dif_neg h, dif_neg h]

theorem values_of (c : Dev nD) (t : Fin cfg0.N) (r : Fin 512) (cc : Fin 128) (R : Fin 16384) (C : Fin 2048)
    (hR : R.val = 512 * (t.val / 128 * 8 + t.val % 8) + r.val) (hC : C.val = 128 * (t.val / 8 % 16) + cc.val) :
    values (iblk m c 2 t) cc = valueAt (m ((c : Thread nD τ).loc main_arg1)) R C := by
  obtain ⟨-, -, -, -, -, hq, ht⟩ := idx t
  funext k
  unfold values valueAt
  by_cases h : k < 4096
  · rw [dif_pos h, dif_pos h]
    exact blk_v m c t ⟨k, h⟩ cc _ _ (by dsimp only; omega) (by dsimp only; omega)
  · rw [dif_neg h, dif_neg h]

theorem point (c : Dev nD) (t : Fin cfg0.N) (r : Fin 512) (cc : Fin 128) (R : Fin 16384) (C : Fin 2048)
    (hR : R.val = 512 * (t.val / 128 * 8 + t.val % 8) + r.val) (hC : C.val = 128 * (t.val / 8 % 16) + cc.val) :
    outBlk (F := Ideal) (grid0.coords t) (iblk m c 0 t) (iblk m c 1 t) (iblk m c 2 t) (X0_3 m c t) (ix2 r cc)
      = attend (m ((c : Thread nD τ).loc main_arg0)) (m ((c : Thread nD τ).loc main_arg1)) (m ((c : Thread nD τ).loc main_arg2)) R C := by
  rw [outBlk_apply]
  unfold attend
  rw [scores_at m c t r cc R C hR hC, values_of m c t r cc R C hR hC]

theorem out4_eq (i : grid0.Coords) (x0 : Vec Ideal S512x256 .bf16) (x1 x2 : Vec Ideal S4096x128 .bf16) (x3 : Vec Ideal S4096x128 .f32) :
    out4 (F := Ideal) i x0 x1 x2 x3 = outBlk i x0 x1 x2 x3 :=
  View.canon_unit_zero (funext fun a => by fin_cases a <;> rfl) _ _

/-- The result array after the run, at a prompt row. -/
theorem final_apply (c : Dev nD) (i : S18432x2048.Idx) (hi : (i 0).val < 16384) :
    (dats m 0 c).arrAt 4 cfg0.N i
      = attend (m ((c : Thread nD τ).loc main_arg0)) (m ((c : Thread nD τ).loc main_arg1)) (m ((c : Thread nD τ).loc main_arg2)) ⟨(i 0).val, hi⟩ (i 1) := by
  refine ((dats m 0 c).arrAt_apply_of_coversWhere 4 (G m c) (P := fun i => (i 0).val < 16384) (fun β => β 0 < 32) (by decide +kernel) (fun t hf y => ?_)
    (fun j => by blk_simp [Pipeline.Window.cell_apply]; omega) i).trans ((if_pos hi).trans (dif_pos hi))
  blk_simp
  rw [after0_4, out4_eq]
  idx_vars y
  obtain ⟨-, -, -, -, -, hq, ht⟩ := idx t
  have h0 : (((win0_4.blk t).view.emb (ix2 y0 y1)) 0).val = 512 * (t.val / 128 * 8 + t.val % 8) + y0.val := by
    blk_simp [idx t]; omega
  have h1 : (((win0_4.blk t).view.emb (ix2 y0 y1)) 1).val = 128 * (t.val / 8 % 16) + y1.val := by
    blk_simp [idx t]; omega
  have hlt : (((win0_4.blk t).view.emb (ix2 y0 y1)) 0).val < 16384 := by rw [h0]; omega
  unfold G
  rw [dif_pos hlt]
  exact point m c t y0 y1 ⟨_, hlt⟩ _ h0 h1

end Cert.KernelIdeal.Attn

end
-- ==== Proof.Attended.lean ====
/- With finite arguments the attention may divide each weight, or the weighted sum, by the sum of the weights. -/
module

public import proofs.«01_k».proof.Proof.Attention

@[expose] public section

noncomputable section

namespace Cert.Attention

open Idealize.ShloMosaic
open Cert.Softmax

/-- A value of the array is neither infinity. -/
def Finite {s : Shape} {φ : FTy} (x : FVec Ideal s φ) : Prop := ∀ i, (x i : EReal) ≠ ⊥ ∧ (x i : EReal) ≠ ⊤

theorem dot_real {n : ℕ} (f g : Fin n → EReal) (hf : ∀ d, f d ≠ ⊥ ∧ f d ≠ ⊤) (hg : ∀ d, g d ≠ ⊥ ∧ g d ≠ ⊤) :
    ∃ r : ℝ, ∑ d, f d * g d = (r : EReal) := by
  refine ⟨∑ d, (f d).toReal * (g d).toReal, ?_⟩
  rw [← sum_coe]
  refine Finset.sum_congr rfl fun d _ => ?_
  rw [EReal.coe_mul, EReal.coe_toReal (hf d).2 (hf d).1, EReal.coe_toReal (hg d).2 (hg d).1]

variable {Q : Queries} {KV : KeyValues} {KR : Rotary}

/-- A score is real where the key is visible and masked elsewhere. -/
theorem score_cases (hQ : Finite Q) (hV : Finite KV) (hR : Finite KR) (R : Fin 16384) (C : Fin 2048) (k : ℕ) :
    scoreAt Q KV KR R C k = ⊥ ∨ ∃ r : ℝ, scoreAt Q KV KR R C k = r := by
  unfold scoreAt
  by_cases h : k < 4096
  · rw [dif_pos h]
    by_cases h' : k / 64 ≤ R.val % 4096 / 64
    · rw [if_pos h']
      obtain ⟨a, ha⟩ := dot_real (fun d : Fin 128 => Q (ix2 ⟨R.val, by omega⟩ ⟨256 * (C.val / 128) + d.val, by omega⟩))
        (fun d => KV (ix2 ⟨4096 * (R.val / 4096) + k, by omega⟩ ⟨128 * (C.val / 128) + d.val, by omega⟩)) (fun d => hQ _) (fun d => hV _)
      obtain ⟨b, hb⟩ := dot_real (fun d : Fin 128 => Q (ix2 ⟨R.val, by omega⟩ ⟨256 * (C.val / 128) + (128 + d.val), by omega⟩))
        (fun d => KR (ix2 ⟨4096 * (R.val / 4096) + k, by omega⟩ d)) (fun d => hQ _) (fun d => hR _)
      exact .inr ⟨a + b, (congrArg₂ (· + ·) ha hb).trans (EReal.coe_add a b).symm⟩
    · exact .inl (if_neg h')
  · exact .inl (dif_neg h)

/-- A query sees its own position. -/
theorem own_score (hQ : Finite Q) (hV : Finite KV) (hR : Finite KR) (R : Fin 16384) (C : Fin 2048) :
    scoreAt Q KV KR R C (R.val % 4096) ≠ ⊥ := by
  unfold scoreAt
  rw [dif_pos (by omega), if_pos le_rfl]
  obtain ⟨a, ha⟩ := dot_real (fun d : Fin 128 => Q (ix2 ⟨R.val, by omega⟩ ⟨256 * (C.val / 128) + d.val, by omega⟩))
    (fun d => KV (ix2 ⟨4096 * (R.val / 4096) + R.val % 4096, by omega⟩ ⟨128 * (C.val / 128) + d.val, by omega⟩)) (fun d => hQ _) (fun d => hV _)
  obtain ⟨b, hb⟩ := dot_real (fun d : Fin 128 => Q (ix2 ⟨R.val, by omega⟩ ⟨256 * (C.val / 128) + (128 + d.val), by omega⟩))
    (fun d => KR (ix2 ⟨4096 * (R.val / 4096) + R.val % 4096, by omega⟩ d)) (fun d => hQ _) (fun d => hR _)
  intro h
  exact EReal.coe_ne_bot (a + b) (((EReal.coe_add a b).trans (congrArg₂ (· + ·) ha hb).symm).trans h)

theorem value_real (hV : Finite KV) (R : Fin 16384) (C : Fin 2048) (k : ℕ) : valueAt KV R C k ≠ ⊥ ∧ valueAt KV R C k ≠ ⊤ := by
  unfold valueAt
  by_cases h : k < 4096
  · rw [dif_pos h]; exact hV _
  · rw [dif_neg h]; exact ⟨EReal.zero_ne_bot, EReal.zero_ne_top⟩

/-- The attention with each weight divided. -/
theorem attend_eq (hQ : Finite Q) (hV : Finite KV) (hR : Finite KR) (R : Fin 16384) (C : Fin 2048) :
    attend Q KV KR R C = ∑ k ∈ Finset.range 4096, valueAt KV R C k
      * Ideal.div (Ideal.exp2 (scoreAt Q KV KR R C k - top (scoreAt Q KV KR R C) 4096)) (mass (scoreAt Q KV KR R C) 4096) :=
  div_dotv _ _ (k := R.val % 4096)
    (fun j => by
      rcases score_cases hQ hV hR R C j with h | ⟨r, h⟩ <;> rw [h]
      · exact bot_ne_top
      · exact EReal.coe_ne_top r)
    (by omega) (own_score hQ hV hR R C) (value_real hV R C)

end Cert.Attention

end
-- ==== Proof.RefValue.lean ====
/- The reference's result at a prompt row, read as the attention. -/
module

public import proofs.«01_k».proof.Proof.Attended
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem
open Cert.Softmax Cert.Attention

/-! ## The constants and the power -/

theorem low_eq : Ideal.ofBits .f32 4286578688#32 = ⊥ := by simp [Ideal.ofBits, Ideal.ieee]
theorem two_eq : Ideal.ofBits .f32 1073741824#32 = ((2 : ℝ) : EReal) := by
  simp [Ideal.ofBits, Ideal.ieee]
  rw [← EReal.coe_mul]
  norm_num

/-- Two to a power is the exponential of base two, at the infinities too. -/
theorem pow_two (x : EReal) : Ideal.pow (Ideal.ofBits .f32 1073741824#32) x = Ideal.exp2 x := by
  rw [two_eq]
  induction x using EReal.rec with
  | bot => rw [Ideal.pow_coe_bot, Ideal.exp2_bot]; norm_num
  | top => rw [Ideal.pow_coe_top, Ideal.exp2_top]; norm_num
  | coe r => rfl

/-! ## The mask -/

/-- A position's chunk, as the program divides it out. -/
theorem chunk_word : ∀ k : Fin 4096, IntOp.divsi ArithUnit.host (BitVec.ofNat 32 k.val) 64#32 = BitVec.ofNat 32 (k.val / 64) := by
  decide +kernel

theorem chunk_le : ∀ a b : Fin 64, IntOp.cmpi .sle (BitVec.ofNat 32 a.val) (BitVec.ofNat 32 b.val) = if a.val ≤ b.val then 1#1 else 0#1 := by
  decide +kernel

theorem visible_word (k p : Fin 4096) :
    IntOp.cmpi .sle (IntOp.divsi ArithUnit.host (BitVec.ofNat 32 k.val) 64#32) (IntOp.divsi ArithUnit.host (BitVec.ofNat 32 p.val) 64#32)
      = if k.val / 64 ≤ p.val / 64 then 1#1 else 0#1 := by
  rw [chunk_word, chunk_word]
  exact chunk_le ⟨k.val / 64, by omega⟩ ⟨p.val / 64, by omega⟩

/-! ## The result -/

variable (m : (ℓ : Loc nD τ sig) → Buf (Elt Idealize.ShloMosaic.Ideal) ℓ)

/-- The three argument arrays of the reference on a device. -/
abbrev argQ (c : Dev nD) : Queries := m (c.tc.loc main_arg0)
abbrev argKV (c : Dev nD) : KeyValues := m (c.tc.loc main_arg1)
abbrev argKR (c : Dev nD) : Rotary := m (c.tc.loc main_arg2)

/-- The masked score of the reference is the attention's. -/
theorem score_eq (c : Dev nD) (R : Fin 18432) (C : Fin 2048) (hR : R.val < 16384) (x : Fin 4096) :
    Scalar.select (α := EReal)
        (IntOp.cmpi CmpIPredicate.sle (IntOp.divsi ArithUnit.host (BitVec.ofNat 32 x.val) 64#32)
          (IntOp.divsi ArithUnit.host (BitVec.ofNat 32 (R.val % 4096)) 64#32))
        (∑ d : Fin 128, argQ m c (ix2 ⟨R.val / 4096 * 4096 + R.val % 4096, by omega⟩ ⟨C.val / 128 * 256 + d.val, by omega⟩) *
              argKV m c (ix2 ⟨R.val / 4096 * 4096 + x.val, by omega⟩ ⟨C.val / 128 * 128 + d.val, by omega⟩) +
          ∑ d : Fin 128, argKR m c (ix2 ⟨R.val / 4096 * 4096 + x.val, by omega⟩ d) *
              argQ m c (ix2 ⟨R.val / 4096 * 4096 + R.val % 4096, by omega⟩ ⟨C.val / 128 * 256 + (128 + d.val), by omega⟩))
        (id (constant (F := Ideal) S_ FTy.f32 4286578688#32) ix0)
      = scoreAt (argQ m c) (argKV m c) (argKR m c) ⟨R.val, hR⟩ C x.val := by
  have hv := visible_word x ⟨R.val % 4096, by omega⟩
  dsimp only at hv
  rw [hv, show (id (constant (F := Ideal) S_ FTy.f32 4286578688#32) ix0 : EReal) = ⊥ from low_eq]
  unfold scoreAt
  rw [dif_pos x.isLt]
  have hrow : (⟨R.val / 4096 * 4096 + R.val % 4096, by omega⟩ : Fin 18432) = ⟨R.val, by omega⟩ := Fin.ext (by dsimp only; omega)
  by_cases h : x.val / 64 ≤ R.val % 4096 / 64
  · rw [if_pos h, if_pos h]
    refine (if_pos rfl).trans ?_
    refine congrArg₂ (· + ·) (Finset.sum_congr rfl fun d _ => ?_) (Finset.sum_congr rfl fun d _ => ?_)
    · refine congrArg₂ (· * ·) (congrArg (argQ m c) (congrArg₂ ix2 hrow ?_)) (congrArg (argKV m c) (congrArg₂ ix2 ?_ ?_)) <;>
        exact Fin.ext (by dsimp only; omega)
    · rw [mul_comm]
      refine congrArg₂ (· * ·) (congrArg (argQ m c) (congrArg₂ ix2 hrow ?_)) (congrArg (argKR m c) (congrArg₂ ix2 ?_ rfl)) <;>
        exact Fin.ext (by dsimp only; omega)
  · rw [if_neg h, if_neg h]
    exact if_neg (by decide)

theorem fold_top (s : ℕ → EReal) : Finset.univ.fold max (Ideal.ofBits .f32 4286578688#32) (fun k : Fin 4096 => s k.val) = top s 4096 := by
  rw [low_eq]
  have h := top_add s 0 4096
  simp only [top_zero, Nat.zero_add] at h
  rw [← h]
  exact (max_eq_right bot_le).symm

theorem sum_eq (f : ℕ → EReal) (g : Fin 4096 → EReal) (h : ∀ k : Fin 4096, g k = f k.val) : ∑ k, g k = ∑ k ∈ Finset.range 4096, f k :=
  (Finset.sum_congr rfl fun k _ => h k).trans (Finset.sum_range _).symm

theorem result (c : Dev nD) (R : Fin 18432) (C : Fin 2048) (hR : R.val < 16384)
    (hQ : Finite (argQ m c)) (hV : Finite (argKV m c)) (hK : Finite (argKR m c)) :
    res_main_v42 m c (ix2 R C) = attend (argQ m c) (argKV m c) (argKR m c) ⟨R.val, hR⟩ C := by
  rw [attend_eq hQ hV hK]
  pointwise [res_main_v42]
  rw [dif_pos hR]
  have hs := score_eq m c R C hR
  dsimp only [argQ, argKV, argKR] at hs
  simp only [hs]
  have hf := fold_top (scoreAt (argQ m c) (argKV m c) (argKR m c) ⟨R.val, hR⟩ C)
  dsimp only [argQ, argKV, argKR] at hf
  simp only [hf, pow_two]
  refine sum_eq _ _ fun k => congrArg₂ (· * ·) ?_ (congrArg (Ideal.div _) ?_)
  · unfold valueAt
    rw [dif_pos k.isLt]
    exact congrArg (argKV m c) (congrArg₂ ix2 (Fin.ext (by dsimp only; omega)) rfl)
  · exact sum_eq _ _ fun _ => rfl

end Cert.ReferenceIdeal.Attn

end
-- ==== Proof.Args.lean ====
/- The precondition and the mask of the claim, read at an index. -/
module

public import proofs.«01_k».proof.Proof.Attended
public import proofs.«01_k».proof.Defs
public import Idealize.ShloMosaic.Lib.Pointwise
public import Idealize.ShloMosaic.Lib.ReduceAll

@[expose] public section

set_option maxRecDepth 16384

noncomputable section

namespace Cert.Args

open Idealize.ShloMosaic
open Cert.Attention

/-- The only index of an array of rank zero. -/
instance : Subsingleton (⟨0, ![]⟩ : Shape).Idx := ⟨fun a b => funext fun k => k.elim0⟩

theorem and_one : ∀ a b : BitVec 1, a &&& b = 1#1 → a = 1#1 ∧ b = 1#1 := by decide

theorem inf_eq : Ideal.ofBits .f32 0x7F800000#32 = ⊤ := by simp [Ideal.ofBits, Ideal.ieee]

/-- A number whose absolute value is below infinity is neither infinity. -/
theorem below (x : EReal) (h : Ideal.cmp .olt (max x (-x)) (Ideal.ofBits .f32 0x7F800000#32) = 1#1) : x ≠ ⊥ ∧ x ≠ ⊤ := by
  rw [inf_eq] at h
  have h' : max x (-x) < ⊤ := by
    by_contra hc
    simp [Ideal.cmp, hc] at h
  constructor
  · rintro rfl; simp at h'
  · rintro rfl; simp at h'

theorem finite_args [Cert.Pre_finite.Facts] (Q : Queries) (KV : KeyValues) (KR : Rotary)
    (h : Cert.Pre_finite.fn (F := Ideal) Q KV KR = fun _ => 1#1) : Finite Q ∧ Finite KV ∧ Finite KR := by
  have h0 := congrFun h ix0
  unfold Cert.Pre_finite.fn at h0
  dsimp only at h0
  obtain ⟨h01, h2⟩ := and_one _ _ h0
  obtain ⟨h0, h1⟩ := and_one _ _ h01
  exact ⟨fun i => below _ (Host.reduce_andi_all _ _ _ _ _ h0 i), fun i => below _ (Host.reduce_andi_all _ _ _ _ _ h1 i),
    fun i => below _ (Host.reduce_andi_all _ _ _ _ _ h2 i)⟩

/-- The mask keeps the prompt's rows. -/
theorem prompt_row [Cert.On_prompt_rows.Facts] (Q : Queries) (KV : KeyValues) (KR : Rotary) (i : (⟨2, ![18432, 2048]⟩ : Shape).Idx)
    (h : Cert.On_prompt_rows.fn (F := Ideal) Q KV KR i = 1#1) : (i 0).val < 16384 := by
  have key : ∀ r : Fin 18432, IntOp.cmpi .slt (BitVec.ofNat 32 r.val) 16384#32 = 1#1 → r.val < 16384 := by decide +kernel
  exact key (i 0) h

end Cert.Args

end
-- ==== Proof.AttnClaims.lean ====
/- The claims about the prompt attention. -/
module

public import proofs.«01_k».proof.Defs
public import proofs.«01_k».proof.Proof.RunBits
public import proofs.«01_k».proof.Proof.Final
public import proofs.«01_k».proof.Proof.RefValue
public import proofs.«01_k».proof.Proof.Args
public import proofs.«01_k».proof.Proof.Gen.Pre_finite
public import proofs.«01_k».proof.Proof.Gen.On_prompt_rows
public import Idealize.ShloMosaic.Lib.Quiescent

@[expose] public section

noncomputable section

namespace Cert.AttnClaims

open Idealize.ShloMosaic Idealize.SL.Sem
open Cert.Attention

theorem frame_kernel : Cert.quiescent_Kernel := fun m ρ _ => Cert.Kernel.Attn.frame m ρ
theorem frame_ideal : Cert.quiescent_KernelIdeal := fun m ρ _ => Cert.KernelIdeal.Attn.frame m ρ
theorem frame_ideal_pre : Cert.quiescent_KernelIdeal_pre_finite := fun m ρ _ => Cert.KernelIdeal.Attn.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_finite := fun m ρ _ => frame_reference m ρ trivial

/-- The mask's large negative constant stands for negative infinity. -/
theorem preserves : Cert.preserves_Kernel_KernelIdeal :=
  IdealRules.named_const.statement Cert.KernelIdeal.κ "mask" .f32 0xF149F2CA#32 ⊥ rfl

/-- On the prompt's rows both programs end at the attention. -/
theorem algebraic : Cert.algebraic_KernelIdeal_ReferenceIdeal_on_prompt_rows_pre_finite := by
  intro m ρ m' ρ' hpre hagree
  refine ⟨fun c => Cert.KernelIdeal.Attn.G m c, ?_, ?_⟩
  · refine (θ_run Cert.KernelIdeal.defs _ _).mono (fun _ h c => ⟨fun i hi => ?_, h.2 c⟩)
      (θ_run_and (Cert.KernelIdeal.Attn.run_main (F := Ideal) m ρ) (Cert.KernelIdeal.Attn.unchanged (F := Ideal) m ρ))
    have hr := Cert.Args.prompt_row _ _ _ i hi
    refine (congrFun ((h.1 c).1 4) i).trans ((Cert.KernelIdeal.Attn.final_apply m c i hr).trans (Cert.KernelIdeal.Attn.G_row m c i hr).symm)
  · refine (θ_run Cert.ReferenceIdeal.defs _ _).mono (fun _ h c => ⟨fun i hi => ?_, (h c).2⟩)
      (Cert.ReferenceIdeal.Value.run (F := Ideal) m' ρ')
    have hr := Cert.Args.prompt_row _ _ _ i hi
    obtain ⟨hQ, hV, hK⟩ := Cert.Args.finite_args _ _ _ (hpre c)
    obtain ⟨e0, e1, e2⟩ := hagree c
    rw [(h c).1]
    refine Eq.trans ?_ (Cert.KernelIdeal.Attn.G_row m c i hr).symm
    rw [← e0, ← e1, ← e2]
    rw [← e0] at hQ
    rw [← e1] at hV
    rw [← e2] at hK
    have := Cert.ReferenceIdeal.Attn.result m' c (i 0) (i 1) hr hQ hV hK
    rw [show (ix2 (i 0) (i 1) : (⟨2, ![18432, 2048]⟩ : Shape).Idx) = i from funext fun a => by fin_cases a <;> rfl] at this
    exact this

end Cert.AttnClaims

end
-- ==== Proof.Layers.lean ====
/- A row's root-mean-square norm, and an entry of a linear layer, over the extended reals. -/
module

public import Idealize.ShloMosaic.Lib.Pointwise

@[expose] public section

noncomputable section

namespace Cert.Layers

open Idealize.ShloMosaic

/-- Entry `j` of a row divided by its root mean square, then multiplied by the gain `g`: `N` is the row's length as the
    programs write it, `eps` what they add to the mean. -/
def rms {n : ℕ} (N eps : EReal) (x g : Fin n → EReal) (j : Fin n) : EReal :=
  x j * Ideal.rsqrt (Ideal.div (∑ d, x d * x d) N + eps) * g j

/-- The product of a row with a column. -/
def dot {n : ℕ} (x w : Fin n → EReal) : EReal := ∑ d, x d * w d

/-- The constant 2048 and the norm's `eps`. -/
abbrev width : EReal := Ideal.ofBits .f32 0x45000000#32
abbrev eps : EReal := Ideal.ofBits .f32 0x358637BD#32

/-- The constant 512. -/
abbrev latent : EReal := Ideal.ofBits .f32 0x44000000#32

/-- The tanh form of the Gaussian error unit, with the constants as the programs write them. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

end Cert.Layers

end
-- ==== Proof.InputPayload.lean ====
/- What each call of the input projections computes on a block, an element at a time. -/
module

public import proofs.«01_k».proof.Proof.Gen.InputKernelIdeal.Skeleton
public import proofs.«01_k».proof.Proof.Layers
public import Idealize.ShloMosaic.Lib.Pointwise

@[expose] public section

set_option maxRecDepth 16384

noncomputable section

namespace Cert.InputKernelIdeal.Value

open Idealize.ShloMosaic Idealize.ShloMosaic.TcCoe Idealize.SL.Sem
open Cert.InputKernelIdeal Cert.InputKernelIdeal.Gen Cert.Layers

theorem pay0 (x : Vec Ideal S512x2048 .f32) (g : Vec Ideal S1x2048 .f32) (r : Fin 512) (j : Fin 2048) :
    k0_pay1 (F := Ideal) x g (ix2 r j) = rms width eps (fun d => x (ix2 r d)) (fun d => g (ix2 0 d)) j := by
  pointwise [k0_pay1]
  rfl

theorem pay1 (x : Vec Ideal S1024x2048 .bf16) (w : Vec Ideal S2048x1024 .bf16) (b : Vec Ideal S1x1024 .f32) (r j : Fin 1024) :
    k1_pay1 (F := Ideal) x w b (ix2 r j) = dot (fun d => x (ix2 r d)) (fun d => w (ix2 d j)) + b (ix2 0 j) := by
  pointwise [k1_pay1]
  rfl

theorem pay2 (x : Vec Ideal S1024x2048 .bf16) (w : Vec Ideal S2048x1024 .bf16) (b : Vec Ideal S1x1024 .f32) (r j : Fin 1024) :
    k2_pay1 (F := Ideal) x w b (ix2 r j) = gelu (dot (fun d => x (ix2 r d)) (fun d => w (ix2 d j)) + b (ix2 0 j)) := by
  pointwise [k2_pay1]
  rfl

theorem pay3 (x : Vec Ideal S1024x2048 .bf16) (w : Vec Ideal S2048x1024 .bf16) (b : Vec Ideal S1x1024 .f32) (r j : Fin 1024) :
    k3_pay1 (F := Ideal) x w b (ix2 r j) = Ideal.logistic (dot (fun d => x (ix2 r d)) (fun d => w (ix2 d j)) + b (ix2 0 j)) := by
  pointwise [k3_pay1]
  rfl

theorem pay4 (x : Vec Ideal S1024x2048 .bf16) (w : Vec Ideal S2048x1024 .bf16) (b : Vec Ideal S1x1024 .f32) (r j : Fin 1024) :
    k4_pay1 (F := Ideal) x w b (ix2 r j) = Ideal.logistic (dot (fun d => x (ix2 r d)) (fun d => w (ix2 d j)) + b (ix2 0 j)) := by
  pointwise [k4_pay1]
  rfl

theorem pay5 (x : Vec Ideal S1024x2048 .bf16) (w : Vec Ideal S2048x512 .bf16) (b g : Vec Ideal S1x512 .f32) (r : Fin 1024) (j : Fin 512) :
    k5_pay1 (F := Ideal) x w b g (ix2 r j)
      = rms latent eps (fun q => dot (fun d => x (ix2 r d)) (fun d => w (ix2 d q)) + b (ix2 0 q)) (fun q => g (ix2 0 q)) j := by
  pointwise [k5_pay1]
  rfl

theorem pay6 (x : Vec Ideal S1024x2048 .bf16) (w : Vec Ideal S2048x512 .bf16) (b g : Vec Ideal S1x512 .f32) (r : Fin 1024) (j : Fin 512) :
    k6_pay1 (F := Ideal) x w b g (ix2 r j)
      = rms latent eps (fun q => dot (fun d => x (ix2 r d)) (fun d => w (ix2 d q)) + b (ix2 0 q)) (fun q => g (ix2 0 q)) j := by
  pointwise [k6_pay1]
  rfl

end Cert.InputKernelIdeal.Value

end
-- ==== Proof.InputRegions.lean ====
/- What each call of the input projections leaves in its result array, from the arrays it is entered with. -/
module

public import proofs.«01_k».proof.Proof.Gen.InputKernelIdeal.Frame
public import proofs.«01_k».proof.Proof.InputPayload
public import Idealize.ShloMosaic.Lib.Pipeline.ValueKit

@[expose] public section

set_option maxRecDepth 16384

noncomputable section

namespace Cert.InputKernelIdeal.Value

open Idealize.ShloMosaic Idealize.ShloMosaic.TcCoe Idealize.SL.Sem
open Cert.InputKernelIdeal Cert.InputKernelIdeal.Gen Cert.Layers

/-- Every entry normed by its row. -/
def normed (x : FVec Ideal S18432x2048 .f32) (g : FVec Ideal S1x2048 .f32) : FVec Ideal S18432x2048 .bf16 := fun i =>
  rms width eps (fun d => x (ix2 (i 0) d)) (fun d => g (ix2 0 d)) (i 1)

/-- An entry of a linear layer with a bias. -/
def affine {n : ℕ} (x : FVec Ideal S18432x2048 .bf16) (w : FVec Ideal ⟨2, ![2048, n]⟩ .bf16) (b : FVec Ideal ⟨2, ![1, n]⟩ .f32) (R : Fin 18432) (q : Fin n) : EReal :=
  dot (fun d => x (ix2 R d)) (fun d => w (ix2 d q)) + b (ix2 0 q)

/-- A function of every entry of the layer. -/
def mapped (φ : FTy) (f : EReal → EReal) (x : FVec Ideal S18432x2048 .bf16) (w : FVec Ideal S2048x2048 .bf16) (b : FVec Ideal S1x2048 .f32) :
    FVec Ideal S18432x2048 φ := fun i => f (affine x w b (i 0) (i 1))

/-- The layer's rows normed. -/
def latents (φ : FTy) (x : FVec Ideal S18432x2048 .bf16) (w : FVec Ideal S2048x512 .bf16) (b g : FVec Ideal S1x512 .f32) :
    FVec Ideal S18432x512 φ := fun i => rms latent eps (affine x w b (i 0)) (fun q => g (ix2 0 q)) (i 1)

theorem zero2 : (![0, 0] : Fin 2 → ℕ) = fun _ => 0 := funext fun a => by fin_cases a <;> rfl

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ t.val < 36 :=
  (by decide +kernel : ∀ t : Fin grid0.N, _)

theorem blk0_x (c : Dev nD) (t : Fin cfg0.N) (r : Fin 512) (d : Fin 2048) (a : Fin 18432) (ha : a.val = 512 * t.val + r.val) :
    iblk0 V c 0 t (ix2 r d) = (V c main_v22 : FVec Ideal S18432x2048 .f32) (ix2 a d) := by
  blk_ext [iblk0, idx0 t]

theorem blk0_g (c : Dev nD) (t : Fin cfg0.N) (d : Fin 2048) :
    iblk0 V c 1 t (ix2 0 d) = (V c main_v24 : FVec Ideal S1x2048 .f32) (ix2 0 d) := by
  blk_ext [iblk0, idx0 t]

theorem out0 (x : Vec Ideal S512x2048 .f32) (g : Vec Ideal S1x2048 .f32) : out0_2 (F := Ideal) x g = k0_pay1 x g := by
  unfold out0_2
  rw [View.canon_unit_zero zero2, View.ld_unit_zero zero2, View.ld_unit_zero zero2]

theorem final0 (c : Dev nD) : (dat0 V c).arrAt 2 cfg0.N = normed (V c main_v22) (V c main_v24) := by
  refine (dat0 V c).arrAt_eq_of_covers 2 _ (by decide +kernel) fun t hf y => ?_
  blk_simp
  rw [after0_2, out0]
  idx_vars y
  have h0 : (((win0_2.blk t).view.emb (ix2 y0 y1)) 0).val = 512 * t.val + y0.val := by blk_simp [idx0 t]; omega
  have h1 : (((win0_2.blk t).view.emb (ix2 y0 y1)) 1) = y1 := Fin.ext (by blk_simp [idx0 t])
  rw [pay0]
  unfold normed
  rw [h1]
  congr 1
  · funext d; exact blk0_x V c t y0 d _ h0
  · funext d; exact blk0_g V c t d

theorem idx1 : ∀ t : Fin cfg1.N, win1_0.index t = ![t.val / 2, 0] ∧ win1_1.index t = ![0, t.val % 2] ∧ win1_2.index t = ![0, t.val % 2]
    ∧ win1_3.index t = ![t.val / 2, t.val % 2] ∧ t.val < 36 :=
  (by decide +kernel : ∀ t : Fin grid1.N, _)

theorem blk1_x (c : Dev nD) (t : Fin cfg1.N) (r : Fin 1024) (d : Fin 2048) (a : Fin 18432) (ha : a.val = 1024 * (t.val / 2) + r.val) :
    iblk1 V c 0 t (ix2 r d) = (V c main_v25 : FVec Ideal S18432x2048 .bf16) (ix2 a d) := by
  blk_ext [iblk1, idx1 t]

theorem blk1_w (c : Dev nD) (t : Fin cfg1.N) (d : Fin 2048) (j : Fin 1024) (q : Fin 2048) (hq : q.val = 1024 * (t.val % 2) + j.val) :
    iblk1 V c 1 t (ix2 d j) = (V c main_v3 : FVec Ideal S2048x2048 .bf16) (ix2 d q) := by
  blk_ext [iblk1, idx1 t]

theorem blk1_b (c : Dev nD) (t : Fin cfg1.N) (j : Fin 1024) (q : Fin 2048) (hq : q.val = 1024 * (t.val % 2) + j.val) :
    iblk1 V c 2 t (ix2 0 j) = (V c main_v26 : FVec Ideal S1x2048 .f32) (ix2 0 q) := by
  blk_ext [iblk1, idx1 t]

theorem out1 (x : Vec Ideal S1024x2048 .bf16) (w : Vec Ideal S2048x1024 .bf16) (b : Vec Ideal S1x1024 .f32) : out1_3 (F := Ideal) x w b = k1_pay1 x w b := by
  unfold out1_3
  rw [View.canon_unit_zero zero2, View.ld_unit_zero zero2, View.ld_unit_zero zero2, View.ld_unit_zero zero2]

theorem final1 (c : Dev nD) : (dat1 V c).arrAt 3 cfg1.N = mapped .f32 id (V c main_v25) (V c main_v3) (V c main_v26) := by
  refine (dat1 V c).arrAt_eq_of_covers 3 _ (by decide +kernel) fun t hf y => ?_
  blk_simp
  rw [after1_3, out1]
  idx_vars y
  have h0 : (((win1_3.blk t).view.emb (ix2 y0 y1)) 0).val = 1024 * (t.val / 2) + y0.val := by blk_simp [idx1 t]; omega
  have h1 : (((win1_3.blk t).view.emb (ix2 y0 y1)) 1).val = 1024 * (t.val % 2) + y1.val := by blk_simp [idx1 t]; omega
  rw [pay1]
  unfold mapped
  refine (congrArg₂ (· + ·) (congrArg₂ dot (funext fun d => ?_) (funext fun d => ?_)) ?_)
  · exact blk1_x V c t y0 d _ h0
  · exact blk1_w V c t d y1 _ h1
  · exact blk1_b V c t y1 _ h1

theorem idx2 : ∀ t : Fin cfg2.N, win2_0.index t = ![t.val / 2, 0] ∧ win2_1.index t = ![0, t.val % 2] ∧ win2_2.index t = ![0, t.val % 2]
    ∧ win2_3.index t = ![t.val / 2, t.val % 2] ∧ t.val < 36 :=
  (by decide +kernel : ∀ t : Fin grid2.N, _)

theorem blk2_x (c : Dev nD) (t : Fin cfg2.N) (r : Fin 1024) (d : Fin 2048) (a : Fin 18432) (ha : a.val = 1024 * (t.val / 2) + r.val) :
    iblk2 V c 0 t (ix2 r d) = (V c main_v25 : FVec Ideal S18432x2048 .bf16) (ix2 a d) := by
  blk_ext [iblk2, idx2 t]

theorem blk2_w (c : Dev nD) (t : Fin cfg2.N) (d : Fin 2048) (j : Fin 1024) (q : Fin 2048) (hq : q.val = 1024 * (t.val % 2) + j.val) :
    iblk2 V c 1 t (ix2 d j) = (V c main_v6 : FVec Ideal S2048x2048 .bf16) (ix2 d q) := by
  blk_ext [iblk2, idx2 t]

theorem blk2_b (c : Dev nD) (t : Fin cfg2.N) (j : Fin 1024) (q : Fin 2048) (hq : q.val = 1024 * (t.val % 2) + j.val) :
    iblk2 V c 2 t (ix2 0 j) = (V c main_v28 : FVec Ideal S1x2048 .f32) (ix2 0 q) := by
  blk_ext [iblk2, idx2 t]

theorem out2 (x : Vec Ideal S1024x2048 .bf16) (w : Vec Ideal S2048x1024 .bf16) (b : Vec Ideal S1x1024 .f32) : out2_3 (F := Ideal) x w b = k2_pay1 x w b := by
  unfold out2_3
  rw [View.canon_unit_zero zero2, View.ld_unit_zero zero2, View.ld_unit_zero zero2, View.ld_unit_zero zero2]

theorem final2 (c : Dev nD) : (dat2 V c).arrAt 3 cfg2.N = mapped .bf16 gelu (V c main_v25) (V c main_v6) (V c main_v28) := by
  refine (dat2 V c).arrAt_eq_of_covers 3 _ (by decide +kernel) fun t hf y => ?_
  blk_simp
  rw [after2_3, out2]
  idx_vars y
  have h0 : (((win2_3.blk t).view.emb (ix2 y0 y1)) 0).val = 1024 * (t.val / 2) + y0.val := by blk_simp [idx2 t]; omega
  have h1 : (((win2_3.blk t).view.emb (ix2 y0 y1)) 1).val = 1024 * (t.val % 2) + y1.val := by blk_simp [idx2 t]; omega
  rw [pay2]
  unfold mapped
  refine congrArg gelu (congrArg₂ (· + ·) (congrArg₂ dot (funext fun d => ?_) (funext fun d => ?_)) ?_)
  · exact blk2_x V c t y0 d _ h0
  · exact blk2_w V c t d y1 _ h1
  · exact blk2_b V c t y1 _ h1

theorem idx3 : ∀ t : Fin cfg3.N, win3_0.index t = ![t.val / 2, 0] ∧ win3_1.index t = ![0, t.val % 2] ∧ win3_2.index t = ![0, t.val % 2]
    ∧ win3_3.index t = ![t.val / 2, t.val % 2] ∧ t.val < 36 :=
  (by decide +kernel : ∀ t : Fin grid3.N, _)

theorem blk3_x (c : Dev nD) (t : Fin cfg3.N) (r : Fin 1024) (d : Fin 2048) (a : Fin 18432) (ha : a.val = 1024 * (t.val / 2) + r.val) :
    iblk3 V c 0 t (ix2 r d) = (V c main_v25 : FVec Ideal S18432x2048 .bf16) (ix2 a d) := by
  blk_ext [iblk3, idx3 t]

theorem blk3_w (c : Dev nD) (t : Fin cfg3.N) (d : Fin 2048) (j : Fin 1024) (q : Fin 2048) (hq : q.val = 1024 * (t.val % 2) + j.val) :
    iblk3 V c 1 t (ix2 d j) = (V c main_v15 : FVec Ideal S2048x2048 .bf16) (ix2 d q) := by
  blk_ext [iblk3, idx3 t]

theorem blk3_b (c : Dev nD) (t : Fin cfg3.N) (j : Fin 1024) (q : Fin 2048) (hq : q.val = 1024 * (t.val % 2) + j.val) :
    iblk3 V c 2 t (ix2 0 j) = (V c main_v30 : FVec Ideal S1x2048 .f32) (ix2 0 q) := by
  blk_ext [iblk3, idx3 t]

theorem out3 (x : Vec Ideal S1024x2048 .bf16) (w : Vec Ideal S2048x1024 .bf16) (b : Vec Ideal S1x1024 .f32) : out3_3 (F := Ideal) x w b = k3_pay1 x w b := by
  unfold out3_3
  rw [View.canon_unit_zero zero2, View.ld_unit_zero zero2, View.ld_unit_zero zero2, View.ld_unit_zero zero2]

theorem final3 (c : Dev nD) : (dat3 V c).arrAt 3 cfg3.N = mapped .bf16 Ideal.logistic (V c main_v25) (V c main_v15) (V c main_v30) := by
  refine (dat3 V c).arrAt_eq_of_covers 3 _ (by decide +kernel) fun t hf y => ?_
  blk_simp
  rw [after3_3, out3]
  idx_vars y
  have h0 : (((win3_3.blk t).view.emb (ix2 y0 y1)) 0).val = 1024 * (t.val / 2) + y0.val := by blk_simp [idx3 t]; omega
  have h1 : (((win3_3.blk t).view.emb (ix2 y0 y1)) 1).val = 1024 * (t.val % 2) + y1.val := by blk_simp [idx3 t]; omega
  rw [pay3]
  unfold mapped
  refine congrArg Ideal.logistic (congrArg₂ (· + ·) (congrArg₂ dot (funext fun d => ?_) (funext fun d => ?_)) ?_)
  · exact blk3_x V c t y0 d _ h0
  · exact blk3_w V c t d y1 _ h1
  · exact blk3_b V c t y1 _ h1

theorem idx4 : ∀ t : Fin cfg4.N, win4_0.index t = ![t.val / 2, 0] ∧ win4_1.index t = ![0, t.val % 2] ∧ win4_2.index t = ![0, t.val % 2]
    ∧ win4_3.index t = ![t.val / 2, t.val % 2] ∧ t.val < 36 :=
  (by decide +kernel : ∀ t : Fin grid4.N, _)

theorem blk4_x (c : Dev nD) (t : Fin cfg4.N) (r : Fin 1024) (d : Fin 2048) (a : Fin 18432) (ha : a.val = 1024 * (t.val / 2) + r.val) :
    iblk4 V c 0 t (ix2 r d) = (V c main_v25 : FVec Ideal S18432x2048 .bf16) (ix2 a d) := by
  blk_ext [iblk4, idx4 t]

theorem blk4_w (c : Dev nD) (t : Fin cfg4.N) (d : Fin 2048) (j : Fin 1024) (q : Fin 2048) (hq : q.val = 1024 * (t.val % 2) + j.val) :
    iblk4 V c 1 t (ix2 d j) = (V c main_v18 : FVec Ideal S2048x2048 .bf16) (ix2 d q) := by
  blk_ext [iblk4, idx4 t]

theorem blk4_b (c : Dev nD) (t : Fin cfg4.N) (j : Fin 1024) (q : Fin 2048) (hq : q.val = 1024 * (t.val % 2) + j.val) :
    iblk4 V c 2 t (ix2 0 j) = (V c main_v32 : FVec Ideal S1x2048 .f32) (ix2 0 q) := by
  blk_ext [iblk4, idx4 t]

theorem out4 (x : Vec Ideal S1024x2048 .bf16) (w : Vec Ideal S2048x1024 .bf16) (b : Vec Ideal S1x1024 .f32) : out4_3 (F := Ideal) x w b = k4_pay1 x w b := by
  unfold out4_3
  rw [View.canon_unit_zero zero2, View.ld_unit_zero zero2, View.ld_unit_zero zero2, View.ld_unit_zero zero2]

theorem final4 (c : Dev nD) : (dat4 V c).arrAt 3 cfg4.N = mapped .bf16 Ideal.logistic (V c main_v25) (V c main_v18) (V c main_v32) := by
  refine (dat4 V c).arrAt_eq_of_covers 3 _ (by decide +kernel) fun t hf y => ?_
  blk_simp
  rw [after4_3, out4]
  idx_vars y
  have h0 : (((win4_3.blk t).view.emb (ix2 y0 y1)) 0).val = 1024 * (t.val / 2) + y0.val := by blk_simp [idx4 t]; omega
  have h1 : (((win4_3.blk t).view.emb (ix2 y0 y1)) 1).val = 1024 * (t.val % 2) + y1.val := by blk_simp [idx4 t]; omega
  rw [pay4]
  unfold mapped
  refine congrArg Ideal.logistic (congrArg₂ (· + ·) (congrArg₂ dot (funext fun d => ?_) (funext fun d => ?_)) ?_)
  · exact blk4_x V c t y0 d _ h0
  · exact blk4_w V c t d y1 _ h1
  · exact blk4_b V c t y1 _ h1

theorem idx5 : ∀ t : Fin cfg5.N, win5_0.index t = ![t.val, 0] ∧ win5_1.index t = ![0, 0] ∧ win5_2.index t = ![0, 0]
    ∧ win5_3.index t = ![0, 0] ∧ win5_4.index t = ![t.val, 0] ∧ t.val < 18 :=
  (by decide +kernel : ∀ t : Fin grid5.N, _)

theorem blk5_x (c : Dev nD) (t : Fin cfg5.N) (r : Fin 1024) (d : Fin 2048) (a : Fin 18432) (ha : a.val = 1024 * t.val + r.val) :
    iblk5 V c 0 t (ix2 r d) = (V c main_v25 : FVec Ideal S18432x2048 .bf16) (ix2 a d) := by
  blk_ext [iblk5, idx5 t]

theorem blk5_w (c : Dev nD) (t : Fin cfg5.N) (d : Fin 2048) (q : Fin 512) :
    iblk5 V c 1 t (ix2 d q) = (V c main_v9 : FVec Ideal S2048x512 .bf16) (ix2 d q) := by
  blk_ext [iblk5, idx5 t]

theorem blk5_b (c : Dev nD) (t : Fin cfg5.N) (q : Fin 512) :
    iblk5 V c 2 t (ix2 0 q) = (V c main_v36 : FVec Ideal S1x512 .f32) (ix2 0 q) := by
  blk_ext [iblk5, idx5 t]

theorem blk5_g (c : Dev nD) (t : Fin cfg5.N) (q : Fin 512) :
    iblk5 V c 3 t (ix2 0 q) = (V c main_v35 : FVec Ideal S1x512 .f32) (ix2 0 q) := by
  blk_ext [iblk5, idx5 t]

theorem out5 (x : Vec Ideal S1024x2048 .bf16) (w : Vec Ideal S2048x512 .bf16) (b g : Vec Ideal S1x512 .f32) : out5_4 (F := Ideal) x w b g = k5_pay1 x w b g := by
  unfold out5_4
  rw [View.canon_unit_zero zero2, View.ld_unit_zero zero2, View.ld_unit_zero zero2, View.ld_unit_zero zero2, View.ld_unit_zero zero2]

theorem final5 (c : Dev nD) : (dat5 V c).arrAt 4 cfg5.N = latents .bf16 (V c main_v25) (V c main_v9) (V c main_v36) (V c main_v35) := by
  refine (dat5 V c).arrAt_eq_of_covers 4 _ (by decide +kernel) fun t hf y => ?_
  blk_simp
  rw [after5_4, out5]
  idx_vars y
  have h0 : (((win5_4.blk t).view.emb (ix2 y0 y1)) 0).val = 1024 * t.val + y0.val := by blk_simp [idx5 t]; omega
  have h1 : (((win5_4.blk t).view.emb (ix2 y0 y1)) 1) = y1 := Fin.ext (by blk_simp [idx5 t])
  rw [pay5]
  unfold latents
  rw [h1]
  refine congrArg₂ (fun u v => rms latent eps u v y1) (funext fun q => ?_) (funext fun q => blk5_g V c t q)
  refine congrArg₂ (· + ·) (congrArg₂ dot (funext fun d => ?_) (funext fun d => ?_)) ?_
  · exact blk5_x V c t y0 d _ h0
  · exact blk5_w V c t d q
  · exact blk5_b V c t q

theorem idx6 : ∀ t : Fin cfg6.N, win6_0.index t = ![t.val, 0] ∧ win6_1.index t = ![0, 0] ∧ win6_2.index t = ![0, 0]
    ∧ win6_3.index t = ![0, 0] ∧ win6_4.index t = ![t.val, 0] ∧ t.val < 18 :=
  (by decide +kernel : ∀ t : Fin grid6.N, _)

theorem blk6_x (c : Dev nD) (t : Fin cfg6.N) (r : Fin 1024) (d : Fin 2048) (a : Fin 18432) (ha : a.val = 1024 * t.val + r.val) :
    iblk6 V c 0 t (ix2 r d) = (V c main_v25 : FVec Ideal S18432x2048 .bf16) (ix2 a d) := by
  blk_ext [iblk6, idx6 t]

theorem blk6_w (c : Dev nD) (t : Fin cfg6.N) (d : Fin 2048) (q : Fin 512) :
    iblk6 V c 1 t (ix2 d q) = (V c main_v12 : FVec Ideal S2048x512 .bf16) (ix2 d q) := by
  blk_ext [iblk6, idx6 t]

theorem blk6_b (c : Dev nD) (t : Fin cfg6.N) (q : Fin 512) :
    iblk6 V c 2 t (ix2 0 q) = (V c main_v40 : FVec Ideal S1x512 .f32) (ix2 0 q) := by
  blk_ext [iblk6, idx6 t]

theorem blk6_g (c : Dev nD) (t : Fin cfg6.N) (q : Fin 512) :
    iblk6 V c 3 t (ix2 0 q) = (V c main_v39 : FVec Ideal S1x512 .f32) (ix2 0 q) := by
  blk_ext [iblk6, idx6 t]

theorem out6 (x : Vec Ideal S1024x2048 .bf16) (w : Vec Ideal S2048x512 .bf16) (b g : Vec Ideal S1x512 .f32) : out6_4 (F := Ideal) x w b g = k6_pay1 x w b g := by
  unfold out6_4
  rw [View.canon_unit_zero zero2, View.ld_unit_zero zero2, View.ld_unit_zero zero2, View.ld_unit_zero zero2, View.ld_unit_zero zero2]

theorem final6 (c : Dev nD) : (dat6 V c).arrAt 4 cfg6.N = latents .f32 (V c main_v25) (V c main_v12) (V c main_v40) (V c main_v39) := by
  refine (dat6 V c).arrAt_eq_of_covers 4 _ (by decide +kernel) fun t hf y => ?_
  blk_simp
  rw [after6_4, out6]
  idx_vars y
  have h0 : (((win6_4.blk t).view.emb (ix2 y0 y1)) 0).val = 1024 * t.val + y0.val := by blk_simp [idx6 t]; omega
  have h1 : (((win6_4.blk t).view.emb (ix2 y0 y1)) 1) = y1 := Fin.ext (by blk_simp [idx6 t])
  rw [pay6]
  unfold latents
  rw [h1]
  refine congrArg₂ (fun u v => rms latent eps u v y1) (funext fun q => ?_) (funext fun q => blk6_g V c t q)
  refine congrArg₂ (· + ·) (congrArg₂ dot (funext fun d => ?_) (funext fun d => ?_)) ?_
  · exact blk6_x V c t y0 d _ h0
  · exact blk6_w V c t d q
  · exact blk6_b V c t q

end Cert.InputKernelIdeal.Value

end
-- ==== Proof.InputRun.lean ====
/- The input projections' run: every array it leaves, as the fold of its stretches. -/
module

public import proofs.«01_k».proof.Proof.Gen.InputKernelIdeal.Frame

@[expose] public section

set_option maxRecDepth 16384

noncomputable section

namespace Cert.InputKernelIdeal.Value

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every unscoped buffer at the contents folded through the program, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W19 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => ⟨h, funext fun g => hz g (.inr (no_unscoped g.2))⟩)

end Cert.InputKernelIdeal.Value

end
-- ==== Proof.InputTake.lean ====
/- The rows that a `jnp.take` with constant row numbers reads: the last three of every sequence. -/
module

public import proofs.«01_k».proof.Proof.InputRun
public import Idealize.ShloMosaic.Lib.Claim
public import Idealize.ShloMosaic.Lib.Pointwise
public import Idealize.ShloMosaic.Lib.Routing.Ops

@[expose] public section

set_option maxRecDepth 16384

noncomputable section

namespace Cert.InputKernelIdeal.Value

open Idealize.ShloMosaic Idealize.ShloMosaic.TcCoe Idealize.SL.Sem Idealize.ShloMosaic.StableHlo
open Cert.InputKernelIdeal Cert.InputKernelIdeal.Gen

variable (m : (ℓ : Loc nD τ sig) → Buf (Elt Ideal) ℓ) (ρ : Dev nD → PrngReg)

/-- The offsets −3, −2, −1. -/
def back : IVec S1x3 32 :=
  broadcastInDim S1x3 ![1] bcast_S3_S1x3_1 (addi (broadcastInDim S3 ![] bcast_S_S3 (constantI S_ 32 4294967293#32)) (iotaInDim S3 32 0))

/-- The prompt's row numbers. -/
def rows12 : IVec S12 32 :=
  shapeCast S12 (addi (broadcastInDim S4x3 ![0, 1] bcast_S4x1_S4x3_0_1 (broadcastInDim S4x1 ![0] bcast_S4_S4x1_0
    (muli (addi (broadcastInDim S4 ![] bcast_S_S4 (constantI S_ 32 1#32)) (iotaInDim S4 32 0)) (broadcastInDim S4 ![] bcast_S_S4 (constantI S_ 32 4096#32)))))
    (broadcastInDim S4x3 ![0, 1] bcast_S1x3_S4x3_0_1 back)) shapeCasts_S4x3_S12

/-- The samples' row numbers. -/
def rows96 : IVec S96 32 :=
  shapeCast S96 (addi (broadcastInDim S32x3 ![0, 1] bcast_S32x1_S32x3_0_1 (addi (broadcastInDim S32x1 ![] bcast_S_S32x1 (constantI S_ 32 16384#32))
    (broadcastInDim S32x1 ![0] bcast_S32_S32x1_0 (muli (addi (broadcastInDim S32 ![] bcast_S_S32 (constantI S_ 32 1#32)) (iotaInDim S32 32 0))
      (broadcastInDim S32 ![] bcast_S_S32 (constantI S_ 32 64#32))))))
    (broadcastInDim S32x3 ![0, 1] bcast_S1x3_S32x3_0_1 back)) shapeCasts_S32x3_S96

/-- Row numbers as the gather takes them: a negative one counts from the end. -/
def start12 (w : IVec S12 32) : IVec S12x1 32 :=
  broadcastInDim S12x1 ![0] bcast_S12_S12x1_0 (select (cmpi .slt w (broadcastInDim S12 ![] bcast_S_S12 (constantI S_ 32 0#32)))
    (addi w (broadcastInDim S12 ![] bcast_S_S12 (constantI S_ 32 18432#32))) w)

/-- Which row numbers name a row. -/
def inside12 (w : IVec S12 32) : IVec S12 1 :=
  Host.reduce IntOp.andi (andi (cmpi .sge (start12 w) (broadcastInDim S12x1 ![] bcast_S_S12x1 (constantI S_ 32 0#32)))
    (cmpi .sle (start12 w) (broadcastInDim S12x1 ![0, 1] bcast_S1x1_S12x1_0_1 (broadcastInDim S1x1 ![1] bcast_S1_S1x1_1 (constantI S1 32 18431#32)))))
    (constantI S_ 1 1#1) reducesTo_S12x1_S12_d1 h_S_

/-- The rows taken. -/
def take12 (x : FVec Ideal S18432x2048 .f32) (w : IVec S12 32) : FVec Ideal S12x2048 .f32 :=
  select (broadcastInDim S12x2048 ![0] bcast_S12_S12x2048_0 (inside12 w))
    (Host.gather gather_S18432x2048_S12x1_S12x2048_1_0_n_n_0_1_12048 x (start12 w))
    (broadcastInDim S12x2048 ![] bcast_S_S12x2048 (constant S_ .f32 0x7FC00000#32))

/-- Row numbers as the gather takes them: a negative one counts from the end. -/
def start96 (w : IVec S96 32) : IVec S96x1 32 :=
  broadcastInDim S96x1 ![0] bcast_S96_S96x1_0 (select (cmpi .slt w (broadcastInDim S96 ![] bcast_S_S96 (constantI S_ 32 0#32)))
    (addi w (broadcastInDim S96 ![] bcast_S_S96 (constantI S_ 32 18432#32))) w)

/-- Which row numbers name a row. -/
def inside96 (w : IVec S96 32) : IVec S96 1 :=
  Host.reduce IntOp.andi (andi (cmpi .sge (start96 w) (broadcastInDim S96x1 ![] bcast_S_S96x1 (constantI S_ 32 0#32)))
    (cmpi .sle (start96 w) (broadcastInDim S96x1 ![0, 1] bcast_S1x1_S96x1_0_1 (broadcastInDim S1x1 ![1] bcast_S1_S1x1_1 (constantI S1 32 18431#32)))))
    (constantI S_ 1 1#1) reducesTo_S96x1_S96_d1 h_S_

/-- The rows taken. -/
def take96 (x : FVec Ideal S18432x2048 .f32) (w : IVec S96 32) : FVec Ideal S96x2048 .f32 :=
  select (broadcastInDim S96x2048 ![0] bcast_S96_S96x2048_0 (inside96 w))
    (Host.gather gather_S18432x2048_S96x1_S96x2048_1_0_n_n_0_1_12048 x (start96 w))
    (broadcastInDim S96x2048 ![] bcast_S_S96x2048 (constant S_ .f32 0x7FC00000#32))

theorem start12_rows : ∀ b : Fin 4, ∀ k : Fin 3, start12 rows12 (ix2 ⟨3 * b.val + k.val, by omega⟩ 0) = BitVec.ofNat 32 (4096 * b.val + 4093 + k.val) := by
  decide +kernel

theorem inside12_rows : ∀ p : Fin 12, inside12 rows12 (ix1 p) = 1#1 := by decide +kernel

theorem start96_rows : ∀ b : Fin 32, ∀ k : Fin 3, start96 rows96 (ix2 ⟨3 * b.val + k.val, by omega⟩ 0) = BitVec.ofNat 32 (16384 + 64 * b.val + 61 + k.val) := by
  decide +kernel

theorem inside96_rows : ∀ p : Fin 96, inside96 rows96 (ix1 p) = 1#1 := by decide +kernel

/-- A row number that names a row is taken from there. -/
theorem take12_at (x : FVec Ideal S18432x2048 .f32) (w : IVec S12 32) (p : Fin 12) (d : Fin 2048) (h : inside12 w (ix1 p) = 1#1) :
    take12 x w (ix2 p d) = Host.gather gather_S18432x2048_S12x1_S12x2048_1_0_n_n_0_1_12048 x (start12 w) (ix2 p d) := by
  unfold take12
  generalize inside12 w = q at h ⊢
  generalize Host.gather gather_S18432x2048_S12x1_S12x2048_1_0_n_n_0_1_12048 x (start12 w) = y
  pointwise []
  exact if_pos h

theorem take12_apply (x : FVec Ideal S18432x2048 .f32) (b : Fin 4) (k : Fin 3) (d : Fin 2048) (R : Fin 18432) (hR : R.val = 4096 * b.val + 4093 + k.val) :
    take12 x rows12 (ix2 ⟨3 * b.val + k.val, by omega⟩ d) = x (ix2 R d) := by
  refine (take12_at x rows12 _ d (inside12_rows ⟨3 * b.val + k.val, by omega⟩)).trans ?_
  exact Routing.gather_row _ rfl rfl rfl rfl rfl x _ _ d R ((start12_rows b k).trans (by rw [hR])) (by decide)

/-- A row number that names a row is taken from there. -/
theorem take96_at (x : FVec Ideal S18432x2048 .f32) (w : IVec S96 32) (p : Fin 96) (d : Fin 2048) (h : inside96 w (ix1 p) = 1#1) :
    take96 x w (ix2 p d) = Host.gather gather_S18432x2048_S96x1_S96x2048_1_0_n_n_0_1_12048 x (start96 w) (ix2 p d) := by
  unfold take96
  generalize inside96 w = q at h ⊢
  generalize Host.gather gather_S18432x2048_S96x1_S96x2048_1_0_n_n_0_1_12048 x (start96 w) = y
  pointwise []
  exact if_pos h

theorem take96_apply (x : FVec Ideal S18432x2048 .f32) (b : Fin 32) (k : Fin 3) (d : Fin 2048) (R : Fin 18432) (hR : R.val = 16384 + 64 * b.val + 61 + k.val) :
    take96 x rows96 (ix2 ⟨3 * b.val + k.val, by omega⟩ d) = x (ix2 R d) := by
  refine (take96_at x rows96 _ d (inside96_rows ⟨3 * b.val + k.val, by omega⟩)).trans ?_
  exact Routing.gather_row _ rfl rfl rfl rfl rfl x _ _ d R ((start96_rows b k).trans (by rw [hR])) (by decide)

/-! What the host leaves after the calls, read back to the array the rows are taken from. -/

theorem at15_v66 (c : Dev nD) : W15 m ρ c (Proc.devRef .tc main_v66) = rows12 := by
  after_results <;> rfl

theorem at15_v65 (c : Dev nD) : shapeCast S96 (W15 m ρ c (Proc.devRef .tc main_v65)) shapeCasts_S32x3_S96 = rows96 := by
  after_results <;> rfl

theorem after_take12 (V : Valuation τ sig (Elt Ideal)) :
    StableHlo.after hostOps7_1 V (Proc.devRef .tc main_v67) = take12 (V (Proc.devRef .tc main_v27)) (V (Proc.devRef .tc main_v66)) := by
  unfold take12 inside12 start12
  after_results <;> rfl

theorem at16_v67 (c : Dev nD) : W16 m ρ c (Proc.devRef .tc main_v67) = take12 (W15 m ρ c (Proc.devRef .tc main_v27)) (W15 m ρ c (Proc.devRef .tc main_v66)) :=
  after_take12 _

theorem at17_v69 (c : Dev nD) : W17 m ρ c (Proc.devRef .tc main_v69) = shapeCast S96 (W16 m ρ c (Proc.devRef .tc main_v65)) shapeCasts_S32x3_S96 := by
  after_results <;> rfl

theorem at17_v68 (c : Dev nD) : W17 m ρ c (Proc.devRef .tc main_v68) = shapeCast S4x3x2048 (W16 m ρ c (Proc.devRef .tc main_v67)) shapeCasts_S12x2048_S4x3x2048 := by
  after_results <;> rfl

theorem after_take96 (V : Valuation τ sig (Elt Ideal)) :
    StableHlo.after hostOps7_3 V (Proc.devRef .tc main_v70) = take96 (V (Proc.devRef .tc main_v27)) (V (Proc.devRef .tc main_v69)) := by
  unfold take96 inside96 start96
  after_results <;> rfl

theorem at18_v70 (c : Dev nD) : W18 m ρ c (Proc.devRef .tc main_v70) = take96 (W17 m ρ c (Proc.devRef .tc main_v27)) (W17 m ρ c (Proc.devRef .tc main_v69)) :=
  after_take96 _

theorem at19_v72 (c : Dev nD) : W19 m ρ c (Proc.devRef .tc main_v72) = broadcastInDim S1x4x3x2048 ![1, 2, 3] bcast_S4x3x2048_S1x4x3x2048_1_2_3 (W18 m ρ c (Proc.devRef .tc main_v68)) := by
  after_results <;> rfl

theorem at19_v73 (c : Dev nD) : W19 m ρ c (Proc.devRef .tc main_v73) = broadcastInDim S1x32x3x2048 ![1, 2, 3] bcast_S32x3x2048_S1x32x3x2048_1_2_3
    (shapeCast S32x3x2048 (W18 m ρ c (Proc.devRef .tc main_v70)) shapeCasts_S96x2048_S32x3x2048) := by
  after_results <;> rfl

end Cert.InputKernelIdeal.Value

end
-- ==== Proof.Join.lean ====
/- The rows of the prompt and of the samples under one another, and where each row comes from. -/
module

public import proofs.«01_k».proof.Proof.Layers
public import Idealize.ShloMosaic.Lib.Pointwise

@[expose] public section

set_option maxRecDepth 16384

noncomputable section

namespace Cert.Layers

open Idealize.ShloMosaic

/-- A column of the input projection at one row. -/
def entry (x g : Fin 2048 → EReal) (w : FVec Ideal ⟨3, ![1, 2048, 9280]⟩ .f32) (b : FVec Ideal ⟨2, ![1, 9280]⟩ .f32) (k : Fin 9280) : EReal :=
  dot (rms width eps x g) (fun d => w (ix3 0 d k)) + b (ix2 0 k)

section Join
variable {α : Type} {n : ℕ} (a : (⟨3, ![4, 4096, n]⟩ : Shape).Idx → α) (b : (⟨3, ![32, 64, n]⟩ : Shape).Idx → α)
  (ha : (⟨3, ![4, 4096, n]⟩ : Shape).ShapeCasts ⟨2, ![16384, n]⟩) (hb : (⟨3, ![32, 64, n]⟩ : Shape).ShapeCasts ⟨2, ![2048, n]⟩)
  (hc : Shape.Concatenates [⟨2, ![16384, n]⟩, ⟨2, ![2048, n]⟩] ⟨2, ![18432, n]⟩ 0)

theorem join_prompt (p : Fin 4) (s : Fin 4096) (j : Fin n) (R : Fin 18432) (hR : R.val = 4096 * p.val + s.val) :
    concatenate ⟨2, ![18432, n]⟩ 0 [⟨⟨2, ![16384, n]⟩, shapeCast _ a ha⟩, ⟨⟨2, ![2048, n]⟩, shapeCast _ b hb⟩] hc (ix2 R j) = a (ix3 p s j) := by
  have hlt : R.val < 16384 := by omega
  refine (concatenate_pair_apply_left 0 _ _ hc (ix2 R j) rfl (ix2 ⟨R.val, hlt⟩ j) fun b => ?_).trans ?_
  · match b with
    | ⟨0, _⟩ => rfl
    | ⟨1, _⟩ => rfl
  · refine shapeCast_apply _ _ _ _ ?_
    rw [Shape.rowMajor_val_two, Shape.rowMajor_val_three]
    show (p.val * 4096 + s.val) * n + j.val = R.val * n + j.val
    rw [hR, Nat.mul_comm p.val]

theorem join_sample (p : Fin 32) (s : Fin 64) (j : Fin n) (R : Fin 18432) (hR : R.val = 16384 + (64 * p.val + s.val)) :
    concatenate ⟨2, ![18432, n]⟩ 0 [⟨⟨2, ![16384, n]⟩, shapeCast _ a ha⟩, ⟨⟨2, ![2048, n]⟩, shapeCast _ b hb⟩] hc (ix2 R j) = b (ix3 p s j) := by
  have hlt : R.val - 16384 < 2048 := by omega
  refine (concatenate_pair_apply_right 0 _ _ hc (ix2 R j) rfl rfl (ix2 ⟨R.val - 16384, hlt⟩ j) (fun e he => ?_) ?_).trans ?_
  · fin_cases e
    · exact absurd (Fin.ext rfl) he
    · rfl
  · exact Nat.sub_add_cancel (show 16384 ≤ R.val by omega)
  · refine shapeCast_apply _ _ _ _ ?_
    rw [Shape.rowMajor_val_two, Shape.rowMajor_val_three]
    show (p.val * 64 + s.val) * n + j.val = (R.val - 16384) * n + j.val
    rw [show R.val - 16384 = p.val * 64 + s.val by omega]

/-- Every row is one of the prompt's or one of the samples'. -/
theorem row_cases (R : Fin 18432) :
    (∃ (p : Fin 4) (s : Fin 4096), R.val = 4096 * p.val + s.val) ∨ ∃ (p : Fin 32) (s : Fin 64), R.val = 16384 + (64 * p.val + s.val) := by
  rcases lt_or_ge R.val 16384 with h | h
  · exact Or.inl ⟨⟨R.val / 4096, by omega⟩, ⟨R.val % 4096, by omega⟩, by dsimp only; omega⟩
  · exact Or.inr ⟨⟨(R.val - 16384) / 64, by omega⟩, ⟨(R.val - 16384) % 64, by omega⟩, by dsimp only; omega⟩

end Join

end Cert.Layers

end
-- ==== Proof.InputResult.lean ====
/- The arrays of the input projections after the run, entry by entry from the arguments. -/
module

public import proofs.«01_k».proof.Proof.InputRegions
public import proofs.«01_k».proof.Proof.InputTake
public import proofs.«01_k».proof.Proof.Join
public import Idealize.ShloMosaic.Lib.Claim
public import Idealize.ShloMosaic.Lib.Pointwise

@[expose] public section

set_option maxRecDepth 16384

noncomputable section

namespace Cert.InputKernelIdeal.Value

open Idealize.ShloMosaic Idealize.ShloMosaic.TcCoe Idealize.SL.Sem Idealize.ShloMosaic.StableHlo
open Cert.InputKernelIdeal Cert.InputKernelIdeal.Gen Cert.Layers

variable (m : (ℓ : Loc nD τ sig) → Buf (Elt Ideal) ℓ) (ρ : Dev nD → PrngReg)

/-- The prompt's and the samples' rows under one another. -/
def stack (xp : FVec Ideal S4x4096x2048 .f32) (xs : FVec Ideal S32x64x2048 .f32) : FVec Ideal S18432x2048 .f32 :=
  concatenate S18432x2048 0 [⟨S16384x2048, shapeCast S16384x2048 xp shapeCasts_S4x4096x2048_S16384x2048⟩, ⟨S2048x2048, shapeCast S2048x2048 xs shapeCasts_S32x64x2048_S2048x2048⟩] concatenates_S16384x2048_S2048x2048_S18432x2048_d0

/-- A gain as the kernel's row. -/
def gain (g : FVec Ideal S1x2048 .f32) : FVec Ideal S1x2048 .f32 := shapeCast S1x2048 (shapeCast S2048 g shapeCasts_S1x2048_S2048) shapeCasts_S2048_S1x2048

/-- A latent's gain as the kernel's row. -/
def gainLatent (g : FVec Ideal S1x512 .f32) : FVec Ideal S1x512 .f32 := shapeCast S1x512 (shapeCast S512 g shapeCasts_S1x512_S512) shapeCasts_S512_S1x512

/-- The weight as a matrix, the bias as a vector. -/
def matrix (w : FVec Ideal S1x2048x9280 .f32) : FVec Ideal S2048x9280 .f32 := shapeCast S2048x9280 w shapeCasts_S1x2048x9280_S2048x9280
def vector (b : FVec Ideal S1x9280 .f32) : FVec Ideal S9280 .f32 := shapeCast S9280 b shapeCasts_S1x9280_S9280

/-- The normed rows of the prompt and the samples. -/
def hn (c : Dev nD) : FVec Ideal S18432x2048 .bf16 :=
  normed (stack (m ((c : Thread nD τ).loc main_arg0)) (m ((c : Thread nD τ).loc main_arg1))) (gain (m ((c : Thread nD τ).loc main_arg2)))

theorem at1_v22 (c : Dev nD) : W1 m ρ c (Proc.devRef .tc main_v22) = stack (m ((c : Thread nD τ).loc main_arg0)) (m ((c : Thread nD τ).loc main_arg1)) := by
  unfold stack
  after_results <;> rfl

theorem at1_v24 (c : Dev nD) : W1 m ρ c (Proc.devRef .tc main_v24) = gain (m ((c : Thread nD τ).loc main_arg2)) := by
  unfold gain
  after_results <;> rfl

theorem at2_v25 (c : Dev nD) : W2 m ρ c (Proc.devRef .tc main_v25) = hn m c :=
  (W2_arr m ρ c 2).trans ((final0 (V1 m ρ) c).trans (congrArg₂ normed (at1_v22 m ρ c) (at1_v24 m ρ c)))

/-! The call that leaves `v27`: columns 0 to 2048 of the weight. -/

theorem at1_v3 (c : Dev nD) : W1 m ρ c (Proc.devRef .tc main_v3) = truncf .bf16 (extractStridedSlice S2048x2048 ![0, 0] (matrix (m ((c : Thread nD τ).loc main_arg3))) slices_S2048x9280_S2048x2048_0_0) bitsLt_bf16_f32 := by
  unfold matrix
  after_results <;> rfl

theorem at1_v4 (c : Dev nD) : W1 m ρ c (Proc.devRef .tc main_v4) = extractStridedSlice S2048 ![0] (vector (m ((c : Thread nD τ).loc main_arg4))) slices_S9280_S2048_0 := by
  unfold vector
  after_results <;> rfl

theorem at3_v3 (c : Dev nD) : W3 m ρ c (Proc.devRef .tc main_v3) = truncf .bf16 (extractStridedSlice S2048x2048 ![0, 0] (matrix (m ((c : Thread nD τ).loc main_arg3))) slices_S2048x9280_S2048x2048_0_0) bitsLt_bf16_f32 :=
  (W3_of m ρ c main_v3 (by decide)).trans ((W2_of m ρ c main_v3 (by decide)).trans (at1_v3 m ρ c))

theorem at3_v25 (c : Dev nD) : W3 m ρ c (Proc.devRef .tc main_v25) = hn m c :=
  (W3_of m ρ c main_v25 (by decide)).trans (at2_v25 m ρ c)

theorem at2_v4 (c : Dev nD) : W2 m ρ c (Proc.devRef .tc main_v4) = extractStridedSlice S2048 ![0] (vector (m ((c : Thread nD τ).loc main_arg4))) slices_S9280_S2048_0 :=
  (W2_of m ρ c main_v4 (by decide)).trans (at1_v4 m ρ c)

theorem at3_v26 (c : Dev nD) : W3 m ρ c (Proc.devRef .tc main_v26) = shapeCast S1x2048 (extractStridedSlice S2048 ![0] (vector (m ((c : Thread nD τ).loc main_arg4))) slices_S9280_S2048_0) shapeCasts_S2048_S1x2048 := by
  rw [← at2_v4 m ρ c]
  after_results <;> rfl

/-- What the call leaves. -/
def res1 (c : Dev nD) : FVec Ideal S18432x2048 .f32 := mapped .f32 id (hn m c) (truncf .bf16 (extractStridedSlice S2048x2048 ![0, 0] (matrix (m ((c : Thread nD τ).loc main_arg3))) slices_S2048x9280_S2048x2048_0_0) bitsLt_bf16_f32) (shapeCast S1x2048 (extractStridedSlice S2048 ![0] (vector (m ((c : Thread nD τ).loc main_arg4))) slices_S9280_S2048_0) shapeCasts_S2048_S1x2048)

theorem at4_v27 (c : Dev nD) : W4 m ρ c (Proc.devRef .tc main_v27) = res1 m c := by
  refine (W4_arr m ρ c 3).trans ((final1 (V3 m ρ) c).trans ?_)
  unfold res1
  rw [show V3 m ρ c main_v25 = hn m c from at3_v25 m ρ c, show V3 m ρ c main_v3 = _ from at3_v3 m ρ c, show V3 m ρ c main_v26 = _ from at3_v26 m ρ c]

theorem at19_v27 (c : Dev nD) : W19 m ρ c (Proc.devRef .tc main_v27) = res1 m c :=
  (W19_of m ρ c main_v27 (by decide)).trans ((W18_of m ρ c main_v27 (by decide)).trans ((W17_of m ρ c main_v27 (by decide)).trans ((W16_of m ρ c main_v27 (by decide)).trans ((W15_of m ρ c main_v27 (by decide)).trans ((W14_of m ρ c main_v27 (by decide)).trans ((W13_of m ρ c main_v27 (by decide)).trans ((W12_of m ρ c main_v27 (by decide)).trans ((W11_of m ρ c main_v27 (by decide)).trans ((W10_of m ρ c main_v27 (by decide)).trans ((W9_of m ρ c main_v27 (by decide)).trans ((W8_of m ρ c main_v27 (by decide)).trans ((W7_of m ρ c main_v27 (by decide)).trans ((W6_of m ρ c main_v27 (by decide)).trans ((W5_of m ρ c main_v27 (by decide)).trans (at4_v27 m ρ c)))))))))))))))

/-! The call that leaves `v29`: columns 2048 to 4096 of the weight. -/

theorem at1_v6 (c : Dev nD) : W1 m ρ c (Proc.devRef .tc main_v6) = truncf .bf16 (extractStridedSlice S2048x2048 ![0, 2048] (matrix (m ((c : Thread nD τ).loc main_arg3))) slices_S2048x9280_S2048x2048_0_2048) bitsLt_bf16_f32 := by
  unfold matrix
  after_results <;> rfl

theorem at1_v7 (c : Dev nD) : W1 m ρ c (Proc.devRef .tc main_v7) = extractStridedSlice S2048 ![2048] (vector (m ((c : Thread nD τ).loc main_arg4))) slices_S9280_S2048_2048 := by
  unfold vector
  after_results <;> rfl

theorem at5_v6 (c : Dev nD) : W5 m ρ c (Proc.devRef .tc main_v6) = truncf .bf16 (extractStridedSlice S2048x2048 ![0, 2048] (matrix (m ((c : Thread nD τ).loc main_arg3))) slices_S2048x9280_S2048x2048_0_2048) bitsLt_bf16_f32 :=
  (W5_of m ρ c main_v6 (by decide)).trans ((W4_of m ρ c main_v6 (by decide)).trans ((W3_of m ρ c main_v6 (by decide)).trans ((W2_of m ρ c main_v6 (by decide)).trans (at1_v6 m ρ c))))

theorem at5_v25 (c : Dev nD) : W5 m ρ c (Proc.devRef .tc main_v25) = hn m c :=
  (W5_of m ρ c main_v25 (by decide)).trans ((W4_of m ρ c main_v25 (by decide)).trans ((W3_of m ρ c main_v25 (by decide)).trans (at2_v25 m ρ c)))

theorem at4_v7 (c : Dev nD) : W4 m ρ c (Proc.devRef .tc main_v7) = extractStridedSlice S2048 ![2048] (vector (m ((c : Thread nD τ).loc main_arg4))) slices_S9280_S2048_2048 :=
  (W4_of m ρ c main_v7 (by decide)).trans ((W3_of m ρ c main_v7 (by decide)).trans ((W2_of m ρ c main_v7 (by decide)).trans (at1_v7 m ρ c)))

theorem at5_v28 (c : Dev nD) : W5 m ρ c (Proc.devRef .tc main_v28) = shapeCast S1x2048 (extractStridedSlice S2048 ![2048] (vector (m ((c : Thread nD τ).loc main_arg4))) slices_S9280_S2048_2048) shapeCasts_S2048_S1x2048 := by
  rw [← at4_v7 m ρ c]
  after_results <;> rfl

/-- What the call leaves. -/
def res2 (c : Dev nD) : FVec Ideal S18432x2048 .bf16 := mapped .bf16 gelu (hn m c) (truncf .bf16 (extractStridedSlice S2048x2048 ![0, 2048] (matrix (m ((c : Thread nD τ).loc main_arg3))) slices_S2048x9280_S2048x2048_0_2048) bitsLt_bf16_f32) (shapeCast S1x2048 (extractStridedSlice S2048 ![2048] (vector (m ((c : Thread nD τ).loc main_arg4))) slices_S9280_S2048_2048) shapeCasts_S2048_S1x2048)

theorem at6_v29 (c : Dev nD) : W6 m ρ c (Proc.devRef .tc main_v29) = res2 m c := by
  refine (W6_arr m ρ c 3).trans ((final2 (V5 m ρ) c).trans ?_)
  unfold res2
  rw [show V5 m ρ c main_v25 = hn m c from at5_v25 m ρ c, show V5 m ρ c main_v6 = _ from at5_v6 m ρ c, show V5 m ρ c main_v28 = _ from at5_v28 m ρ c]

theorem at19_v29 (c : Dev nD) : W19 m ρ c (Proc.devRef .tc main_v29) = res2 m c :=
  (W19_of m ρ c main_v29 (by decide)).trans ((W18_of m ρ c main_v29 (by decide)).trans ((W17_of m ρ c main_v29 (by decide)).trans ((W16_of m ρ c main_v29 (by decide)).trans ((W15_of m ρ c main_v29 (by decide)).trans ((W14_of m ρ c main_v29 (by decide)).trans ((W13_of m ρ c main_v29 (by decide)).trans ((W12_of m ρ c main_v29 (by decide)).trans ((W11_of m ρ c main_v29 (by decide)).trans ((W10_of m ρ c main_v29 (by decide)).trans ((W9_of m ρ c main_v29 (by decide)).trans ((W8_of m ρ c main_v29 (by decide)).trans ((W7_of m ρ c main_v29 (by decide)).trans (at6_v29 m ρ c)))))))))))))

/-! The call that leaves `v31`: columns 5184 to 7232 of the weight. -/

theorem at1_v15 (c : Dev nD) : W1 m ρ c (Proc.devRef .tc main_v15) = truncf .bf16 (extractStridedSlice S2048x2048 ![0, 5184] (matrix (m ((c : Thread nD τ).loc main_arg3))) slices_S2048x9280_S2048x2048_0_5184) bitsLt_bf16_f32 := by
  unfold matrix
  after_results <;> rfl

theorem at1_v16 (c : Dev nD) : W1 m ρ c (Proc.devRef .tc main_v16) = extractStridedSlice S2048 ![5184] (vector (m ((c : Thread nD τ).loc main_arg4))) slices_S9280_S2048_5184 := by
  unfold vector
  after_results <;> rfl

theorem at7_v15 (c : Dev nD) : W7 m ρ c (Proc.devRef .tc main_v15) = truncf .bf16 (extractStridedSlice S2048x2048 ![0, 5184] (matrix (m ((c : Thread nD τ).loc main_arg3))) slices_S2048x9280_S2048x2048_0_5184) bitsLt_bf16_f32 :=
  (W7_of m ρ c main_v15 (by decide)).trans ((W6_of m ρ c main_v15 (by decide)).trans ((W5_of m ρ c main_v15 (by decide)).trans ((W4_of m ρ c main_v15 (by decide)).trans ((W3_of m ρ c main_v15 (by decide)).trans ((W2_of m ρ c main_v15 (by decide)).trans (at1_v15 m ρ c))))))

theorem at7_v25 (c : Dev nD) : W7 m ρ c (Proc.devRef .tc main_v25) = hn m c :=
  (W7_of m ρ c main_v25 (by decide)).trans ((W6_of m ρ c main_v25 (by decide)).trans ((W5_of m ρ c main_v25 (by decide)).trans ((W4_of m ρ c main_v25 (by decide)).trans ((W3_of m ρ c main_v25 (by decide)).trans (at2_v25 m ρ c)))))

theorem at6_v16 (c : Dev nD) : W6 m ρ c (Proc.devRef .tc main_v16) = extractStridedSlice S2048 ![5184] (vector (m ((c : Thread nD τ).loc main_arg4))) slices_S9280_S2048_5184 :=
  (W6_of m ρ c main_v16 (by decide)).trans ((W5_of m ρ c main_v16 (by decide)).trans ((W4_of m ρ c main_v16 (by decide)).trans ((W3_of m ρ c main_v16 (by decide)).trans ((W2_of m ρ c main_v16 (by decide)).trans (at1_v16 m ρ c)))))

theorem at7_v30 (c : Dev nD) : W7 m ρ c (Proc.devRef .tc main_v30) = shapeCast S1x2048 (extractStridedSlice S2048 ![5184] (vector (m ((c : Thread nD τ).loc main_arg4))) slices_S9280_S2048_5184) shapeCasts_S2048_S1x2048 := by
  rw [← at6_v16 m ρ c]
  after_results <;> rfl

/-- What the call leaves. -/
def res3 (c : Dev nD) : FVec Ideal S18432x2048 .bf16 := mapped .bf16 Ideal.logistic (hn m c) (truncf .bf16 (extractStridedSlice S2048x2048 ![0, 5184] (matrix (m ((c : Thread nD τ).loc main_arg3))) slices_S2048x9280_S2048x2048_0_5184) bitsLt_bf16_f32) (shapeCast S1x2048 (extractStridedSlice S2048 ![5184] (vector (m ((c : Thread nD τ).loc main_arg4))) slices_S9280_S2048_5184) shapeCasts_S2048_S1x2048)

theorem at8_v31 (c : Dev nD) : W8 m ρ c (Proc.devRef .tc main_v31) = res3 m c := by
  refine (W8_arr m ρ c 3).trans ((final3 (V7 m ρ) c).trans ?_)
  unfold res3
  rw [show V7 m ρ c main_v25 = hn m c from at7_v25 m ρ c, show V7 m ρ c main_v15 = _ from at7_v15 m ρ c, show V7 m ρ c main_v30 = _ from at7_v30 m ρ c]

theorem at19_v31 (c : Dev nD) : W19 m ρ c (Proc.devRef .tc main_v31) = res3 m c :=
  (W19_of m ρ c main_v31 (by decide)).trans ((W18_of m ρ c main_v31 (by decide)).trans ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans ((W10_of m ρ c main_v31 (by decide)).trans ((W9_of m ρ c main_v31 (by decide)).trans (at8_v31 m ρ c)))))))))))

/-! The call that leaves `v33`: columns 7232 to 9280 of the weight. -/

theorem at1_v18 (c : Dev nD) : W1 m ρ c (Proc.devRef .tc main_v18) = truncf .bf16 (extractStridedSlice S2048x2048 ![0, 7232] (matrix (m ((c : Thread nD τ).loc main_arg3))) slices_S2048x9280_S2048x2048_0_7232) bitsLt_bf16_f32 := by
  unfold matrix
  after_results <;> rfl

theorem at1_v19 (c : Dev nD) : W1 m ρ c (Proc.devRef .tc main_v19) = extractStridedSlice S2048 ![7232] (vector (m ((c : Thread nD τ).loc main_arg4))) slices_S9280_S2048_7232 := by
  unfold vector
  after_results <;> rfl

theorem at9_v18 (c : Dev nD) : W9 m ρ c (Proc.devRef .tc main_v18) = truncf .bf16 (extractStridedSlice S2048x2048 ![0, 7232] (matrix (m ((c : Thread nD τ).loc main_arg3))) slices_S2048x9280_S2048x2048_0_7232) bitsLt_bf16_f32 :=
  (W9_of m ρ c main_v18 (by decide)).trans ((W8_of m ρ c main_v18 (by decide)).trans ((W7_of m ρ c main_v18 (by decide)).trans ((W6_of m ρ c main_v18 (by decide)).trans ((W5_of m ρ c main_v18 (by decide)).trans ((W4_of m ρ c main_v18 (by decide)).trans ((W3_of m ρ c main_v18 (by decide)).trans ((W2_of m ρ c main_v18 (by decide)).trans (at1_v18 m ρ c))))))))

theorem at9_v25 (c : Dev nD) : W9 m ρ c (Proc.devRef .tc main_v25) = hn m c :=
  (W9_of m ρ c main_v25 (by decide)).trans ((W8_of m ρ c main_v25 (by decide)).trans ((W7_of m ρ c main_v25 (by decide)).trans ((W6_of m ρ c main_v25 (by decide)).trans ((W5_of m ρ c main_v25 (by decide)).trans ((W4_of m ρ c main_v25 (by decide)).trans ((W3_of m ρ c main_v25 (by decide)).trans (at2_v25 m ρ c)))))))

theorem at8_v19 (c : Dev nD) : W8 m ρ c (Proc.devRef .tc main_v19) = extractStridedSlice S2048 ![7232] (vector (m ((c : Thread nD τ).loc main_arg4))) slices_S9280_S2048_7232 :=
  (W8_of m ρ c main_v19 (by decide)).trans ((W7_of m ρ c main_v19 (by decide)).trans ((W6_of m ρ c main_v19 (by decide)).trans ((W5_of m ρ c main_v19 (by decide)).trans ((W4_of m ρ c main_v19 (by decide)).trans ((W3_of m ρ c main_v19 (by decide)).trans ((W2_of m ρ c main_v19 (by decide)).trans (at1_v19 m ρ c)))))))

theorem at9_v32 (c : Dev nD) : W9 m ρ c (Proc.devRef .tc main_v32) = shapeCast S1x2048 (extractStridedSlice S2048 ![7232] (vector (m ((c : Thread nD τ).loc main_arg4))) slices_S9280_S2048_7232) shapeCasts_S2048_S1x2048 := by
  rw [← at8_v19 m ρ c]
  after_results <;> rfl

/-- What the call leaves. -/
def res4 (c : Dev nD) : FVec Ideal S18432x2048 .bf16 := mapped .bf16 Ideal.logistic (hn m c) (truncf .bf16 (extractStridedSlice S2048x2048 ![0, 7232] (matrix (m ((c : Thread nD τ).loc main_arg3))) slices_S2048x9280_S2048x2048_0_7232) bitsLt_bf16_f32) (shapeCast S1x2048 (extractStridedSlice S2048 ![7232] (vector (m ((c : Thread nD τ).loc main_arg4))) slices_S9280_S2048_7232) shapeCasts_S2048_S1x2048)

theorem at10_v33 (c : Dev nD) : W10 m ρ c (Proc.devRef .tc main_v33) = res4 m c := by
  refine (W10_arr m ρ c 3).trans ((final4 (V9 m ρ) c).trans ?_)
  unfold res4
  rw [show V9 m ρ c main_v25 = hn m c from at9_v25 m ρ c, show V9 m ρ c main_v18 = _ from at9_v18 m ρ c, show V9 m ρ c main_v32 = _ from at9_v32 m ρ c]

theorem at19_v33 (c : Dev nD) : W19 m ρ c (Proc.devRef .tc main_v33) = res4 m c :=
  (W19_of m ρ c main_v33 (by decide)).trans ((W18_of m ρ c main_v33 (by decide)).trans ((W17_of m ρ c main_v33 (by decide)).trans ((W16_of m ρ c main_v33 (by decide)).trans ((W15_of m ρ c main_v33 (by decide)).trans ((W14_of m ρ c main_v33 (by decide)).trans ((W13_of m ρ c main_v33 (by decide)).trans ((W12_of m ρ c main_v33 (by decide)).trans ((W11_of m ρ c main_v33 (by decide)).trans (at10_v33 m ρ c)))))))))

/-! The call that leaves `v37`: columns 4096 to 4608 of the weight. -/

theorem at1_v9 (c : Dev nD) : W1 m ρ c (Proc.devRef .tc main_v9) = truncf .bf16 (extractStridedSlice S2048x512 ![0, 4096] (matrix (m ((c : Thread nD τ).loc main_arg3))) slices_S2048x9280_S2048x512_0_4096) bitsLt_bf16_f32 := by
  unfold matrix
  after_results <;> rfl

theorem at1_v10 (c : Dev nD) : W1 m ρ c (Proc.devRef .tc main_v10) = extractStridedSlice S512 ![4096] (vector (m ((c : Thread nD τ).loc main_arg4))) slices_S9280_S512_4096 := by
  unfold vector
  after_results <;> rfl

theorem at11_v9 (c : Dev nD) : W11 m ρ c (Proc.devRef .tc main_v9) = truncf .bf16 (extractStridedSlice S2048x512 ![0, 4096] (matrix (m ((c : Thread nD τ).loc main_arg3))) slices_S2048x9280_S2048x512_0_4096) bitsLt_bf16_f32 :=
  (W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans ((W2_of m ρ c main_v9 (by decide)).trans (at1_v9 m ρ c))))))))))

theorem at11_v25 (c : Dev nD) : W11 m ρ c (Proc.devRef .tc main_v25) = hn m c :=
  (W11_of m ρ c main_v25 (by decide)).trans ((W10_of m ρ c main_v25 (by decide)).trans ((W9_of m ρ c main_v25 (by decide)).trans ((W8_of m ρ c main_v25 (by decide)).trans ((W7_of m ρ c main_v25 (by decide)).trans ((W6_of m ρ c main_v25 (by decide)).trans ((W5_of m ρ c main_v25 (by decide)).trans ((W4_of m ρ c main_v25 (by decide)).trans ((W3_of m ρ c main_v25 (by decide)).trans (at2_v25 m ρ c)))))))))

theorem at10_v10 (c : Dev nD) : W10 m ρ c (Proc.devRef .tc main_v10) = extractStridedSlice S512 ![4096] (vector (m ((c : Thread nD τ).loc main_arg4))) slices_S9280_S512_4096 :=
  (W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide)).trans ((W2_of m ρ c main_v10 (by decide)).trans (at1_v10 m ρ c)))))))))

theorem at11_v36 (c : Dev nD) : W11 m ρ c (Proc.devRef .tc main_v36) = shapeCast S1x512 (extractStridedSlice S512 ![4096] (vector (m ((c : Thread nD τ).loc main_arg4))) slices_S9280_S512_4096) shapeCasts_S512_S1x512 := by
  rw [← at10_v10 m ρ c]
  after_results <;> rfl

theorem at11_v35 (c : Dev nD) : W11 m ρ c (Proc.devRef .tc main_v35) = gainLatent (m ((c : Thread nD τ).loc main_arg5)) := by
  rw [show m ((c : Thread nD τ).loc main_arg5) = W10 m ρ c (Proc.devRef .tc main_arg5) from (W10_args m ρ c main_arg5 (by decide)).symm]
  unfold gainLatent
  after_results <;> rfl

/-- What the call leaves. -/
def res5 (c : Dev nD) : FVec Ideal S18432x512 .bf16 := latents .bf16 (hn m c) (truncf .bf16 (extractStridedSlice S2048x512 ![0, 4096] (matrix (m ((c : Thread nD τ).loc main_arg3))) slices_S2048x9280_S2048x512_0_4096) bitsLt_bf16_f32) (shapeCast S1x512 (extractStridedSlice S512 ![4096] (vector (m ((c : Thread nD τ).loc main_arg4))) slices_S9280_S512_4096) shapeCasts_S512_S1x512) (gainLatent (m ((c : Thread nD τ).loc main_arg5)))

theorem at12_v37 (c : Dev nD) : W12 m ρ c (Proc.devRef .tc main_v37) = res5 m c := by
  refine (W12_arr m ρ c 4).trans ((final5 (V11 m ρ) c).trans ?_)
  unfold res5
  rw [show V11 m ρ c main_v25 = hn m c from at11_v25 m ρ c, show V11 m ρ c main_v9 = _ from at11_v9 m ρ c, show V11 m ρ c main_v36 = _ from at11_v36 m ρ c,
    show V11 m ρ c main_v35 = _ from at11_v35 m ρ c]

theorem at19_v37 (c : Dev nD) : W19 m ρ c (Proc.devRef .tc main_v37) = res5 m c :=
  (W19_of m ρ c main_v37 (by decide)).trans ((W18_of m ρ c main_v37 (by decide)).trans ((W17_of m ρ c main_v37 (by decide)).trans ((W16_of m ρ c main_v37 (by decide)).trans ((W15_of m ρ c main_v37 (by decide)).trans ((W14_of m ρ c main_v37 (by decide)).trans ((W13_of m ρ c main_v37 (by decide)).trans (at12_v37 m ρ c)))))))

/-! The call that leaves `v41`: columns 4608 to 5120 of the weight. -/

theorem at1_v12 (c : Dev nD) : W1 m ρ c (Proc.devRef .tc main_v12) = truncf .bf16 (extractStridedSlice S2048x512 ![0, 4608] (matrix (m ((c : Thread nD τ).loc main_arg3))) slices_S2048x9280_S2048x512_0_4608) bitsLt_bf16_f32 := by
  unfold matrix
  after_results <;> rfl

theorem at1_v13 (c : Dev nD) : W1 m ρ c (Proc.devRef .tc main_v13) = extractStridedSlice S512 ![4608] (vector (m ((c : Thread nD τ).loc main_arg4))) slices_S9280_S512_4608 := by
  unfold vector
  after_results <;> rfl

theorem at13_v12 (c : Dev nD) : W13 m ρ c (Proc.devRef .tc main_v12) = truncf .bf16 (extractStridedSlice S2048x512 ![0, 4608] (matrix (m ((c : Thread nD τ).loc main_arg3))) slices_S2048x9280_S2048x512_0_4608) bitsLt_bf16_f32 :=
  (W13_of m ρ c main_v12 (by decide)).trans ((W12_of m ρ c main_v12 (by decide)).trans ((W11_of m ρ c main_v12 (by decide)).trans ((W10_of m ρ c main_v12 (by decide)).trans ((W9_of m ρ c main_v12 (by decide)).trans ((W8_of m ρ c main_v12 (by decide)).trans ((W7_of m ρ c main_v12 (by decide)).trans ((W6_of m ρ c main_v12 (by decide)).trans ((W5_of m ρ c main_v12 (by decide)).trans ((W4_of m ρ c main_v12 (by decide)).trans ((W3_of m ρ c main_v12 (by decide)).trans ((W2_of m ρ c main_v12 (by decide)).trans (at1_v12 m ρ c))))))))))))

theorem at13_v25 (c : Dev nD) : W13 m ρ c (Proc.devRef .tc main_v25) = hn m c :=
  (W13_of m ρ c main_v25 (by decide)).trans ((W12_of m ρ c main_v25 (by decide)).trans ((W11_of m ρ c main_v25 (by decide)).trans ((W10_of m ρ c main_v25 (by decide)).trans ((W9_of m ρ c main_v25 (by decide)).trans ((W8_of m ρ c main_v25 (by decide)).trans ((W7_of m ρ c main_v25 (by decide)).trans ((W6_of m ρ c main_v25 (by decide)).trans ((W5_of m ρ c main_v25 (by decide)).trans ((W4_of m ρ c main_v25 (by decide)).trans ((W3_of m ρ c main_v25 (by decide)).trans (at2_v25 m ρ c)))))))))))

theorem at12_v13 (c : Dev nD) : W12 m ρ c (Proc.devRef .tc main_v13) = extractStridedSlice S512 ![4608] (vector (m ((c : Thread nD τ).loc main_arg4))) slices_S9280_S512_4608 :=
  (W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)).trans ((W4_of m ρ c main_v13 (by decide)).trans ((W3_of m ρ c main_v13 (by decide)).trans ((W2_of m ρ c main_v13 (by decide)).trans (at1_v13 m ρ c)))))))))))

theorem at13_v40 (c : Dev nD) : W13 m ρ c (Proc.devRef .tc main_v40) = shapeCast S1x512 (extractStridedSlice S512 ![4608] (vector (m ((c : Thread nD τ).loc main_arg4))) slices_S9280_S512_4608) shapeCasts_S512_S1x512 := by
  rw [← at12_v13 m ρ c]
  after_results <;> rfl

theorem at13_v39 (c : Dev nD) : W13 m ρ c (Proc.devRef .tc main_v39) = gainLatent (m ((c : Thread nD τ).loc main_arg6)) := by
  rw [show m ((c : Thread nD τ).loc main_arg6) = W12 m ρ c (Proc.devRef .tc main_arg6) from (W12_args m ρ c main_arg6 (by decide)).symm]
  unfold gainLatent
  after_results <;> rfl

/-- What the call leaves. -/
def res6 (c : Dev nD) : FVec Ideal S18432x512 .f32 := latents .f32 (hn m c) (truncf .bf16 (extractStridedSlice S2048x512 ![0, 4608] (matrix (m ((c : Thread nD τ).loc main_arg3))) slices_S2048x9280_S2048x512_0_4608) bitsLt_bf16_f32) (shapeCast S1x512 (extractStridedSlice S512 ![4608] (vector (m ((c : Thread nD τ).loc main_arg4))) slices_S9280_S512_4608) shapeCasts_S512_S1x512) (gainLatent (m ((c : Thread nD τ).loc main_arg6)))

theorem at14_v41 (c : Dev nD) : W14 m ρ c (Proc.devRef .tc main_v41) = res6 m c := by
  refine (W14_arr m ρ c 4).trans ((final6 (V13 m ρ) c).trans ?_)
  unfold res6
  rw [show V13 m ρ c main_v25 = hn m c from at13_v25 m ρ c, show V13 m ρ c main_v12 = _ from at13_v12 m ρ c, show V13 m ρ c main_v40 = _ from at13_v40 m ρ c,
    show V13 m ρ c main_v39 = _ from at13_v39 m ρ c]

theorem at18_v41 (c : Dev nD) : W18 m ρ c (Proc.devRef .tc main_v41) = res6 m c :=
  (W18_of m ρ c main_v41 (by decide)).trans ((W17_of m ρ c main_v41 (by decide)).trans ((W16_of m ρ c main_v41 (by decide)).trans ((W15_of m ρ c main_v41 (by decide)).trans (at14_v41 m ρ c))))

/-! The rows taken and the latents in the caller's shape. -/

theorem at15_v27 (c : Dev nD) : W15 m ρ c (Proc.devRef .tc main_v27) = res1 m c :=
  (W15_of m ρ c main_v27 (by decide)).trans ((W14_of m ρ c main_v27 (by decide)).trans ((W13_of m ρ c main_v27 (by decide)).trans ((W12_of m ρ c main_v27 (by decide)).trans ((W11_of m ρ c main_v27 (by decide)).trans ((W10_of m ρ c main_v27 (by decide)).trans ((W9_of m ρ c main_v27 (by decide)).trans ((W8_of m ρ c main_v27 (by decide)).trans ((W7_of m ρ c main_v27 (by decide)).trans ((W6_of m ρ c main_v27 (by decide)).trans ((W5_of m ρ c main_v27 (by decide)).trans (at4_v27 m ρ c)))))))))))

theorem at17_v27 (c : Dev nD) : W17 m ρ c (Proc.devRef .tc main_v27) = res1 m c :=
  (W17_of m ρ c main_v27 (by decide)).trans ((W16_of m ρ c main_v27 (by decide)).trans (at15_v27 m ρ c))

/-- The prompt's last three rows. -/
def lastPrompt (c : Dev nD) : FVec Ideal S1x4x3x2048 .f32 :=
  broadcastInDim S1x4x3x2048 ![1, 2, 3] bcast_S4x3x2048_S1x4x3x2048_1_2_3 (shapeCast S4x3x2048 (take12 (res1 m c) rows12) shapeCasts_S12x2048_S4x3x2048)

/-- Every sample's last three rows. -/
def lastSample (c : Dev nD) : FVec Ideal S1x32x3x2048 .f32 :=
  broadcastInDim S1x32x3x2048 ![1, 2, 3] bcast_S32x3x2048_S1x32x3x2048_1_2_3 (shapeCast S32x3x2048 (take96 (res1 m c) rows96) shapeCasts_S96x2048_S32x3x2048)

/-- The latents in the caller's shape. -/
def latentPrompt (c : Dev nD) : FVec Ideal S1x4x4096x512 .f32 :=
  shapeCast S1x4x4096x512 (extractStridedSlice S16384x512 ![0, 0] (res6 m c) slices_S18432x512_S16384x512_0_0) shapeCasts_S16384x512_S1x4x4096x512
def latentSample (c : Dev nD) : FVec Ideal S1x32x64x512 .f32 :=
  shapeCast S1x32x64x512 (extractStridedSlice S2048x512 ![16384, 0] (res6 m c) slices_S18432x512_S2048x512_16384_0) shapeCasts_S2048x512_S1x32x64x512

theorem at19_last (c : Dev nD) : W19 m ρ c (Proc.devRef .tc main_v72) = lastPrompt m c := by
  rw [at19_v72, W18_of m ρ c main_v68 (by decide), at17_v68, at16_v67, at15_v27, at15_v66]
  rfl

theorem at19_last_sample (c : Dev nD) : W19 m ρ c (Proc.devRef .tc main_v73) = lastSample m c := by
  rw [at19_v73, at18_v70, at17_v27, at17_v69, W16_of m ρ c main_v65 (by decide), at15_v65]
  rfl

theorem at19_latent (c : Dev nD) : W19 m ρ c (Proc.devRef .tc main_v75) = latentPrompt m c := by
  unfold latentPrompt
  rw [← at18_v41 m ρ c]
  after_results <;> rfl

theorem at19_latent_sample (c : Dev nD) : W19 m ρ c (Proc.devRef .tc main_v77) = latentSample m c := by
  unfold latentSample
  rw [← at18_v41 m ρ c]
  after_results <;> rfl

end Cert.InputKernelIdeal.Value

end
-- ==== Proof.InputReference.lean ====
/- The entries of the input reference's arrays. -/
module

public import proofs.«01_k».proof.Proof.Join
public import proofs.«01_k».proof.Proof.Gen.InputReferenceIdeal.Run
public import Idealize.ShloMosaic.Lib.Pointwise

@[expose] public section

set_option maxRecDepth 16384

noncomputable section

namespace Cert.InputReferenceIdeal.Value

open Cert.InputReferenceIdeal Cert.InputReferenceIdeal.Gen Idealize.ShloMosaic Idealize.ShloMosaic.TcCoe Idealize.SL.Sem
open Cert.Layers

theorem prompt_entry (V : Valuation τ sig (Elt Ideal)) (b : Fin 4) (s : Fin 4096) (k : Fin 9280) :
    res_main_v19 V (ix3 b s k) = entry (fun d => (V (Proc.devRef .tc main_arg0) : FVec Ideal S4x4096x2048 .f32) (ix3 b s d))
      (fun d => (V (Proc.devRef .tc main_arg2) : FVec Ideal S1x2048 .f32) (ix2 0 d)) (V (Proc.devRef .tc main_arg3)) (V (Proc.devRef .tc main_arg4)) k := by
  unfold res_main_v19
  generalize V (Proc.devRef .tc main_arg0) = x
  generalize V (Proc.devRef .tc main_arg2) = g
  generalize V (Proc.devRef .tc main_arg3) = w
  generalize V (Proc.devRef .tc main_arg4) = c
  pointwise []
  rfl

theorem prompt_gelu (z : FVec Ideal S4x4096x2048 .f32) (b : Fin 4) (s : Fin 4096) (j : Fin 2048) :
    mulf z (mulf (broadcastInDim S4x4096x2048 ![] bcast_S_S4x4096x2048 (constant S_ .f32 0x3F000000#32)) (addf (broadcastInDim S4x4096x2048 ![] bcast_S_S4x4096x2048 (constant S_ .f32 0x3F800000#32)) (Host.tanh (mulf (broadcastInDim S4x4096x2048 ![] bcast_S_S4x4096x2048 (constant S_ .f32 0x3F4C422A#32)) (addf z (mulf (broadcastInDim S4x4096x2048 ![] bcast_S_S4x4096x2048 (constant S_ .f32 0x3D372713#32)) (mulf (mulf z z) z))))))) (ix3 b s j)
      = gelu (z (ix3 b s j)) := by
  pointwise []
  unfold gelu
  rw [← mul_assoc (z (ix3 b s j)) (z (ix3 b s j)) (z (ix3 b s j))]

theorem prompt_logistic (z : FVec Ideal S4x4096x2048 .f32) (b : Fin 4) (s : Fin 4096) (j : Fin 2048) :
    Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf z))) (ix3 b s j)
      = Ideal.logistic (z (ix3 b s j)) := by
  pointwise []
  rfl

/-- A latent normed. -/
def prompt_latent (z : FVec Ideal S4x4096x512 .f32) (g : FVec Ideal S1x512 .f32) : FVec Ideal S4x4096x512 .f32 :=
  mulf (mulf z (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf z z) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ g shapeCasts_S1x512_S512)))

theorem prompt_latent_apply (z : FVec Ideal S4x4096x512 .f32) (g : FVec Ideal S1x512 .f32) (b : Fin 4) (s : Fin 4096) (j : Fin 512) :
    prompt_latent z g (ix3 b s j) = rms latent eps (fun q => z (ix3 b s q)) (fun q => g (ix2 0 q)) j := by
  unfold prompt_latent
  pointwise []
  rfl

theorem prompt_slice (z : FVec Ideal S4x4096x9280 .f32) (o : ℕ) (h : S4x4096x9280.Slices ![0, 0, o] S4x4096x2048) (b : Fin 4) (s : Fin 4096) (j : Fin 2048) (k : Fin 9280)
    (hk : k.val = o + j.val) : extractStridedSlice S4x4096x2048 ![0, 0, o] z h (ix3 b s j) = z (ix3 b s k) := by
  pointwise []
  exact congrArg (fun u => z (ix3 b s u)) (Fin.ext (by dsimp only; omega))

theorem prompt_slice_latent (z : FVec Ideal S4x4096x9280 .f32) (o : ℕ) (h : S4x4096x9280.Slices ![0, 0, o] S4x4096x512) (b : Fin 4) (s : Fin 4096) (j : Fin 512) (k : Fin 9280)
    (hk : k.val = o + j.val) : extractStridedSlice S4x4096x512 ![0, 0, o] z h (ix3 b s j) = z (ix3 b s k) := by
  pointwise []
  exact congrArg (fun u => z (ix3 b s u)) (Fin.ext (by dsimp only; omega))

theorem sample_entry (V : Valuation τ sig (Elt Ideal)) (b : Fin 32) (s : Fin 64) (k : Fin 9280) :
    res_main_v99 V (ix3 b s k) = entry (fun d => (V (Proc.devRef .tc main_arg1) : FVec Ideal S32x64x2048 .f32) (ix3 b s d))
      (fun d => (V (Proc.devRef .tc main_arg2) : FVec Ideal S1x2048 .f32) (ix2 0 d)) (V (Proc.devRef .tc main_arg3)) (V (Proc.devRef .tc main_arg4)) k := by
  unfold res_main_v99
  generalize V (Proc.devRef .tc main_arg1) = x
  generalize V (Proc.devRef .tc main_arg2) = g
  generalize V (Proc.devRef .tc main_arg3) = w
  generalize V (Proc.devRef .tc main_arg4) = c
  pointwise []
  rfl

theorem sample_gelu (z : FVec Ideal S32x64x2048 .f32) (b : Fin 32) (s : Fin 64) (j : Fin 2048) :
    mulf z (mulf (broadcastInDim S32x64x2048 ![] bcast_S_S32x64x2048 (constant S_ .f32 0x3F000000#32)) (addf (broadcastInDim S32x64x2048 ![] bcast_S_S32x64x2048 (constant S_ .f32 0x3F800000#32)) (Host.tanh (mulf (broadcastInDim S32x64x2048 ![] bcast_S_S32x64x2048 (constant S_ .f32 0x3F4C422A#32)) (addf z (mulf (broadcastInDim S32x64x2048 ![] bcast_S_S32x64x2048 (constant S_ .f32 0x3D372713#32)) (mulf (mulf z z) z))))))) (ix3 b s j)
      = gelu (z (ix3 b s j)) := by
  pointwise []
  unfold gelu
  rw [← mul_assoc (z (ix3 b s j)) (z (ix3 b s j)) (z (ix3 b s j))]

theorem sample_logistic (z : FVec Ideal S32x64x2048 .f32) (b : Fin 32) (s : Fin 64) (j : Fin 2048) :
    Host.divf (broadcastInDim S32x64x2048 ![] bcast_S_S32x64x2048 (constant S_ .f32 0x3F800000#32)) (addf (broadcastInDim S32x64x2048 ![] bcast_S_S32x64x2048 (constant S_ .f32 0x3F800000#32)) (Host.exp (Host.negf z))) (ix3 b s j)
      = Ideal.logistic (z (ix3 b s j)) := by
  pointwise []
  rfl

/-- A latent normed. -/
def sample_latent (z : FVec Ideal S32x64x512 .f32) (g : FVec Ideal S1x512 .f32) : FVec Ideal S32x64x512 .f32 :=
  mulf (mulf z (broadcastInDim S32x64x512 ![0, 1, 2] bcast_S32x64x1_S32x64x512_0_1_2 (Host.rsqrt (addf (Host.divf (broadcastInDim S32x64x1 ![0, 1] bcast_S32x64_S32x64x1_0_1 (Host.reduceAdd (mulf z z) (constant S_ .f32 0x00000000#32) reducesTo_S32x64x512_S32x64_d2 h_S_)) (broadcastInDim S32x64x1 ![] bcast_S_S32x64x1 (constant S_ .f32 0x44000000#32))) (broadcastInDim S32x64x1 ![] bcast_S_S32x64x1 (constant S_ .f32 0x358637BD#32)))))) (broadcastInDim S32x64x512 ![0, 1, 2] bcast_S1x1x512_S32x64x512_0_1_2 (broadcastInDim S1x1x512 ![2] bcast_S512_S1x1x512_2 (shapeCast _ g shapeCasts_S1x512_S512)))

theorem sample_latent_apply (z : FVec Ideal S32x64x512 .f32) (g : FVec Ideal S1x512 .f32) (b : Fin 32) (s : Fin 64) (j : Fin 512) :
    sample_latent z g (ix3 b s j) = rms latent eps (fun q => z (ix3 b s q)) (fun q => g (ix2 0 q)) j := by
  unfold sample_latent
  pointwise []
  rfl

theorem sample_slice (z : FVec Ideal S32x64x9280 .f32) (o : ℕ) (h : S32x64x9280.Slices ![0, 0, o] S32x64x2048) (b : Fin 32) (s : Fin 64) (j : Fin 2048) (k : Fin 9280)
    (hk : k.val = o + j.val) : extractStridedSlice S32x64x2048 ![0, 0, o] z h (ix3 b s j) = z (ix3 b s k) := by
  pointwise []
  exact congrArg (fun u => z (ix3 b s u)) (Fin.ext (by dsimp only; omega))

theorem sample_slice_latent (z : FVec Ideal S32x64x9280 .f32) (o : ℕ) (h : S32x64x9280.Slices ![0, 0, o] S32x64x512) (b : Fin 32) (s : Fin 64) (j : Fin 512) (k : Fin 9280)
    (hk : k.val = o + j.val) : extractStridedSlice S32x64x512 ![0, 0, o] z h (ix3 b s j) = z (ix3 b s k) := by
  pointwise []
  exact congrArg (fun u => z (ix3 b s u)) (Fin.ext (by dsimp only; omega))

end Cert.InputReferenceIdeal.Value

end
-- ==== Proof.InputEntries.lean ====
/- The entries of the input projections' arrays, and that they are the reference's. -/
module

public import proofs.«01_k».proof.Proof.InputResult
public import proofs.«01_k».proof.Proof.InputReference

@[expose] public section

set_option maxRecDepth 16384

noncomputable section

namespace Cert.InputKernelIdeal.Value

open Idealize.ShloMosaic Idealize.ShloMosaic.TcCoe Idealize.SL.Sem
open Cert.InputKernelIdeal Cert.InputKernelIdeal.Gen Cert.Layers

variable (m : (ℓ : Loc nD τ sig) → Buf (Elt Ideal) ℓ)

/-- An entry at a row of the prompt. -/
def atPrompt (c : Dev nD) (p : Fin 4) (s : Fin 4096) (k : Fin 9280) : EReal :=
  entry (fun d => (m ((c : Thread nD τ).loc main_arg0) : FVec Ideal S4x4096x2048 .f32) (ix3 p s d))
    (fun d => (m ((c : Thread nD τ).loc main_arg2) : FVec Ideal S1x2048 .f32) (ix2 0 d)) (m ((c : Thread nD τ).loc main_arg3)) (m ((c : Thread nD τ).loc main_arg4)) k

/-- An entry at a row of a sample. -/
def atSample (c : Dev nD) (p : Fin 32) (s : Fin 64) (k : Fin 9280) : EReal :=
  entry (fun d => (m ((c : Thread nD τ).loc main_arg1) : FVec Ideal S32x64x2048 .f32) (ix3 p s d))
    (fun d => (m ((c : Thread nD τ).loc main_arg2) : FVec Ideal S1x2048 .f32) (ix2 0 d)) (m ((c : Thread nD τ).loc main_arg3)) (m ((c : Thread nD τ).loc main_arg4)) k

theorem gain_apply (g : FVec Ideal S1x2048 .f32) (d : Fin 2048) : gain g (ix2 0 d) = g (ix2 0 d) := by
  unfold gain
  pointwise []

theorem gainLatent_apply (g : FVec Ideal S1x512 .f32) (d : Fin 512) : gainLatent g (ix2 0 d) = g (ix2 0 d) := by
  unfold gainLatent
  pointwise []

theorem weight2048_apply (w : FVec Ideal S1x2048x9280 .f32) (o : ℕ) (h : S2048x9280.Slices ![0, o] S2048x2048) (d : Fin 2048) (q : Fin 2048) (k : Fin 9280)
    (hk : k.val = o + q.val) : truncf .bf16 (extractStridedSlice S2048x2048 ![0, o] (matrix w) h) bitsLt_bf16_f32 (ix2 d q) = w (ix3 0 d k) := by
  unfold matrix
  pointwise []
  exact congrArg₂ (fun u v => w (ix3 0 u v)) rfl (Fin.ext (by dsimp only; omega))

theorem bias2048_apply (b : FVec Ideal S1x9280 .f32) (o : ℕ) (h : S9280.Slices ![o] S2048) (q : Fin 2048) (k : Fin 9280)
    (hk : k.val = o + q.val) : shapeCast S1x2048 (extractStridedSlice S2048 ![o] (vector b) h) shapeCasts_S2048_S1x2048 (ix2 0 q) = b (ix2 0 k) := by
  unfold vector
  pointwise []
  exact congrArg (fun u => b (ix2 0 u)) (Fin.ext (by dsimp only; omega))

theorem affine2048_prompt (c : Dev nD) (o : ℕ) (h : S2048x9280.Slices ![0, o] S2048x2048) (h' : S9280.Slices ![o] S2048) (p : Fin 4) (s : Fin 4096) (R : Fin 18432)
    (hR : R.val = 4096 * p.val + s.val) (q : Fin 2048) (k : Fin 9280) (hk : k.val = o + q.val) :
    affine (hn m c) (truncf .bf16 (extractStridedSlice S2048x2048 ![0, o] (matrix (m ((c : Thread nD τ).loc main_arg3))) h) bitsLt_bf16_f32)
      (shapeCast S1x2048 (extractStridedSlice S2048 ![o] (vector (m ((c : Thread nD τ).loc main_arg4))) h') shapeCasts_S2048_S1x2048) R q = atPrompt m c p s k := by
  refine congrArg₂ (· + ·) (congrArg₂ dot (funext fun d => ?_) (funext fun d => weight2048_apply _ o h d q k hk)) (bias2048_apply _ o h' q k hk)
  unfold hn normed
  refine congrArg₂ (fun u v => rms width eps u v d) (funext fun e => ?_) (funext fun e => gain_apply _ e)
  exact join_prompt _ _ _ _ _ p s e R hR

theorem affine2048_sample (c : Dev nD) (o : ℕ) (h : S2048x9280.Slices ![0, o] S2048x2048) (h' : S9280.Slices ![o] S2048) (p : Fin 32) (s : Fin 64) (R : Fin 18432)
    (hR : R.val = 16384 + (64 * p.val + s.val)) (q : Fin 2048) (k : Fin 9280) (hk : k.val = o + q.val) :
    affine (hn m c) (truncf .bf16 (extractStridedSlice S2048x2048 ![0, o] (matrix (m ((c : Thread nD τ).loc main_arg3))) h) bitsLt_bf16_f32)
      (shapeCast S1x2048 (extractStridedSlice S2048 ![o] (vector (m ((c : Thread nD τ).loc main_arg4))) h') shapeCasts_S2048_S1x2048) R q = atSample m c p s k := by
  refine congrArg₂ (· + ·) (congrArg₂ dot (funext fun d => ?_) (funext fun d => weight2048_apply _ o h d q k hk)) (bias2048_apply _ o h' q k hk)
  unfold hn normed
  refine congrArg₂ (fun u v => rms width eps u v d) (funext fun e => ?_) (funext fun e => gain_apply _ e)
  exact join_sample _ _ _ _ _ p s e R hR

theorem weight512_apply (w : FVec Ideal S1x2048x9280 .f32) (o : ℕ) (h : S2048x9280.Slices ![0, o] S2048x512) (d : Fin 2048) (q : Fin 512) (k : Fin 9280)
    (hk : k.val = o + q.val) : truncf .bf16 (extractStridedSlice S2048x512 ![0, o] (matrix w) h) bitsLt_bf16_f32 (ix2 d q) = w (ix3 0 d k) := by
  unfold matrix
  pointwise []
  exact congrArg₂ (fun u v => w (ix3 0 u v)) rfl (Fin.ext (by dsimp only; omega))

theorem bias512_apply (b : FVec Ideal S1x9280 .f32) (o : ℕ) (h : S9280.Slices ![o] S512) (q : Fin 512) (k : Fin 9280)
    (hk : k.val = o + q.val) : shapeCast S1x512 (extractStridedSlice S512 ![o] (vector b) h) shapeCasts_S512_S1x512 (ix2 0 q) = b (ix2 0 k) := by
  unfold vector
  pointwise []
  exact congrArg (fun u => b (ix2 0 u)) (Fin.ext (by dsimp only; omega))

theorem affine512_prompt (c : Dev nD) (o : ℕ) (h : S2048x9280.Slices ![0, o] S2048x512) (h' : S9280.Slices ![o] S512) (p : Fin 4) (s : Fin 4096) (R : Fin 18432)
    (hR : R.val = 4096 * p.val + s.val) (q : Fin 512) (k : Fin 9280) (hk : k.val = o + q.val) :
    affine (hn m c) (truncf .bf16 (extractStridedSlice S2048x512 ![0, o] (matrix (m ((c : Thread nD τ).loc main_arg3))) h) bitsLt_bf16_f32)
      (shapeCast S1x512 (extractStridedSlice S512 ![o] (vector (m ((c : Thread nD τ).loc main_arg4))) h') shapeCasts_S512_S1x512) R q = atPrompt m c p s k := by
  refine congrArg₂ (· + ·) (congrArg₂ dot (funext fun d => ?_) (funext fun d => weight512_apply _ o h d q k hk)) (bias512_apply _ o h' q k hk)
  unfold hn normed
  refine congrArg₂ (fun u v => rms width eps u v d) (funext fun e => ?_) (funext fun e => gain_apply _ e)
  exact join_prompt _ _ _ _ _ p s e R hR

theorem affine512_sample (c : Dev nD) (o : ℕ) (h : S2048x9280.Slices ![0, o] S2048x512) (h' : S9280.Slices ![o] S512) (p : Fin 32) (s : Fin 64) (R : Fin 18432)
    (hR : R.val = 16384 + (64 * p.val + s.val)) (q : Fin 512) (k : Fin 9280) (hk : k.val = o + q.val) :
    affine (hn m c) (truncf .bf16 (extractStridedSlice S2048x512 ![0, o] (matrix (m ((c : Thread nD τ).loc main_arg3))) h) bitsLt_bf16_f32)
      (shapeCast S1x512 (extractStridedSlice S512 ![o] (vector (m ((c : Thread nD τ).loc main_arg4))) h') shapeCasts_S512_S1x512) R q = atSample m c p s k := by
  refine congrArg₂ (· + ·) (congrArg₂ dot (funext fun d => ?_) (funext fun d => weight512_apply _ o h d q k hk)) (bias512_apply _ o h' q k hk)
  unfold hn normed
  refine congrArg₂ (fun u v => rms width eps u v d) (funext fun e => ?_) (funext fun e => gain_apply _ e)
  exact join_sample _ _ _ _ _ p s e R hR

theorem res1_prompt (c : Dev nD) (p : Fin 4) (s : Fin 4096) (R : Fin 18432) (hR : R.val = 4096 * p.val + s.val) (q : Fin 2048) :
    res1 m c (ix2 R q) = atPrompt m c p s ⟨0 + q.val, by omega⟩ :=
  affine2048_prompt m c 0 _ _ p s R hR q _ rfl

theorem res1_sample (c : Dev nD) (p : Fin 32) (s : Fin 64) (R : Fin 18432) (hR : R.val = 16384 + (64 * p.val + s.val)) (q : Fin 2048) :
    res1 m c (ix2 R q) = atSample m c p s ⟨0 + q.val, by omega⟩ :=
  affine2048_sample m c 0 _ _ p s R hR q _ rfl

theorem res2_prompt (c : Dev nD) (p : Fin 4) (s : Fin 4096) (R : Fin 18432) (hR : R.val = 4096 * p.val + s.val) (q : Fin 2048) :
    res2 m c (ix2 R q) = gelu (atPrompt m c p s ⟨2048 + q.val, by omega⟩) :=
  congrArg gelu (affine2048_prompt m c 2048 _ _ p s R hR q _ rfl)

theorem res2_sample (c : Dev nD) (p : Fin 32) (s : Fin 64) (R : Fin 18432) (hR : R.val = 16384 + (64 * p.val + s.val)) (q : Fin 2048) :
    res2 m c (ix2 R q) = gelu (atSample m c p s ⟨2048 + q.val, by omega⟩) :=
  congrArg gelu (affine2048_sample m c 2048 _ _ p s R hR q _ rfl)

theorem res3_prompt (c : Dev nD) (p : Fin 4) (s : Fin 4096) (R : Fin 18432) (hR : R.val = 4096 * p.val + s.val) (q : Fin 2048) :
    res3 m c (ix2 R q) = Ideal.logistic (atPrompt m c p s ⟨5184 + q.val, by omega⟩) :=
  congrArg Ideal.logistic (affine2048_prompt m c 5184 _ _ p s R hR q _ rfl)

theorem res3_sample (c : Dev nD) (p : Fin 32) (s : Fin 64) (R : Fin 18432) (hR : R.val = 16384 + (64 * p.val + s.val)) (q : Fin 2048) :
    res3 m c (ix2 R q) = Ideal.logistic (atSample m c p s ⟨5184 + q.val, by omega⟩) :=
  congrArg Ideal.logistic (affine2048_sample m c 5184 _ _ p s R hR q _ rfl)

theorem res4_prompt (c : Dev nD) (p : Fin 4) (s : Fin 4096) (R : Fin 18432) (hR : R.val = 4096 * p.val + s.val) (q : Fin 2048) :
    res4 m c (ix2 R q) = Ideal.logistic (atPrompt m c p s ⟨7232 + q.val, by omega⟩) :=
  congrArg Ideal.logistic (affine2048_prompt m c 7232 _ _ p s R hR q _ rfl)

theorem res4_sample (c : Dev nD) (p : Fin 32) (s : Fin 64) (R : Fin 18432) (hR : R.val = 16384 + (64 * p.val + s.val)) (q : Fin 2048) :
    res4 m c (ix2 R q) = Ideal.logistic (atSample m c p s ⟨7232 + q.val, by omega⟩) :=
  congrArg Ideal.logistic (affine2048_sample m c 7232 _ _ p s R hR q _ rfl)

theorem res5_prompt (c : Dev nD) (p : Fin 4) (s : Fin 4096) (R : Fin 18432) (hR : R.val = 4096 * p.val + s.val) (q : Fin 512) :
    res5 m c (ix2 R q) = rms latent eps (fun q => atPrompt m c p s ⟨4096 + q.val, by omega⟩) (fun q => (m ((c : Thread nD τ).loc main_arg5) : FVec Ideal S1x512 .f32) (ix2 0 q)) q :=
  congrArg₂ (fun u v => rms latent eps u v q) (funext fun r => affine512_prompt m c 4096 _ _ p s R hR r _ rfl) (funext fun r => gainLatent_apply _ r)

theorem res5_sample (c : Dev nD) (p : Fin 32) (s : Fin 64) (R : Fin 18432) (hR : R.val = 16384 + (64 * p.val + s.val)) (q : Fin 512) :
    res5 m c (ix2 R q) = rms latent eps (fun q => atSample m c p s ⟨4096 + q.val, by omega⟩) (fun q => (m ((c : Thread nD τ).loc main_arg5) : FVec Ideal S1x512 .f32) (ix2 0 q)) q :=
  congrArg₂ (fun u v => rms latent eps u v q) (funext fun r => affine512_sample m c 4096 _ _ p s R hR r _ rfl) (funext fun r => gainLatent_apply _ r)

theorem res6_prompt (c : Dev nD) (p : Fin 4) (s : Fin 4096) (R : Fin 18432) (hR : R.val = 4096 * p.val + s.val) (q : Fin 512) :
    res6 m c (ix2 R q) = rms latent eps (fun q => atPrompt m c p s ⟨4608 + q.val, by omega⟩) (fun q => (m ((c : Thread nD τ).loc main_arg6) : FVec Ideal S1x512 .f32) (ix2 0 q)) q :=
  congrArg₂ (fun u v => rms latent eps u v q) (funext fun r => affine512_prompt m c 4608 _ _ p s R hR r _ rfl) (funext fun r => gainLatent_apply _ r)

theorem res6_sample (c : Dev nD) (p : Fin 32) (s : Fin 64) (R : Fin 18432) (hR : R.val = 16384 + (64 * p.val + s.val)) (q : Fin 512) :
    res6 m c (ix2 R q) = rms latent eps (fun q => atSample m c p s ⟨4608 + q.val, by omega⟩) (fun q => (m ((c : Thread nD τ).loc main_arg6) : FVec Ideal S1x512 .f32) (ix2 0 q)) q :=
  congrArg₂ (fun u v => rms latent eps u v q) (funext fun r => affine512_sample m c 4608 _ _ p s R hR r _ rfl) (funext fun r => gainLatent_apply _ r)

theorem lastPrompt_apply (c : Dev nD) (a : Fin 1) (p : Fin 4) (k : Fin 3) (q : Fin 2048) :
    lastPrompt m c (ix4 a p k q) = atPrompt m c p ⟨4093 + k.val, by omega⟩ ⟨0 + q.val, by omega⟩ := by
  refine Eq.trans (b := take12 (res1 m c) rows12 (ix2 ⟨3 * p.val + k.val, by omega⟩ q)) ?_ ?_
  · unfold lastPrompt
    generalize take12 (res1 m c) rows12 = y
    pointwise []
    exact congrArg₂ (fun u v => y (ix2 u v)) (Fin.ext (by dsimp only; omega)) rfl
  · rw [take12_apply (res1 m c) p k q ⟨4096 * p.val + 4093 + k.val, by omega⟩ rfl]
    exact res1_prompt m c p ⟨4093 + k.val, by omega⟩ _ (by dsimp only; omega) q

theorem lastSample_apply (c : Dev nD) (a : Fin 1) (p : Fin 32) (k : Fin 3) (q : Fin 2048) :
    lastSample m c (ix4 a p k q) = atSample m c p ⟨61 + k.val, by omega⟩ ⟨0 + q.val, by omega⟩ := by
  refine Eq.trans (b := take96 (res1 m c) rows96 (ix2 ⟨3 * p.val + k.val, by omega⟩ q)) ?_ ?_
  · unfold lastSample
    generalize take96 (res1 m c) rows96 = y
    pointwise []
    exact congrArg₂ (fun u v => y (ix2 u v)) (Fin.ext (by dsimp only; omega)) rfl
  · rw [take96_apply (res1 m c) p k q ⟨16384 + 64 * p.val + 61 + k.val, by omega⟩ rfl]
    exact res1_sample m c p ⟨61 + k.val, by omega⟩ _ (by dsimp only; omega) q

theorem latentPrompt_apply (c : Dev nD) (a : Fin 1) (p : Fin 4) (s : Fin 4096) (q : Fin 512) :
    latentPrompt m c (ix4 a p s q) = rms latent eps (fun q => atPrompt m c p s ⟨4608 + q.val, by omega⟩)
      (fun q => (m ((c : Thread nD τ).loc main_arg6) : FVec Ideal S1x512 .f32) (ix2 0 q)) q := by
  refine Eq.trans (b := res6 m c (ix2 ⟨4096 * p.val + s.val, by omega⟩ q)) ?_ (res6_prompt m c p s _ rfl q)
  unfold latentPrompt
  generalize res6 m c = y
  refine (shapeCast_apply _ _ _ (ix2 ⟨4096 * p.val + s.val, by omega⟩ q) ?_).trans ?_
  · rw [Shape.rowMajor_val_two, Shape.rowMajor_val_four]
    show (4096 * p.val + s.val) * 512 + q.val = ((a.val * 4 + p.val) * 4096 + s.val) * 512 + q.val
    omega
  · pointwise []

theorem latentSample_apply (c : Dev nD) (a : Fin 1) (p : Fin 32) (s : Fin 64) (q : Fin 512) :
    latentSample m c (ix4 a p s q) = rms latent eps (fun q => atSample m c p s ⟨4608 + q.val, by omega⟩)
      (fun q => (m ((c : Thread nD τ).loc main_arg6) : FVec Ideal S1x512 .f32) (ix2 0 q)) q := by
  refine Eq.trans (b := res6 m c (ix2 ⟨16384 + (64 * p.val + s.val), by omega⟩ q)) ?_ (res6_sample m c p s _ rfl q)
  unfold latentSample
  generalize res6 m c = y
  refine (shapeCast_apply _ _ _ (ix2 ⟨64 * p.val + s.val, by omega⟩ q) ?_).trans ?_
  · rw [Shape.rowMajor_val_two, Shape.rowMajor_val_four]
    show (64 * p.val + s.val) * 512 + q.val = ((a.val * 32 + p.val) * 64 + s.val) * 512 + q.val
    omega
  · pointwise []

end Cert.InputKernelIdeal.Value

end
-- ==== Proof.InputClaims.lean ====
/- The claims about the input projections. -/
module

public import proofs.«01_k».proof.Defs
public import proofs.«01_k».proof.Proof.Gen.InputKernel.Frame
public import proofs.«01_k».proof.Proof.InputEntries
public import Idealize.ShloMosaic.Lib.Quiescent

@[expose] public section

set_option maxRecDepth 16384

noncomputable section

namespace Cert.InputClaims

open Idealize.ShloMosaic Idealize.ShloMosaic.TcCoe Idealize.SL.Sem Idealize.ShloMosaic.StableHlo
open Cert.InputKernelIdeal.Gen Cert.InputKernelIdeal.Value Cert.InputReferenceIdeal.Value Cert.Layers

theorem frame_kernel : Cert.quiescent_InputKernel := fun m ρ _ => Cert.InputKernel.Gen.frame m ρ
theorem frame_ideal : Cert.quiescent_InputKernelIdeal := fun m ρ _ => Cert.InputKernelIdeal.Gen.frame m ρ
theorem frame_reference : Cert.quiescent_InputReferenceIdeal := fun m ρ _ =>
  (θ_run Cert.InputReferenceIdeal.defs _ _).mono (fun r h => ⟨fun c => (h c).2.2.2.2.2.2.2.2.2, sem_eq_zero_of_no_sems (by decide) r.2⟩)
    (Cert.InputReferenceIdeal.Value.run (F := Ideal) m ρ)

theorem preserves : Cert.preserves_InputKernel_InputKernelIdeal := trivial

set_option maxHeartbeats 2000000 in
/-- Both programs end at the same nine arrays. -/
theorem algebraic : Cert.algebraic_InputKernelIdeal_InputReferenceIdeal := by
  intro m ρ m' ρ' _ hagree
  refine ⟨fun c => res1 m c, fun c => res2 m c, fun c => res3 m c, fun c => res4 m c, fun c => res5 m c, fun c => lastPrompt m c, fun c => lastSample m c, fun c => latentPrompt m c, fun c => latentSample m c, ?_, ?_⟩
  · refine (θ_run Cert.InputKernelIdeal.defs _ _).mono (fun _ h c => ⟨?_, ?_, ?_, ?_, ?_, ?_, ?_, ?_, ?_, h.2 c⟩)
      (θ_run_and (run_all (F := Ideal) m ρ) (Cert.InputKernelIdeal.Gen.unchanged (F := Ideal) m ρ))
    · exact (h.1.1 c _ (mem_uc Cert.InputKernelIdeal.main_v27 (by decide))).trans (at19_v27 m ρ c)
    · exact (h.1.1 c _ (mem_uc Cert.InputKernelIdeal.main_v29 (by decide))).trans (at19_v29 m ρ c)
    · exact (h.1.1 c _ (mem_uc Cert.InputKernelIdeal.main_v31 (by decide))).trans (at19_v31 m ρ c)
    · exact (h.1.1 c _ (mem_uc Cert.InputKernelIdeal.main_v33 (by decide))).trans (at19_v33 m ρ c)
    · exact (h.1.1 c _ (mem_uc Cert.InputKernelIdeal.main_v37 (by decide))).trans (at19_v37 m ρ c)
    · exact (h.1.1 c _ (mem_uc Cert.InputKernelIdeal.main_v72 (by decide))).trans (at19_last m ρ c)
    · exact (h.1.1 c _ (mem_uc Cert.InputKernelIdeal.main_v73 (by decide))).trans (at19_last_sample m ρ c)
    · exact (h.1.1 c _ (mem_uc Cert.InputKernelIdeal.main_v75 (by decide))).trans (at19_latent m ρ c)
    · exact (h.1.1 c _ (mem_uc Cert.InputKernelIdeal.main_v77 (by decide))).trans (at19_latent_sample m ρ c)
  · refine (θ_run Cert.InputReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.InputReferenceIdeal.Value.run (F := Ideal) m' ρ')
    all_goals
      obtain ⟨e0, e1, e2, e3, e4, e5, e6⟩ := hagree c
      have zp : ∀ p s k, res_main_v19 (launchContents m' c) (ix3 p s k) = atPrompt m c p s k := fun p s k => by
        refine (prompt_entry _ p s k).trans ?_
        unfold atPrompt launchContents
        rw [← e0, ← e2, ← e3, ← e4]
      have zs : ∀ p s k, res_main_v99 (launchContents m' c) (ix3 p s k) = atSample m c p s k := fun p s k => by
        refine (sample_entry _ p s k).trans ?_
        unfold atSample launchContents
        rw [← e1, ← e2, ← e3, ← e4]
      funext i
      idx_vars i
    · rcases row_cases i0 with ⟨p, s, h⟩ | ⟨p, s, h⟩
      · exact (join_prompt _ _ _ _ Cert.InputReferenceIdeal.Facts₀.concatenates_S16384x2048_S2048x2048_S18432x2048_d0 p s i1 i0 h).trans (((prompt_slice _ 0 _ p s i1 _ rfl).trans (zp p s _)).trans (res1_prompt m c p s i0 h i1).symm)
      · exact (join_sample _ _ _ _ Cert.InputReferenceIdeal.Facts₀.concatenates_S16384x2048_S2048x2048_S18432x2048_d0 p s i1 i0 h).trans (((sample_slice _ 0 _ p s i1 _ rfl).trans (zs p s _)).trans (res1_sample m c p s i0 h i1).symm)
    · rcases row_cases i0 with ⟨p, s, h⟩ | ⟨p, s, h⟩
      · exact (join_prompt _ _ _ _ Cert.InputReferenceIdeal.Facts₀.concatenates_S16384x2048_S2048x2048_S18432x2048_d0 p s i1 i0 h).trans ((prompt_gelu _ p s i1).trans ((congrArg gelu ((prompt_slice _ 2048 _ p s i1 _ rfl).trans (zp p s _))).trans (res2_prompt m c p s i0 h i1).symm))
      · exact (join_sample _ _ _ _ Cert.InputReferenceIdeal.Facts₀.concatenates_S16384x2048_S2048x2048_S18432x2048_d0 p s i1 i0 h).trans ((sample_gelu _ p s i1).trans ((congrArg gelu ((sample_slice _ 2048 _ p s i1 _ rfl).trans (zs p s _))).trans (res2_sample m c p s i0 h i1).symm))
    · rcases row_cases i0 with ⟨p, s, h⟩ | ⟨p, s, h⟩
      · exact (join_prompt _ _ _ _ Cert.InputReferenceIdeal.Facts₀.concatenates_S16384x2048_S2048x2048_S18432x2048_d0 p s i1 i0 h).trans ((prompt_logistic _ p s i1).trans ((congrArg Ideal.logistic ((prompt_slice _ 5184 _ p s i1 _ rfl).trans (zp p s _))).trans (res3_prompt m c p s i0 h i1).symm))
      · exact (join_sample _ _ _ _ Cert.InputReferenceIdeal.Facts₀.concatenates_S16384x2048_S2048x2048_S18432x2048_d0 p s i1 i0 h).trans ((sample_logistic _ p s i1).trans ((congrArg Ideal.logistic ((sample_slice _ 5184 _ p s i1 _ rfl).trans (zs p s _))).trans (res3_sample m c p s i0 h i1).symm))
    · rcases row_cases i0 with ⟨p, s, h⟩ | ⟨p, s, h⟩
      · exact (join_prompt _ _ _ _ Cert.InputReferenceIdeal.Facts₀.concatenates_S16384x2048_S2048x2048_S18432x2048_d0 p s i1 i0 h).trans ((prompt_logistic _ p s i1).trans ((congrArg Ideal.logistic ((prompt_slice _ 7232 _ p s i1 _ rfl).trans (zp p s _))).trans (res4_prompt m c p s i0 h i1).symm))
      · exact (join_sample _ _ _ _ Cert.InputReferenceIdeal.Facts₀.concatenates_S16384x2048_S2048x2048_S18432x2048_d0 p s i1 i0 h).trans ((sample_logistic _ p s i1).trans ((congrArg Ideal.logistic ((sample_slice _ 7232 _ p s i1 _ rfl).trans (zs p s _))).trans (res4_sample m c p s i0 h i1).symm))
    · rcases row_cases i0 with ⟨p, s, h⟩ | ⟨p, s, h⟩
      · exact (join_prompt _ _ _ _ Cert.InputReferenceIdeal.Facts₀.concatenates_S16384x512_S2048x512_S18432x512_d0 p s i1 i0 h).trans ((prompt_latent_apply (res_main_v22 (launchContents m' c)) _ p s i1).trans ((congrArg₂ (fun u v => rms latent eps u v i1) (funext fun q => (prompt_slice_latent _ 4096 _ p s q _ rfl).trans (zp p s _)) (funext fun q => congrFun e5 _)).trans (res5_prompt m c p s i0 h i1).symm))
      · exact (join_sample _ _ _ _ Cert.InputReferenceIdeal.Facts₀.concatenates_S16384x512_S2048x512_S18432x512_d0 p s i1 i0 h).trans ((sample_latent_apply (res_main_v102 (launchContents m' c)) _ p s i1).trans ((congrArg₂ (fun u v => rms latent eps u v i1) (funext fun q => (sample_slice_latent _ 4096 _ p s q _ rfl).trans (zs p s _)) (funext fun q => congrFun e5 _)).trans (res5_sample m c p s i0 h i1).symm))
    · refine Eq.trans (b := (res_main_v20 (launchContents m' c)) (ix3 i1 ⟨4093 + i2.val, by omega⟩ i3)) ?_ ((((prompt_slice _ 0 _ i1 _ i3 _ rfl).trans (zp i1 _ _))).trans (lastPrompt_apply m c i0 i1 i2 i3).symm)
      generalize (res_main_v20 (launchContents m' c)) = y
      pointwise []
    · refine Eq.trans (b := (res_main_v100 (launchContents m' c)) (ix3 i1 ⟨61 + i2.val, by omega⟩ i3)) ?_ ((((sample_slice _ 0 _ i1 _ i3 _ rfl).trans (zs i1 _ _))).trans (lastSample_apply m c i0 i1 i2 i3).symm)
      generalize (res_main_v100 (launchContents m' c)) = y
      pointwise []
    · refine Eq.trans (b := prompt_latent (res_main_v23 (launchContents m' c)) (launchContents m' c (Proc.devRef .tc Cert.InputReferenceIdeal.main_arg6)) (ix3 i1 i2 i3)) ?_ ((prompt_latent_apply _ _ i1 i2 i3).trans
        ((congrArg₂ (fun u v => rms latent eps u v i3) (funext fun q => (prompt_slice_latent _ 4608 _ i1 i2 q _ rfl).trans (zp i1 i2 _)) (funext fun q => congrFun e6 _)).trans (latentPrompt_apply m c i0 i1 i2 i3).symm))
      unfold prompt_latent
      generalize (res_main_v23 (launchContents m' c)) = y
      pointwise []
    · refine Eq.trans (b := sample_latent (res_main_v103 (launchContents m' c)) (launchContents m' c (Proc.devRef .tc Cert.InputReferenceIdeal.main_arg6)) (ix3 i1 i2 i3)) ?_ ((sample_latent_apply _ _ i1 i2 i3).trans
        ((congrArg₂ (fun u v => rms latent eps u v i3) (funext fun q => (sample_slice_latent _ 4608 _ i1 i2 q _ rfl).trans (zs i1 i2 _)) (funext fun q => congrFun e6 _)).trans (latentSample_apply m c i0 i1 i2 i3).symm))
      unfold sample_latent
      generalize (res_main_v103 (launchContents m' c)) = y
      pointwise []

end Cert.InputClaims

end
-- ==== Proof.MemoryRun.lean ====
/- The run of the memory's keys and values: what every buffer holds at its end. -/
module

public import proofs.«01_k».proof.Proof.Gen.MemoryKernelIdeal.Frame

@[expose] public section

set_option maxRecDepth 16384

noncomputable section

namespace Cert.MemoryKernelIdeal.Value

open Cert.MemoryKernelIdeal Cert.MemoryKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every unscoped buffer at the contents folded through the program, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.MemoryKernelIdeal.Value

end
-- ==== Proof.MemoryPayload.lean ====
/- What the three calls of the memory's keys and values compute on a block, an element at a time. -/
module

public import proofs.«01_k».proof.Proof.Gen.MemoryKernelIdeal.Skeleton
public import proofs.«01_k».proof.Proof.Layers
public import Idealize.ShloMosaic.Lib.Pointwise

@[expose] public section

set_option maxRecDepth 16384

noncomputable section

namespace Cert.MemoryKernelIdeal.Value

open Idealize.ShloMosaic Idealize.ShloMosaic.TcCoe Idealize.SL.Sem
open Cert.MemoryKernelIdeal Cert.MemoryKernelIdeal.Gen Cert.Layers

theorem pay0 (x : Vec Ideal S512x2048 .f32) (g : Vec Ideal S1x2048 .f32) (r : Fin 512) (j : Fin 2048) :
    k0_pay1 (F := Ideal) x g (ix2 r j) = rms width eps (fun d => x (ix2 r d)) (fun d => g (ix2 0 d)) j := by
  pointwise [k0_pay1]
  rfl

theorem pay1 (x : Vec Ideal S1024x2048 .bf16) (w : Vec Ideal S2048x512 .bf16) (r : Fin 1024) (j : Fin 512) :
    k1_pay1 (F := Ideal) x w (ix2 r j) = dot (fun d => x (ix2 r d)) (fun d => w (ix2 d j)) := by
  pointwise [k1_pay1]
  rfl

theorem pay2 (x : Vec Ideal S1024x2048 .bf16) (w : Vec Ideal S2048x512 .bf16) (r : Fin 1024) (j : Fin 512) :
    k2_pay1 (F := Ideal) x w (ix2 r j) = dot (fun d => x (ix2 r d)) (fun d => w (ix2 d j)) := by
  pointwise [k2_pay1]
  rfl

end Cert.MemoryKernelIdeal.Value

end
-- ==== Proof.MemoryRegions.lean ====
/- What each of the three calls of the memory's keys and values leaves in its result array, from the arrays it is entered
   with: the normed rows, then the two linear layers of them. -/
module

public import proofs.«01_k».proof.Proof.Gen.MemoryKernelIdeal.Frame
public import proofs.«01_k».proof.Proof.MemoryPayload
public import Idealize.ShloMosaic.Lib.Pipeline.ValueKit

@[expose] public section

set_option maxRecDepth 16384

noncomputable section

namespace Cert.MemoryKernelIdeal.Value

open Idealize.ShloMosaic Idealize.ShloMosaic.TcCoe Idealize.SL.Sem
open Cert.MemoryKernelIdeal Cert.MemoryKernelIdeal.Gen Cert.Layers

/-- Every entry normed by its row. -/
def normed (x : FVec Ideal S1024x2048 .f32) (g : FVec Ideal S1x2048 .f32) : FVec Ideal S1024x2048 .bf16 := fun i =>
  rms width eps (fun d => x (ix2 (i 0) d)) (fun d => g (ix2 0 d)) (i 1)

/-- The linear layer. -/
def linear (x : FVec Ideal S1024x2048 .bf16) (w : FVec Ideal S2048x512 .bf16) : FVec Ideal S1024x512 .f32 := fun i =>
  dot (fun d => x (ix2 (i 0) d)) (fun d => w (ix2 d (i 1)))

theorem zero2 : (![0, 0] : Fin 2 → ℕ) = fun _ => 0 := funext fun a => by fin_cases a <;> rfl

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ t.val < 2 :=
  (by decide +kernel : ∀ t : Fin grid0.N, _)

theorem blk0_x (c : Dev nD) (t : Fin cfg0.N) (r : Fin 512) (d : Fin 2048) (a : Fin 1024) (ha : a.val = 512 * t.val + r.val) :
    iblk0 V c 0 t (ix2 r d) = (V c main_v0 : FVec Ideal S1024x2048 .f32) (ix2 a d) := by
  blk_ext [iblk0, idx0 t]

theorem blk0_g (c : Dev nD) (t : Fin cfg0.N) (d : Fin 2048) :
    iblk0 V c 1 t (ix2 0 d) = (V c main_v2 : FVec Ideal S1x2048 .f32) (ix2 0 d) := by
  blk_ext [iblk0, idx0 t]

theorem out0 (x : Vec Ideal S512x2048 .f32) (g : Vec Ideal S1x2048 .f32) : out0_2 (F := Ideal) x g = k0_pay1 x g := by
  unfold out0_2
  rw [View.canon_unit_zero zero2, View.ld_unit_zero zero2, View.ld_unit_zero zero2]

theorem final0 (c : Dev nD) : (dat0 V c).arrAt 2 cfg0.N = normed (V c main_v0) (V c main_v2) := by
  refine (dat0 V c).arrAt_eq_of_covers 2 _ (by decide +kernel) fun t hf y => ?_
  blk_simp
  rw [after0_2, out0]
  idx_vars y
  have h0 : (((win0_2.blk t).view.emb (ix2 y0 y1)) 0).val = 512 * t.val + y0.val := by blk_simp [idx0 t]; omega
  have h1 : (((win0_2.blk t).view.emb (ix2 y0 y1)) 1) = y1 := Fin.ext (by blk_simp [idx0 t])
  rw [pay0]
  unfold normed
  rw [h1]
  congr 1
  · funext d; exact blk0_x V c t y0 d _ h0
  · funext d; exact blk0_g V c t d

theorem idx1 : ∀ t : Fin cfg1.N, win1_0.index t = ![0, 0] ∧ win1_1.index t = ![0, 0] ∧ win1_2.index t = ![0, 0] :=
  (by decide +kernel : ∀ t : Fin grid1.N, _)

theorem blk1_x (c : Dev nD) (t : Fin cfg1.N) (r : Fin 1024) (d : Fin 2048) :
    iblk1 V c 0 t (ix2 r d) = (V c main_v3 : FVec Ideal S1024x2048 .bf16) (ix2 r d) := by
  blk_ext [iblk1, idx1 t]

theorem blk1_w (c : Dev nD) (t : Fin cfg1.N) (d : Fin 2048) (j : Fin 512) :
    iblk1 V c 1 t (ix2 d j) = (V c main_v6 : FVec Ideal S2048x512 .bf16) (ix2 d j) := by
  blk_ext [iblk1, idx1 t]

theorem out1 (x : Vec Ideal S1024x2048 .bf16) (w : Vec Ideal S2048x512 .bf16) : out1_2 (F := Ideal) x w = k1_pay1 x w := by
  unfold out1_2
  rw [View.canon_unit_zero zero2, View.ld_unit_zero zero2, View.ld_unit_zero zero2]

theorem final1 (c : Dev nD) : (dat1 V c).arrAt 2 cfg1.N = linear (V c main_v3) (V c main_v6) := by
  refine (dat1 V c).arrAt_eq_of_covers 2 _ (by decide +kernel) fun t hf y => ?_
  blk_simp
  rw [after1_2, out1]
  idx_vars y
  have h0 : (((win1_2.blk t).view.emb (ix2 y0 y1)) 0) = y0 := Fin.ext (by blk_simp [idx1 t])
  have h1 : (((win1_2.blk t).view.emb (ix2 y0 y1)) 1) = y1 := Fin.ext (by blk_simp [idx1 t])
  rw [pay1]
  unfold linear
  rw [h0, h1]
  congr 1
  · funext d; exact blk1_x V c t y0 d
  · funext d; exact blk1_w V c t d y1

theorem idx2 : ∀ t : Fin cfg2.N, win2_0.index t = ![0, 0] ∧ win2_1.index t = ![0, 0] ∧ win2_2.index t = ![0, 0] :=
  (by decide +kernel : ∀ t : Fin grid2.N, _)

theorem blk2_x (c : Dev nD) (t : Fin cfg2.N) (r : Fin 1024) (d : Fin 2048) :
    iblk2 V c 0 t (ix2 r d) = (V c main_v3 : FVec Ideal S1024x2048 .bf16) (ix2 r d) := by
  blk_ext [iblk2, idx2 t]

theorem blk2_w (c : Dev nD) (t : Fin cfg2.N) (d : Fin 2048) (j : Fin 512) :
    iblk2 V c 1 t (ix2 d j) = (V c main_v10 : FVec Ideal S2048x512 .bf16) (ix2 d j) := by
  blk_ext [iblk2, idx2 t]

theorem out2 (x : Vec Ideal S1024x2048 .bf16) (w : Vec Ideal S2048x512 .bf16) : out2_2 (F := Ideal) x w = k2_pay1 x w := by
  unfold out2_2
  rw [View.canon_unit_zero zero2, View.ld_unit_zero zero2, View.ld_unit_zero zero2]

theorem final2 (c : Dev nD) : (dat2 V c).arrAt 2 cfg2.N = linear (V c main_v3) (V c main_v10) := by
  refine (dat2 V c).arrAt_eq_of_covers 2 _ (by decide +kernel) fun t hf y => ?_
  blk_simp
  rw [after2_2, out2]
  idx_vars y
  have h0 : (((win2_2.blk t).view.emb (ix2 y0 y1)) 0) = y0 := Fin.ext (by blk_simp [idx2 t])
  have h1 : (((win2_2.blk t).view.emb (ix2 y0 y1)) 1) = y1 := Fin.ext (by blk_simp [idx2 t])
  rw [pay2]
  unfold linear
  rw [h0, h1]
  congr 1
  · funext d; exact blk2_x V c t y0 d
  · funext d; exact blk2_w V c t d y1

end Cert.MemoryKernelIdeal.Value

end
-- ==== Proof.MemoryResult.lean ====
/- The memory's keys and values after the run, and that the reference's are the same. -/
module

public import proofs.«01_k».proof.Proof.MemoryRun
public import proofs.«01_k».proof.Proof.MemoryRegions
public import proofs.«01_k».proof.Proof.Gen.MemoryReferenceIdeal.Run
public import Idealize.ShloMosaic.Lib.Claim
public import Idealize.ShloMosaic.Lib.Pointwise

@[expose] public section

set_option maxRecDepth 16384

noncomputable section

namespace Cert.MemoryKernelIdeal.Value

open Idealize.ShloMosaic Idealize.ShloMosaic.TcCoe Idealize.SL.Sem Idealize.ShloMosaic.StableHlo
open Cert.MemoryKernelIdeal Cert.MemoryKernelIdeal.Gen Cert.Layers

variable (m : (ℓ : Loc nD τ sig) → Buf (Elt Ideal) ℓ) (ρ : Dev nD → PrngReg)

/-- The memory's rows normed, from the arguments. -/
def rows (c : Dev nD) : FVec Ideal S1024x2048 .bf16 :=
  normed (shapeCast S1024x2048 (m ((c : Thread nD τ).loc main_arg0)) shapeCasts_S4x256x2048_S1024x2048)
    (shapeCast S1x2048 (shapeCast S2048 (m ((c : Thread nD τ).loc main_arg1)) shapeCasts_S1x2048_S2048) shapeCasts_S2048_S1x2048)

/-- A weight as the matrix the layer multiplies by. -/
def weight (w : FVec Ideal S1x2048x4x128 .f32) : FVec Ideal S2048x512 .bf16 :=
  truncf .bf16 (shapeCast S2048x512 (shapeCast S2048x4x128 w shapeCasts_S1x2048x4x128_S2048x4x128) shapeCasts_S2048x4x128_S2048x512) bitsLt_bf16_f32

theorem at1_v0 (c : Dev nD) : W1 m ρ c (Proc.devRef .tc main_v0) = shapeCast S1024x2048 (m ((c : Thread nD τ).loc main_arg0)) shapeCasts_S4x256x2048_S1024x2048 := by
  after_results <;> rfl

theorem at1_v2 (c : Dev nD) : W1 m ρ c (Proc.devRef .tc main_v2) = shapeCast S1x2048 (shapeCast S2048 (m ((c : Thread nD τ).loc main_arg1)) shapeCasts_S1x2048_S2048) shapeCasts_S2048_S1x2048 := by
  after_results <;> rfl

theorem at2_v3 (c : Dev nD) : W2 m ρ c (Proc.devRef .tc main_v3) = rows m c := by
  refine (W2_arr m ρ c 2).trans ((final0 (V1 m ρ) c).trans ?_)
  unfold rows
  exact congrArg₂ normed (at1_v0 m ρ c) (at1_v2 m ρ c)

theorem at3_v6 (c : Dev nD) : W3 m ρ c (Proc.devRef .tc main_v6) = weight (m ((c : Thread nD τ).loc main_arg2)) := by
  rw [show m ((c : Thread nD τ).loc main_arg2) = W2 m ρ c (Proc.devRef .tc main_arg2) from (W2_args m ρ c main_arg2 (by decide)).symm]
  after_results <;> rfl

theorem at4_v7 (c : Dev nD) : W4 m ρ c (Proc.devRef .tc main_v7) = linear (rows m c) (weight (m ((c : Thread nD τ).loc main_arg2))) := by
  refine (W4_arr m ρ c 2).trans ((final1 (V3 m ρ) c).trans ?_)
  exact congrArg₂ linear ((W3_of m ρ c main_v3 (by decide)).trans (at2_v3 m ρ c)) (at3_v6 m ρ c)

theorem at4_v3 (c : Dev nD) : W4 m ρ c (Proc.devRef .tc main_v3) = rows m c :=
  (W4_of m ρ c main_v3 (by decide)).trans ((W3_of m ρ c main_v3 (by decide)).trans (at2_v3 m ρ c))

theorem at5_v10 (c : Dev nD) : W5 m ρ c (Proc.devRef .tc main_v10) = weight (m ((c : Thread nD τ).loc main_arg3)) := by
  rw [show m ((c : Thread nD τ).loc main_arg3) = W4 m ρ c (Proc.devRef .tc main_arg3) from (W4_args m ρ c main_arg3 (by decide)).symm]
  after_results <;> rfl

theorem at6_v11 (c : Dev nD) : W6 m ρ c (Proc.devRef .tc main_v11) = linear (rows m c) (weight (m ((c : Thread nD τ).loc main_arg3))) := by
  refine (W6_arr m ρ c 2).trans ((final2 (V5 m ρ) c).trans ?_)
  exact congrArg₂ linear ((W5_of m ρ c main_v3 (by decide)).trans (at4_v3 m ρ c)) (at5_v10 m ρ c)

theorem at6_v7 (c : Dev nD) : W6 m ρ c (Proc.devRef .tc main_v7) = linear (rows m c) (weight (m ((c : Thread nD τ).loc main_arg2))) :=
  (W6_of m ρ c main_v7 (by decide)).trans ((W5_of m ρ c main_v7 (by decide)).trans (at4_v7 m ρ c))

/-- A result: the linear layer of the rows, in the caller's shape. -/
def result (c : Dev nD) (w : FVec Ideal S1x2048x4x128 .f32) : FVec Ideal S1x4x256x4x128 .f32 :=
  shapeCast S1x4x256x4x128 (linear (rows m c) (weight w)) shapeCasts_S1024x512_S1x4x256x4x128

theorem at7_v12 (c : Dev nD) : W7 m ρ c (Proc.devRef .tc main_v12) = result m c (m ((c : Thread nD τ).loc main_arg2)) := by
  unfold result
  rw [← at6_v7 m ρ c]
  after_results <;> rfl

theorem at7_v13 (c : Dev nD) : W7 m ρ c (Proc.devRef .tc main_v13) = result m c (m ((c : Thread nD τ).loc main_arg3)) := by
  unfold result
  rw [← at6_v11 m ρ c]
  after_results <;> rfl

/-! Where each reshape of the host puts an element. -/

theorem split_rows (y : FVec Ideal S1024x512 .f32) (a : Fin 1) (b : Fin 4) (s : Fin 256) (h : Fin 4) (e : Fin 128) (p : Fin 1024) (q : Fin 512)
    (hp : p.val = 256 * b.val + s.val) (hq : q.val = 128 * h.val + e.val) :
    shapeCast S1x4x256x4x128 y shapeCasts_S1024x512_S1x4x256x4x128 (ix5 a b s h e) = y (ix2 p q) := by
  refine shapeCast_apply _ _ _ _ ?_
  rw [Shape.rowMajor_val_two, Shape.rowMajor_val_five]
  show p.val * 512 + q.val = (((a.val * 4 + b.val) * 256 + s.val) * 4 + h.val) * 128 + e.val
  omega

theorem join_rows (x : FVec Ideal S4x256x2048 .f32) (b : Fin 4) (s : Fin 256) (d : Fin 2048) (p : Fin 1024) (hp : p.val = 256 * b.val + s.val) :
    shapeCast S1024x2048 x shapeCasts_S4x256x2048_S1024x2048 (ix2 p d) = x (ix3 b s d) := by
  pointwise []
  exact congrArg₂ (fun u v => x (ix3 u v d)) (Fin.ext (by dsimp only; omega)) (Fin.ext (by dsimp only; omega))

theorem weight_apply (w : FVec Ideal S1x2048x4x128 .f32) (d : Fin 2048) (h : Fin 4) (e : Fin 128) (q : Fin 512) (hq : q.val = 128 * h.val + e.val) :
    weight w (ix2 d q) = w (ix4 0 d h e) := by
  unfold weight
  pointwise []
  exact congrArg₂ (fun u v => w (ix4 0 d u v)) (Fin.ext (by dsimp only; omega)) (Fin.ext (by dsimp only; omega))

/-- An entry of a result, from the arguments. -/
theorem result_apply (c : Dev nD) (w : FVec Ideal S1x2048x4x128 .f32) (a : Fin 1) (b : Fin 4) (s : Fin 256) (h : Fin 4) (e : Fin 128) :
    result m c w (ix5 a b s h e)
      = dot (rms width eps (fun d => (m ((c : Thread nD τ).loc main_arg0) : FVec Ideal S4x256x2048 .f32) (ix3 b s d))
          (fun d => (m ((c : Thread nD τ).loc main_arg1) : FVec Ideal S1x2048 .f32) (ix2 0 d))) (fun d => w (ix4 0 d h e)) := by
  refine (split_rows _ a b s h e ⟨256 * b.val + s.val, by omega⟩ ⟨128 * h.val + e.val, by omega⟩ rfl rfl).trans ?_
  unfold linear rows normed
  refine congrArg₂ dot (funext fun d => ?_) (funext fun d => weight_apply w d h e _ rfl)
  refine congrArg₂ (fun u v => rms width eps u v d) (funext fun d => join_rows _ b s d _ rfl) (funext fun d => ?_)
  pointwise []

end Cert.MemoryKernelIdeal.Value

namespace Cert.MemoryReferenceIdeal.Value

open Cert.MemoryReferenceIdeal Cert.MemoryReferenceIdeal.Gen Idealize.ShloMosaic Idealize.ShloMosaic.TcCoe Idealize.SL.Sem
open Cert.Layers

/-- The reference's result of one weight. -/
def result (x : FVec Ideal S4x256x2048 .f32) (g : FVec Ideal S1x2048 .f32) (w : FVec Ideal S1x2048x4x128 .f32) : FVec Ideal S1x4x256x4x128 .f32 :=
  broadcastInDim S1x4x256x4x128 ![1, 2, 3, 4] bcast_S4x256x4x128_S1x4x256x4x128_1_2_3_4 (Host.dotGeneral dot_S4x256x2048_S2048x4x128_S4x256x4x128_2_0_01_12_n_n none (mulf (mulf x (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf x x) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ g shapeCasts_S1x2048_S2048)))) (shapeCast _ w shapeCasts_S1x2048x4x128_S2048x4x128))

theorem result_apply (x : FVec Ideal S4x256x2048 .f32) (g : FVec Ideal S1x2048 .f32) (w : FVec Ideal S1x2048x4x128 .f32)
    (a : Fin 1) (b : Fin 4) (s : Fin 256) (h : Fin 4) (e : Fin 128) :
    result x g w (ix5 a b s h e) = dot (rms width eps (fun d => x (ix3 b s d)) (fun d => g (ix2 0 d))) (fun d => w (ix4 0 d h e)) := by
  unfold result
  pointwise []
  rfl

end Cert.MemoryReferenceIdeal.Value

end
-- ==== Proof.MemoryClaims.lean ====
/- The claims about the memory's keys and values. -/
module

public import proofs.«01_k».proof.Defs
public import proofs.«01_k».proof.Proof.Gen.MemoryKernel.Frame
public import proofs.«01_k».proof.Proof.MemoryResult
public import Idealize.ShloMosaic.Lib.Quiescent

@[expose] public section

set_option maxRecDepth 16384

noncomputable section

namespace Cert.MemoryClaims

open Idealize.ShloMosaic Idealize.ShloMosaic.TcCoe Idealize.SL.Sem
open Cert.MemoryKernelIdeal.Gen

theorem frame_kernel : Cert.quiescent_MemoryKernel := fun m ρ _ => Cert.MemoryKernel.Gen.frame m ρ
theorem frame_ideal : Cert.quiescent_MemoryKernelIdeal := fun m ρ _ => Cert.MemoryKernelIdeal.Gen.frame m ρ
theorem frame_reference : Cert.quiescent_MemoryReferenceIdeal := fun m ρ _ =>
  (θ_run Cert.MemoryReferenceIdeal.defs _ _).mono (fun r h => ⟨fun c => (h c).2.2, sem_eq_zero_of_no_sems (by decide) r.2⟩)
    (Cert.MemoryReferenceIdeal.Value.run (F := Ideal) m ρ)

theorem preserves : Cert.preserves_MemoryKernel_MemoryKernelIdeal := trivial

/-- Both programs end at the same keys and values. -/
theorem algebraic : Cert.algebraic_MemoryKernelIdeal_MemoryReferenceIdeal := by
  intro m ρ m' ρ' _ hagree
  refine ⟨fun c => Cert.MemoryKernelIdeal.Value.result m c (m (c.tc.loc Cert.MemoryKernelIdeal.main_arg2)),
    fun c => Cert.MemoryKernelIdeal.Value.result m c (m (c.tc.loc Cert.MemoryKernelIdeal.main_arg3)), ?_, ?_⟩
  · refine (θ_run Cert.MemoryKernelIdeal.defs _ _).mono (fun _ h c => ⟨?_, ?_, h.2 c⟩)
      (θ_run_and (Cert.MemoryKernelIdeal.Value.run_all (F := Ideal) m ρ) (Cert.MemoryKernelIdeal.Gen.unchanged (F := Ideal) m ρ))
    · exact (h.1.1 c _ (mem_uc Cert.MemoryKernelIdeal.main_v12 (by decide))).trans (Cert.MemoryKernelIdeal.Value.at7_v12 m ρ c)
    · exact (h.1.1 c _ (mem_uc Cert.MemoryKernelIdeal.main_v13 (by decide))).trans (Cert.MemoryKernelIdeal.Value.at7_v13 m ρ c)
  · refine (θ_run Cert.MemoryReferenceIdeal.defs _ _).mono (fun _ h c => ⟨(h c).1.trans ?_, (h c).2.1.trans ?_, (h c).2.2⟩)
      (Cert.MemoryReferenceIdeal.Value.run (F := Ideal) m' ρ')
    all_goals
      obtain ⟨e0, e1, e2, e3⟩ := hagree c
      rw [e0, e1]
      first | rw [e2] | rw [e3]
      funext i
      idx_vars i
      exact (Cert.MemoryReferenceIdeal.Value.result_apply _ _ _ i0 i1 i2 i3 i4).trans
        (Cert.MemoryKernelIdeal.Value.result_apply m c _ i0 i1 i2 i3 i4).symm

end Cert.MemoryClaims

end
-- ==== Proof.MergeRun.lean ====
/- The contents of every array after the merge of the two mixers. -/
module

public import proofs.«01_k».proof.Proof.Gen.MergeKernelIdeal.Frame

@[expose] public section

set_option maxRecDepth 16384

noncomputable section

namespace Cert.MergeKernelIdeal.Value

open Cert.MergeKernelIdeal Cert.MergeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every unscoped buffer at the contents folded through the program, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.MergeKernelIdeal.Value

end
-- ==== Proof.MergePayload.lean ====
/- What each of the three calls of the merge computes on a block, an element at a time. -/
module

public import proofs.«01_k».proof.Proof.Gen.MergeKernelIdeal.Skeleton
public import proofs.«01_k».proof.Proof.Layers
public import Idealize.ShloMosaic.Lib.Pointwise

@[expose] public section

set_option maxRecDepth 16384

noncomputable section

namespace Cert.MergeKernelIdeal.Value

open Idealize.ShloMosaic Idealize.ShloMosaic.TcCoe Idealize.SL.Sem
open Cert.MergeKernelIdeal Cert.MergeKernelIdeal.Gen Cert.Layers

theorem pay0 (x : Vec Ideal S1024x2048 .bf16) (w : Vec Ideal S2048x1024 .bf16) (g : Vec Ideal S1024x1024 .bf16) (r j : Fin 1024) :
    k0_pay1 (F := Ideal) x w g (ix2 r j) = dot (fun d => x (ix2 r d)) (fun d => w (ix2 d j)) * g (ix2 r j) := by
  pointwise [k0_pay1]
  rfl

theorem pay1 (x : Vec Ideal S1024x2048 .bf16) (w : Vec Ideal S2048x1024 .bf16) (g : Vec Ideal S1024x1024 .bf16) (p : Vec Ideal S1024x1024 .bf16) (r j : Fin 1024) :
    k1_pay1 (F := Ideal) x w g p (ix2 r j) = dot (fun d => x (ix2 r d)) (fun d => w (ix2 d j)) * g (ix2 r j) + p (ix2 r j) := by
  pointwise [k1_pay1]
  rfl

theorem pay2 (x : Vec Ideal S1024x2048 .bf16) (w : Vec Ideal S2048x1024 .bf16) (a : Vec Ideal S1024x1024 .f32) (r j : Fin 1024) :
    k2_pay1 (F := Ideal) x w a (ix2 r j) = dot (fun d => x (ix2 r d)) (fun d => w (ix2 d j)) + a (ix2 r j) := by
  pointwise [k2_pay1]
  rfl

end Cert.MergeKernelIdeal.Value

end
-- ==== Proof.MergeRegions.lean ====
/- What each of the three calls of the merge leaves in its result array, from the arrays it is entered with. -/
module

public import proofs.«01_k».proof.Proof.Gen.MergeKernelIdeal.Frame
public import proofs.«01_k».proof.Proof.MergePayload
public import Idealize.ShloMosaic.Lib.Pipeline.ValueKit

@[expose] public section

set_option maxRecDepth 16384

noncomputable section

namespace Cert.MergeKernelIdeal.Value

open Idealize.ShloMosaic Idealize.ShloMosaic.TcCoe Idealize.SL.Sem
open Cert.MergeKernelIdeal Cert.MergeKernelIdeal.Gen Cert.Layers

/-- A linear layer, each entry times its gate. -/
def gated (x : FVec Ideal S18432x2048 .bf16) (w : FVec Ideal S2048x2048 .bf16) (g : FVec Ideal S18432x2048 .bf16) : FVec Ideal S18432x2048 .bf16 :=
  fun i => dot (fun d => x (ix2 (i 0) d)) (fun d => w (ix2 d (i 1))) * g (ix2 (i 0) (i 1))

/-- A linear layer, each entry times its gate, added to another array. -/
def gatedSum (x : FVec Ideal S18432x2048 .bf16) (w : FVec Ideal S2048x2048 .bf16) (g : FVec Ideal S18432x2048 .bf16) (p : FVec Ideal S18432x2048 .bf16) : FVec Ideal S18432x2048 .bf16 :=
  fun i => dot (fun d => x (ix2 (i 0) d)) (fun d => w (ix2 d (i 1))) * g (ix2 (i 0) (i 1)) + p (ix2 (i 0) (i 1))

/-- A linear layer added to its input. -/
def residual (x : FVec Ideal S18432x2048 .bf16) (w : FVec Ideal S2048x2048 .bf16) (a : FVec Ideal S18432x2048 .f32) : FVec Ideal S18432x2048 .f32 :=
  fun i => dot (fun d => x (ix2 (i 0) d)) (fun d => w (ix2 d (i 1))) + a (ix2 (i 0) (i 1))

theorem zero2 : (![0, 0] : Fin 2 → ℕ) = fun _ => 0 := funext fun a => by fin_cases a <;> rfl

variable (V : (c : Dev nD) → (b : Ref sig .tc) → Buf (Elt Ideal) ((c : Thread nD τ).loc b))

theorem idx0 : ∀ t : Fin cfg0.N, win0_0.index t = ![t.val / 2, 0] ∧ win0_1.index t = ![0, t.val % 2] ∧ win0_2.index t = ![t.val / 2, t.val % 2] ∧ win0_3.index t = ![t.val / 2, t.val % 2] ∧ t.val < 36 :=
  (by decide +kernel : ∀ t : Fin grid0.N, _)

theorem blk0_x (c : Dev nD) (t : Fin cfg0.N) (r : Fin 1024) (d : Fin 2048) (a : Fin 18432) (ha : a.val = 1024 * (t.val / 2) + r.val) :
    iblk0 V c 0 t (ix2 r d) = (V c main_arg0 : FVec Ideal S18432x2048 .bf16) (ix2 a d) := by
  blk_ext [iblk0, idx0 t]

theorem blk0_w (c : Dev nD) (t : Fin cfg0.N) (d : Fin 2048) (j : Fin 1024) (q : Fin 2048) (hq : q.val = 1024 * (t.val % 2) + j.val) :
    iblk0 V c 1 t (ix2 d j) = (V c main_v4 : FVec Ideal S2048x2048 .bf16) (ix2 d q) := by
  blk_ext [iblk0, idx0 t]

theorem blk0_g (c : Dev nD) (t : Fin cfg0.N) (r j : Fin 1024) (a : Fin 18432) (q : Fin 2048) (ha : a.val = 1024 * (t.val / 2) + r.val)
    (hq : q.val = 1024 * (t.val % 2) + j.val) : iblk0 V c 2 t (ix2 r j) = (V c main_arg2 : FVec Ideal S18432x2048 .bf16) (ix2 a q) := by
  blk_ext [iblk0, idx0 t]

theorem out0 (x : Vec Ideal S1024x2048 .bf16) (w : Vec Ideal S2048x1024 .bf16) (g : Vec Ideal S1024x1024 .bf16) : out0_3 (F := Ideal) x w g = k0_pay1 x w g := by
  unfold out0_3
  rw [View.canon_unit_zero zero2, View.ld_unit_zero zero2, View.ld_unit_zero zero2, View.ld_unit_zero zero2]

theorem final0 (c : Dev nD) : (dat0 V c).arrAt 3 cfg0.N = gated (V c main_arg0) (V c main_v4) (V c main_arg2) := by
  refine (dat0 V c).arrAt_eq_of_covers 3 _ (by decide +kernel) fun t hf y => ?_
  blk_simp
  rw [after0_3, out0]
  idx_vars y
  have h0 : (((win0_3.blk t).view.emb (ix2 y0 y1)) 0).val = 1024 * (t.val / 2) + y0.val := by blk_simp [idx0 t]; omega
  have h1 : (((win0_3.blk t).view.emb (ix2 y0 y1)) 1).val = 1024 * (t.val % 2) + y1.val := by blk_simp [idx0 t]; omega
  rw [pay0]
  exact congrArg₂ (· * ·) (congrArg₂ dot (funext fun d => blk0_x V c t y0 d _ h0) (funext fun d => blk0_w V c t d y1 _ h1)) (blk0_g V c t y0 y1 _ _ h0 h1)

theorem idx1 : ∀ t : Fin cfg1.N, win1_0.index t = ![t.val / 2, 0] ∧ win1_1.index t = ![0, t.val % 2] ∧ win1_2.index t = ![t.val / 2, t.val % 2] ∧ win1_3.index t = ![t.val / 2, t.val % 2] ∧ win1_4.index t = ![t.val / 2, t.val % 2] ∧ t.val < 36 :=
  (by decide +kernel : ∀ t : Fin grid1.N, _)

theorem blk1_x (c : Dev nD) (t : Fin cfg1.N) (r : Fin 1024) (d : Fin 2048) (a : Fin 18432) (ha : a.val = 1024 * (t.val / 2) + r.val) :
    iblk1 V c 0 t (ix2 r d) = (V c main_arg1 : FVec Ideal S18432x2048 .bf16) (ix2 a d) := by
  blk_ext [iblk1, idx1 t]

theorem blk1_w (c : Dev nD) (t : Fin cfg1.N) (d : Fin 2048) (j : Fin 1024) (q : Fin 2048) (hq : q.val = 1024 * (t.val % 2) + j.val) :
    iblk1 V c 1 t (ix2 d j) = (V c main_v7 : FVec Ideal S2048x2048 .bf16) (ix2 d q) := by
  blk_ext [iblk1, idx1 t]

theorem blk1_g (c : Dev nD) (t : Fin cfg1.N) (r j : Fin 1024) (a : Fin 18432) (q : Fin 2048) (ha : a.val = 1024 * (t.val / 2) + r.val)
    (hq : q.val = 1024 * (t.val % 2) + j.val) : iblk1 V c 2 t (ix2 r j) = (V c main_arg3 : FVec Ideal S18432x2048 .bf16) (ix2 a q) := by
  blk_ext [iblk1, idx1 t]

theorem blk1_p (c : Dev nD) (t : Fin cfg1.N) (r j : Fin 1024) (a : Fin 18432) (q : Fin 2048) (ha : a.val = 1024 * (t.val / 2) + r.val)
    (hq : q.val = 1024 * (t.val % 2) + j.val) : iblk1 V c 3 t (ix2 r j) = (V c main_v5 : FVec Ideal S18432x2048 .bf16) (ix2 a q) := by
  blk_ext [iblk1, idx1 t]

theorem out1 (x : Vec Ideal S1024x2048 .bf16) (w : Vec Ideal S2048x1024 .bf16) (g : Vec Ideal S1024x1024 .bf16) (p : Vec Ideal S1024x1024 .bf16) : out1_4 (F := Ideal) x w g p = k1_pay1 x w g p := by
  unfold out1_4
  rw [View.canon_unit_zero zero2, View.ld_unit_zero zero2, View.ld_unit_zero zero2, View.ld_unit_zero zero2, View.ld_unit_zero zero2]

theorem final1 (c : Dev nD) : (dat1 V c).arrAt 4 cfg1.N = gatedSum (V c main_arg1) (V c main_v7) (V c main_arg3) (V c main_v5) := by
  refine (dat1 V c).arrAt_eq_of_covers 4 _ (by decide +kernel) fun t hf y => ?_
  blk_simp
  rw [after1_4, out1]
  idx_vars y
  have h0 : (((win1_4.blk t).view.emb (ix2 y0 y1)) 0).val = 1024 * (t.val / 2) + y0.val := by blk_simp [idx1 t]; omega
  have h1 : (((win1_4.blk t).view.emb (ix2 y0 y1)) 1).val = 1024 * (t.val % 2) + y1.val := by blk_simp [idx1 t]; omega
  rw [pay1]
  exact congrArg₂ (· + ·) (congrArg₂ (· * ·) (congrArg₂ dot (funext fun d => blk1_x V c t y0 d _ h0) (funext fun d => blk1_w V c t d y1 _ h1)) (blk1_g V c t y0 y1 _ _ h0 h1)) (blk1_p V c t y0 y1 _ _ h0 h1)

theorem idx2 : ∀ t : Fin cfg2.N, win2_0.index t = ![t.val / 2, 0] ∧ win2_1.index t = ![0, t.val % 2] ∧ win2_2.index t = ![t.val / 2, t.val % 2] ∧ win2_3.index t = ![t.val / 2, t.val % 2] ∧ t.val < 36 :=
  (by decide +kernel : ∀ t : Fin grid2.N, _)

theorem blk2_x (c : Dev nD) (t : Fin cfg2.N) (r : Fin 1024) (d : Fin 2048) (a : Fin 18432) (ha : a.val = 1024 * (t.val / 2) + r.val) :
    iblk2 V c 0 t (ix2 r d) = (V c main_v8 : FVec Ideal S18432x2048 .bf16) (ix2 a d) := by
  blk_ext [iblk2, idx2 t]

theorem blk2_w (c : Dev nD) (t : Fin cfg2.N) (d : Fin 2048) (j : Fin 1024) (q : Fin 2048) (hq : q.val = 1024 * (t.val % 2) + j.val) :
    iblk2 V c 1 t (ix2 d j) = (V c main_v10 : FVec Ideal S2048x2048 .bf16) (ix2 d q) := by
  blk_ext [iblk2, idx2 t]

theorem blk2_a (c : Dev nD) (t : Fin cfg2.N) (r j : Fin 1024) (a : Fin 18432) (q : Fin 2048) (ha : a.val = 1024 * (t.val / 2) + r.val)
    (hq : q.val = 1024 * (t.val % 2) + j.val) : iblk2 V c 2 t (ix2 r j) = (V c main_v2 : FVec Ideal S18432x2048 .f32) (ix2 a q) := by
  blk_ext [iblk2, idx2 t]

theorem out2 (x : Vec Ideal S1024x2048 .bf16) (w : Vec Ideal S2048x1024 .bf16) (a : Vec Ideal S1024x1024 .f32) : out2_3 (F := Ideal) x w a = k2_pay1 x w a := by
  unfold out2_3
  rw [View.canon_unit_zero zero2, View.ld_unit_zero zero2, View.ld_unit_zero zero2, View.ld_unit_zero zero2]

theorem final2 (c : Dev nD) : (dat2 V c).arrAt 3 cfg2.N = residual (V c main_v8) (V c main_v10) (V c main_v2) := by
  refine (dat2 V c).arrAt_eq_of_covers 3 _ (by decide +kernel) fun t hf y => ?_
  blk_simp
  rw [after2_3, out2]
  idx_vars y
  have h0 : (((win2_3.blk t).view.emb (ix2 y0 y1)) 0).val = 1024 * (t.val / 2) + y0.val := by blk_simp [idx2 t]; omega
  have h1 : (((win2_3.blk t).view.emb (ix2 y0 y1)) 1).val = 1024 * (t.val % 2) + y1.val := by blk_simp [idx2 t]; omega
  rw [pay2]
  exact congrArg₂ (· + ·) (congrArg₂ dot (funext fun d => blk2_x V c t y0 d _ h0) (funext fun d => blk2_w V c t d y1 _ h1)) (blk2_a V c t y0 y1 _ _ h0 h1)

end Cert.MergeKernelIdeal.Value

end
-- ==== Proof.MergeResult.lean ====
/- The rows after the merge, and that the reference's are the same. -/
module

public import proofs.«01_k».proof.Proof.MergeRun
public import proofs.«01_k».proof.Proof.MergeRegions
public import proofs.«01_k».proof.Proof.Gen.MergeReferenceIdeal.Run
public import Idealize.ShloMosaic.Lib.Claim
public import Idealize.ShloMosaic.Lib.Pointwise

@[expose] public section

set_option maxRecDepth 16384

noncomputable section

namespace Cert.MergeKernelIdeal.Value

open Idealize.ShloMosaic Idealize.ShloMosaic.TcCoe Idealize.SL.Sem Idealize.ShloMosaic.StableHlo
open Cert.MergeKernelIdeal Cert.MergeKernelIdeal.Gen Cert.Layers

variable (m : (ℓ : Loc nD τ sig) → Buf (Elt Ideal) ℓ) (ρ : Dev nD → PrngReg)

/-- A weight as the matrix the calls multiply by. -/
def weight (w : FVec Ideal S1x2048x2048 .f32) : FVec Ideal S2048x2048 .bf16 :=
  truncf .bf16 (shapeCast S2048x2048 w shapeCasts_S1x2048x2048_S2048x2048) bitsLt_bf16_f32

theorem weight_apply (w : FVec Ideal S1x2048x2048 .f32) (d j : Fin 2048) : weight w (ix2 d j) = w (ix3 0 d j) := by
  unfold weight
  pointwise []

/-- The layer's input: the prompt's rows, then the samples'. -/
def input (x : FVec Ideal S4x4096x2048 .f32) (y : FVec Ideal S32x64x2048 .f32) : FVec Ideal S18432x2048 .f32 :=
  concatenate S18432x2048 0 [⟨S16384x2048, shapeCast S16384x2048 x shapeCasts_S4x4096x2048_S16384x2048⟩,
    ⟨S2048x2048, shapeCast S2048x2048 y shapeCasts_S32x64x2048_S2048x2048⟩] concatenates_S16384x2048_S2048x2048_S18432x2048_d0

/-- The recurrence's part of the merge. -/
def part (c : Dev nD) : FVec Ideal S18432x2048 .bf16 := gated (m ((c : Thread nD τ).loc main_arg0)) (weight (m ((c : Thread nD τ).loc main_arg6))) (m ((c : Thread nD τ).loc main_arg2))

/-- The merged rows. -/
def merged (c : Dev nD) : FVec Ideal S18432x2048 .bf16 := gatedSum (m ((c : Thread nD τ).loc main_arg1)) (weight (m ((c : Thread nD τ).loc main_arg7))) (m ((c : Thread nD τ).loc main_arg3)) (part m c)

/-- The result. -/
def result (c : Dev nD) : FVec Ideal S18432x2048 .f32 := residual (merged m c) (weight (m ((c : Thread nD τ).loc main_arg8))) (input (m ((c : Thread nD τ).loc main_arg4)) (m ((c : Thread nD τ).loc main_arg5)))

theorem at1_v4 (c : Dev nD) : W1 m ρ c (Proc.devRef .tc main_v4) = weight (m ((c : Thread nD τ).loc main_arg6)) := by
  unfold weight
  after_results <;> rfl

theorem at1_v2 (c : Dev nD) : W1 m ρ c (Proc.devRef .tc main_v2) = input (m ((c : Thread nD τ).loc main_arg4)) (m ((c : Thread nD τ).loc main_arg5)) := by
  unfold input
  after_results <;> rfl

theorem at2_v5 (c : Dev nD) : W2 m ρ c (Proc.devRef .tc main_v5) = part m c := by
  refine (W2_arr m ρ c 3).trans ((final0 (V1 m ρ) c).trans ?_)
  unfold part
  rw [← W1_args m ρ c main_arg0 (by decide), ← W1_args m ρ c main_arg2 (by decide), ← at1_v4 m ρ c]

theorem at3_v7 (c : Dev nD) : W3 m ρ c (Proc.devRef .tc main_v7) = weight (m ((c : Thread nD τ).loc main_arg7)) := by
  unfold weight
  rw [show m ((c : Thread nD τ).loc main_arg7) = W2 m ρ c (Proc.devRef .tc main_arg7) from (W2_args m ρ c main_arg7 (by decide)).symm]
  after_results <;> rfl

theorem at4_v8 (c : Dev nD) : W4 m ρ c (Proc.devRef .tc main_v8) = merged m c := by
  refine (W4_arr m ρ c 4).trans ((final1 (V3 m ρ) c).trans ?_)
  unfold merged
  rw [← W3_args m ρ c main_arg1 (by decide), ← W3_args m ρ c main_arg3 (by decide), ← at3_v7 m ρ c,
    ← (W3_of m ρ c main_v5 (by decide)).trans (at2_v5 m ρ c)]

theorem at5_v10 (c : Dev nD) : W5 m ρ c (Proc.devRef .tc main_v10) = weight (m ((c : Thread nD τ).loc main_arg8)) := by
  unfold weight
  rw [show m ((c : Thread nD τ).loc main_arg8) = W4 m ρ c (Proc.devRef .tc main_arg8) from (W4_args m ρ c main_arg8 (by decide)).symm]
  after_results <;> rfl

theorem at5_v2 (c : Dev nD) : W5 m ρ c (Proc.devRef .tc main_v2) = input (m ((c : Thread nD τ).loc main_arg4)) (m ((c : Thread nD τ).loc main_arg5)) :=
  (W5_of m ρ c main_v2 (by decide)).trans ((W4_of m ρ c main_v2 (by decide)).trans ((W3_of m ρ c main_v2 (by decide)).trans
    ((W2_of m ρ c main_v2 (by decide)).trans (at1_v2 m ρ c))))

theorem at6_v11 (c : Dev nD) : W6 m ρ c (Proc.devRef .tc main_v11) = result m c := by
  refine (W6_arr m ρ c 3).trans ((final2 (V5 m ρ) c).trans ?_)
  unfold result
  rw [← at5_v10 m ρ c, ← at5_v2 m ρ c, ← (W5_of m ρ c main_v8 (by decide)).trans (at4_v8 m ρ c)]

end Cert.MergeKernelIdeal.Value

namespace Cert.MergeReferenceIdeal.Value

open Cert.MergeReferenceIdeal Cert.MergeReferenceIdeal.Gen Idealize.ShloMosaic Idealize.ShloMosaic.TcCoe Idealize.SL.Sem
open Cert.Layers

/-- The reference's result. -/
def result (y o u v : FVec Ideal S18432x2048 .bf16) (x : FVec Ideal S18432x2048 .f32) (a b w : FVec Ideal S1x2048x2048 .f32) : FVec Ideal S18432x2048 .f32 :=
  addf x (Host.dotGeneral dot_S18432x2048_S2048x2048_S18432x2048_1_0_0_1_n_n none (addf (mulf (extf .f32 u bitsLt_bf16_f32) (Host.dotGeneral dot_S18432x2048_S2048x2048_S18432x2048_1_0_0_1_n_n none (extf .f32 y bitsLt_bf16_f32) (shapeCast _ a shapeCasts_S1x2048x2048_S2048x2048))) (mulf (extf .f32 v bitsLt_bf16_f32) (Host.dotGeneral dot_S18432x2048_S2048x2048_S18432x2048_1_0_0_1_n_n none (extf .f32 o bitsLt_bf16_f32) (shapeCast _ b shapeCasts_S1x2048x2048_S2048x2048)))) (shapeCast _ w shapeCasts_S1x2048x2048_S2048x2048))

theorem result_apply (y o u v : FVec Ideal S18432x2048 .bf16) (x : FVec Ideal S18432x2048 .f32) (a b w : FVec Ideal S1x2048x2048 .f32) (R : Fin 18432) (j : Fin 2048) :
    result y o u v x a b w (ix2 R j) = x (ix2 R j) + dot (fun k => u (ix2 R k) * dot (fun d => y (ix2 R d)) (fun d => a (ix3 0 d k))
      + v (ix2 R k) * dot (fun d => o (ix2 R d)) (fun d => b (ix3 0 d k))) (fun k => w (ix3 0 k j)) := by
  unfold result
  pointwise []
  rfl

end Cert.MergeReferenceIdeal.Value

namespace Cert.MergeKernelIdeal.Value

open Idealize.ShloMosaic Idealize.ShloMosaic.TcCoe Idealize.SL.Sem
open Cert.MergeKernelIdeal Cert.MergeKernelIdeal.Gen Cert.Layers

variable (m : (ℓ : Loc nD τ sig) → Buf (Elt Ideal) ℓ)

/-- The calls' result is the reference's: the gates multiply on the other side, and the input is added on the other side. -/
theorem result_eq (c : Dev nD) : Cert.MergeReferenceIdeal.Value.result (m ((c : Thread nD τ).loc main_arg0)) (m ((c : Thread nD τ).loc main_arg1)) (m ((c : Thread nD τ).loc main_arg2)) (m ((c : Thread nD τ).loc main_arg3)) (input (m ((c : Thread nD τ).loc main_arg4)) (m ((c : Thread nD τ).loc main_arg5))) (m ((c : Thread nD τ).loc main_arg6)) (m ((c : Thread nD τ).loc main_arg7)) (m ((c : Thread nD τ).loc main_arg8)) = result m c := by
  funext i
  idx_vars i
  refine (Cert.MergeReferenceIdeal.Value.result_apply _ _ _ _ _ _ _ _ i0 i1).trans ((add_comm _ _).trans ?_)
  refine congrArg₂ (· + ·) (congrArg₂ dot (funext fun k => ?_) (funext fun k => (weight_apply _ k i1).symm)) rfl
  refine (congrArg₂ (· + ·) (mul_comm _ _) (mul_comm _ _)).trans ((add_comm _ _).trans ?_)
  refine congrArg₂ (· + ·) (congrArg₂ (· * ·) (congrArg₂ dot rfl (funext fun d => (weight_apply _ d k).symm)) rfl) ?_
  exact congrArg₂ (· * ·) (congrArg₂ dot rfl (funext fun d => (weight_apply _ d k).symm)) rfl

end Cert.MergeKernelIdeal.Value

end
-- ==== Proof.MergeClaims.lean ====
/- The claims about the merge of the two mixers. -/
module

public import proofs.«01_k».proof.Defs
public import proofs.«01_k».proof.Proof.Gen.MergeKernel.Frame
public import proofs.«01_k».proof.Proof.MergeResult
public import Idealize.ShloMosaic.Lib.Quiescent

@[expose] public section

set_option maxRecDepth 16384

noncomputable section

namespace Cert.MergeClaims

open Idealize.ShloMosaic Idealize.ShloMosaic.TcCoe Idealize.SL.Sem
open Cert.MergeKernelIdeal.Gen

theorem frame_kernel : Cert.quiescent_MergeKernel := fun m ρ _ => Cert.MergeKernel.Gen.frame m ρ
theorem frame_ideal : Cert.quiescent_MergeKernelIdeal := fun m ρ _ => Cert.MergeKernelIdeal.Gen.frame m ρ
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem preserves : Cert.preserves_MergeKernel_MergeKernelIdeal := trivial

/-- Both programs end at the same rows. -/
theorem algebraic : Cert.algebraic_MergeKernelIdeal_MergeReferenceIdeal := by
  intro m ρ m' ρ' _ hagree
  refine ⟨fun c => Cert.MergeKernelIdeal.Value.result m c, ?_, ?_⟩
  · refine (θ_run Cert.MergeKernelIdeal.defs _ _).mono (fun _ h c => ⟨?_, h.2 c⟩)
      (θ_run_and (Cert.MergeKernelIdeal.Value.run_all (F := Ideal) m ρ) (Cert.MergeKernelIdeal.Gen.unchanged (F := Ideal) m ρ))
    exact (h.1.1 c _ (mem_uc Cert.MergeKernelIdeal.main_v11 (by decide))).trans (Cert.MergeKernelIdeal.Value.at6_v11 m ρ c)
  · refine (θ_run Cert.MergeReferenceIdeal.defs _ _).mono (fun _ h c => ⟨(h c).1.trans ?_, (h c).2⟩)
      (Cert.MergeReferenceIdeal.Value.run (F := Ideal) m' ρ')
    obtain ⟨e0, e1, e2, e3, e4, e5, e6, e7, e8⟩ := hagree c
    rw [e0, e1, e2, e3, e4, e5, e6, e7, e8]
    exact Cert.MergeKernelIdeal.Value.result_eq m c

end Cert.MergeClaims

end
-- ==== Proof.UpSchedule.lean ====
/- The experts' schedule as arithmetic: expert `k` owns `N k` blocks of rows, its blocks follow those of the experts before
   it, and its `2 * N k` steps go over its blocks once for each half of the columns. -/
module

public import Mathlib.Data.Nat.Count
public import Mathlib.Data.List.Basic
public import Mathlib.Tactic.Linarith

@[expose] public section

namespace Cert.Schedule

variable (N : ℕ → ℕ)

/-- The number of blocks of the experts before `k`. -/
def upto (k : ℕ) : ℕ := ((List.range k).map N).sum

theorem upto_zero : upto N 0 = 0 := rfl

theorem upto_succ (k : ℕ) : upto N (k + 1) = upto N k + N k := by
  simp [upto, List.range_succ]

theorem upto_mono {a b : ℕ} (h : a ≤ b) : upto N a ≤ upto N b := by
  induction h with
  | refl => exact le_rfl
  | step _ ih => rw [upto_succ]; omega

/-- How many of the first `n` values of a growing function are at most `x`: these are its first values. -/
theorem count_spec (f : ℕ → ℕ) (hf : ∀ a b, a ≤ b → f a ≤ f b) (x n : ℕ) :
    (∀ k, k < Nat.count (fun k => f k ≤ x) n → f k ≤ x) ∧ (Nat.count (fun k => f k ≤ x) n < n → x < f (Nat.count (fun k => f k ≤ x) n)) := by
  induction n with
  | zero => exact ⟨fun k hk => absurd hk (by simp), fun h => absurd h (by simp)⟩
  | succ n ih =>
    have hle := Nat.count_le (p := fun k => f k ≤ x) (n := n)
    rw [Nat.count_succ]
    by_cases h : f n ≤ x
    · have he : Nat.count (fun k => f k ≤ x) n = n := by
        by_contra hne
        have := ih.2 (by omega)
        have := hf _ _ hle
        omega
      rw [if_pos h, he]
      exact ⟨fun k hk => (hf k n (by omega)).trans h, fun hh => absurd hh (by omega)⟩
    · rw [if_neg h, Nat.add_zero]
      refine ⟨ih.1, fun _ => ?_⟩
      by_cases he : Nat.count (fun k => f k ≤ x) n = n
      · rw [he]; omega
      · exact ih.2 (by omega)

theorem count_eq (f : ℕ → ℕ) (hf : ∀ a b, a ≤ b → f a ≤ f b) (x n e : ℕ) (hen : e < n) (h1 : ∀ k, k < e → f k ≤ x) (h2 : x < f e) :
    Nat.count (fun k => f k ≤ x) n = e := by
  obtain ⟨a, b⟩ := count_spec f hf x n
  have hle := Nat.count_le (p := fun k => f k ≤ x) (n := n)
  rcases Nat.lt_trichotomy (Nat.count (fun k => f k ≤ x) n) e with h | h | h
  · have := h1 _ h
    have := b (by omega)
    omega
  · exact h
  · have := a e h
    omega

/-- The step, held at the last one that has work. -/
def stp (t : ℕ) : ℕ := min t (2 * upto N 32 - 1)

/-- The step's expert. -/
def ex (t : ℕ) : ℕ := Nat.count (fun k => 2 * upto N (k + 1) ≤ stp N t) 32

/-- The step's place among its expert's steps. -/
def loc (t : ℕ) : ℕ := stp N t - 2 * upto N (ex N t)

/-- The half of the columns, and the block among the expert's blocks. -/
def half (t : ℕ) : ℕ := loc N t / N (ex N t)
def blk (t : ℕ) : ℕ := loc N t % N (ex N t)

/-- The block of rows. -/
def row (t : ℕ) : ℕ := upto N (ex N t) + blk N t

theorem two_mono (a b : ℕ) (h : a ≤ b) : 2 * upto N (a + 1) ≤ 2 * upto N (b + 1) :=
  Nat.mul_le_mul_left 2 (upto_mono N (by omega))

variable {N}

/-- The step's expert is the one whose steps hold it. -/
theorem ex_spec (hT : 1 ≤ upto N 32) (t : ℕ) :
    ex N t < 32 ∧ 2 * upto N (ex N t) ≤ stp N t ∧ stp N t < 2 * upto N (ex N t) + 2 * N (ex N t) := by
  obtain ⟨a, b⟩ := count_spec (fun k => 2 * upto N (k + 1)) (two_mono N) (stp N t) 32
  have hle := Nat.count_le (p := fun k => 2 * upto N (k + 1) ≤ stp N t) (n := 32)
  change (∀ k, k < ex N t → _) at a
  change (ex N t < 32 → stp N t < 2 * upto N (ex N t + 1)) at b
  change ex N t ≤ 32 at hle
  have hs : stp N t < 2 * upto N 32 := by unfold stp; omega
  have h32 : ex N t < 32 := by
    by_contra h
    have : 2 * upto N 32 ≤ stp N t := a 31 (by omega)
    omega
  refine ⟨h32, ?_, ?_⟩
  · rcases Nat.eq_zero_or_pos (ex N t) with h | h
    · rw [h, upto_zero]; omega
    · have := a (ex N t - 1) (by omega)
      rwa [Nat.sub_add_cancel h] at this
  · have := b h32
    rw [upto_succ] at this
    omega

theorem ex_eq (t e : ℕ) (he : e < 32) (h1 : 2 * upto N e ≤ stp N t) (h2 : stp N t < 2 * upto N e + 2 * N e) : ex N t = e := by
  refine count_eq _ (two_mono N) _ _ _ he (fun k hk => ?_) (by rw [upto_succ]; omega)
  have := upto_mono N (show k + 1 ≤ e by omega)
  omega

theorem loc_lt (hT : 1 ≤ upto N 32) (t : ℕ) : loc N t < 2 * N (ex N t) := by
  have := ex_spec hT t
  unfold loc
  omega

theorem pos (hT : 1 ≤ upto N 32) (t : ℕ) : 1 ≤ N (ex N t) := by
  have := ex_spec hT t
  omega

theorem half_lt (hT : 1 ≤ upto N 32) (t : ℕ) : half N t < 2 :=
  (Nat.div_lt_iff_lt_mul (pos hT t)).2 (by have := loc_lt hT t; omega)

theorem blk_lt (hT : 1 ≤ upto N 32) (t : ℕ) : blk N t < N (ex N t) := Nat.mod_lt _ (pos hT t)

theorem row_lt (hT : 1 ≤ upto N 32) (t : ℕ) : row N t < upto N 32 := by
  have h := blk_lt hT t
  have h2 := upto_mono N (show ex N t + 1 ≤ 32 by have := (ex_spec hT t).1; omega)
  rw [upto_succ] at h2
  unfold row
  omega

/-- After the last step that has work nothing moves. -/
theorem stay (t : ℕ) (h : 2 * upto N 32 ≤ t + 1) : stp N (t + 1) = stp N t := by
  unfold stp
  omega

theorem same_of_stp {t u : ℕ} (h : stp N t = stp N u) : ex N t = ex N u ∧ half N t = half N u ∧ row N t = row N u := by
  have he : ex N t = ex N u := by unfold ex; rw [h]
  have hl : loc N t = loc N u := by unfold loc; rw [h, he]
  exact ⟨he, by unfold half; rw [hl, he], by unfold row blk; rw [hl, he]⟩

/-- A step that does not open a run of blocks goes on with its expert and its half. -/
theorem goes_on (hT : 1 ≤ upto N 32) (t : ℕ) (ht : t + 1 < 2 * upto N 32) (hr : blk N (t + 1) ≠ 0) :
    ex N (t + 1) = ex N t ∧ half N (t + 1) = half N t := by
  have hs1 : stp N (t + 1) = t + 1 := by unfold stp; omega
  have hs0 : stp N t = t := by unfold stp; omega
  obtain ⟨h32, h1, h2⟩ := ex_spec hT (t + 1)
  rw [hs1] at h1 h2
  have hl1 : loc N (t + 1) = t + 1 - 2 * upto N (ex N (t + 1)) := by unfold loc; rw [hs1]
  have hl0 : loc N (t + 1) ≠ 0 := fun h => hr (by unfold blk; rw [h, Nat.zero_mod])
  have he : ex N t = ex N (t + 1) := ex_eq t _ h32 (by omega) (by omega)
  have hl : loc N (t + 1) = loc N t + 1 := by
    have : loc N t = t - 2 * upto N (ex N (t + 1)) := by unfold loc; rw [hs0, he]
    omega
  refine ⟨he.symm, ?_⟩
  unfold half
  rw [he, hl, Nat.succ_div, if_neg, Nat.add_zero]
  intro hd
  exact hr (by unfold blk; rw [hl]; exact Nat.mod_eq_zero_of_dvd hd)

/-- Every block of rows is worked at, with each half of the columns, at a step of its own expert. -/
theorem reached (hT : 1 ≤ upto N 32) (i j : ℕ) (hi : i < upto N 32) (hj : j < 2) :
    ∃ t, t < 2 * upto N 32 ∧ row N t = i ∧ half N t = j ∧ ex N t = Nat.count (fun k => upto N (k + 1) ≤ i) 32 := by
  obtain ⟨a, b⟩ := count_spec (fun k => upto N (k + 1)) (fun a b h => upto_mono N (by omega)) i 32
  have hle := Nat.count_le (p := fun k => upto N (k + 1) ≤ i) (n := 32)
  set e := Nat.count (fun k => upto N (k + 1) ≤ i) 32 with he
  have h32 : e < 32 := by
    by_contra h
    have : upto N 32 ≤ i := a 31 (by omega)
    omega
  have h2 := b h32
  have h1 : upto N e ≤ i := by
    rcases Nat.eq_zero_or_pos e with h | h
    · rw [h, upto_zero]; omega
    · have := a (e - 1) (by omega)
      simp only [Nat.sub_add_cancel h] at this
      exact this
  have hT2 := upto_mono N (show e + 1 ≤ 32 by omega)
  rw [upto_succ] at h2 hT2
  have hjn : j * N e ≤ N e := by
    have : j * N e ≤ 1 * N e := Nat.mul_le_mul_right _ (by omega)
    omega
  have hs : stp N (2 * upto N e + (j * N e + (i - upto N e))) = 2 * upto N e + (j * N e + (i - upto N e)) := by unfold stp; omega
  have hex : ex N (2 * upto N e + (j * N e + (i - upto N e))) = e := ex_eq _ _ h32 (by rw [hs]; omega) (by rw [hs]; omega)
  have hloc : loc N (2 * upto N e + (j * N e + (i - upto N e))) = j * N e + (i - upto N e) := by unfold loc; rw [hs, hex]; omega
  refine ⟨2 * upto N e + (j * N e + (i - upto N e)), by omega, ?_, ?_, hex⟩
  · unfold row blk
    rw [hloc, hex, Nat.add_comm (j * N e), Nat.add_mul_mod_self_right, Nat.mod_eq_of_lt (by omega)]
    omega
  · unfold half
    rw [hloc, hex, Nat.add_comm (j * N e), Nat.add_mul_div_right _ _ (by omega), Nat.div_eq_of_lt (by omega), Nat.zero_add]

/-- The reference's expert of a block is the step's. -/
theorem ex_of_row (hT : 1 ≤ upto N 32) (t : ℕ) : Nat.count (fun k => upto N (k + 1) ≤ row N t) 32 = ex N t := by
  obtain ⟨h32, _, _⟩ := ex_spec hT t
  have hb := blk_lt hT t
  refine count_eq (fun k => upto N (k + 1)) (fun a b h => upto_mono N (by omega)) _ _ _ h32 (fun k hk => ?_) ?_
  · have := upto_mono N (show k + 1 ≤ ex N t by omega)
    unfold row
    omega
  · rw [upto_succ]
    unfold row
    omega

end Cert.Schedule
-- ==== Proof.UpWord.lean ====
/- Word arithmetic on small naturals: the operations of a schedule on words that hold naturals below half the range. -/
module

public import Idealize.ShloMosaic.Lib.Tactic
public import Idealize.ShloMosaic.Lib.WordCmp

@[expose] public section

namespace Cert.Schedule

open Idealize.ShloMosaic Idealize.ShloMosaic.WordCmp

theorem toNat_small {a : ℕ} (h : a < 2 ^ 31) : (BitVec.ofNat 32 a).toNat = a := by
  rw [BitVec.toNat_ofNat]; omega

theorem msb_small {a : ℕ} (h : a < 2 ^ 31) : (BitVec.ofNat 32 a).msb = false := by
  rw [BitVec.msb_eq_false_iff_two_mul_lt, toNat_small h]; omega

theorem sub_small {a b : ℕ} (h : b ≤ a) : IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub]
  simp only [BitVec.toNat_ofNat]
  omega

theorem add_small (a b : ℕ) : IntOp.addi (BitVec.ofNat 32 a) (BitVec.ofNat 32 b) = BitVec.ofNat 32 (a + b) := BitVec.ofNat_add a b |>.symm

theorem mul_small (a b : ℕ) : IntOp.muli (BitVec.ofNat 32 a) (BitVec.ofNat 32 b) = BitVec.ofNat 32 (a * b) := BitVec.ofNat_mul a b |>.symm

theorem slt_small {a b : ℕ} (ha : a < 2 ^ 31) (hb : b < 2 ^ 31) : (BitVec.ofNat 32 a).slt (BitVec.ofNat 32 b) = decide (a < b) := by
  rw [BitVec.slt_eq_decide, BitVec.toInt_eq_toNat_of_msb (msb_small ha), BitVec.toInt_eq_toNat_of_msb (msb_small hb), toNat_small ha, toNat_small hb]
  simp

theorem max_small {a b : ℕ} (ha : a < 2 ^ 31) (hb : b < 2 ^ 31) : IntOp.maxsi (BitVec.ofNat 32 a) (BitVec.ofNat 32 b) = BitVec.ofNat 32 (max a b) := by
  unfold IntOp.maxsi
  rw [slt_small hb ha]
  by_cases h : b < a
  · rw [decide_eq_true h, if_pos rfl, max_eq_left (by omega)]
  · rw [decide_eq_false h, if_neg (by decide), max_eq_right (by omega)]

theorem min_small {a b : ℕ} (ha : a < 2 ^ 31) (hb : b < 2 ^ 31) : IntOp.minsi (BitVec.ofNat 32 a) (BitVec.ofNat 32 b) = BitVec.ofNat 32 (min a b) := by
  unfold IntOp.minsi
  rw [slt_small ha hb]
  by_cases h : a < b
  · rw [decide_eq_true h, if_pos rfl, min_eq_left (by omega)]
  · rw [decide_eq_false h, if_neg (by decide), min_eq_right (by omega)]

theorem lt_small {a b : ℕ} (ha : a < 2 ^ 31) (hb : b < 2 ^ 31) : IntOp.cmpi .slt (BitVec.ofNat 32 a) (BitVec.ofNat 32 b) = BitVec.ofBool (decide (a < b)) :=
  congrArg BitVec.ofBool (slt_small ha hb)

theorem eq_small {a b : ℕ} (ha : a < 2 ^ 31) (hb : b < 2 ^ 31) : IntOp.cmpi .eq (BitVec.ofNat 32 a) (BitVec.ofNat 32 b) = BitVec.ofBool (decide (a = b)) := by
  rw [cmpi_eq_eq_toNat, toNat_small ha, toNat_small hb]

theorem ne_small {a b : ℕ} (ha : a < 2 ^ 31) (hb : b < 2 ^ 31) : IntOp.cmpi .ne (BitVec.ofNat 32 a) (BitVec.ofNat 32 b) = BitVec.ofBool (decide (a ≠ b)) := by
  rw [cmpi_ne_eq_toNat, toNat_small ha, toNat_small hb]

theorem ge_small {a b : ℕ} (ha : a < 2 ^ 31) (hb : b < 2 ^ 31) : IntOp.cmpi .sge (BitVec.ofNat 32 a) (BitVec.ofNat 32 b) = 1#1 ↔ b ≤ a := by
  rw [cmpi_sge_eq, BitVec.toInt_eq_toNat_of_msb (msb_small ha), BitVec.toInt_eq_toNat_of_msb (msb_small hb), toNat_small ha, toNat_small hb,
    ofBool_decide_eq_one_iff]
  omega

theorem no_corner {b : ℕ} (x : BitVec 32) (hb : b < 2 ^ 31) (h : 1 ≤ b) : ¬ IntOp.SDivCorner x (BitVec.ofNat 32 b) := by
  rintro (h0 | ⟨-, h1⟩)
  · have := congrArg BitVec.toNat h0
    rw [toNat_small hb] at this
    have h2 : (0 : BitVec 32).toNat = 0 := rfl
    omega
  · have := congrArg BitVec.toNat h1
    rw [toNat_small hb] at this
    have h2 : (-1 : BitVec 32).toNat = 4294967295 := by decide
    omega

theorem div_small (u : ArithUnit) {a b : ℕ} (ha : a < 2 ^ 31) (hb : b < 2 ^ 31) (h : 1 ≤ b) :
    IntOp.divsi u (BitVec.ofNat 32 a) (BitVec.ofNat 32 b) = BitVec.ofNat 32 (a / b) := by
  rw [IntOp.divsi, if_neg (no_corner _ hb h), BitVec.sdiv_eq, msb_small ha, msb_small hb]
  apply BitVec.eq_of_toNat_eq
  have := Nat.div_le_self a b
  rw [toNat_small (by omega)]
  show ((BitVec.ofNat 32 a).udiv (BitVec.ofNat 32 b)).toNat = _
  rw [BitVec.udiv_eq, BitVec.toNat_udiv, toNat_small ha, toNat_small hb]

theorem rem_small (u : ArithUnit) {a b : ℕ} (ha : a < 2 ^ 31) (hb : b < 2 ^ 31) (h : 1 ≤ b) :
    IntOp.remsi u (BitVec.ofNat 32 a) (BitVec.ofNat 32 b) = BitVec.ofNat 32 (a % b) := by
  rw [IntOp.remsi, if_neg (no_corner _ hb h), BitVec.srem_eq, msb_small ha, msb_small hb]
  apply BitVec.eq_of_toNat_eq
  have := Nat.mod_le a b
  rw [toNat_small (by omega)]
  show ((BitVec.ofNat 32 a) % (BitVec.ofNat 32 b)).toNat = _
  rw [BitVec.toNat_umod, toNat_small ha, toNat_small hb]

end Cert.Schedule
-- ==== Proof.UpCounts.lean ====
/- The experts' block counts: the precondition read as numbers, and the rows the claim compares. -/
module

public import proofs.«01_k».proof.Pre_blocks_fit
public import proofs.«01_k».proof.On_rows_used
public import proofs.«01_k».proof.Proof.UpSchedule
public import proofs.«01_k».proof.Proof.UpWord
public import Idealize.ShloMosaic.Lib.Routing.OpsSet
public import Idealize.ShloMosaic.Lib.ReduceAll

@[expose] public section

set_option maxRecDepth 16384

noncomputable section

namespace Cert.Schedule

open Idealize.ShloMosaic
open Idealize.ShloMosaic.ValueIdx (ix1)

/-- The words of the block counts. -/
abbrev Counts : Type := IVec ⟨1, ![32]⟩ 32

/-- The count of expert `k`. -/
def cnt (x : Counts) (k : ℕ) : ℕ := if h : k < 32 then (x (ix1 (⟨k, h⟩ : Fin 32))).toNat else 0

/-- Between one and 176 blocks in all. -/
structure Fits (x : Counts) : Prop where
  pos : 1 ≤ upto (cnt x) 32
  le : upto (cnt x) 32 ≤ 176

theorem x_at (x : Counts) (k : Fin 32) : x (ix1 k) = BitVec.ofNat 32 (cnt x k.val) := by
  unfold cnt
  rw [dif_pos k.isLt, BitVec.ofNat_toNat, BitVec.setWidth_eq]

/-- The number of blocks of all experts, as the host code adds it up. -/
theorem total (x : Counts) (h : (⟨1, ![32]⟩ : Shape).ReducesTo [0] ⟨0, ![]⟩) (hu : 0 < (⟨0, ![]⟩ : Shape).numel) :
    Host.reduce IntOp.addi x (constantI ⟨0, ![]⟩ 32 0#32) h hu ValueIdx.ix0 = BitVec.ofNat 32 (upto (cnt x) 32) :=
  Routing.reduce_sum (N := 32) x (cnt x) (x_at x) h hu

theorem both : ∀ a b : BitVec 1, a &&& b = 1#1 → a = 1#1 ∧ b = 1#1 := by decide

theorem in_range (w : BitVec 32) (h0 : IntOp.cmpi .sge w 0#32 = 1#1) (h1 : IntOp.cmpi .sle w 176#32 = 1#1) : w.toNat ≤ 176 := by
  rw [WordCmp.cmpi_sge_eq, WordCmp.ofBool_decide_eq_one_iff] at h0
  rw [WordCmp.cmpi_sle_eq, WordCmp.ofBool_decide_eq_one_iff] at h1
  have e0 : (0#32 : BitVec 32).toInt = 0 := by decide
  have e1 : (176#32 : BitVec 32).toInt = 176 := by decide
  rw [e0] at h0
  rw [e1] at h1
  have := BitVec.toInt_eq_toNat_cond w
  split at this <;> omega

theorem upto_bound (N : ℕ → ℕ) (h : ∀ k, N k ≤ 176) (n : ℕ) : upto N n ≤ n * 176 := by
  induction n with
  | zero => exact le_rfl
  | succ n ih => rw [upto_succ]; have := h n; omega

instance : Subsingleton (⟨0, ![]⟩ : Shape).Idx := ⟨fun a b => funext fun k => k.elim0⟩

variable {F : FTy → Type} [FloatOps F]

theorem fits [Cert.Pre_blocks_fit.Facts] (x : Counts) (a1 : IVec ⟨2, ![90112, 1024]⟩ 32) (a2 : FVec F ⟨3, ![32, 2048, 2048]⟩ .f32)
    (a3 : FVec F ⟨2, ![32, 2048]⟩ .f32) (a4 : FVec F ⟨3, ![32, 2048, 2048]⟩ .f32) (a5 : FVec F ⟨2, ![32, 2048]⟩ .f32)
    (h : Cert.Pre_blocks_fit.fn (F := F) x a1 a2 a3 a4 a5 = fun _ => 1#1) : Fits x := by
  have h0 := congrFun h ValueIdx.ix0
  unfold Cert.Pre_blocks_fit.fn at h0
  dsimp only at h0
  obtain ⟨h01, h3⟩ := both _ _ h0
  obtain ⟨h1, h2⟩ := both _ _ h01
  have hr : ∀ k, cnt x k ≤ 176 := fun k => by
    by_cases hk : k < 32
    · obtain ⟨p, q⟩ := both _ _ (Host.reduce_andi_all _ _ _ _ _ h1 (ix1 (⟨k, hk⟩ : Fin 32)))
      unfold cnt
      rw [dif_pos hk]
      exact in_range _ p q
    · unfold cnt; rw [dif_neg hk]; omega
  have hb := upto_bound (cnt x) hr 32
  have e := total x Cert.Pre_blocks_fit.Facts.reducesTo_S32_S_d0 Cert.Pre_blocks_fit.Facts.h_S_
  have h2' : IntOp.cmpi .sle (BitVec.ofNat 32 (upto (cnt x) 32)) (BitVec.ofNat 32 176) = 1#1 := (congrArg (fun w => IntOp.cmpi .sle w 176#32) e).symm.trans h2
  have h3' : IntOp.cmpi .sge (BitVec.ofNat 32 (upto (cnt x) 32)) (BitVec.ofNat 32 1) = 1#1 := (congrArg (fun w => IntOp.cmpi .sge w 1#32) e).symm.trans h3
  rw [WordCmp.cmpi_sle_ofNat (by omega) (by omega), WordCmp.ofBool_decide_eq_one_iff] at h2'
  exact ⟨(ge_small (by omega) (by omega)).1 h3', h2'⟩

/-- The claim compares the rows of the blocks in use. -/
theorem row_used [Cert.On_rows_used.Facts] (x : Counts) (hx : Fits x) (a1 : IVec ⟨2, ![90112, 1024]⟩ 32) (a2 : FVec F ⟨3, ![32, 2048, 2048]⟩ .f32)
    (a3 : FVec F ⟨2, ![32, 2048]⟩ .f32) (a4 : FVec F ⟨3, ![32, 2048, 2048]⟩ .f32) (a5 : FVec F ⟨2, ![32, 2048]⟩ .f32)
    (i : (⟨2, ![90112, 2048]⟩ : Shape).Idx) (h : Cert.On_rows_used.fn (F := F) x a1 a2 a3 a4 a5 i = 1#1) : (i 0).val < 512 * upto (cnt x) 32 := by
  have hi : (i 0).val < 90112 := (i 0).isLt
  have hl := hx.le
  have e := total x Cert.On_rows_used.Facts.reducesTo_S32_S_d0 Cert.On_rows_used.Facts.h_S_
  have h' : IntOp.cmpi .slt (BitVec.ofNat 32 (i 0).val) (IntOp.muli (BitVec.ofNat 32 512)
      (Host.reduce IntOp.addi x (constantI ⟨0, ![]⟩ 32 0#32) Cert.On_rows_used.Facts.reducesTo_S32_S_d0 Cert.On_rows_used.Facts.h_S_ ValueIdx.ix0)) = 1#1 := by
    refine Eq.trans (congrArg (fun w => IntOp.cmpi .slt (BitVec.ofNat 32 (i 0).val) w) ?_) h
    exact (Routing.bc0 Cert.On_rows_used.Facts.bcast_S_S90112x2048 (muli (constantI ⟨0, ![]⟩ 32 512#32)
      (Host.reduce IntOp.addi x (constantI ⟨0, ![]⟩ 32 0#32) Cert.On_rows_used.Facts.reducesTo_S32_S_d0 Cert.On_rows_used.Facts.h_S_)) i).symm
  rw [e, mul_small, lt_small (by omega) (by omega), WordCmp.ofBool_decide_eq_one_iff] at h'
  exact h'

end Cert.Schedule
-- ==== Proof.UpKitIdeal.lean ====
/- The launch of the experts' gate and up products: the memory when the pipelined region is entered, the five tables the
   grid reads there, the blocks the tables choose, and what the argument arrays hold at the end. -/
module

public import proofs.«01_k».proof.Proof.Gen.UpKernelIdeal.Launch
public import proofs.«01_k».proof.Proof.Gen.UpKernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.UpKernelIdeal.Up

open Cert.UpKernelIdeal Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host code before the region leaves `main_arg0` alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host code before the region leaves `main_arg1` alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host code before the region leaves `main_arg2` alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host code before the region leaves `main_arg3` alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host code before the region leaves `main_arg4` alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host code before the region leaves `main_arg5` alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S352 .i32 := Memref.whole main_v17
abbrev htbM0_0 : tbM0_0.IsWhole := Memref.isWhole_whole _
abbrev tbM0_1 : Memref sig .tc .smem S352 .i32 := Memref.whole main_v37
abbrev htbM0_1 : tbM0_1.IsWhole := Memref.isWhole_whole _
abbrev tbM0_2 : Memref sig .tc .smem S352 .i32 := Memref.whole main_v55
abbrev htbM0_2 : tbM0_2.IsWhole := Memref.isWhole_whole _
abbrev tbM0_3 : Memref sig .tc .smem S352 .i32 := Memref.whole main_v47
abbrev htbM0_3 : tbM0_3.IsWhole := Memref.isWhole_whole _
abbrev tbM0_4 : Memref sig .tc .smem S352 .i32 := Memref.whole main_v43
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer of input 0 holds its block when the body runs, whether it was fetched there or stayed from the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 1 holds its block when the body runs, whether it was fetched there or stayed from the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 2 holds its block when the body runs, whether it was fetched there or stayed from the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 3 holds its block when the body runs, whether it was fetched there or stayed from the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 4 holds its block when the body runs, whether it was fetched there or stayed from the point before. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 2 rfl).trans ((hA c 2).trans (V_main_arg4 m c)),
      ((h c).2 main_arg5 (by decide : main_arg5 ∈ Pipeline.restRefs sig spec0)).trans (V_main_arg5 m c)⟩) h

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_up (grid0.coords t) (Memref.whole main_v17) (Memref.isWhole_whole _) (Memref.whole main_v37) (Memref.isWhole_whole _) (Memref.whole main_v55) (Memref.isWhole_whole _) (Memref.whole main_v47) (Memref.isWhole_whole _) (Memref.whole main_v43) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## Where the windows are idle (the printed configuration's table `Cfg.idle`) -/

/-- Input 0 is never idle. -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Input 1 is never idle. -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Input 2 is never idle. -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Input 3 is never idle. -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Input 4 is never idle. -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x1024 .bf16 := Memref.whole cc0_scratch0
abbrev scM0_1 : Memref sig .tc .vmem S2048x1024 .bf16 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.UpKernelIdeal.Up

end
-- ==== Proof.UpPointIdeal.lean ====
/- One point of the experts' gate and up products: what the kernel body leaves. The two words it reads of the tables say
   whether this point opens a new block of the weights and whether it has work; where the weights' copies or the output are
   already what they should be, the body may leave them. Either way the point ends with both copies and the output block in
   one closed form. -/
module

public import proofs.«01_k».proof.Proof.UpKitIdeal
public import Idealize.ShloMosaic.Lib.VecWindow

@[expose] public section

set_option maxRecDepth 16384

noncomputable section

namespace Cert.UpKernelIdeal.Up

open Cert.UpKernelIdeal Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The output block of a point from its blocks of the five inputs. -/
def outBlock (x0 : Vec F S512x1024 .i32) (x1 x2 : Vec F S1x2048x1024 .f32) (x3 x4 : Vec F S1x1x1024 .f32) : Vec F S512x1024 .bf16 :=
  k0_pay3 x0 (k0_pay1 x1) x3 (k0_pay2 x2) x4

/-- A buffer that is stored whole under a condition reads as `out` afterwards, if the stored array is `out` and, where the
    condition fails, the buffer read so before. -/
theorem read_stored {S : Shape} {e : EltTy} {M : Memref sig .tc .vmem S e} {f : M.view.ty.Contents (Elt F)} {off : Fin S.rank → ℕ}
    (inb : ∀ a, off a + S.size a ≤ S.size a) {P : Prop} [Decidable P] {pay : S.Idx → Elt F e} {out : S.Idx → Elt F e}
    (h : pay = out) (h' : ¬ P → M.view.read (Elt F) f = out) :
    M.view.read (Elt F) (if hc : P then M.view.writes (Elt F) f [⟨Rect.unit off S.size inb, pay⟩] else f) = out := by
  split_ifs with hc
  · exact (View.read_writes_full _ _ _ _ _).trans h
  · exact h' hc

/-- A whole load reads what the buffer reads. -/
theorem load_whole {S : Shape} {e : EltTy} {M : Memref sig .tc .vmem S e} {f : M.view.ty.Contents (Elt F)} {off : Fin S.rank → ℕ}
    (inb : ∀ a, off a + S.size a ≤ S.size a) {out : S.Idx → Elt F e} (h : M.view.read (Elt F) f = out) :
    M.view.readAt (Elt F) (Rect.unit off S.size inb).toLoadRect f = out :=
  (View.readAt_full _ _ _).trans h

/-- The last payload on equal operands. -/
theorem pay3_eq {x0 y0 : Vec F S512x1024 .i32} {a b c d : Vec F S2048x1024 .bf16} {x3 y3 x4 y4 : Vec F S1x1x1024 .f32}
    (h0 : x0 = y0) (h1 : a = b) (h3 : x3 = y3) (h2 : c = d) (h4 : x4 = y4) : k0_pay3 x0 a x3 c x4 = k0_pay3 y0 b y3 d y4 := by
  rw [h0, h1, h2, h3, h4]

set_option maxHeartbeats 1000000 in
/-- The body at a point whose words are `w3` (does it open a block of weights) and `w4` (has it work). -/
theorem run_point (c : Dev nD) (i : grid0.Coords) (arg6 : Memref sig .tc .vmem S512x1024 .i32) (harg6 : arg6.IsWhole) (arg7 : Memref sig .tc .vmem S1x2048x1024 .f32) (harg7 : arg7.IsWhole) (arg8 : Memref sig .tc .vmem S1x2048x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S512x1024 .bf16) (harg11 : arg11.IsWhole) (arg12 : Memref sig .tc .vmem S2048x1024 .bf16) (harg12 : arg12.IsWhole) (arg13 : Memref sig .tc .vmem S2048x1024 .bf16) (harg13 : arg13.IsWhole)
    (x0 : Vec F S512x1024 .i32) (x1 x2 : Vec F S1x2048x1024 .f32) (x3 x4 : Vec F S1x1x1024 .f32) (d5 : Vec F S512x1024 .bf16) (s0 s1 : Vec F S2048x1024 .bf16)
    (xt3 : TbBuf0 (F := F) c tbM0_3) (xt4 : TbBuf0 (F := F) c tbM0_4) (w3 w4 : BitVec 32)
    (hw3 : View.readAt (Elt F) tbM0_3.view (Rect.unit (s := S352) (k0_off1 i) S1.size (k0_off1_inb i)).toLoadRect xt3 (Shape.Idx.first (numel1_S1 ▸ Nat.one_pos)) = w3)
    (hw4 : View.readAt (Elt F) tbM0_4.view (Rect.unit (s := S352) (k0_off2 i) S1.size (k0_off2_inb i)).toLoadRect xt4 (Shape.Idx.first (numel1_S1 ▸ Nat.one_pos)) = w4)
    (hopen : k0_cond2 w3 = 1#1 ∨ (s0 = k0_pay1 x1 ∧ s1 = k0_pay2 x2)) (hwork : k0_cond2 w4 = 1#1 ∨ d5 = outBlock x0 x1 x2 x3 x4) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare d5 ∗ owns (c : Thread nD τ) arg12 fullShare s0 ∗ owns (c : Thread nD τ) arg13 fullShare s1 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare (outBlock x0 x1 x2 x3 x4) ∗ owns (c : Thread nD τ) arg12 fullShare (k0_pay1 x1) ∗ owns (c : Thread nD τ) arg13 fullShare (k0_pay2 x2) ∗ tbPt0 c tbM0_3 xt3 ∗ tbPt0 c tbM0_4 xt4) -∗ K ⟨⟩))
          ⊢ wp frame (wpE (defs₀ (F := F)) Variants.none c none) E (cc0_expert_up i tbM0_0 htbM0_0 tbM0_1 htbM0_1 tbM0_2 htbM0_2 tbM0_3 htbM0_3 tbM0_4 htbM0_4 arg6 harg6 arg7 harg7 arg8 harg8 arg9 harg9 arg10 harg10 arg11 harg11 arg12 harg12 arg13 harg13) K := by
    intro E K
    simp only [cc0_expert_up_eq_skeleton]; unfold cc0_expert_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT3, HT4, Hk⟩
    obtain rfl := harg6.eq_unread hf0; obtain rfl := harg7.eq_unread hf1; obtain rfl := harg8.eq_unread hf2; obtain rfl := harg9.eq_unread hf3; obtain rfl := harg10.eq_unread hf4
    sl_exec
    sl_step
    have load1 : View.readAt (Elt F) arg7.view (Rect.unit ![0, 0, 0] S1x2048x1024.size inb_S1x2048x1024_S1x2048x1024_0_0_0).toLoadRect (harg7.unread x1) = x1 :=
      (View.readAt_full _ _ _).trans (harg7.read_unread x1)
    have load2 : View.readAt (Elt F) arg8.view (Rect.unit ![0, 0, 0] S1x2048x1024.size inb_S1x2048x1024_S1x2048x1024_0_0_0).toLoadRect (harg8.unread x2) = x2 :=
      (View.readAt_full _ _ _).trans (harg8.read_unread x2)
    have load0 : View.readAt (Elt F) arg6.view (Rect.unit ![0, 0] S512x1024.size inb_S512x1024_S512x1024_0_0).toLoadRect (harg6.unread x0) = x0 :=
      (View.readAt_full _ _ _).trans (harg6.read_unread x0)
    have load3 : View.readAt (Elt F) arg9.view (Rect.unit ![0, 0, 0] S1x1x1024.size inb_S1x1x1024_S1x1x1024_0_0_0).toLoadRect (harg9.unread x3) = x3 :=
      (View.readAt_full _ _ _).trans (harg9.read_unread x3)
    have load4 : View.readAt (Elt F) arg10.view (Rect.unit ![0, 0, 0] S1x1x1024.size inb_S1x1x1024_S1x1x1024_0_0_0).toLoadRect (harg10.unread x4) = x4 :=
      (View.readAt_full _ _ _).trans (harg10.read_unread x4)
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; swap; · iexact H5
      ipureintro
      refine read_stored _ (pay3_eq load0 (load_whole _ ?_) load3 (load_whole _ ?_) load4) ?_
      · exact read_stored _ (congrArg k0_pay1 load1) (fun hc => hs0.trans (hopen.resolve_left fun h => hc ((congrArg k0_cond2 hw3).trans h)).1)
      · exact read_stored _ (congrArg k0_pay2 load2) (fun hc => hs1.trans (hopen.resolve_left fun h => hc ((congrArg k0_cond2 hw3).trans h)).2)
      · exact fun hc => hf5.trans (hwork.resolve_left fun h => hc ((congrArg k0_cond2 hw4).trans h))
    isplitl [HS0]
    · iexists _; isplitr; swap; · iexact HS0
      ipureintro
      exact read_stored _ (congrArg k0_pay1 load1) (fun hc => hs0.trans (hopen.resolve_left fun h => hc ((congrArg k0_cond2 hw3).trans h)).1)
    isplitl [HS1]
    · iexists _; isplitr; swap; · iexact HS1
      ipureintro
      exact read_stored _ (congrArg k0_pay2 load2) (fun hc => hs1.trans (hopen.resolve_left fun h => hc ((congrArg k0_cond2 hw3).trans h)).2)
    isplitl [HT3]; · iexact HT3
    iexact HT4

end Cert.UpKernelIdeal.Up

end
-- ==== Proof.UpTableIdeal.lean ====
/- The words of the five tables at a point of the grid, and the block indices they give. `Sched` is what the kernel needs of
   the tables: a point that opens no block of weights keeps the expert and the column block of the point before, and a
   point without work keeps the whole output block of the point before. -/
module

public import proofs.«01_k».proof.Proof.UpKitIdeal

@[expose] public section

set_option maxRecDepth 16384

noncomputable section

namespace Cert.UpKernelIdeal.Up

open Cert.UpKernelIdeal Cert.UpKernelIdeal.Gen
open Idealize.ShloMosaic Idealize.ShloMosaic.TcCoe
open Idealize.ShloMosaic.Pipeline (Dat Cfg Window cellOf)

variable {F : FTy → Type} [FloatOps F]

/-- The word of a table at point `n`. -/
def wd (T : S352.Idx → BitVec 32) (n : ℕ) : BitVec 32 := T (fun a => ⟨n % S352.size a, Nat.mod_lt _ (by fin_cases a; decide)⟩)

theorem off1_val : ∀ i : grid0.Coords, k0_off1 i 0 = (i 0).val := (by decide +kernel)

theorem off2_val (i : grid0.Coords) : k0_off2 i 0 = (i 0).val := off1_val i

/-- The one entry a load at offset `n` reads. -/
theorem emb_unit (off : Fin 1 → ℕ) (n : ℕ) (hn : n < 352) (h0 : off 0 = n) (h : ∀ a, off a + S1.size a ≤ S352.size a) (x : S1.Idx) :
    (Rect.unit (s := S352) off S1.size h).emb x = fun a => ⟨n % S352.size a, Nat.mod_lt _ (by fin_cases a; decide)⟩ := by
  funext a
  fin_cases a
  apply Fin.ext
  have hx : (x 0).val < 1 := (x 0).isLt
  show off 0 + 1 * (x 0).val = n % 352
  rw [Nat.mod_eq_of_lt hn, h0]; omega

/-- The grid has one axis. -/
theorem coords_val : ∀ t : Fin grid0.N, (grid0.coords t 0).val = t.val := (by decide +kernel)

variable (pf : pre0.Contents (Elt F))

/-- The expert, the column block and the row block of point `n`, whether it opens a block of the weights and whether it
    has work. -/
def wE (n : ℕ) : BitVec 32 := wd (pf 0) n
def wJ (n : ℕ) : BitVec 32 := wd (pf 1) n
def wI (n : ℕ) : BitVec 32 := wd (pf 2) n
def wO (n : ℕ) : BitVec 32 := wd (pf 3) n
def wW (n : ℕ) : BitVec 32 := wd (pf 4) n

/-- What the kernel needs of the tables: the expert, the column block and the row block of a point, whether it opens a
    block of the weights and whether it has work. -/
structure Sched (e j i o w : ℕ → BitVec 32) : Prop where
  open_zero : k0_cond2 (o 0) = 1#1
  work_zero : k0_cond2 (w 0) = 1#1
  keep : ∀ n, n + 1 < 352 → k0_cond2 (o (n + 1)) = 1#1 ∨ (e (n + 1) = e n ∧ j (n + 1) = j n)
  idle : ∀ n, n + 1 < 352 → k0_cond2 (w (n + 1)) = 1#1 ∨ (e (n + 1) = e n ∧ j (n + 1) = j n ∧ i (n + 1) = i n)
  e_lt : ∀ n, n < 352 → (e n).toNat < 32
  j_lt : ∀ n, n < 352 → (j n).toNat < 2
  i_lt : ∀ n, n < 352 → (i n).toNat < 176

/-- The index maps at a point, off the words. -/
theorem map0 (i : grid0.Coords) : cc0_transform_0 k0_off1_inb numel1_S1 pf i = ![(wI pf (i 0).val).toNat, 0] :=
  congrArg (fun w : BitVec 32 => ![w.toNat, 0]) (congrArg (pf 2) (emb_unit _ _ (i 0).isLt (off1_val i) (k0_off1_inb _) _))
theorem map1 (i : grid0.Coords) : cc0_transform_1 k0_off1_inb numel1_S1 pf i = ![(wE pf (i 0).val).toNat, 0, (wJ pf (i 0).val).toNat] :=
  congrArg₂ (fun w v : BitVec 32 => ![w.toNat, 0, v.toNat]) (congrArg (pf 0) (emb_unit _ _ (i 0).isLt (off1_val i) (k0_off1_inb _) _)) (congrArg (pf 1) (emb_unit _ _ (i 0).isLt (off1_val i) (k0_off1_inb _) _))
theorem map5 (i : grid0.Coords) : cc0_transform_5 k0_off1_inb numel1_S1 pf i = ![(wI pf (i 0).val).toNat, (wJ pf (i 0).val).toNat] :=
  congrArg₂ (fun w v : BitVec 32 => ![w.toNat, v.toNat]) (congrArg (pf 2) (emb_unit _ _ (i 0).isLt (off1_val i) (k0_off1_inb _) _)) (congrArg (pf 1) (emb_unit _ _ (i 0).isLt (off1_val i) (k0_off1_inb _) _))

theorem index0 (a : (pcfg0 (F := F)).Adm) (t : Fin (cfg0 a).N) : ((cfg0 a).win 0).index t = ![(wI a.1 t.val).toNat, 0] := (map0 a.1 (grid0.coords t)).trans (by rw [coords_val])
theorem index1 (a : (pcfg0 (F := F)).Adm) (t : Fin (cfg0 a).N) : ((cfg0 a).win 1).index t = ![(wE a.1 t.val).toNat, 0, (wJ a.1 t.val).toNat] := (map1 a.1 (grid0.coords t)).trans (by rw [coords_val])
theorem index2 (a : (pcfg0 (F := F)).Adm) (t : Fin (cfg0 a).N) : ((cfg0 a).win 2).index t = ![(wE a.1 t.val).toNat, 0, (wJ a.1 t.val).toNat] := (map1 a.1 (grid0.coords t)).trans (by rw [coords_val])
theorem index3 (a : (pcfg0 (F := F)).Adm) (t : Fin (cfg0 a).N) : ((cfg0 a).win 3).index t = ![(wE a.1 t.val).toNat, 0, (wJ a.1 t.val).toNat] := (map1 a.1 (grid0.coords t)).trans (by rw [coords_val])
theorem index4 (a : (pcfg0 (F := F)).Adm) (t : Fin (cfg0 a).N) : ((cfg0 a).win 4).index t = ![(wE a.1 t.val).toNat, 0, (wJ a.1 t.val).toNat] := (map1 a.1 (grid0.coords t)).trans (by rw [coords_val])
theorem index5 (a : (pcfg0 (F := F)).Adm) (t : Fin (cfg0 a).N) : ((cfg0 a).win 5).index t = ![(wI a.1 t.val).toNat, (wJ a.1 t.val).toNat] := (map5 a.1 (grid0.coords t)).trans (by rw [coords_val])

/-- Points with equal words have equal indices. -/
theorem index0_congr (a : (pcfg0 (F := F)).Adm) {t t' : Fin (cfg0 a).N} (hi : wI a.1 t.val = wI a.1 t'.val) :
    ((cfg0 a).win 0).index t = ((cfg0 a).win 0).index t' :=
  (index0 a t).trans ((congrArg (fun w : BitVec 32 => ![w.toNat, 0]) hi).trans (index0 a t').symm)
theorem index1_congr (a : (pcfg0 (F := F)).Adm) {t t' : Fin (cfg0 a).N} (he : wE a.1 t.val = wE a.1 t'.val) (hj : wJ a.1 t.val = wJ a.1 t'.val) :
    ((cfg0 a).win 1).index t = ((cfg0 a).win 1).index t' :=
  (index1 a t).trans ((congrArg₂ (fun w v : BitVec 32 => ![w.toNat, 0, v.toNat]) he hj).trans (index1 a t').symm)
theorem index2_congr (a : (pcfg0 (F := F)).Adm) {t t' : Fin (cfg0 a).N} (he : wE a.1 t.val = wE a.1 t'.val) (hj : wJ a.1 t.val = wJ a.1 t'.val) :
    ((cfg0 a).win 2).index t = ((cfg0 a).win 2).index t' :=
  (index2 a t).trans ((congrArg₂ (fun w v : BitVec 32 => ![w.toNat, 0, v.toNat]) he hj).trans (index2 a t').symm)
theorem index3_congr (a : (pcfg0 (F := F)).Adm) {t t' : Fin (cfg0 a).N} (he : wE a.1 t.val = wE a.1 t'.val) (hj : wJ a.1 t.val = wJ a.1 t'.val) :
    ((cfg0 a).win 3).index t = ((cfg0 a).win 3).index t' :=
  (index3 a t).trans ((congrArg₂ (fun w v : BitVec 32 => ![w.toNat, 0, v.toNat]) he hj).trans (index3 a t').symm)
theorem index4_congr (a : (pcfg0 (F := F)).Adm) {t t' : Fin (cfg0 a).N} (he : wE a.1 t.val = wE a.1 t'.val) (hj : wJ a.1 t.val = wJ a.1 t'.val) :
    ((cfg0 a).win 4).index t = ((cfg0 a).win 4).index t' :=
  (index4 a t).trans ((congrArg₂ (fun w v : BitVec 32 => ![w.toNat, 0, v.toNat]) he hj).trans (index4 a t').symm)
theorem index5_congr (a : (pcfg0 (F := F)).Adm) {t t' : Fin (cfg0 a).N} (hi : wI a.1 t.val = wI a.1 t'.val) (hj : wJ a.1 t.val = wJ a.1 t'.val) :
    ((cfg0 a).win 5).index t = ((cfg0 a).win 5).index t' :=
  (index5 a t).trans ((congrArg₂ (fun w v : BitVec 32 => ![w.toNat, v.toNat]) hi hj).trans (index5 a t').symm)

/-- The output is idle exactly at the points without work. -/
theorem idle5 (t : Fin grid0.N) : idle0 pf 5 (grid0.coords t) = !(k0_cond2 (wW pf t.val) == 1#1) := by
  have hoff : ∀ a, k0_off2 (grid0.coords t) a + 1 ≤ S352.size a := fun a => by
    fin_cases a; have := off2_val (grid0.coords t); have := (grid0.coords t 0).isLt
    show k0_off2 (grid0.coords t) 0 + 1 ≤ 352
    have : (grid0.coords t 0).val < 352 := this
    omega
  refine congrArg (fun w => !(k0_cond2 w == 1#1)) ((dif_pos hoff).trans (congrArg (pf 4) ?_))
  funext a; fin_cases a; apply Fin.ext
  show k0_off2 (grid0.coords t) 0 = t.val % 352
  rw [off2_val, coords_val, Nat.mod_eq_of_lt (lt_of_lt_of_eq t.isLt N_0)]

set_option maxHeartbeats 1000000 in
/-- The blocks the tables choose lie inside their arrays. -/
theorem ok_of_sched (h : Sched (wE pf) (wJ pf) (wI pf) (wO pf) (wW pf)) : ok0 pf := by
  have w (i : grid0.Coords) : (wE pf (i 0).val).toNat < 32 ∧ (wJ pf (i 0).val).toNat < 2 ∧ (wI pf (i 0).val).toNat < 176 :=
    ⟨h.e_lt _ (i 0).isLt, h.j_lt _ (i 0).isLt, h.i_lt _ (i 0).isLt⟩
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inr ?_⟩⟩
  · rw [map0]; obtain ⟨h0, h1, h2⟩ := w i
    fin_cases a
    · show ((wI pf (i 0).val).toNat + 1) * 512 ≤ 90112; omega
    · show (0 + 1) * 1024 ≤ 1024; omega
  iterate 2
    · refine (congrArg (fun f : Fin 3 → ℕ => (f a + 1) * S1x2048x1024.size a ≤ S32x2048x2048.size a) (map1 pf i)).mpr ?_; obtain ⟨h0, h1, h2⟩ := w i
      fin_cases a
      · show ((wE pf (i 0).val).toNat + 1) * 1 ≤ 32; omega
      · show (0 + 1) * 2048 ≤ 2048; omega
      · show ((wJ pf (i 0).val).toNat + 1) * 1024 ≤ 2048; omega
  iterate 2
    · refine (congrArg (fun f : Fin 3 → ℕ => (f a + 1) * S1x1x1024.size a ≤ S32x1x2048.size a) (map1 pf i)).mpr ?_; obtain ⟨h0, h1, h2⟩ := w i
      fin_cases a
      · show ((wE pf (i 0).val).toNat + 1) * 1 ≤ 32; omega
      · show (0 + 1) * 1 ≤ 1; omega
      · show ((wJ pf (i 0).val).toNat + 1) * 1024 ≤ 2048; omega
  · rw [map5]; obtain ⟨h0, h1, h2⟩ := w i
    fin_cases a
    · show ((wI pf (i 0).val).toNat + 1) * 512 ≤ 90112; omega
    · show ((wJ pf (i 0).val).toNat + 1) * 1024 ≤ 2048; omega
  · have two : 2 ≤ S90112x2048.rank := Nat.le_refl 2
    have even : 2 ∣ 512 := by decide
    exact .inl (.inr ⟨two, rfl, .inl ⟨Dvd.dvd.mul_left even _, even⟩⟩)

end Cert.UpKernelIdeal.Up

end
-- ==== Proof.UpDataIdeal.lean ====
/- The launch of the experts' gate and up products with tables that satisfy `Sched`: after every point the two copies of the
   weights and the output block are the closed form of that point's blocks, whether or not the body wrote them there. -/
module

public import proofs.«01_k».proof.Proof.UpPointIdeal
public import proofs.«01_k».proof.Proof.UpTableIdeal
public import Idealize.ShloMosaic.Lib.Pipeline.TableIdle

@[expose] public section

set_option maxRecDepth 16384

noncomputable section

namespace Cert.UpKernelIdeal.Up

open Cert.UpKernelIdeal Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- The output block of point `t` from the blocks of the inputs there. -/
def outAt (c : Dev nD) (t : Fin (cfgM m hO).N) : Vec F S512x1024 .bf16 :=
  outBlock (iblk m hO c 0 t) (iblk m hO c 1 t) (iblk m hO c 2 t) (iblk m hO c 3 t) (iblk m hO c 4 t)

/-- The copies of the weights before point `n`: those of the point before, if there is one. -/
def Held (c : Dev nD) (n : ℕ) (s0 s1 : Vec F S2048x1024 .bf16) : Prop :=
  ∀ t : Fin (cfgM m hO).N, t.val + 1 = n → s0 = k0_pay1 (iblk m hO c 1 t) ∧ s1 = k0_pay2 (iblk m hO c 2 t)

/-- The copies of the weights, held so. -/
def copies (c : Dev nD) (n : ℕ) : sProp 𝕄 :=
  iprop(∃ s0, ∃ s1, ⌜Held m hO c n s0 s1⌝ ∗ owns (c : Thread nD τ) scM0_0 fullShare s0 ∗ owns (c : Thread nD τ) scM0_1 fullShare s1)

/-- What the points of the grid leave. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := iprop(copies m hO c t.val ∗ (∃ r, prngReg c r) ∗ Pipeline.ΦT pre0 (tbl m) c)
  q _ := fullShare
  owed _ := 0

theorem A_eq (c : Dev nD) (w : Fin (cfgM m hO).W) : (dats m hO 0 c).A w = V m c (Pipeline.arrRef spec0 w) := by
  dsimp only [dats]

theorem after0 (c : Dev nD) (t : Fin (cfgM m hO).N) : (dats m hO 0 c).after 0 t = iblk m hO c 0 t := by dsimp only [dats]; try rfl
theorem after1 (c : Dev nD) (t : Fin (cfgM m hO).N) : (dats m hO 0 c).after 1 t = iblk m hO c 1 t := by dsimp only [dats]; try rfl
theorem after2 (c : Dev nD) (t : Fin (cfgM m hO).N) : (dats m hO 0 c).after 2 t = iblk m hO c 2 t := by dsimp only [dats]; try rfl
theorem after3 (c : Dev nD) (t : Fin (cfgM m hO).N) : (dats m hO 0 c).after 3 t = iblk m hO c 3 t := by dsimp only [dats]; try rfl
theorem after4 (c : Dev nD) (t : Fin (cfgM m hO).N) : (dats m hO 0 c).after 4 t = iblk m hO c 4 t := by dsimp only [dats]; try rfl
theorem after5 (c : Dev nD) (t : Fin (cfgM m hO).N) : (dats m hO 0 c).after 5 t = outAt m hO c t := by dsimp only [dats]; try rfl

theorem before0 (c : Dev nD) (t : Fin (cfgM m hO).N) (d) : (dats m hO 0 c).before 0 t d = iblk m hO c 0 t :=
  before0_0_of m hO (dats m hO 0 c) (A_eq m hO c 0) (after0 m hO c) t d
theorem before1 (c : Dev nD) (t : Fin (cfgM m hO).N) (d) : (dats m hO 0 c).before 1 t d = iblk m hO c 1 t :=
  before0_1_of m hO (dats m hO 0 c) (A_eq m hO c 1) (after1 m hO c) t d
theorem before2 (c : Dev nD) (t : Fin (cfgM m hO).N) (d) : (dats m hO 0 c).before 2 t d = iblk m hO c 2 t :=
  before0_2_of m hO (dats m hO 0 c) (A_eq m hO c 2) (after2 m hO c) t d
theorem before3 (c : Dev nD) (t : Fin (cfgM m hO).N) (d) : (dats m hO 0 c).before 3 t d = iblk m hO c 3 t :=
  before0_3_of m hO (dats m hO 0 c) (A_eq m hO c 3) (after3 m hO c) t d
theorem before4 (c : Dev nD) (t : Fin (cfgM m hO).N) (d) : (dats m hO 0 c).before 4 t d = iblk m hO c 4 t :=
  before0_4_of m hO (dats m hO 0 c) (A_eq m hO c 4) (after4 m hO c) t d

/-! ## Points with one index have one block -/

attribute [local irreducible] tbl

theorem iblk_congr0 (c : Dev nD) {t t' : Fin (cfgM m hO).N} (h : ((cfgM m hO).win 0).index t = ((cfgM m hO).win 0).index t') : iblk m hO c 0 t = iblk m hO c 0 t' := by
  have e (t) : (dats m hO 0 c).fetched 0 t (iblk m hO c 0 t') = iblk m hO c 0 t := by unfold Dat.fetched Dat.blockOf iblk; rw [A_eq]; try rfl
  exact (e t).symm.trans (((dats m hO 0 c).fetched_congr 0 h rfl _).trans (e t'))
theorem iblk_congr1 (c : Dev nD) {t t' : Fin (cfgM m hO).N} (h : ((cfgM m hO).win 1).index t = ((cfgM m hO).win 1).index t') : iblk m hO c 1 t = iblk m hO c 1 t' := by
  have e (t) : (dats m hO 0 c).fetched 1 t (iblk m hO c 1 t') = iblk m hO c 1 t := by unfold Dat.fetched Dat.blockOf iblk; rw [A_eq]; try rfl
  exact (e t).symm.trans (((dats m hO 0 c).fetched_congr 1 h rfl _).trans (e t'))
theorem iblk_congr2 (c : Dev nD) {t t' : Fin (cfgM m hO).N} (h : ((cfgM m hO).win 2).index t = ((cfgM m hO).win 2).index t') : iblk m hO c 2 t = iblk m hO c 2 t' := by
  have e (t) : (dats m hO 0 c).fetched 2 t (iblk m hO c 2 t') = iblk m hO c 2 t := by unfold Dat.fetched Dat.blockOf iblk; rw [A_eq]; try rfl
  exact (e t).symm.trans (((dats m hO 0 c).fetched_congr 2 h rfl _).trans (e t'))
theorem iblk_congr3 (c : Dev nD) {t t' : Fin (cfgM m hO).N} (h : ((cfgM m hO).win 3).index t = ((cfgM m hO).win 3).index t') : iblk m hO c 3 t = iblk m hO c 3 t' := by
  have e (t) : (dats m hO 0 c).fetched 3 t (iblk m hO c 3 t') = iblk m hO c 3 t := by unfold Dat.fetched Dat.blockOf iblk; rw [A_eq]; try rfl
  exact (e t).symm.trans (((dats m hO 0 c).fetched_congr 3 h rfl _).trans (e t'))
theorem iblk_congr4 (c : Dev nD) {t t' : Fin (cfgM m hO).N} (h : ((cfgM m hO).win 4).index t = ((cfgM m hO).win 4).index t') : iblk m hO c 4 t = iblk m hO c 4 t' := by
  have e (t) : (dats m hO 0 c).fetched 4 t (iblk m hO c 4 t') = iblk m hO c 4 t := by unfold Dat.fetched Dat.blockOf iblk; rw [A_eq]; try rfl
  exact (e t).symm.trans (((dats m hO 0 c).fetched_congr 4 h rfl _).trans (e t'))

/-- The pipeline's tables at `m`. -/
abbrev SchedM : Prop := Sched (wE (tbl m)) (wJ (tbl m)) (wI (tbl m)) (wO (tbl m)) (wW (tbl m))

/-- Points with one expert and one column block copy the same weights. -/
theorem weights_congr (c : Dev nD) {t t' : Fin (cfgM m hO).N} (he : wE (tbl m) t.val = wE (tbl m) t'.val) (hj : wJ (tbl m) t.val = wJ (tbl m) t'.val) :
    iblk m hO c 1 t = iblk m hO c 1 t' ∧ iblk m hO c 2 t = iblk m hO c 2 t' ∧ iblk m hO c 3 t = iblk m hO c 3 t' ∧ iblk m hO c 4 t = iblk m hO c 4 t' := by
  refine ⟨iblk_congr1 m hO c ?_, iblk_congr2 m hO c ?_, iblk_congr3 m hO c ?_, iblk_congr4 m hO c ?_⟩
  · exact index1_congr (adm m hO) he hj
  · exact index2_congr (adm m hO) he hj
  · exact index3_congr (adm m hO) he hj
  · exact index4_congr (adm m hO) he hj

/-- Points with one expert, column block and row block have one output block. -/
theorem outAt_congr (c : Dev nD) {t t' : Fin (cfgM m hO).N} (he : wE (tbl m) t.val = wE (tbl m) t'.val) (hj : wJ (tbl m) t.val = wJ (tbl m) t'.val)
    (hi : wI (tbl m) t.val = wI (tbl m) t'.val) : outAt m hO c t = outAt m hO c t' := by
  obtain ⟨h1, h2, h3, h4⟩ := weights_congr m hO c he hj
  have h0 : iblk m hO c 0 t = iblk m hO c 0 t' := iblk_congr0 m hO c (index0_congr (adm m hO) hi)
  unfold outAt; rw [h0, h1, h2, h3, h4]

/-! ## The output at a point without work -/

theorem idle_iff (t : Fin (cfgM m hO).N) : (cfgM m hO).idle 5 (grid0.coords t) = true ↔ k0_cond2 (wW (tbl m) t.val) ≠ 1#1 := by
  refine (Bool.eq_iff_iff.mp (idle5 (tbl m) t)).trans ?_
  simp

/-- A buffer no point has written is met only by a point with work. -/
theorem work_of_fresh (hS : SchedM m) : ∀ n, n < 352 → (cfgM m hO).fresh 5 n = true → k0_cond2 (wW (tbl m) n) = 1#1
  | 0, _, _ => hS.work_zero
  | n + 1, hn, hf => by
    have hN : n < (cfgM m hO).N := lt_of_lt_of_eq (by omega : n < 352) N_0.symm
    rw [Cfg.fresh_succ _ _ n hN, Bool.or_eq_true, Bool.and_eq_true] at hf
    rcases hf with hfl | ⟨hid, hfr⟩
    · refine (hS.idle n hn).resolve_right fun ⟨he, hj, hi⟩ => ?_
      have hN' : n + 1 < (cfgM m hO).N := lt_of_lt_of_eq hn N_0.symm
      have same : ((cfgM m hO).win 5).index ⟨n + 1, hN'⟩ = ((cfgM m hO).win 5).index ⟨n, hN⟩ :=
        index5_congr (adm m hO) hi hj
      unfold Window.flush at hfl
      simp only [Bool.and_eq_true, Bool.or_eq_true, decide_eq_true_eq] at hfl
      rcases hfl.2 with h | ⟨h, hne⟩
      · have : n + 1 = 352 := h.trans N_0
        omega
      · exact hne same
    · exact absurd (work_of_fresh hS n (by omega) hfr) ((idle_iff m hO ⟨n, hN⟩).mp hid)

/-- At a point without work the output buffer already holds the point's block. -/
theorem before5 (hS : SchedM m) (c : Dev nD) (t : Fin (cfgM m hO).N) (hw : k0_cond2 (wW (tbl m) t.val) ≠ 1#1) (d) : (dats m hO 0 c).before 5 t d = outAt m hO c t := by
  have ht : t.val < 352 := lt_of_lt_of_eq t.isLt N_0
  have stay (t : Fin (cfgM m hO).N) (hw : k0_cond2 (wW (tbl m) t.val) ≠ 1#1) (h0 : t.val ≠ 0) : outAt m hO c t = outAt m hO c ⟨t.val - 1, by omega⟩ := by
    have ht : t.val < 352 := lt_of_lt_of_eq t.isLt N_0
    obtain ⟨he, hj, hi⟩ := (hS.idle (t.val - 1) (by omega)).resolve_left (by rw [Nat.sub_add_cancel (Nat.pos_of_ne_zero h0)]; exact hw)
    rw [Nat.sub_add_cancel (Nat.pos_of_ne_zero h0)] at he hj hi
    exact outAt_congr m hO c he hj hi
  have h0 : t.val ≠ 0 := fun h => hw (by rw [h]; exact hS.work_zero)
  have hf : (cfgM m hO).fresh 5 t.val = false := Bool.eq_false_iff.mpr fun h => hw (work_of_fresh m hO hS t.val ht h)
  refine ((dats m hO 0 c).before_out_traj 5 rfl (fun _ _ => rfl) (fun t h0 hid _ => ?_) t.val t rfl d).trans ?_
  · rw [after5, after5]; exact stay t ((idle_iff m hO t).mp hid) h0
  · rw [if_neg (by rw [hf]; exact Bool.false_ne_true), after5]; exact (stay t hw h0).symm

end Cert.UpKernelIdeal.Up

end
-- ==== Proof.UpLaunchIdeal.lean ====
/- The run of the experts' gate and up products: the body at every point, the launch, and what it leaves alone. -/
module

public import proofs.«01_k».proof.Proof.UpDataIdeal

@[expose] public section

set_option maxRecDepth 16384

noncomputable section

namespace Cert.UpKernelIdeal.Up

open Cert.UpKernelIdeal Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (hS : SchedM m)

/-- The words the body loads at a point. -/
theorem load_open (pf : pre0.Contents (Elt F)) (i : grid0.Coords) (x : S1.Idx) :
    View.readAt (Elt F) tbM0_3.view (Rect.unit (s := S352) (k0_off1 i) S1.size (k0_off1_inb i)).toLoadRect (pf 3) x = wO pf (i 0).val :=
  congrArg (pf 3) (emb_unit _ _ (i 0).isLt (off1_val i) (k0_off1_inb _) _)
theorem load_work (pf : pre0.Contents (Elt F)) (i : grid0.Coords) (x : S1.Idx) :
    View.readAt (Elt F) tbM0_4.view (Rect.unit (s := S352) (k0_off2 i) S1.size (k0_off2_inb i)).toLoadRect (pf 4) x = wW pf (i 0).val :=
  congrArg (pf 4) (emb_unit _ _ (i 0).isLt (off2_val i) (k0_off2_inb _) _)

attribute [local irreducible] tbl

/-- What the body is called with at point `t`. -/
def bodyPre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What it returns. -/
def bodyPost (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-- The output buffer at the point's block is what the point must leave, with or without work. -/
theorem leaves5 (hS : SchedM m) (c : Dev nD) (t : Fin (cfgM m hO).N) :
    iprop(owns (c : Thread nD τ) (ms0_5 m hO t) fullShare (outAt m hO c t)) ⊢ (dats m hO 0 c).leavesExact 5 t := by
  unfold Dat.leavesExact
  cases hid : (cfgM m hO).idle 5 ((cfgM m hO).grid.coords t) with
  | false => exact Entails.of_eq (by rw [after5]; rfl)
  | true =>
    cases hfl : ((cfgM m hO).win 5).flush t with
    | true => exact Entails.of_eq (by rw [after5]; rfl)
    | false =>
      simp only [before5 m hO hS c t ((idle_iff m hO t).mp hid)]
      iintro H
      iexists (outAt m hO c t)
      iexact H

set_option maxHeartbeats 3200000 in
/-- The body at any point. -/
theorem sound_body (hS : SchedM m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2, before3, before4]
  rw [show (dats m hO 0 c).owesAt () t.succ = (dats m hO 0 c).owesAt () t.castSucc from rfl,
    show (dats m hO 0 c).Φ t.castSucc = iprop(copies m hO c t.val ∗ (∃ r, prngReg c r) ∗ Pipeline.ΦT pre0 (tbl m) c) from rfl,
    show (dats m hO 0 c).Φ t.succ = iprop(copies m hO c (t.val + 1) ∗ (∃ r, prngReg c r) ∗ Pipeline.ΦT pre0 (tbl m) c) from rfl, PhiT0_eq]
  rw [show (dats m hO 0 c).leavesExact 0 t = owns (c : Thread nD τ) (ms0_0 m hO t) fullShare (iblk m hO c 0 t) from by
    unfold Dat.leavesExact; rw [liveAt0_0 m hO t]; try rfl]
  rw [show (dats m hO 0 c).leavesExact 1 t = owns (c : Thread nD τ) (ms0_1 m hO t) fullShare (iblk m hO c 1 t) from by
    unfold Dat.leavesExact; rw [liveAt0_1 m hO t]; try rfl]
  rw [show (dats m hO 0 c).leavesExact 2 t = owns (c : Thread nD τ) (ms0_2 m hO t) fullShare (iblk m hO c 2 t) from by
    unfold Dat.leavesExact; rw [liveAt0_2 m hO t]; try rfl]
  rw [show (dats m hO 0 c).leavesExact 3 t = owns (c : Thread nD τ) (ms0_3 m hO t) fullShare (iblk m hO c 3 t) from by
    unfold Dat.leavesExact; rw [liveAt0_3 m hO t]; try rfl]
  rw [show (dats m hO 0 c).leavesExact 4 t = owns (c : Thread nD τ) (ms0_4 m hO t) fullShare (iblk m hO c 4 t) from by
    unfold Dat.leavesExact; rw [liveAt0_4 m hO t]; try rfl]
  have ht : t.val < 352 := lt_of_lt_of_eq t.isLt N_0
  have hopen (s0 s1) (hs : Held m hO c t.val s0 s1) : k0_cond2 (wO (tbl m) t.val) = 1#1 ∨ (s0 = k0_pay1 (iblk m hO c 1 t) ∧ s1 = k0_pay2 (iblk m hO c 2 t)) := by
    rcases Nat.eq_zero_or_pos t.val with h0 | h0
    · exact .inl (by rw [h0]; exact hS.open_zero)
    · refine (hS.keep (t.val - 1) (by omega)).imp (fun h => by rwa [Nat.sub_add_cancel h0] at h) fun ⟨he, hj⟩ => ?_
      rw [Nat.sub_add_cancel h0] at he hj
      obtain ⟨h1, h2, -⟩ := weights_congr m hO c (t := t) (t' := ⟨t.val - 1, by omega⟩) he hj
      obtain ⟨e1, e2⟩ := hs ⟨t.val - 1, by omega⟩ (Nat.sub_add_cancel h0)
      exact ⟨e1.trans (congrArg k0_pay1 h1.symm), e2.trans (congrArg k0_pay2 h2.symm)⟩
  have hwork (d) : k0_cond2 (wW (tbl m) t.val) = 1#1 ∨ (dats m hO 0 c).before 5 t d = outAt m hO c t := by
    by_cases h : k0_cond2 (wW (tbl m) t.val) = 1#1
    · exact .inl h
    · exact .inr (before5 m hO hS c t h d)
  unfold copies
  iintro ⟨⟨⟨%s0, %s1, %hs, HS0, HS1⟩, Hg, HT0, HT1, HT2, HT3, HT4⟩, Ho, ⟨%d0, H0⟩, ⟨%d1, H1⟩, ⟨%d2, H2⟩, ⟨%d3, H3⟩, ⟨%d4, H4⟩, ⟨%d5, H5⟩⟩
  iapply ((run_point c (grid0.coords t) _ _ _ _ _ _ _ _ _ _ _ _ _ _ _ _ (iblk m hO c 0 t) (iblk m hO c 1 t) (iblk m hO c 2 t) (iblk m hO c 3 t) (iblk m hO c 4 t) _ s0 s1
    (tbl m 3) (tbl m 4) (wO (tbl m) t.val) (wW (tbl m) t.val) ((load_open (tbl m) (grid0.coords t) _).trans (congrArg _ (coords_val t)))
    ((load_work (tbl m) (grid0.coords t) _).trans (congrArg _ (coords_val t))) (hopen s0 s1 hs) (hwork d5)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT3]; · iexact HT3
  isplitl [HT4]; · iexact HT4
  iintro ⟨H0, H1, H2, H3, H4, H5, HS0, HS1, HT3, HT4⟩
  isplitl [HS0 HS1 Hg HT0 HT1 HT2 HT3 HT4]
  · isplitl [HS0 HS1]
    · iexists (k0_pay1 (iblk m hO c 1 t)), (k0_pay2 (iblk m hO c 2 t))
      isplitr
      · ipureintro
        intro u hu
        obtain rfl : u = t := Fin.ext (Nat.succ.inj hu)
        exact ⟨rfl, rfl⟩
      isplitl [HS0]; · iexact HS0
      iexact HS1
    isplitl [Hg]; · iexact Hg
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  isplitl [H3]; · iexact H3
  isplitl [H4]; · iexact H4
  iapply (leaves5 m hO hS c t)
  iexact H5

/-- The body table's row at point `t`'s slots is the body as `bodyAt0` spells it. -/
theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hS : SchedM m) (c : Dev nD) : BodyObligation (dats (F := F) m hO 0 c) (defs₀ (F := F)) Variants.none () Set.univ := fun t => by
  rw [bigSep_W0, bigSep_W0, defs₀_row m hO]
  exact triple_restated (sound_body m hO hS c t) rfl .rfl fun _ => .rfl

/-- The invariant before the first point, from what the launch hands over, -/
theorem phi_in (c : Dev nD) : iprop(Pipeline.ΦA spec0 c ∗ Pipeline.ΦT pre0 (tbl m) c) ⊢ (dats m hO 0 c).Φ 0 := by
  rw [show (dats m hO 0 c).Φ 0 = iprop(copies m hO c 0 ∗ (∃ r, prngReg c r) ∗ Pipeline.ΦT pre0 (tbl m) c) from rfl, PhiA0_eq]
  unfold copies
  iintro ⟨⟨⟨⟨%s0, HS0⟩, ⟨%s1, HS1⟩⟩, Hg⟩, HT⟩
  isplitl [HS0 HS1]
  · iexists s0, s1
    isplitr
    · ipureintro
      exact fun u hu => absurd hu (Nat.succ_ne_zero _)
    isplitl [HS0]; · iexact HS0
    iexact HS1
  isplitl [Hg]; · iexact Hg
  iexact HT

/-- and after the last one, what it hands back. -/
theorem phi_out (c : Dev nD) : (dats m hO 0 c).Φ (Fin.last (cfgM m hO).N) ⊢ Pipeline.ΦA spec0 c := by
  rw [show (dats m hO 0 c).Φ (Fin.last (cfgM m hO).N) = iprop(copies m hO c (cfgM m hO).N ∗ (∃ r, prngReg c r) ∗ Pipeline.ΦT pre0 (tbl m) c) from rfl, PhiA0_eq]
  unfold copies
  iintro ⟨⟨%s0, %s1, %hs, HS0, HS1⟩, Hg, HT⟩
  isplitl [HS0 HS1]
  · isplitl [HS0]
    · iexists s0; iexact HS0
    iexists s1; iexact HS1
  iexact Hg

set_option backward.isDefEq.respectTransparency.types false in
/-- The launch: every array of the pipeline ends at what the points wrote back, every other buffer as the region found it,
    and every counter at zero. -/
theorem run_launch (hS : SchedM m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m) (hin := phi_in m hO) (hout := phi_out m hO)

/-- The arrays of the inputs end as the region found them. -/
theorem arr1 (c : Dev nD) : (dats m hO 0 c).arrAt 0 (cfgM m hO).N = V m c main_arg1 := ((dats m hO 0 c).arrAt_in 0 rfl _).trans (A_eq m hO c 0)
theorem arr2 (c : Dev nD) : (dats m hO 0 c).arrAt 1 (cfgM m hO).N = V m c main_arg2 := ((dats m hO 0 c).arrAt_in 1 rfl _).trans (A_eq m hO c 1)
theorem arr4 (c : Dev nD) : (dats m hO 0 c).arrAt 2 (cfgM m hO).N = V m c main_arg4 := ((dats m hO 0 c).arrAt_in 2 rfl _).trans (A_eq m hO c 2)

/-- What the program leaves at the end, buffer by buffer. -/
def Left (c : Dev nD) (r : PUnit × MemSt nD τ sig (Elt F)) : Prop :=
  (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))

theorem left_of_post (c : Dev nD) (r : PUnit × MemSt nD τ sig (Elt F)) (h : Pipeline.FramePost (Pipeline.pin pcfgs fun _ => adm m hO) (dats m hO) 0 (V m) r) :
    Left m c r := by
  have h0 := ((h c).2 main_arg0 (by decide : main_arg0 ∈ Pipeline.restRefs sig spec0)).trans (V_main_arg0 m c)
  have h3 := ((h c).2 main_arg3 (by decide : main_arg3 ∈ Pipeline.restRefs sig spec0)).trans (V_main_arg3 m c)
  have h5 := ((h c).2 main_arg5 (by decide : main_arg5 ∈ Pipeline.restRefs sig spec0)).trans (V_main_arg5 m c)
  have h1 := ((h c).1 0).trans ((arr1 m hO c).trans (V_main_arg1 m c))
  have h2 := ((h c).1 1).trans ((arr2 m hO c).trans (V_main_arg2 m c))
  have h4 := ((h c).1 2).trans ((arr4 m hO c).trans (V_main_arg4 m c))
  exact ⟨h0, h1, h2, h3, h4, h5⟩

theorem result_of_post (c : Dev nD) (r : PUnit × MemSt nD τ sig (Elt F)) (h : Pipeline.FramePost (Pipeline.pin pcfgs fun _ => adm m hO) (dats m hO) 0 (V m) r) :
    r.2.mem ((c.tc : Thread nD τ).loc main_v58) = (dats m hO 0 c).arrAt 5 (cfgM m hO).N := (h c).1 5

/-- The program leaves its arguments as they were and every counter at zero; its result is what the points wrote back. -/
theorem run_all (hS : SchedM m) : θ_run defs (onTc (τ := τ) (main (F := F))) (s₀ m ρ) (fun r => (∀ c : Dev nD,
      Left m c r ∧ r.2.mem ((c.tc : Thread nD τ).loc main_v58) = (dats m hO 0 c).arrAt 5 (cfgM m hO).N) ∧ r.2.sem = fun _ => 0) :=
  (θ_run defs _ _).mono (fun r h => ⟨fun c => ⟨left_of_post m hO c r h.1, result_of_post m hO c r h.1⟩, h.2⟩) (run_launch m ρ hO hS)

end Cert.UpKernelIdeal.Up

end
-- ==== Proof.UpHostIdeal.lean ====
/- The experts' schedule as the host code writes it: every table the grid reads is a plain function of the block counts. -/
module

public import proofs.«01_k».proof.Proof.UpLaunchIdeal
public import Idealize.ShloMosaic.Lib.Claim
public import Idealize.ShloMosaic.Lib.StableHlo.RunRead

@[expose] public section

set_option maxRecDepth 16384

noncomputable section

namespace Cert.UpKernelIdeal.Up

open Cert.UpKernelIdeal Cert.UpKernelIdeal.Gen
open Idealize.ShloMosaic Idealize.ShloMosaic.TcCoe Idealize.ShloMosaic.Tactic

variable {F : FTy → Type} [FloatOps F]
variable (m : (ℓ : Loc nD τ sig) → Buf (Elt F) ℓ)

/-- The running sums of the counts. -/
def cumV (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- Where each expert's blocks begin. -/
def startV (x : IVec S32 32) : IVec S32 32 := subi (cumV x) x

/-- The number of blocks of all experts. -/
def totV (x : IVec S32 32) : IVec S_ 32 := shapeCast S_ (extractStridedSlice S1 ![31] (cumV x) slices_S32_S1_31) shapeCasts_S1_S_

/-- One number at every step. -/
def rep (v : IVec S_ 32) : IVec S352 32 := broadcastInDim S352 ![] bcast_S_S352 v

/-- The step numbers, held at the last step that has work. -/
def stepV (x : IVec S32 32) : IVec S352 32 :=
  minsi (rep (maxsi (subi (muli (constantI S_ 32 2#32) (totV x)) (constantI S_ 32 1#32)) (constantI S_ 32 0#32)))
    (maxsi (rep (constantI S_ 32 0#32)) (iotaInDim S352 32 0))

/-- The expert of each step: how many experts end at or before it. -/
def eV (x : IVec S32 32) : IVec S352 32 :=
  Host.reduce IntOp.addi
    (extui 32 (cmpi .sge
      (broadcastInDim S352x32 ![0, 1] bcast_S352x1_S352x32_0_1 (broadcastInDim S352x1 ![0] bcast_S352_S352x1_0 (stepV x)))
      (broadcastInDim S352x32 ![0, 1] bcast_S1x32_S352x32_0_1
        (muli (broadcastInDim S1x32 ![] bcast_S_S1x32 (constantI S_ 32 2#32)) (broadcastInDim S1x32 ![1] bcast_S32_S1x32_1 (cumV x))))) natLt_1_32)
    (constantI S_ 32 0#32) reducesTo_S352x32_S352_d1 h_S_

/-- The entries of a vector of experts at the steps' experts. -/
def atV (a : IVec S32 32) (e : IVec S352 32) : IVec S352 32 :=
  Host.gather gather_S32_S352x1_S352_n_0_n_n_0_1_1 a
    (broadcastInDim S352x1 ![0] bcast_S352_S352x1_0 (select (cmpi .slt e (rep (constantI S_ 32 0#32))) (addi e (rep (constantI S_ 32 32#32))) e))

/-- The step's place among its expert's steps. -/
def locV (x : IVec S32 32) : IVec S352 32 := subi (stepV x) (muli (rep (constantI S_ 32 2#32)) (atV (startV x) (eV x)))

/-- The step's expert's count, at least one. -/
def cntV (x : IVec S32 32) : IVec S352 32 := maxsi (atV x (eV x)) (rep (constantI S_ 32 1#32))

/-- Division rounding down. -/
def divV (a b : IVec S352 32) : IVec S352 32 :=
  select (andi (cmpi .ne (signi a) (signi b)) (cmpi .ne (Host.remsi a b) (rep (constantI S_ 32 0#32))))
    (subi (Host.divsi a b) (rep (constantI S_ 32 1#32))) (Host.divsi a b)

/-- The divisor, one for zero. -/
def denV (b : IVec S352 32) : IVec S352 32 := select (cmpi .eq b (rep (constantI S_ 32 0#32))) (rep (constantI S_ 32 1#32)) b

/-- The remainder with the divisor's sign. -/
def remV (a b : IVec S352 32) : IVec S352 32 :=
  select (andi (cmpi .ne (cmpi .slt (Host.remsi a (denV b)) (rep (constantI S_ 32 0#32))) (cmpi .slt (denV b) (rep (constantI S_ 32 0#32))))
      (cmpi .ne (Host.remsi a (denV b)) (rep (constantI S_ 32 0#32))))
    (addi (Host.remsi a (denV b)) (denV b)) (Host.remsi a (denV b))

/-- The half of the columns each step works at. -/
def jV (x : IVec S32 32) : IVec S352 32 := divV (locV x) (cntV x)

/-- The step's block among its expert's blocks. -/
def rV (x : IVec S32 32) : IVec S352 32 := remV (locV x) (cntV x)

/-- One at the steps that have work. -/
def wV (x : IVec S32 32) : IVec S352 32 :=
  extui 32 (cmpi .slt (iotaInDim S352 32 0) (rep (muli (constantI S_ 32 2#32) (totV x)))) natLt_1_32

/-- One where the weights are brought in. -/
def oV (x : IVec S32 32) : IVec S352 32 := muli (extui 32 (cmpi .eq (rV x) (rep (constantI S_ 32 0#32))) natLt_1_32) (wV x)

/-- The block of rows each step works at. -/
def iV (x : IVec S32 32) : IVec S352 32 := addi (atV (startV x) (eV x)) (rV x)

attribute [local irreducible] Host.reduceWindow Host.reduce Host.gather Host.divsi Host.remsi

section stages
open StableHlo
variable (W : (r : DevRef τ sig) → r.ty.Contents (Elt F))

theorem first_v0 : after (List.flatten [hostOps0, hostOps0_1, hostOps0_2]) W main_v0 = cumV (W main_arg0) := by after_reads_simp; rfl
theorem first_v1 : after (List.flatten [hostOps0, hostOps0_1, hostOps0_2]) W main_v1 = startV (W main_arg0) := by after_reads_simp; rfl
theorem first_v3 : after (List.flatten [hostOps0, hostOps0_1, hostOps0_2]) W main_v3 = totV (W main_arg0) := by after_reads_simp; rfl
theorem first_v8 : after (List.flatten [hostOps0, hostOps0_1, hostOps0_2]) W main_v8 = stepV (W main_arg0) := by after_reads_simp; rfl
theorem first_arg0 : after (List.flatten [hostOps0, hostOps0_1, hostOps0_2]) W main_arg0 = W main_arg0 := by after_reads_simp

/-- The count of the experts that end at or before each step, off the steps and the running sums. -/
def cntOf (s : IVec S352 32) (cu : IVec S32 32) : IVec S352 32 :=
  Host.reduce IntOp.addi
    (extui 32 (cmpi .sge
      (broadcastInDim S352x32 ![0, 1] bcast_S352x1_S352x32_0_1 (broadcastInDim S352x1 ![0] bcast_S352_S352x1_0 s))
      (broadcastInDim S352x32 ![0, 1] bcast_S1x32_S352x32_0_1
        (muli (broadcastInDim S1x32 ![] bcast_S_S1x32 (constantI S_ 32 2#32)) (broadcastInDim S1x32 ![1] bcast_S32_S1x32_1 cu)))) natLt_1_32)
    (constantI S_ 32 0#32) reducesTo_S352x32_S352_d1 h_S_

theorem second_v17 : after hostOps0_3 W main_v17 = cntOf (W main_v8) (W main_v0) := by after_reads_simp; rfl
theorem second_v27 : after hostOps0_3 W main_v27
    = subi (W main_v8) (muli (rep (constantI S_ 32 2#32)) (atV (W main_v1) (cntOf (W main_v8) (W main_v0)))) := by after_reads_simp; rfl
theorem second_v36 : after hostOps0_3 W main_v36 = maxsi (atV (W main_arg0) (cntOf (W main_v8) (W main_v0))) (rep (constantI S_ 32 1#32)) := by
  after_reads_simp; rfl
theorem second_v1 : after hostOps0_3 W main_v1 = W main_v1 := by after_reads_simp
theorem second_v3 : after hostOps0_3 W main_v3 = W main_v3 := by after_reads_simp

theorem third_v37 : after (List.flatten [hostOps0_4, hostOps0_5]) W main_v37 = divV (W main_v27) (W main_v36) := by after_reads_simp; rfl
theorem third_v38 : after (List.flatten [hostOps0_4, hostOps0_5]) W main_v38 = remV (W main_v27) (W main_v36) := by after_reads_simp; rfl
theorem third_v1 : after (List.flatten [hostOps0_4, hostOps0_5]) W main_v1 = W main_v1 := by after_reads_simp
theorem third_v3 : after (List.flatten [hostOps0_4, hostOps0_5]) W main_v3 = W main_v3 := by after_reads_simp
theorem third_v17 : after (List.flatten [hostOps0_4, hostOps0_5]) W main_v17 = W main_v17 := by after_reads_simp

theorem fourth_v17 : after hostOps0_6 W main_v17 = W main_v17 := by after_reads_simp
theorem fourth_v37 : after hostOps0_6 W main_v37 = W main_v37 := by after_reads_simp
theorem fourth_v43 : after hostOps0_6 W main_v43
    = extui 32 (cmpi .slt (iotaInDim S352 32 0) (rep (muli (constantI S_ 32 2#32) (W main_v3)))) natLt_1_32 := by after_reads_simp; rfl
theorem fourth_v47 : after hostOps0_6 W main_v47
    = muli (extui 32 (cmpi .eq (W main_v38) (rep (constantI S_ 32 0#32))) natLt_1_32)
      (extui 32 (cmpi .slt (iotaInDim S352 32 0) (rep (muli (constantI S_ 32 2#32) (W main_v3)))) natLt_1_32) := by after_reads_simp; rfl
theorem fourth_v55 : after hostOps0_6 W main_v55 = addi (atV (W main_v1) (W main_v17)) (W main_v38) := by after_reads_simp; rfl

theorem split : after (List.flatten [hostOps0, hostOps0_1, hostOps0_2, hostOps0_3, hostOps0_4, hostOps0_5, hostOps0_6]) W
    = after hostOps0_6 (after (List.flatten [hostOps0_4, hostOps0_5]) (after hostOps0_3 (after (List.flatten [hostOps0, hostOps0_1, hostOps0_2]) W))) := by
  simp only [List.flatten_cons, List.flatten_nil, List.append_nil, after_append]

theorem eV_eq (x : IVec S32 32) : eV x = cntOf (stepV x) (cumV x) := rfl

end stages

/-- The five tables, off the block counts. -/
theorem V_v17 (c : Dev nD) : V m c main_v17 = eV (m (c, main_arg0)) :=
  (congrFun (split fun b => m (c, b)) _).trans (by rw [fourth_v17, third_v17, second_v17, first_v8, first_v0, eV_eq])

theorem V_v37 (c : Dev nD) : V m c main_v37 = jV (m (c, main_arg0)) :=
  (congrFun (split fun b => m (c, b)) _).trans (by
    rw [fourth_v37, third_v37, second_v27, second_v36, first_v8, first_v0, first_v1, first_arg0, ← eV_eq]; rfl)

theorem V_v43 (c : Dev nD) : V m c main_v43 = wV (m (c, main_arg0)) :=
  (congrFun (split fun b => m (c, b)) _).trans (by rw [fourth_v43, third_v3, second_v3, first_v3]; rfl)

theorem V_v47 (c : Dev nD) : V m c main_v47 = oV (m (c, main_arg0)) :=
  (congrFun (split fun b => m (c, b)) _).trans (by
    rw [fourth_v47, third_v3, second_v3, first_v3, third_v38, second_v27, second_v36, first_v8, first_v0, first_v1, first_arg0, ← eV_eq]; rfl)

theorem V_v55 (c : Dev nD) : V m c main_v55 = iV (m (c, main_arg0)) :=
  (congrFun (split fun b => m (c, b)) _).trans (by
    rw [fourth_v55, third_v1, third_v17, second_v1, second_v17, first_v1, third_v38, second_v27, second_v36, first_v8, first_v0, first_v1, first_arg0, ← eV_eq]; rfl)

end Cert.UpKernelIdeal.Up
-- ==== Proof.UpTimesIdeal.lean ====
/- The tables of the experts' schedule, entry by entry: the words the host code writes hold the numbers of the schedule, and the
   schedule they make is one the launch accepts. -/
module

public import proofs.«01_k».proof.Proof.UpHostIdeal
public import proofs.«01_k».proof.Proof.UpCounts

@[expose] public section

set_option maxRecDepth 16384

noncomputable section

namespace Cert.UpKernelIdeal.Up

open Cert.UpKernelIdeal Cert.UpKernelIdeal.Gen Cert.Schedule
open Idealize.ShloMosaic Idealize.ShloMosaic.TcCoe Idealize.ShloMosaic.Tactic
open Idealize.ShloMosaic.ValueIdx (ix1 ix2)

attribute [local irreducible] Host.reduceWindow Host.reduce Host.gather

section entries
variable (x : IVec S32 32)

theorem rep_at (v : IVec S_ 32) (t : Fin 352) : rep v (ix1 t) = v ValueIdx.ix0 := Routing.bc0 _ v (ix1 t)

theorem cum_at (k : Fin 32) : cumV x (ix1 k) = BitVec.ofNat 32 (upto (cnt x) (k.val + 1)) :=
  Routing.cumsum1 (N := 32) (Nm1 := 31) rfl x (cnt x) (x_at x) _ (Routing.bc0 _ _ ValueIdx.ix0) _ _ k

theorem start_at (k : Fin 32) : startV x (ix1 k) = BitVec.ofNat 32 (upto (cnt x) k.val) := by
  show IntOp.subi (cumV x (ix1 k)) (x (ix1 k)) = _
  rw [cum_at, x_at x, sub_small (by rw [upto_succ]; omega), upto_succ, Nat.add_sub_cancel]

theorem tot_at : totV x ValueIdx.ix0 = BitVec.ofNat 32 (upto (cnt x) 32) := by
  refine Eq.trans ?_ (cum_at x (31 : Fin 32))
  unfold totV
  rw [shapeCast_apply (k := (ix1 (0 : Fin 1) : S1.Idx)) (hk := by decide)]
  unfold extractStridedSlice
  refine congrArg (cumV x) (funext fun a => ?_)
  obtain rfl : a = 0 := Subsingleton.elim _ _
  exact Fin.ext (by simp)

variable {x} (hx : Fits x)
include hx

theorem stp_lt (t : ℕ) : stp (cnt x) t < 352 := by
  have := hx.le; have := hx.pos; unfold stp; omega

theorem upto_le (k : ℕ) (hk : k ≤ 32) : upto (cnt x) k ≤ 176 := (upto_mono _ hk).trans hx.le

theorem step_at (t : Fin 352) : stepV x (ix1 t) = BitVec.ofNat 32 (stp (cnt x) t.val) := by
  have h1 := hx.pos; have h2 := hx.le; have ht := t.isLt
  show IntOp.minsi (rep _ (ix1 t)) (IntOp.maxsi (rep _ (ix1 t)) (BitVec.ofNat 32 t.val)) = _
  rw [rep_at, rep_at]
  show IntOp.minsi (IntOp.maxsi (IntOp.subi (IntOp.muli (BitVec.ofNat 32 2) (totV x ValueIdx.ix0)) (BitVec.ofNat 32 1)) (BitVec.ofNat 32 0))
    (IntOp.maxsi (BitVec.ofNat 32 0) (BitVec.ofNat 32 t.val)) = _
  rw [tot_at, mul_small, sub_small (by omega), max_small (by omega) (by omega), max_small (by omega) (by omega), min_small (by omega) (by omega)]
  refine congrArg (BitVec.ofNat 32) ?_
  unfold stp
  omega

omit hx in
/-- Whether expert `q` ends at or before step `t`. -/
theorem msk_left (t : Fin 352) (q : Fin 32) :
    broadcastInDim S352x32 ![0, 1] bcast_S352x1_S352x32_0_1 (broadcastInDim S352x1 ![0] bcast_S352_S352x1_0 (stepV x)) (ix2 t q) = stepV x (ix1 t) :=
  Routing.bcRows _ _ (stepV x) t q

omit hx in
theorem msk_right (t : Fin 352) (q : Fin 32) :
    broadcastInDim S352x32 ![0, 1] bcast_S1x32_S352x32_0_1
      (muli (broadcastInDim S1x32 ![] bcast_S_S1x32 (constantI S_ 32 2#32)) (broadcastInDim S1x32 ![1] bcast_S32_S1x32_1 (cumV x))) (ix2 t q)
      = BitVec.ofNat 32 (2 * upto (cnt x) (q.val + 1)) := by
  refine (broadcastInDim_apply _ _ _ _ (ix2 (0 : Fin 1) q) fun a => ?_).trans ?_
  · match a with
    | ⟨0, _⟩ => rfl
    | ⟨1, _⟩ =>
      show q.val = if (32 : ℕ) = 1 then 0 else q.val
      rw [if_neg (by decide)]
  · show IntOp.muli (BitVec.ofNat 32 2) (broadcastInDim S1x32 ![1] bcast_S32_S1x32_1 (cumV x) (ix2 (0 : Fin 1) q)) = _
    rw [← mul_small, ← cum_at x q]
    refine congrArg (IntOp.muli (BitVec.ofNat 32 2)) (broadcastInDim_apply _ _ (cumV x) _ _ fun a => ?_)
    match a with
    | ⟨0, _⟩ =>
      show q.val = if (32 : ℕ) = 1 then 0 else q.val
      rw [if_neg (by decide)]

theorem msk_at (t : Fin 352) (q : Fin 32) :
    cmpi .sge (broadcastInDim S352x32 ![0, 1] bcast_S352x1_S352x32_0_1 (broadcastInDim S352x1 ![0] bcast_S352_S352x1_0 (stepV x)))
      (broadcastInDim S352x32 ![0, 1] bcast_S1x32_S352x32_0_1
        (muli (broadcastInDim S1x32 ![] bcast_S_S1x32 (constantI S_ 32 2#32)) (broadcastInDim S1x32 ![1] bcast_S32_S1x32_1 (cumV x)))) (ix2 t q) = 1#1
      ↔ 2 * upto (cnt x) (q.val + 1) ≤ stp (cnt x) t.val := by
  have hs := stp_lt hx t.val
  have hu := upto_le hx (q.val + 1) q.isLt
  have e := congrArg₂ (IntOp.cmpi .sge) ((msk_left (x := x) t q).trans (step_at hx t)) (msk_right (x := x) t q)
  exact (iff_of_eq (congrArg (fun w => w = 1#1) e)).trans (ge_small (by omega) (by omega))

theorem e_at (t : Fin 352) : eV x (ix1 t) = BitVec.ofNat 32 (ex (cnt x) t.val) :=
  Routing.reduce_count (n := 352) (m := 32) (by decide) _ natLt_1_32 reducesTo_S352x32_S352_d1 h_S_ t
    (fun k => 2 * upto (cnt x) (k + 1) ≤ stp (cnt x) t.val) (msk_at hx t)

omit hx in
theorem at_at (a : IVec S32 32) (e : IVec S352 32) (t : Fin 352) (k : Fin 32) (he : e (ix1 t) = BitVec.ofNat 32 k.val) :
    atV a e (ix1 t) = a (ix1 k) := by
  refine Routing.gather_take1 (N := 32) (n := 352) _ rfl rfl rfl rfl a _ t k ?_ (by decide)
  refine (Routing.bcCol _ _ t).trans ?_
  show Scalar.select (IntOp.cmpi .slt (e (ix1 t)) (rep _ (ix1 t))) (IntOp.addi (e (ix1 t)) (rep _ (ix1 t))) (e (ix1 t)) = _
  have hk := k.isLt
  rw [rep_at, he]
  show (if IntOp.cmpi .slt (BitVec.ofNat 32 k.val) (BitVec.ofNat 32 0) = 1 then _ else _) = _
  rw [lt_small (by omega) (by omega), decide_eq_false (by omega), if_neg (by decide)]

/-- The step's expert as an index. -/
def exF (t : ℕ) : Fin 32 := ⟨ex (cnt x) t, (ex_spec hx.pos t).1⟩

theorem loc_at (t : Fin 352) : locV x (ix1 t) = BitVec.ofNat 32 (loc (cnt x) t.val) := by
  have h := ex_spec hx.pos t.val
  show IntOp.subi (stepV x (ix1 t)) (IntOp.muli (rep _ (ix1 t)) (atV (startV x) (eV x) (ix1 t))) = _
  rw [rep_at, at_at _ _ t (exF hx t.val) (e_at hx t), start_at, step_at hx]
  show IntOp.subi _ (IntOp.muli (BitVec.ofNat 32 2) (BitVec.ofNat 32 (upto (cnt x) (ex (cnt x) t.val)))) = _
  rw [mul_small, sub_small h.2.1]
  rfl

theorem cnt_lt (t : ℕ) : cnt x (ex (cnt x) t) ≤ 176 := by
  have h := upto_le hx (ex (cnt x) t + 1) (ex_spec hx.pos t).1
  rw [upto_succ] at h
  omega

theorem cnt_at (t : Fin 352) : cntV x (ix1 t) = BitVec.ofNat 32 (cnt x (ex (cnt x) t.val)) := by
  have h1 := cnt_lt hx t.val
  have h2 := Schedule.pos hx.pos t.val
  show IntOp.maxsi (atV x (eV x) (ix1 t)) (rep _ (ix1 t)) = _
  rw [rep_at, at_at _ _ t (exF hx t.val) (e_at hx t), x_at x]
  show IntOp.maxsi (BitVec.ofNat 32 (cnt x (ex (cnt x) t.val))) (BitVec.ofNat 32 1) = _
  rw [max_small (by omega) (by omega), max_eq_left h2]

omit hx in
theorem div_at (a b : IVec S352 32) (t : Fin 352) (p q : ℕ) (ha : a (ix1 t) = BitVec.ofNat 32 p) (hb : b (ix1 t) = BitVec.ofNat 32 q)
    (hp : p < 2 ^ 31) (hq : q < 2 ^ 31) (h : 1 ≤ q) : divV a b (ix1 t) = BitVec.ofNat 32 (p / q) := by
  have hd : Host.divsi a b (ix1 t) = BitVec.ofNat 32 (p / q) := by
    show IntOp.divsi .host (a (ix1 t)) (b (ix1 t)) = _
    rw [ha, hb, div_small _ hp hq h]
  have hr : Host.remsi a b (ix1 t) = BitVec.ofNat 32 (p % q) := by
    show IntOp.remsi .host (a (ix1 t)) (b (ix1 t)) = _
    rw [ha, hb, rem_small _ hp hq h]
  have hm := Nat.mod_le p q
  show Scalar.select (IntOp.andi (IntOp.cmpi .ne (signi a (ix1 t)) (signi b (ix1 t))) (IntOp.cmpi .ne (Host.remsi a b (ix1 t)) (rep _ (ix1 t))))
    (IntOp.subi (Host.divsi a b (ix1 t)) (rep _ (ix1 t))) (Host.divsi a b (ix1 t)) = _
  rw [hd, hr, rep_at, rep_at]
  refine (if_neg ?_ : (if _ = (1 : BitVec 1) then _ else _) = _)
  show ¬ IntOp.andi (IntOp.cmpi .ne (signi a (ix1 t)) (signi b (ix1 t))) (IntOp.cmpi .ne (BitVec.ofNat 32 (p % q)) (BitVec.ofNat 32 0)) = 1
  rw [ne_small (by omega) (by omega)]
  rcases Nat.eq_zero_or_pos p with h0 | h0
  · subst h0
    rw [Nat.zero_mod, decide_eq_false (by omega)]
    show ¬ (_ &&& 0#1) = 1#1
    rw [BitVec.and_zero]
    decide
  · have hs : ∀ (v : IVec S352 32) (n : ℕ), v (ix1 t) = BitVec.ofNat 32 n → n < 2 ^ 31 → 1 ≤ n → signi v (ix1 t) = 1 := fun v n hv hn h1 => by
      unfold signi
      rw [hv, msb_small hn, if_neg, if_neg (by decide)]
      intro hz
      have := congrArg BitVec.toNat hz
      rw [toNat_small hn] at this
      have h2 : (0 : BitVec 32).toNat = 0 := rfl
      omega
    rw [hs a p ha hp h0, hs b q hb hq h]
    show ¬ (0#1 &&& _) = 1#1
    rw [BitVec.zero_and]
    decide

omit hx in
theorem rem_at (a b : IVec S352 32) (t : Fin 352) (p q : ℕ) (ha : a (ix1 t) = BitVec.ofNat 32 p) (hb : b (ix1 t) = BitVec.ofNat 32 q)
    (hp : p < 2 ^ 31) (hq : q < 2 ^ 31) (h : 1 ≤ q) : remV a b (ix1 t) = BitVec.ofNat 32 (p % q) := by
  have hden : denV b (ix1 t) = BitVec.ofNat 32 q := by
    show Scalar.select (IntOp.cmpi .eq (b (ix1 t)) (rep _ (ix1 t))) (rep _ (ix1 t)) (b (ix1 t)) = _
    rw [rep_at, rep_at, hb]
    refine (if_neg ?_ : (if _ = (1 : BitVec 1) then _ else _) = _)
    show ¬ IntOp.cmpi .eq (BitVec.ofNat 32 q) (BitVec.ofNat 32 0) = 1
    rw [eq_small hq (by omega), decide_eq_false (by omega)]
    decide
  have hr : Host.remsi a (denV b) (ix1 t) = BitVec.ofNat 32 (p % q) := by
    show IntOp.remsi .host (a (ix1 t)) (denV b (ix1 t)) = _
    rw [ha, hden, rem_small _ hp hq h]
  have hm := Nat.mod_le p q
  show Scalar.select (IntOp.andi (IntOp.cmpi .ne (IntOp.cmpi .slt (Host.remsi a (denV b) (ix1 t)) (rep _ (ix1 t)))
      (IntOp.cmpi .slt (denV b (ix1 t)) (rep _ (ix1 t)))) (IntOp.cmpi .ne (Host.remsi a (denV b) (ix1 t)) (rep _ (ix1 t))))
    (IntOp.addi (Host.remsi a (denV b) (ix1 t)) (denV b (ix1 t))) (Host.remsi a (denV b) (ix1 t)) = _
  rw [hr, hden, rep_at]
  refine (if_neg ?_ : (if _ = (1 : BitVec 1) then _ else _) = _)
  show ¬ IntOp.andi (IntOp.cmpi .ne (IntOp.cmpi .slt (BitVec.ofNat 32 (p % q)) (BitVec.ofNat 32 0)) (IntOp.cmpi .slt (BitVec.ofNat 32 q) (BitVec.ofNat 32 0)))
    (IntOp.cmpi .ne (BitVec.ofNat 32 (p % q)) (BitVec.ofNat 32 0)) = 1
  rw [lt_small (by omega) (by omega), lt_small hq (by omega), decide_eq_false (by omega), decide_eq_false (by omega)]
  show ¬ (0#1 &&& _) = 1#1
  rw [BitVec.zero_and]
  decide

theorem loc_small (t : ℕ) : loc (cnt x) t < 2 ^ 31 := by
  have := stp_lt hx t
  unfold loc
  omega

theorem j_at (t : Fin 352) : jV x (ix1 t) = BitVec.ofNat 32 (half (cnt x) t.val) :=
  div_at _ _ t _ _ (loc_at hx t) (cnt_at hx t) (loc_small hx _) (by have := cnt_lt hx t.val; omega) (Schedule.pos hx.pos _)

theorem r_at (t : Fin 352) : rV x (ix1 t) = BitVec.ofNat 32 (blk (cnt x) t.val) :=
  rem_at _ _ t _ _ (loc_at hx t) (cnt_at hx t) (loc_small hx _) (by have := cnt_lt hx t.val; omega) (Schedule.pos hx.pos _)

theorem i_at (t : Fin 352) : iV x (ix1 t) = BitVec.ofNat 32 (row (cnt x) t.val) := by
  show IntOp.addi (atV (startV x) (eV x) (ix1 t)) (rV x (ix1 t)) = _
  rw [r_at hx, at_at _ _ t (exF hx t.val) (e_at hx t), start_at, add_small]
  rfl

theorem w_at (t : Fin 352) : wV x (ix1 t) = BitVec.ofNat 32 (if t.val < 2 * upto (cnt x) 32 then 1 else 0) := by
  have h1 := hx.le; have ht := t.isLt
  show BitVec.setWidth 32 (IntOp.cmpi .slt (BitVec.ofNat 32 t.val) (rep _ (ix1 t))) = _
  rw [rep_at]
  show BitVec.setWidth 32 (IntOp.cmpi .slt (BitVec.ofNat 32 t.val) (IntOp.muli (BitVec.ofNat 32 2) (totV x ValueIdx.ix0))) = _
  rw [tot_at, mul_small, lt_small (by omega) (by omega)]
  by_cases h : t.val < 2 * upto (cnt x) 32
  · rw [decide_eq_true h, if_pos h]; rfl
  · rw [decide_eq_false h, if_neg h]; rfl

theorem o_at (t : Fin 352) : oV x (ix1 t) = BitVec.ofNat 32 (if blk (cnt x) t.val = 0 ∧ t.val < 2 * upto (cnt x) 32 then 1 else 0) := by
  have hb := blk_lt hx.pos t.val
  have hc := cnt_lt hx t.val
  show IntOp.muli (BitVec.setWidth 32 (IntOp.cmpi .eq (rV x (ix1 t)) (rep _ (ix1 t)))) (wV x (ix1 t)) = _
  rw [rep_at, w_at hx, r_at hx]
  show IntOp.muli (BitVec.setWidth 32 (IntOp.cmpi .eq (BitVec.ofNat 32 (blk (cnt x) t.val)) (BitVec.ofNat 32 0))) _ = _
  rw [eq_small (by omega) (by omega)]
  by_cases h0 : blk (cnt x) t.val = 0
  · rw [decide_eq_true h0]
    by_cases h : t.val < 2 * upto (cnt x) 32
    · rw [if_pos h, if_pos ⟨h0, h⟩]; rfl
    · rw [if_neg h, if_neg (fun hh : blk (cnt x) t.val = 0 ∧ t.val < 2 * upto (cnt x) 32 => h hh.2)]; rfl
  · rw [decide_eq_false h0, if_neg (fun hh : blk (cnt x) t.val = 0 ∧ t.val < 2 * upto (cnt x) 32 => h0 hh.1)]
    by_cases h : t.val < 2 * upto (cnt x) 32
    · rw [if_pos h]; rfl
    · rw [if_neg h]; rfl

end entries

/-! ## The schedule is one the launch accepts -/

variable {F : FTy → Type} [FloatOps F]
variable (m : (ℓ : Loc nD τ sig) → Buf (Elt F) ℓ)

/-- The block counts of the launch memory. -/
abbrev counts : IVec S32 32 := m ((0 : Dev nD), main_arg0)

theorem wd_at (T : S352.Idx → BitVec 32) (n : ℕ) (hn : n < 352) : wd T n = T (ix1 (⟨n, hn⟩ : Fin 352)) :=
  congrArg T (funext fun a => by
    obtain rfl : a = 0 := Subsingleton.elim _ _
    exact Fin.ext (Nat.mod_eq_of_lt hn))

section words
variable {m} (hx : Fits (counts m))
include hx

theorem wE_eq (n : ℕ) (hn : n < 352) : wE (tbl m) n = BitVec.ofNat 32 (ex (cnt (counts m)) n) :=
  (congrArg (fun T => wd T n) (V_v17 m 0)).trans ((wd_at _ n hn).trans (e_at hx ⟨n, hn⟩))
theorem wJ_eq (n : ℕ) (hn : n < 352) : wJ (tbl m) n = BitVec.ofNat 32 (half (cnt (counts m)) n) :=
  (congrArg (fun T => wd T n) (V_v37 m 0)).trans ((wd_at _ n hn).trans (j_at hx ⟨n, hn⟩))
theorem wI_eq (n : ℕ) (hn : n < 352) : wI (tbl m) n = BitVec.ofNat 32 (row (cnt (counts m)) n) :=
  (congrArg (fun T => wd T n) (V_v55 m 0)).trans ((wd_at _ n hn).trans (i_at hx ⟨n, hn⟩))
theorem wO_eq (n : ℕ) (hn : n < 352) :
    wO (tbl m) n = BitVec.ofNat 32 (if blk (cnt (counts m)) n = 0 ∧ n < 2 * upto (cnt (counts m)) 32 then 1 else 0) :=
  (congrArg (fun T => wd T n) (V_v47 m 0)).trans ((wd_at _ n hn).trans (o_at hx ⟨n, hn⟩))
theorem wW_eq (n : ℕ) (hn : n < 352) : wW (tbl m) n = BitVec.ofNat 32 (if n < 2 * upto (cnt (counts m)) 32 then 1 else 0) :=
  (congrArg (fun T => wd T n) (V_v43 m 0)).trans ((wd_at _ n hn).trans (w_at hx ⟨n, hn⟩))

theorem sched : SchedM m := by
  have hT := hx.pos
  have hL := hx.le
  have one : k0_cond2 (BitVec.ofNat 32 1) = 1#1 := by decide
  refine ⟨?_, ?_, fun n hn => ?_, fun n hn => ?_, fun n hn => ?_, fun n hn => ?_, fun n hn => ?_⟩
  · rw [wO_eq hx 0 (by decide), if_pos]
    · exact one
    · refine ⟨?_, by omega⟩
      have h0 : stp (cnt (counts m)) 0 = 0 := by unfold stp; omega
      unfold blk loc
      rw [h0, Nat.zero_sub, Nat.zero_mod]
  · rw [wW_eq hx 0 (by decide), if_pos (by omega)]
    exact one
  · rw [wO_eq hx (n + 1) hn, wE_eq hx (n + 1) hn, wE_eq hx n (by omega), wJ_eq hx (n + 1) hn, wJ_eq hx n (by omega)]
    by_cases h : n + 1 < 2 * upto (cnt (counts m)) 32
    · by_cases h0 : blk (cnt (counts m)) (n + 1) = 0
      · rw [if_pos ⟨h0, h⟩]; exact Or.inl one
      · obtain ⟨a, b⟩ := goes_on hT n h h0
        rw [a, b]; exact Or.inr ⟨rfl, rfl⟩
    · obtain ⟨a, b, _⟩ := same_of_stp (stay (N := cnt (counts m)) n (by omega))
      rw [a, b]; exact Or.inr ⟨rfl, rfl⟩
  · rw [wW_eq hx (n + 1) hn, wE_eq hx (n + 1) hn, wE_eq hx n (by omega), wJ_eq hx (n + 1) hn, wJ_eq hx n (by omega), wI_eq hx (n + 1) hn,
      wI_eq hx n (by omega)]
    by_cases h : n + 1 < 2 * upto (cnt (counts m)) 32
    · rw [if_pos h]; exact Or.inl one
    · obtain ⟨a, b, c⟩ := same_of_stp (stay (N := cnt (counts m)) n (by omega))
      rw [a, b, c]; exact Or.inr ⟨rfl, rfl, rfl⟩
  · have h := (ex_spec hT n).1
    rw [wE_eq hx n hn, toNat_small (by omega)]; exact h
  · have h := half_lt hT n
    rw [wJ_eq hx n hn, toNat_small (by omega)]; exact h
  · have h := row_lt hT n
    rw [wI_eq hx n hn, toNat_small (by omega)]; omega

end words

end Cert.UpKernelIdeal.Up
-- ==== Proof.UpPayloadIdeal.lean ====
module
public import proofs.«01_k».proof.Proof.UpPointIdeal
public import proofs.«01_k».proof.Proof.Layers
public import Idealize.ShloMosaic.Lib.Pointwise

/-! One block of the experts' up projection at an element, over the extended reals: a row's words
read as two halves, its product with a column of each of the two weights, and the clipped
gated activation of the two. -/

@[expose] public section

set_option maxRecDepth 16384

noncomputable section

namespace Cert.Experts

open Idealize.ShloMosaic Cert.Layers

/-- The product of a row of words with a column twice as long: the words' low halves, read as numbers, meet the column's
    first half, and their high halves its second half. -/
def halves (f : Fin 1024 → BitVec 32) (w : Fin 2048 → EReal) : EReal :=
  ∑ d : Fin 1024, Ideal.ofBits .f32 (f d <<< 16) * w ⟨d.val, by omega⟩
    + ∑ d : Fin 1024, Ideal.ofBits .f32 (f d &&& 4294901760#32) * w ⟨1024 + d.val, by omega⟩

/-- The gate, clipped from above. -/
def gateClip (z : EReal) : EReal := min z (Ideal.ofBits .f32 0x40E00000#32)

/-- The activation of a gate and of a linear part, both clipped. -/
def act (z l : EReal) : EReal :=
  ((min (Ideal.ofBits .f32 0x40E00000#32) (max (Ideal.ofBits .f32 0xC0E00000#32) l) + 1) * gateClip z)
    * Ideal.logistic (Ideal.ofBits .f32 0x3FD9DB23#32 * gateClip z)

/-- The entry the experts' first product holds at row `i` and column `q` when `e` is the row's expert: the activation of the row's
    products with the expert's two matrices, each with its bias. -/
def entry (a1 : IVec ⟨2, ![90112, 1024]⟩ 32) (a2 : FVec Ideal ⟨3, ![32, 2048, 2048]⟩ .f32) (a3 : FVec Ideal ⟨2, ![32, 2048]⟩ .f32)
    (a4 : FVec Ideal ⟨3, ![32, 2048, 2048]⟩ .f32) (a5 : FVec Ideal ⟨2, ![32, 2048]⟩ .f32) (e : Fin 32) (i : Fin 90112) (q : Fin 2048) : EReal :=
  act (halves (fun d => a1 (ix2 i d)) (fun d => a2 (ix3 e d q)) + a3 (ix2 e q)) (halves (fun d => a1 (ix2 i d)) (fun d => a4 (ix3 e d q)) + a5 (ix2 e q))

end Cert.Experts

namespace Cert.UpKernelIdeal.Up

open Idealize.ShloMosaic Idealize.ShloMosaic.TcCoe Idealize.SL.Sem
open Cert.UpKernelIdeal Cert.UpKernelIdeal.Gen Cert.Layers Cert.Experts

theorem outBlock_at (x0 : Vec Ideal S512x1024 .i32) (x1 x2 : Vec Ideal S1x2048x1024 .f32) (x3 x4 : Vec Ideal S1x1x1024 .f32) (r : Fin 512) (j : Fin 1024) :
    outBlock x0 x1 x2 x3 x4 (ix2 r j)
      = act (halves (fun d => x0 (ix2 r d)) (fun d => x1 (ix3 0 d j)) + x3 (ix3 0 0 j))
          (halves (fun d => x0 (ix2 r d)) (fun d => x2 (ix3 0 d j)) + x4 (ix3 0 0 j)) := by
  unfold outBlock
  pointwise [k0_pay3, k0_pay1, k0_pay2]
  rfl

end Cert.UpKernelIdeal.Up

end
-- ==== Proof.UpReferenceRows.lean ====
/- The experts of the reference, block by block: the number of the expert that owns a block of 512 rows, and the rows of an array taken
   by those numbers. -/
module

public import proofs.«01_k».proof.Proof.Gen.UpReferenceIdeal
public import proofs.«01_k».proof.Proof.UpCounts
public import proofs.«01_k».proof.Proof.UpWord

@[expose] public section

set_option maxRecDepth 16384

noncomputable section

namespace Cert.UpReferenceIdeal.Up

open Cert.UpReferenceIdeal Cert.UpReferenceIdeal.Gen Cert.Schedule
open Idealize.ShloMosaic Idealize.ShloMosaic.TcCoe
open Idealize.ShloMosaic.ValueIdx (ix1 ix2 ix3)

section ids
attribute [local irreducible] Host.reduceWindow Host.reduce Host.gather

/-- The experts' counts of blocks, summed. -/
def cumR (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- Whether an expert's blocks end at or before a block. -/
def mskR (x : IVec S32 32) : IVec S176x32 1 :=
  cmpi .sge (broadcastInDim S176x32 ![0, 1] bcast_S176x1_S176x32_0_1 (broadcastInDim S176x1 ![0] bcast_S176_S176x1_0 (iotaInDim S176 32 0)))
    (broadcastInDim S176x32 ![0, 1] bcast_S1x32_S176x32_0_1 (broadcastInDim S1x32 ![1] bcast_S32_S1x32_1 (cumR x)))

/-- The number of the expert that owns each block. -/
def ownR (x : IVec S32 32) : IVec S176 32 :=
  minsi (Host.reduce IntOp.addi (extui 32 (mskR x) natLt_1_32) (constantI S_ 32 0#32) reducesTo_S176x32_S176_d1 h_S_)
    (broadcastInDim S176 ![] bcast_S_S176 (constantI S_ 32 31#32))

/-- The same as the column a gather takes, counting from the end where negative. -/
def colR (x : IVec S32 32) : IVec S176x1 32 :=
  broadcastInDim S176x1 ![0] bcast_S176_S176x1_0
    (select (cmpi .slt (ownR x) (broadcastInDim S176 ![] bcast_S_S176 (constantI S_ 32 0#32)))
      (addi (ownR x) (broadcastInDim S176 ![] bcast_S_S176 (constantI S_ 32 32#32))) (ownR x))

/-- The expert that owns a block, as a number. -/
def own (x : IVec S32 32) (a : ℕ) : Fin 32 := ⟨min (Nat.count (fun k => upto (cnt x) (k + 1) ≤ a) 32) 31, by omega⟩

theorem cumR_at (x : IVec S32 32) (k : Fin 32) : cumR x (ix1 k) = BitVec.ofNat 32 (upto (cnt x) (k.val + 1)) :=
  Routing.cumsum1 (N := 32) (Nm1 := 31) rfl x (cnt x) (x_at x) _ (Routing.bc0 _ _ ValueIdx.ix0) _ _ k

theorem right_at (x : IVec S32 32) (a : Fin 176) (q : Fin 32) :
    broadcastInDim S176x32 ![0, 1] bcast_S1x32_S176x32_0_1 (broadcastInDim S1x32 ![1] bcast_S32_S1x32_1 (cumR x)) (ix2 a q) = cumR x (ix1 q) := by
  refine (broadcastInDim_apply _ _ _ _ (ix2 (0 : Fin 1) q) fun a => ?_).trans (broadcastInDim_apply _ _ (cumR x) _ _ fun a => ?_)
  · match a with
    | ⟨0, _⟩ => rfl
    | ⟨1, _⟩ =>
      show q.val = if (32 : ℕ) = 1 then 0 else q.val
      rw [if_neg (by decide)]
  · match a with
    | ⟨0, _⟩ =>
      show q.val = if (32 : ℕ) = 1 then 0 else q.val
      rw [if_neg (by decide)]

variable {x : IVec S32 32} (hx : Fits x)
include hx

theorem mskR_at (a : Fin 176) (q : Fin 32) : mskR x (ix2 a q) = 1#1 ↔ upto (cnt x) (q.val + 1) ≤ a.val := by
  have hu : upto (cnt x) (q.val + 1) ≤ 176 := (upto_mono _ q.isLt).trans hx.le
  have hl : broadcastInDim S176x32 ![0, 1] bcast_S176x1_S176x32_0_1 (broadcastInDim S176x1 ![0] bcast_S176_S176x1_0 (iotaInDim S176 32 0)) (ix2 a q)
      = BitVec.ofNat 32 a.val := Routing.bcRows _ _ (iotaInDim S176 32 0) a q
  have e := congrArg₂ (IntOp.cmpi .sge) hl ((right_at x a q).trans (cumR_at x q))
  exact (iff_of_eq (congrArg (fun w => w = 1#1) e)).trans (ge_small (by omega) (by omega))

theorem ownR_at (a : Fin 176) : ownR x (ix1 a) = BitVec.ofNat 32 (own x a.val).val := by
  have h := Routing.reduce_count (n := 176) (m := 32) (by decide) (mskR x) natLt_1_32 reducesTo_S176x32_S176_d1 h_S_ a
    (fun k => upto (cnt x) (k + 1) ≤ a.val) (mskR_at hx a)
  have hb : broadcastInDim S176 ![] bcast_S_S176 (constantI S_ 32 31#32) (ix1 a) = BitVec.ofNat 32 31 := Routing.bc0 _ (constantI S_ 32 31#32) (ix1 a)
  have hc : Nat.count (fun k => upto (cnt x) (k + 1) ≤ a.val) 32 ≤ 32 := Nat.count_le _
  exact (congrArg₂ IntOp.minsi h hb).trans (min_small (by omega) (by omega))

theorem colR_at (a : Fin 176) : colR x (ix2 a (0 : Fin 1)) = BitVec.ofNat 32 (own x a.val).val := by
  refine (Routing.bcCol _ _ a).trans ?_
  show Scalar.select (IntOp.cmpi .slt (ownR x (ix1 a)) (broadcastInDim S176 ![] bcast_S_S176 (constantI S_ 32 0#32) (ix1 a)))
    (IntOp.addi (ownR x (ix1 a)) (broadcastInDim S176 ![] bcast_S_S176 (constantI S_ 32 32#32) (ix1 a))) (ownR x (ix1 a)) = _
  have h0 : broadcastInDim S176 ![] bcast_S_S176 (constantI S_ 32 0#32) (ix1 a) = BitVec.ofNat 32 0 := Routing.bc0 _ (constantI S_ 32 0#32) (ix1 a)
  have hlt := (own x a.val).isLt
  rw [ownR_at hx, h0]
  have hn : ¬ IntOp.cmpi .slt (BitVec.ofNat 32 (own x a.val).val) (BitVec.ofNat 32 0) = 1#1 := fun h => by
    rw [lt_small (a := (own x a.val).val) (b := 0) (by omega) (by omega), decide_eq_false (Nat.not_lt_zero _)] at h
    exact absurd h (by decide)
  exact if_neg hn

end ids

/-- One row of the biases, taken by the expert of a block. -/
theorem take_row {α : Type} (y : S32x2048.Idx → α) (idx : IVec S176x1 32) (a : Fin 176) (q : Fin 2048) (e : Fin 32)
    (he : idx (ix2 a (0 : Fin 1)) = BitVec.ofNat 32 e.val) :
    Host.gather gather_S32x2048_S176x1_S176x2048_1_0_n_n_0_1_12048 y idx (ix2 a q) = y (ix2 e q) :=
  Routing.gather_row _ rfl rfl rfl rfl rfl y _ a q e he (by decide)

/-- How the matrices of the experts are taken. -/
abbrev plane := gather_S32x2048x2048_S176x1_S176x2048x2048_12_0_n_n_0_1_120482048

/-- One expert's matrix, taken by the expert of a block. -/
theorem take_plane {α : Type} (y : S32x2048x2048.Idx → α) (idx : IVec S176x1 32) (a : Fin 176) (d q : Fin 2048) (e : Fin 32)
    (he : idx (ix2 a (0 : Fin 1)) = BitVec.ofNat 32 e.val) :
    Host.gather gather_S32x2048x2048_S176x1_S176x2048x2048_12_0_n_n_0_1_120482048 y idx (ix3 a d q) = y (ix3 e d q) := by
  unfold Host.gather
  refine congrArg y (funext fun b => Fin.ext ?_)
  have off (b : Fin 3) (X : Fin 3) (hb : b ∈ plane.sKept)
      (hX : plane.offsetDims[plane.sKept.idxOf b]'(by rw [plane.offset_length]; exact List.idxOf_lt_length_iff.2 hb) = X)
      (hs : b ∉ plane.startIndexMap) :
      plane.start (ix3 a d q) idx b + plane.batchCoord (ix3 a d q) b + plane.offCoord (ix3 a d q) b = (ix3 a d q X).val := by
    rw [GatherDims.batchCoord_eq_zero _ _ _ (by exact List.not_mem_nil)]
    unfold GatherDims.start GatherDims.offCoord
    rw [dif_neg hs, dif_pos hb, Nat.zero_add, hX]
  match b with
  | ⟨0, _⟩ =>
    show plane.start (ix3 a d q) idx (0 : Fin 3) + plane.batchCoord (ix3 a d q) (0 : Fin 3) + plane.offCoord (ix3 a d q) (0 : Fin 3) = e.val
    rw [GatherDims.batchCoord_eq_zero _ _ _ (by exact List.not_mem_nil), GatherDims.offCoord_eq_zero _ _ _ (by decide)]
    simp only [Nat.add_zero]
    unfold GatherDims.start
    rw [dif_pos (by decide)]
    have hsi (n : Fin plane.startIndexMap.length) : plane.siIdx (ix3 a d q) n = ix2 a (0 : Fin 1) := by
      funext b'
      match b' with
      | ⟨0, _⟩ => exact Fin.ext rfl
      | ⟨1, _⟩ => exact Subsingleton.elim (α := Fin 1) _ _
    have hlt := e.isLt
    refine (congrArg (fun w : BitVec 32 => min w.toInt.toNat 31) ((congrArg idx (hsi _)).trans he)).trans ?_
    rw [StableHlo.Predicate.toInt_ofNat_small _ (by omega)]
    show min ((e.val : Int)).toNat 31 = e.val
    omega
  | ⟨1, _⟩ => exact off 1 1 (by decide) (by decide) (by decide)
  | ⟨2, _⟩ => exact off 2 2 (by decide) (by decide) (by decide)

end Cert.UpReferenceIdeal.Up

end
-- ==== Proof.UpValueIdeal.lean ====
/- The blocks the points of the experts' first product read, and the array they leave. -/
module

public import proofs.«01_k».proof.Proof.UpPayloadIdeal
public import proofs.«01_k».proof.Proof.UpTimesIdeal
public import proofs.«01_k».proof.Proof.UpDataIdeal
public import proofs.«01_k».proof.Proof.UpReferenceRows
public import Idealize.ShloMosaic.Lib.Claim
public import Idealize.ShloMosaic.Lib.StableHlo.RunRead
public import Idealize.ShloMosaic.Lib.Pipeline.ValueKit.Partial
public import Idealize.ShloMosaic.Lib.Pointwise

@[expose] public section

set_option maxRecDepth 16384

noncomputable section

namespace Cert.UpKernelIdeal.Up

open Idealize.ShloMosaic Idealize.ShloMosaic.TcCoe Idealize.ShloMosaic.Tactic Idealize.SL.Sem
open Cert.UpKernelIdeal Cert.UpKernelIdeal.Gen Cert.Experts Cert.Schedule

section blocks
variable (a : (pcfg0 (F := Ideal)).Adm) (t : Fin (cfg0 a).N)

/-! What a block of each argument holds, by the words of the point. -/

theorem read0 (X : IVec S90112x1024 32) (r : Fin 512) (d : Fin 1024) (i : Fin 90112) (hi : i.val = 512 * (wI a.1 t.val).toNat + r.val) :
    (((cfg0 a).win 0).blk t).view.read (Elt Ideal) X (ix2 r d) = X (ix2 i d) := by
  blk_ext [index0 a t]

theorem read1 (X : FVec Ideal S32x2048x2048 .f32) (d : Fin 2048) (j : Fin 1024) (e : Fin 32) (q : Fin 2048)
    (he : e.val = (wE a.1 t.val).toNat) (hq : q.val = 1024 * (wJ a.1 t.val).toNat + j.val) :
    (((cfg0 a).win 1).blk t).view.read (Elt Ideal) X (ix3 0 d j) = X (ix3 e d q) := by
  blk_ext [index1 a t]

theorem read2 (X : FVec Ideal S32x2048x2048 .f32) (d : Fin 2048) (j : Fin 1024) (e : Fin 32) (q : Fin 2048)
    (he : e.val = (wE a.1 t.val).toNat) (hq : q.val = 1024 * (wJ a.1 t.val).toNat + j.val) :
    (((cfg0 a).win 2).blk t).view.read (Elt Ideal) X (ix3 0 d j) = X (ix3 e d q) := by
  blk_ext [index2 a t]

theorem read3 (X : FVec Ideal S32x1x2048 .f32) (j : Fin 1024) (e : Fin 32) (q : Fin 2048)
    (he : e.val = (wE a.1 t.val).toNat) (hq : q.val = 1024 * (wJ a.1 t.val).toNat + j.val) :
    (((cfg0 a).win 3).blk t).view.read (Elt Ideal) X (ix3 0 0 j) = X (ix3 e 0 q) := by
  blk_ext [index3 a t]

theorem read4 (X : FVec Ideal S32x1x2048 .f32) (j : Fin 1024) (e : Fin 32) (q : Fin 2048)
    (he : e.val = (wE a.1 t.val).toNat) (hq : q.val = 1024 * (wJ a.1 t.val).toNat + j.val) :
    (((cfg0 a).win 4).blk t).view.read (Elt Ideal) X (ix3 0 0 j) = X (ix3 e 0 q) := by
  blk_ext [index4 a t]

/-- Where an element of the output's block lies. -/
theorem emb5 (r : Fin 512) (j : Fin 1024) (i : Fin 90112) (q : Fin 2048)
    (hi : i.val = 512 * (wI a.1 t.val).toNat + r.val) (hq : q.val = 1024 * (wJ a.1 t.val).toNat + j.val) :
    (((cfg0 a).win 5).blk t).view.emb (ix2 r j) = ix2 i q := by
  blk_ext [index5 a t]

/-- The output's block of a point holds the entry at row `i` and column `q`, if the point's words name them. -/
theorem mem5 (i : Fin 90112) (q : Fin 2048) (hi : (wI a.1 t.val).toNat = i.val / 512) (hq : (wJ a.1 t.val).toNat = q.val / 1024) :
    (ix2 i q : S90112x2048.Idx) ∈ (((cfg0 a).win 5).blk t).view.set := by
  have h := emb5 a t ⟨i.val % 512, by omega⟩ ⟨q.val % 1024, by omega⟩ i q (by rw [hi]; show i.val = 512 * (i.val / 512) + i.val % 512; omega)
    (by rw [hq]; show q.val = 1024 * (q.val / 1024) + q.val % 1024; omega)
  rw [← h]
  exact Finset.mem_map_of_mem _ (Finset.mem_univ _)

end blocks

/-- Some point with the block index of a given one writes its output block back: the last of those that follow with that index. -/
theorem exists_flush {sig : RefSig} {G : Pipeline.Grid} (w : Pipeline.Window sig G) (hout : w.isOut = true) (n : ℕ) :
    ∀ t : Fin G.N, G.N ≤ t.val + n → ∃ u : Fin G.N, w.flush u = true ∧ w.index u = w.index t := by
  induction n with
  | zero => exact fun t h => absurd t.isLt (by omega)
  | succ n ih =>
    intro t h
    by_cases hf : w.flush t = true
    · exact ⟨t, hf, rfl⟩
    · rw [w.flush_eq_flushOf] at hf
      unfold Pipeline.Window.flushOf at hf
      simp only [hout, Bool.true_and, Bool.or_eq_true, decide_eq_true_eq, not_or, not_exists, not_not] at hf
      obtain ⟨h1, h2⟩ := hf
      have hlt : t.val + 1 < G.N := by have := t.isLt; omega
      obtain ⟨u, hu, he⟩ := ih ⟨t.val + 1, hlt⟩ (by show G.N ≤ t.val + 1 + n; omega)
      exact ⟨u, hu, he.trans (h2 hlt)⟩

section value
variable (m : (ℓ : Loc nD τ sig) → Buf (Elt Ideal) ℓ) (hO : Ok m) (c : Dev nD)

theorem V_v56 : V m c main_v56 = shapeCast S32x1x2048 (m (c, main_arg3)) shapeCasts_S32x2048_S32x1x2048 := by
  after_reads_simp; rfl

theorem V_v57 : V m c main_v57 = shapeCast S32x1x2048 (m (c, main_arg5)) shapeCasts_S32x2048_S32x1x2048 := by
  after_reads_simp; rfl

theorem bias_at (x : FVec Ideal S32x2048 .f32) (e : Fin 32) (q : Fin 2048) :
    shapeCast S32x1x2048 x shapeCasts_S32x2048_S32x1x2048 (ix3 e 0 q) = x (ix2 e q) := by
  pointwise []

attribute [local irreducible] tbl

/-- The entry at row `i` and column `q`, of the arguments on device `c`. -/
abbrev entryM (e : Fin 32) (i : Fin 90112) (q : Fin 2048) : EReal :=
  entry (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) e i q

theorem outAt_at (t : Fin (cfgM m hO).N) (r : Fin 512) (j : Fin 1024) (e : Fin 32) (i : Fin 90112) (q : Fin 2048)
    (he : e.val = (wE (tbl m) t.val).toNat) (hi : i.val = 512 * (wI (tbl m) t.val).toNat + r.val)
    (hq : q.val = 1024 * (wJ (tbl m) t.val).toNat + j.val) : outAt m hO c t (ix2 r j) = entryM m c e i q := by
  have b0 : (fun d => iblk m hO c 0 t (ix2 r d)) = fun d => (m ((c.tc : Thread nD τ).loc main_arg1) : IVec S90112x1024 32) (ix2 i d) :=
    funext fun d => (read0 (adm m hO) t (V m c main_arg1) r d i hi).trans (congrFun (V_main_arg1 m c) _)
  have b1 : (fun d => iblk m hO c 1 t (ix3 0 d j)) = fun d => (m ((c.tc : Thread nD τ).loc main_arg2) : FVec Ideal S32x2048x2048 .f32) (ix3 e d q) :=
    funext fun d => (read1 (adm m hO) t (V m c main_arg2) d j e q he hq).trans (congrFun (V_main_arg2 m c) _)
  have b2 : (fun d => iblk m hO c 2 t (ix3 0 d j)) = fun d => (m ((c.tc : Thread nD τ).loc main_arg4) : FVec Ideal S32x2048x2048 .f32) (ix3 e d q) :=
    funext fun d => (read2 (adm m hO) t (V m c main_arg4) d j e q he hq).trans (congrFun (V_main_arg4 m c) _)
  have b3 : iblk m hO c 3 t (ix3 0 0 j) = (m ((c.tc : Thread nD τ).loc main_arg3) : FVec Ideal S32x2048 .f32) (ix2 e q) :=
    (read3 (adm m hO) t (V m c main_v56) j e q he hq).trans ((congrFun (V_v56 m c) _).trans (bias_at _ e q))
  have b4 : iblk m hO c 4 t (ix3 0 0 j) = (m ((c.tc : Thread nD τ).loc main_arg5) : FVec Ideal S32x2048 .f32) (ix2 e q) :=
    (read4 (adm m hO) t (V m c main_v57) j e q he hq).trans ((congrFun (V_v57 m c) _).trans (bias_at _ e q))
  refine (outBlock_at _ _ _ _ _ r j).trans ?_
  exact congrArg₂ act (congrArg₂ (· + ·) (congrArg₂ halves b0 b1) b3) (congrArg₂ (· + ·) (congrArg₂ halves b0 b2) b4)

end value

end Cert.UpKernelIdeal.Up

end
-- ==== Proof.UpReferenceAct.lean ====
/- The reference's arithmetic on rows and matrices already taken, an element at a time. -/
module

public import proofs.«01_k».proof.Proof.Gen.UpReferenceIdeal
public import proofs.«01_k».proof.Proof.UpPayloadIdeal
public import Idealize.ShloMosaic.Lib.Pointwise

@[expose] public section

set_option maxRecDepth 16384

noncomputable section

namespace Cert.UpReferenceIdeal.Up

open Cert.UpReferenceIdeal Cert.UpReferenceIdeal.Gen Cert.Layers Cert.Experts
open Idealize.ShloMosaic Idealize.ShloMosaic.TcCoe

/-- The rows, unpacked from their words. -/
def rowsR (a1 : IVec S90112x1024 32) : FVec Ideal S176x512x2048 .f32 :=
  shapeCast _ (concatenate S90112x2048 1 [⟨S90112x1024, (bitcastToFloat (F := Ideal) .f32 (Host.shli a1 (broadcastInDim S90112x1024 ![] bcast_S_S90112x1024 (constantI S_ 32 16#32))))⟩, ⟨S90112x1024, (bitcastToFloat (F := Ideal) .f32 (andi a1 (broadcastInDim S90112x1024 ![] bcast_S_S90112x1024 (constantI S_ 32 4294901760#32))))⟩] concatenates_S90112x1024_S90112x1024_S90112x2048_d1) shapeCasts_S90112x2048_S176x512x2048

/-- The product of a block's rows with its matrix, and its bias. -/
def linR (X : FVec Ideal S176x512x2048 .f32) (W : FVec Ideal S176x2048x2048 .f32) (b : FVec Ideal S176x2048 .f32) : FVec Ideal S176x512x2048 .f32 :=
  addf (Host.dotGeneral dot_S176x512x2048_S176x2048x2048_S176x512x2048_2_1_1_2_0_0 none X W)
    (broadcastInDim S176x512x2048 ![0, 1, 2] bcast_S176x1x2048_S176x512x2048_0_1_2 (broadcastInDim S176x1x2048 ![0, 2] bcast_S176x2048_S176x1x2048_0_2 b))

theorem linR_at (X : FVec Ideal S176x512x2048 .f32) (W : FVec Ideal S176x2048x2048 .f32) (b : FVec Ideal S176x2048 .f32) (a : Fin 176) (r : Fin 512) (q : Fin 2048) :
    linR X W b (ix3 a r q) = dot (fun d => X (ix3 a r d)) (fun d => W (ix3 a d q)) + b (ix2 a q) := by
  pointwise [linR]
  rfl

/-- A row unpacked, against a column: the two halves apart. -/
theorem rows_dot (a1 : IVec S90112x1024 32) (a : Fin 176) (r : Fin 512) (w : Fin 2048 → EReal) (i : Fin 90112) (hi : i.val = 512 * a.val + r.val) :
    dot (fun d => rowsR a1 (ix3 a r d)) w = halves (fun d => a1 (ix2 i d)) w := by
  unfold dot halves
  rw [Fin.sum_univ_add (a := 1024) (b := 1024)]
  refine congrArg₂ (· + ·) (Finset.sum_congr rfl fun d _ => congrArg₂ (· * ·) ?_ rfl) (Finset.sum_congr rfl fun d _ => congrArg₂ (· * ·) ?_ rfl)
  · pointwise [rowsR]
    have hd : (Fin.castAdd 1024 d).val < 1024 := d.isLt
    rw [dif_pos hd]
    exact congrArg (fun k => Ideal.ofBits .f32 (a1 (ix2 k d) <<< 16)) (Fin.ext (by show a.val * 512 + r.val = i.val; omega))
  · pointwise [rowsR]
    have hd : ¬ (Fin.natAdd 1024 d).val < 1024 := by simp
    rw [dif_neg hd]
    refine congrArg₂ (fun k e => Ideal.ofBits .f32 (a1 (ix2 k e) &&& 4294901760#32)) (Fin.ext (by show a.val * 512 + r.val = i.val; omega))
      (Fin.ext (by show 1024 + d.val - 1024 = d.val; omega))

/-- The clipped, gated activation of the two products. -/
def actR (g u : FVec Ideal S176x512x2048 .f32) : FVec Ideal S90112x2048 .bf16 :=
  truncf .bf16 (shapeCast _ (mulf
    (mulf (addf (minimumf (broadcastInDim S176x512x2048 ![] bcast_S_S176x512x2048 (id (constant S_ .f32 0x40E00000#32)))
        (maximumf (broadcastInDim S176x512x2048 ![] bcast_S_S176x512x2048 (id (constant S_ .f32 0xC0E00000#32))) u))
        (broadcastInDim S176x512x2048 ![] bcast_S_S176x512x2048 (constant S_ .f32 0x3F800000#32)))
      (minimumf g (broadcastInDim S176x512x2048 ![] bcast_S_S176x512x2048 (constant S_ .f32 0x40E00000#32))))
    (Host.divf (broadcastInDim S176x512x2048 ![] bcast_S_S176x512x2048 (constant S_ .f32 0x3F800000#32))
      (addf (broadcastInDim S176x512x2048 ![] bcast_S_S176x512x2048 (constant S_ .f32 0x3F800000#32))
        (Host.exp (Host.negf (mulf (broadcastInDim S176x512x2048 ![] bcast_S_S176x512x2048 (constant S_ .f32 0x3FD9DB23#32))
          (minimumf g (broadcastInDim S176x512x2048 ![] bcast_S_S176x512x2048 (constant S_ .f32 0x40E00000#32)))))))))
    shapeCasts_S176x512x2048_S90112x2048) bitsLt_bf16_f32

theorem actR_at (g u : FVec Ideal S176x512x2048 .f32) (a : Fin 176) (r : Fin 512) (q : Fin 2048) (i : Fin 90112) (hi : i.val = 512 * a.val + r.val) :
    actR g u (ix2 i q) = act (g (ix3 a r q)) (u (ix3 a r q)) := by
  have e : ∀ v : FVec Ideal S176x512x2048 .f32, v (ix3 ⟨i.val / 512, by omega⟩ ⟨i.val % 512, by omega⟩ q) = v (ix3 a r q) := fun v => by
    congr 2 <;> exact Fin.ext (by dsimp only; omega)
  pointwise [actR]
  rw [e g, e u]
  rfl

end Cert.UpReferenceIdeal.Up

end
-- ==== Proof.UpReferenceResult.lean ====
/- The reference's result, an entry at a time. -/
module

public import proofs.«01_k».proof.Proof.Gen.UpReferenceIdeal.Run
public import proofs.«01_k».proof.Proof.UpReferenceRows
public import proofs.«01_k».proof.Proof.UpReferenceAct

@[expose] public section

set_option maxRecDepth 16384

noncomputable section

namespace Cert.UpReferenceIdeal.Up

open Cert.UpReferenceIdeal Cert.UpReferenceIdeal.Gen Cert.Schedule Cert.Experts
open Idealize.ShloMosaic Idealize.ShloMosaic.TcCoe

/-- The reference as a function of its arguments. -/
def resR (a0 : IVec S32 32) (a1 : IVec S90112x1024 32) (a2 : FVec Ideal S32x2048x2048 .f32) (a3 : FVec Ideal S32x2048 .f32)
    (a4 : FVec Ideal S32x2048x2048 .f32) (a5 : FVec Ideal S32x2048 .f32) : FVec Ideal S90112x2048 .bf16 :=
  actR
    (linR (rowsR a1) (Host.gather plane a2 (colR a0)) (Host.gather gather_S32x2048_S176x1_S176x2048_1_0_n_n_0_1_12048 a3 (colR a0)))
    (linR (rowsR a1) (Host.gather plane a4 (colR a0)) (Host.gather gather_S32x2048_S176x1_S176x2048_1_0_n_n_0_1_12048 a5 (colR a0)))

theorem resR_at (a0 : IVec S32 32) (hx : Fits a0) (a1 : IVec S90112x1024 32) (a2 : FVec Ideal S32x2048x2048 .f32) (a3 : FVec Ideal S32x2048 .f32)
    (a4 : FVec Ideal S32x2048x2048 .f32) (a5 : FVec Ideal S32x2048 .f32) (i : Fin 90112) (q : Fin 2048) :
    resR a0 a1 a2 a3 a4 a5 (ix2 i q) = entry a1 a2 a3 a4 a5 (own a0 (i.val / 512)) i q := by
  have hi : i.val = 512 * (⟨i.val / 512, by omega⟩ : Fin 176).val + (⟨i.val % 512, by omega⟩ : Fin 512).val := by
    show i.val = 512 * (i.val / 512) + i.val % 512
    omega
  have hc := colR_at hx ⟨i.val / 512, by omega⟩
  unfold resR entry
  rw [actR_at _ _ _ _ q i hi, linR_at, linR_at, rows_dot a1 _ _ _ i hi, rows_dot a1 _ _ _ i hi]
  have t1 (y : S32x2048x2048.Idx → EReal) : (fun d => Host.gather plane y (colR a0) (ix3 ⟨i.val / 512, by omega⟩ d q)) = fun d => y (ix3 (own a0 (i.val / 512)) d q) :=
    funext fun d => by simpa only [ix2_eq_valueIdx, ix3_eq_valueIdx] using take_plane y (colR a0) ⟨i.val / 512, by omega⟩ d q _ hc
  have t2 (y : S32x2048.Idx → EReal) : Host.gather gather_S32x2048_S176x1_S176x2048_1_0_n_n_0_1_12048 y (colR a0) (ix2 ⟨i.val / 512, by omega⟩ q) = y (ix2 (own a0 (i.val / 512)) q) := by
    simpa only [ix2_eq_valueIdx] using take_row y (colR a0) ⟨i.val / 512, by omega⟩ q _ hc
  exact congrArg₂ act (congrArg₂ (· + ·) (congrArg (halves _) (t1 a2)) (t2 a3)) (congrArg₂ (· + ·) (congrArg (halves _) (t1 a4)) (t2 a5))

theorem res_eq (m : (ℓ : Loc nD τ sig) → Buf (Elt Ideal) ℓ) (c : Dev nD) :
    Value.res_main_v71 m c = resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v71
  rfl

end Cert.UpReferenceIdeal.Up

end
-- ==== Proof.UpResultIdeal.lean ====
/- The array the experts' first product leaves, on the rows the experts use. -/
module

public import proofs.«01_k».proof.Proof.UpValueIdeal
public import proofs.«01_k».proof.Proof.UpReferenceResult
public import Idealize.ShloMosaic.Lib.Pipeline.ValueKit.Partial
public import Idealize.ShloMosaic.Lib.Pointwise

@[expose] public section

set_option maxRecDepth 16384

noncomputable section

namespace Cert.UpKernelIdeal.Up

open Idealize.ShloMosaic Idealize.ShloMosaic.TcCoe Idealize.ShloMosaic.Tactic Idealize.SL.Sem
open Cert.UpKernelIdeal Cert.UpKernelIdeal.Gen Cert.Experts Cert.Schedule Cert.UpReferenceIdeal.Up

attribute [local irreducible] tbl

variable (m : (ℓ : Loc nD τ sig) → Buf (Elt Ideal) ℓ) (hO : Ok m) (c : Dev nD)

/-- The product's array, every row by the expert that owns its block. -/
def whole : FVec Ideal S90112x2048 .bf16 := fun I =>
  entryM m c (own (counts m) ((I 0).val / 512)) ⟨(I 0).val, (I 0).isLt⟩ ⟨(I 1).val, (I 1).isLt⟩

variable {m} (hx : Fits (counts m))
include hx

theorem words (n : ℕ) (hn : n < 352) : (wE (tbl m) n).toNat = ex (cnt (counts m)) n ∧ (wJ (tbl m) n).toNat = half (cnt (counts m)) n
    ∧ (wI (tbl m) n).toNat = row (cnt (counts m)) n := by
  have h1 := (ex_spec hx.pos n).1
  have h2 := half_lt hx.pos n
  have h3 := row_lt hx.pos n
  have h4 := hx.le
  rw [wE_eq hx n hn, wJ_eq hx n hn, wI_eq hx n hn]
  exact ⟨toNat_small (by omega), toNat_small (by omega), toNat_small (by omega)⟩

/-- The block of a point is the array's, at the block's place. -/
theorem outAt_whole (t : Fin (cfgM m hO).N) (r : Fin 512) (j : Fin 1024) :
    outAt m hO c t (ix2 r j) = whole m c ((((cfgM m hO).win 5).blk t).view.emb (ix2 r j)) := by
  have ht : t.val < 352 := t.isLt
  obtain ⟨w1, w2, w3⟩ := words hx t.val ht
  have h1 := (ex_spec hx.pos t.val).1
  have h2 := half_lt hx.pos t.val
  have h3 := row_lt hx.pos t.val
  have h4 := hx.le
  have hi : 512 * (wI (tbl m) t.val).toNat + r.val < 90112 := by rw [w3]; omega
  have hq : 1024 * (wJ (tbl m) t.val).toNat + j.val < 2048 := by rw [w2]; omega
  have hd : (512 * (wI (tbl m) t.val).toNat + r.val) / 512 = row (cnt (counts m)) t.val := by rw [w3]; omega
  refine (outAt_at m hO c t r j ⟨ex (cnt (counts m)) t.val, h1⟩ ⟨_, hi⟩ ⟨_, hq⟩ w1.symm rfl rfl).trans ?_
  refine Eq.trans ?_ (congrArg (whole m c) (emb5 (adm m hO) t r j ⟨_, hi⟩ ⟨_, hq⟩ rfl rfl)).symm
  refine congrArg (fun e => entryM m c e ⟨_, hi⟩ ⟨_, hq⟩) (Fin.ext ?_)
  show ex (cnt (counts m)) t.val = min (Nat.count (fun k => upto (cnt (counts m)) (k + 1) ≤ (512 * (wI (tbl m) t.val).toNat + r.val) / 512) 32) 31
  rw [hd, ex_of_row hx.pos]
  omega

theorem outAt_block (t : Fin (cfgM m hO).N) (y : S512x1024.Idx) :
    outAt m hO c t y = whole m c ((((cfgM m hO).win 5).blk t).view.emb y) := by
  idx_vars y
  exact outAt_whole hO c hx t y0 y1

/-- Every entry of a used row lies in a block that is written back. -/
theorem written (i : Fin 90112) (q : Fin 2048) (hi : i.val < 512 * upto (cnt (counts m)) 32) :
    ∃ u : Fin (cfgM m hO).N, ((cfgM m hO).win 5).flush u = true ∧ (ix2 i q : S90112x2048.Idx) ∈ (((cfgM m hO).win 5).blk u).view.set := by
  obtain ⟨n, hn, hr, hh, -⟩ := reached hx.pos (i.val / 512) (q.val / 1024) (by omega) (by omega)
  have hn' : n < 352 := by have := hx.le; omega
  obtain ⟨u, hu, he⟩ := exists_flush ((cfgM m hO).win 5) rfl 352 ⟨n, hn'⟩ (by show 352 ≤ n + 352; omega)
  obtain ⟨-, w2, w3⟩ := words hx n hn'
  have e := (index5 (adm m hO) u).symm.trans (he.trans (index5 (adm m hO) ⟨n, hn'⟩))
  have e0 : (wI (tbl m) u.val).toNat = (wI (tbl m) n).toNat := congrFun e 0
  have e1 : (wJ (tbl m) u.val).toNat = (wJ (tbl m) n).toNat := congrFun e 1
  exact ⟨u, hu, mem5 (adm m hO) u i q (by show (wI (tbl m) u.val).toNat = _; rw [e0, w3, hr]) (by show (wJ (tbl m) u.val).toNat = _; rw [e1, w2, hh])⟩

/-- On a used row, the array the run leaves is the product's. -/
theorem final_at (I : S90112x2048.Idx) (hi : (I 0).val < 512 * upto (cnt (counts m)) 32) :
    (dats m hO 0 c).arrAt 5 (cfgM m hO).N I = whole m c I := by
  obtain ⟨u, hu, hm⟩ := written hO hx ⟨(I 0).val, (I 0).isLt⟩ ⟨(I 1).val, (I 1).isLt⟩ hi
  have hI : (ix2 (⟨(I 0).val, (I 0).isLt⟩ : Fin 90112) (⟨(I 1).val, (I 1).isLt⟩ : Fin 2048) : S90112x2048.Idx) = I := by
    rw [ix2_eq_valueIdx]
    funext b
    match b with
    | ⟨0, _⟩ => rfl
    | ⟨1, _⟩ => rfl
  rw [hI] at hm
  refine (dats m hO 0 c).arrAt_forall_of_flushed 5 (fun i v => v = whole m c i) (fun t hf y => ?_) (cfgM m hO).N u I u.isLt hu hm
  exact (congrFun (after5 m hO c t) y).trans (outAt_block hO c hx t y)

/-- The reference's array, of the same arguments, is the product's. -/
theorem reference_at (I : S90112x2048.Idx) :
    resR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) I = whole m c I := by
  obtain rfl : c = 0 := Subsingleton.elim _ _
  idx_vars I
  exact resR_at _ hx _ _ _ _ _ I0 I1

end Cert.UpKernelIdeal.Up

end
-- ==== Proof.UpClaims.lean ====
/- The claims about the first product of the experts. -/
module

public import proofs.«01_k».proof.Defs
public import proofs.«01_k».proof.Proof.UpLaunchBits
public import proofs.«01_k».proof.Proof.UpTimesBits
public import proofs.«01_k».proof.Proof.UpLaunchIdeal
public import proofs.«01_k».proof.Proof.UpTimesIdeal
public import proofs.«01_k».proof.Proof.Gen.UpReferenceIdeal.Run
public import proofs.«01_k».proof.Proof.UpResultIdeal
public import proofs.«01_k».proof.Proof.UpReferenceResult
public import Idealize.ShloMosaic.Lib.Quiescent

@[expose] public section

set_option maxRecDepth 16384

noncomputable section

namespace Cert.UpClaims

open Idealize.ShloMosaic Idealize.ShloMosaic.TcCoe Idealize.SL.Sem

variable [Cert.Pre_blocks_fit.Facts]

theorem frame_kernel : Cert.quiescent_UpKernel := fun m ρ hp => by
  have hx := Cert.Schedule.fits _ _ _ _ _ _ (hp 0)
  have hS := Cert.UpKernel.Up.sched hx
  exact (θ_run Cert.UpKernel.defs _ _).mono (fun r h => ⟨fun c => (h.1 c).1, h.2⟩)
    (Cert.UpKernel.Up.run_all m ρ (Cert.UpKernel.Up.ok_of_sched _ hS) hS)

theorem frame_ideal : Cert.quiescent_UpKernelIdeal := fun m ρ hp => by
  have hx := Cert.Schedule.fits _ _ _ _ _ _ (hp 0)
  have hS := Cert.UpKernelIdeal.Up.sched hx
  exact (θ_run Cert.UpKernelIdeal.defs _ _).mono (fun r h => ⟨fun c => (h.1 c).1, h.2⟩)
    (Cert.UpKernelIdeal.Up.run_all m ρ (Cert.UpKernelIdeal.Up.ok_of_sched _ hS) hS)

theorem frame_reference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run (F := Ideal) m ρ)

theorem frame_reference_pre : Cert.quiescent_UpReferenceIdeal_pre_blocks_fit := fun m ρ _ => frame_reference m ρ trivial

theorem preserves : Cert.preserves_UpKernel_UpKernelIdeal := trivial

/-- Both programs end at the same entries on the rows the experts use. -/
theorem algebraic [Cert.On_rows_used.Facts] : Cert.algebraic_UpKernelIdeal_UpReferenceIdeal_on_rows_used := by
  intro m ρ m' ρ' hp hagree
  have hx : Cert.Schedule.Fits (Cert.UpKernelIdeal.Up.counts m) := Cert.Schedule.fits _ _ _ _ _ _ (hp 0)
  have hS := Cert.UpKernelIdeal.Up.sched hx
  have hO := Cert.UpKernelIdeal.Up.ok_of_sched _ hS
  refine ⟨fun c => Cert.UpKernelIdeal.Up.whole m c, ?_, ?_⟩
  · refine (θ_run Cert.UpKernelIdeal.defs _ _).mono (fun r h c => ⟨fun i hi => ?_, (h.1 c).1⟩) (Cert.UpKernelIdeal.Up.run_all m ρ hO hS)
    obtain rfl : c = 0 := Subsingleton.elim _ _
    exact (congrFun (h.1 0).2 i).trans (Cert.UpKernelIdeal.Up.final_at hO 0 hx i (Cert.Schedule.row_used _ hx _ _ _ _ _ i hi))
  · refine (θ_run Cert.UpReferenceIdeal.defs _ _).mono (fun r h c => ⟨fun i hi => ?_, (h c).2⟩) (Cert.UpReferenceIdeal.Value.run (F := Ideal) m' ρ')
    obtain rfl : c = 0 := Subsingleton.elim _ _
    refine (congrFun ((h 0).1.trans (Cert.UpReferenceIdeal.Up.res_eq m' 0)) i).trans ?_
    obtain ⟨e0, e1, e2, e3, e4, e5⟩ := hagree 0
    rw [e0, e1, e2, e3, e4, e5]
    exact Cert.UpKernelIdeal.Up.reference_at 0 hx i

end Cert.UpClaims

end
-- ==== Proof.RopeRun.lean ====
/- The rotary key's run: every array it leaves, as the fold of its stretches. -/
module

public import proofs.«01_k».proof.Proof.Gen.RopeKernelIdeal.Frame

@[expose] public section

set_option maxRecDepth 16384

noncomputable section

namespace Cert.RopeKernelIdeal.Value

open Cert.RopeKernelIdeal Cert.RopeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every unscoped buffer at the contents folded through the program, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.RopeKernelIdeal.Value

end
-- ==== Proof.RopePayload.lean ====
/- What each call of the rotary key computes on a block, an element at a time. -/
module

public import proofs.«01_k».proof.Proof.Gen.RopeKernelIdeal.Skeleton
public import proofs.«01_k».proof.Proof.Layers
public import Idealize.ShloMosaic.Lib.Pointwise
public import Idealize.ShloMosaic.Lib.KernelVsHost

@[expose] public section

set_option maxRecDepth 16384

noncomputable section

namespace Cert.RopeKernelIdeal.Value

open Idealize.ShloMosaic Idealize.ShloMosaic.TcCoe Idealize.SL.Sem
open Cert.RopeKernelIdeal Cert.RopeKernelIdeal.Gen Cert.Layers

theorem pay0 (x : Vec Ideal S512x2048 .f32) (g : Vec Ideal S1x2048 .f32) (r : Fin 512) (j : Fin 2048) :
    k0_pay1 (F := Ideal) x g (ix2 r j) = rms width eps (fun d => x (ix2 r d)) (fun d => g (ix2 0 d)) j := by
  pointwise [k0_pay1]
  rfl

/-- The column half a row away, around the end. -/
def across (j : Fin 128) : Fin 128 := ⟨(j.val + 64) % 128, Nat.mod_lt _ (by decide)⟩

/-- A row turned by half its width. -/
theorem turn_apply (z : FVec Ideal S1024x128 .f32) (r : Fin 1024) (j : Fin 128) :
    dynamicRotate 1 64#32 none z rotates_S1024x128_d1 (ix2 r j) = z (ix2 r (across j)) := by
  refine dynamicRotate_apply 1 64#32 z _ _ _ fun b => ?_
  match b with
  | ⟨0, _⟩ => rfl
  | ⟨1, _⟩ => exact congrArg (· % 128) (show j.val + 64 = j.val + 128 - 64 by omega)

/-- An entry of the product with its bias, times the table's. -/
def scaled (x : Vec Ideal S1024x2048 .bf16) (w : Vec Ideal S2048x128 .bf16) (b : Vec Ideal S1x128 .f32) (t : Vec Ideal S1024x128 .f32) (r : Fin 1024) (j : Fin 128) : EReal :=
  (dot (fun d => x (ix2 r d)) (fun d => w (ix2 d j)) + b (ix2 0 j)) * t (ix2 r j)

theorem pay1 (x : Vec Ideal S1024x2048 .bf16) (w : Vec Ideal S2048x128 .bf16) (b : Vec Ideal S1x128 .f32) (t : Vec Ideal S1024x128 .f32) (r : Fin 1024) (j : Fin 128) :
    k1_pay1 (F := Ideal) x w b t (ix2 r j) = scaled x w b t r j + scaled x w b t r (across j) := by
  have e : ∀ z : FVec Ideal S1024x128 .f32, addf z (dynamicRotate 1 64#32 none z rotates_S1024x128_d1) (ix2 r j) = z (ix2 r j) + z (ix2 r (across j)) :=
    fun z => congrArg (z (ix2 r j) + ·) (turn_apply z r j)
  unfold k1_pay1
  refine (e _).trans (congrArg₂ (· + ·) ?_ ?_)
  · pointwise []
    rfl
  · pointwise []
    rfl

end Cert.RopeKernelIdeal.Value

end
-- ==== Proof.RopeRegions.lean ====
/- What each call of the rotary key leaves in its result array, from the arrays it is entered with. -/
module

public import proofs.«01_k».proof.Proof.Gen.RopeKernelIdeal.Frame
public import proofs.«01_k».proof.Proof.RopePayload
public import Idealize.ShloMosaic.Lib.Pipeline.ValueKit

@[expose] public section

set_option maxRecDepth 16384

noncomputable section

namespace Cert.RopeKernelIdeal.Value

open Idealize.ShloMosaic Idealize.ShloMosaic.TcCoe Idealize.SL.Sem
open Cert.RopeKernelIdeal Cert.RopeKernelIdeal.Gen Cert.Layers

/-- Every entry normed by its row. -/
def normed (x : FVec Ideal S18432x2048 .f32) (g : FVec Ideal S1x2048 .f32) : FVec Ideal S18432x2048 .bf16 := fun i =>
  rms width eps (fun d => x (ix2 (i 0) d)) (fun d => g (ix2 0 d)) (i 1)

/-- An entry of the product with its bias, times the table's. -/
def term (x : FVec Ideal S18432x2048 .bf16) (w : FVec Ideal S2048x128 .bf16) (b : FVec Ideal S1x128 .f32) (t : FVec Ideal S18432x128 .f32) (R : Fin 18432) (q : Fin 128) : EReal :=
  (dot (fun d => x (ix2 R d)) (fun d => w (ix2 d q)) + b (ix2 0 q)) * t (ix2 R q)

/-- Every entry and the one half a row away, added. -/
def folded (x : FVec Ideal S18432x2048 .bf16) (w : FVec Ideal S2048x128 .bf16) (b : FVec Ideal S1x128 .f32) (t : FVec Ideal S18432x128 .f32) :
    FVec Ideal S18432x128 .f32 := fun i => term x w b t (i 0) (i 1) + term x w b t (i 0) (across (i 1))

theorem zero2 : (![0, 0] : Fin 2 → ℕ) = fun _ => 0 := funext fun a => by fin_cases a <;> rfl

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ t.val < 36 :=
  (by decide +kernel : ∀ t : Fin grid0.N, _)

theorem blk0_x (c : Dev nD) (t : Fin cfg0.N) (r : Fin 512) (d : Fin 2048) (a : Fin 18432) (ha : a.val = 512 * t.val + r.val) :
    iblk0 V c 0 t (ix2 r d) = (V c main_v45 : FVec Ideal S18432x2048 .f32) (ix2 a d) := by
  blk_ext [iblk0, idx0 t]

theorem blk0_g (c : Dev nD) (t : Fin cfg0.N) (d : Fin 2048) :
    iblk0 V c 1 t (ix2 0 d) = (V c main_v47 : FVec Ideal S1x2048 .f32) (ix2 0 d) := by
  blk_ext [iblk0, idx0 t]

theorem out0 (x : Vec Ideal S512x2048 .f32) (g : Vec Ideal S1x2048 .f32) : out0_2 (F := Ideal) x g = k0_pay1 x g := by
  unfold out0_2
  rw [View.canon_unit_zero zero2, View.ld_unit_zero zero2, View.ld_unit_zero zero2]

theorem final0 (c : Dev nD) : (dat0 V c).arrAt 2 cfg0.N = normed (V c main_v45) (V c main_v47) := by
  refine (dat0 V c).arrAt_eq_of_covers 2 _ (by decide +kernel) fun t hf y => ?_
  blk_simp
  rw [after0_2, out0]
  idx_vars y
  have h0 : (((win0_2.blk t).view.emb (ix2 y0 y1)) 0).val = 512 * t.val + y0.val := by blk_simp [idx0 t]; omega
  have h1 : (((win0_2.blk t).view.emb (ix2 y0 y1)) 1) = y1 := Fin.ext (by blk_simp [idx0 t])
  rw [pay0]
  unfold normed
  rw [h1]
  congr 1
  · funext d; exact blk0_x V c t y0 d _ h0
  · funext d; exact blk0_g V c t d

theorem idx1 : ∀ t : Fin cfg1.N, win1_0.index t = ![t.val, 0] ∧ win1_1.index t = ![0, 0] ∧ win1_2.index t = ![0, 0]
    ∧ win1_3.index t = ![t.val, 0] ∧ win1_4.index t = ![t.val, 0] ∧ t.val < 18 :=
  (by decide +kernel : ∀ t : Fin grid1.N, _)

theorem blk1_x (c : Dev nD) (t : Fin cfg1.N) (r : Fin 1024) (d : Fin 2048) (a : Fin 18432) (ha : a.val = 1024 * t.val + r.val) :
    iblk1 V c 0 t (ix2 r d) = (V c main_v48 : FVec Ideal S18432x2048 .bf16) (ix2 a d) := by
  blk_ext [iblk1, idx1 t]

theorem blk1_w (c : Dev nD) (t : Fin cfg1.N) (d : Fin 2048) (q : Fin 128) :
    iblk1 V c 1 t (ix2 d q) = (V c main_v9 : FVec Ideal S2048x128 .bf16) (ix2 d q) := by
  blk_ext [iblk1, idx1 t]

theorem blk1_b (c : Dev nD) (t : Fin cfg1.N) (q : Fin 128) :
    iblk1 V c 2 t (ix2 0 q) = (V c main_v49 : FVec Ideal S1x128 .f32) (ix2 0 q) := by
  blk_ext [iblk1, idx1 t]

theorem blk1_t (c : Dev nD) (t : Fin cfg1.N) (r : Fin 1024) (q : Fin 128) (a : Fin 18432) (ha : a.val = 1024 * t.val + r.val) :
    iblk1 V c 3 t (ix2 r q) = (V c main_v42 : FVec Ideal S18432x128 .f32) (ix2 a q) := by
  blk_ext [iblk1, idx1 t]

theorem out1 (x : Vec Ideal S1024x2048 .bf16) (w : Vec Ideal S2048x128 .bf16) (b : Vec Ideal S1x128 .f32) (u : Vec Ideal S1024x128 .f32) :
    out1_4 (F := Ideal) x w b u = k1_pay1 x w b u := by
  unfold out1_4
  rw [View.canon_unit_zero zero2, View.ld_unit_zero zero2, View.ld_unit_zero zero2, View.ld_unit_zero zero2, View.ld_unit_zero zero2]

theorem scaled_eq (c : Dev nD) (t : Fin cfg1.N) (r : Fin 1024) (q : Fin 128) (a : Fin 18432) (ha : a.val = 1024 * t.val + r.val) :
    scaled (iblk1 V c 0 t) (iblk1 V c 1 t) (iblk1 V c 2 t) (iblk1 V c 3 t) r q = term (V c main_v48) (V c main_v9) (V c main_v49) (V c main_v42) a q :=
  congrArg₂ (· * ·) (congrArg₂ (· + ·) (congrArg₂ dot (funext fun d => blk1_x V c t r d a ha) (funext fun d => blk1_w V c t d q)) (blk1_b V c t q))
    (blk1_t V c t r q a ha)

theorem final1 (c : Dev nD) : (dat1 V c).arrAt 4 cfg1.N = folded (V c main_v48) (V c main_v9) (V c main_v49) (V c main_v42) := by
  refine (dat1 V c).arrAt_eq_of_covers 4 _ (by decide +kernel) fun t hf y => ?_
  blk_simp
  rw [after1_4, out1]
  idx_vars y
  have h0 : (((win1_4.blk t).view.emb (ix2 y0 y1)) 0).val = 1024 * t.val + y0.val := by blk_simp [idx1 t]; omega
  have h1 : (((win1_4.blk t).view.emb (ix2 y0 y1)) 1) = y1 := Fin.ext (by blk_simp [idx1 t])
  rw [pay1]
  unfold folded
  rw [h1]
  exact congrArg₂ (· + ·) (scaled_eq V c t y0 y1 _ h0) (scaled_eq V c t y0 (across y1) _ h0)

end Cert.RopeKernelIdeal.Value

end
-- ==== Proof.RopeResult.lean ====
/- The arrays of the rotary key before its calls, and after the run. -/
module

public import proofs.«01_k».proof.Proof.RopeRegions
public import proofs.«01_k».proof.Proof.Join
public import Idealize.ShloMosaic.Lib.Claim
public import Idealize.ShloMosaic.Lib.Pointwise

@[expose] public section

set_option maxRecDepth 16384

noncomputable section

namespace Cert.RopeKernelIdeal.Value

open Idealize.ShloMosaic Idealize.ShloMosaic.TcCoe Idealize.SL.Sem Idealize.ShloMosaic.StableHlo
open Cert.RopeKernelIdeal Cert.RopeKernelIdeal.Gen Cert.Layers

/-- The prompt's and the samples' rows under one another. -/
def stack (xp : FVec Ideal S4x4096x2048 .f32) (xs : FVec Ideal S32x64x2048 .f32) : FVec Ideal S18432x2048 .f32 :=
  concatenate S18432x2048 0 [⟨S16384x2048, shapeCast S16384x2048 xp shapeCasts_S4x4096x2048_S16384x2048⟩, ⟨S2048x2048, shapeCast S2048x2048 xs shapeCasts_S32x64x2048_S2048x2048⟩] concatenates_S16384x2048_S2048x2048_S18432x2048_d0

/-- The gain as the kernel's row. -/
def gain (g : FVec Ideal S1x2048 .f32) : FVec Ideal S1x2048 .f32 := shapeCast S1x2048 (shapeCast S2048 g shapeCasts_S1x2048_S2048) shapeCasts_S2048_S1x2048

/-- The key's columns of the weight, and its entries of the bias. -/
def columns (w : FVec Ideal S1x2048x9280 .f32) : FVec Ideal S2048x64 .f32 :=
  extractStridedSlice S2048x64 ![0, 5120] (shapeCast S2048x9280 w shapeCasts_S1x2048x9280_S2048x9280) slices_S2048x9280_S2048x64_0_5120
def entries (b : FVec Ideal S1x9280 .f32) : FVec Ideal S64 .f32 :=
  extractStridedSlice S64 ![5120] (shapeCast S9280 b shapeCasts_S1x9280_S9280) slices_S9280_S64_5120

/-- The columns, and beside them their second half negated and their first half. -/
def weight (w : FVec Ideal S1x2048x9280 .f32) : FVec Ideal S2048x128 .bf16 :=
  truncf .bf16 (concatenate S2048x128 1 [⟨S2048x64, columns w⟩, ⟨S2048x64, concatenate S2048x64 1 [⟨S2048x32, Host.negf (extractStridedSlice S2048x32 ![0, 32] (columns w) slices_S2048x64_S2048x32_0_32)⟩, ⟨S2048x32, extractStridedSlice S2048x32 ![0, 0] (columns w) slices_S2048x64_S2048x32_0_0⟩] concatenates_S2048x32_S2048x32_S2048x64_d1⟩] concatenates_S2048x64_S2048x64_S2048x128_d1) bitsLt_bf16_f32

/-- The bias laid out the same way. -/
def bias (b : FVec Ideal S1x9280 .f32) : FVec Ideal S128 .f32 :=
  concatenate S128 0 [⟨S64, entries b⟩, ⟨S64, concatenate S64 0 [⟨S32, Host.negf (extractStridedSlice S32 ![32] (entries b) slices_S64_S32_32)⟩, ⟨S32, extractStridedSlice S32 ![0] (entries b) slices_S64_S32_0⟩] concatenates_S32_S32_S64_d0⟩] concatenates_S64_S64_S128_d0

/-- The angle's step at every column. -/
def freqs : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- Every row's position: the prompt's rows count from 0, a sample's from 1024. -/
def positions : IVec S18432 32 :=
  concatenate S18432 0 [⟨S16384, shapeCast S16384 (broadcastInDim S4x4096 ![0, 1] bcast_S1x4096_S4x4096_0_1 (shapeCast S1x4096 (iotaInDim S4096 32 0) shapeCasts_S4096_S1x4096)) shapeCasts_S4x4096_S16384⟩, ⟨S2048, shapeCast S2048 (broadcastInDim S32x64 ![0, 1] bcast_S1x64_S32x64_0_1 (shapeCast S1x64 (addi (broadcastInDim S64 ![] bcast_S_S64 (constantI S_ 32 1024#32)) (iotaInDim S64 32 0)) shapeCasts_S64_S1x64)) shapeCasts_S32x64_S2048⟩] concatenates_S16384_S2048_S18432_d0

/-- Every row's angles. -/
def angles : FVec Ideal S18432x32 .f32 :=
  mulf (broadcastInDim S18432x32 ![0, 1] bcast_S18432x1_S18432x32_0_1 (broadcastInDim S18432x1 ![0] bcast_S18432_S18432x1_0 (sitofp .f32 positions))) (broadcastInDim S18432x32 ![0, 1] bcast_S1x32_S18432x32_0_1 (broadcastInDim S1x32 ![1] bcast_S32_S1x32_1 freqs))

/-- The cosines twice, then the sines twice. -/
def table : FVec Ideal S18432x128 .f32 :=
  concatenate S18432x128 1 [⟨S18432x32, Host.cos angles⟩, ⟨S18432x32, Host.cos angles⟩, ⟨S18432x32, Host.sin angles⟩, ⟨S18432x32, Host.sin angles⟩] concatenates_S18432x32_S18432x32_S18432x32_S18432x32_S18432x128_d1

variable (m : (ℓ : Loc nD τ sig) → Buf (Elt Ideal) ℓ) (ρ : Dev nD → PrngReg)

/-- The normed rows of the prompt and the samples. -/
def hn (c : Dev nD) : FVec Ideal S18432x2048 .bf16 :=
  normed (stack (m ((c : Thread nD τ).loc main_arg0)) (m ((c : Thread nD τ).loc main_arg1))) (gain (m ((c : Thread nD τ).loc main_arg2)))

theorem at1_v45 (c : Dev nD) : W1 m ρ c (Proc.devRef .tc main_v45) = stack (m ((c : Thread nD τ).loc main_arg0)) (m ((c : Thread nD τ).loc main_arg1)) := by
  unfold stack
  after_results <;> rfl

theorem at1_v47 (c : Dev nD) : W1 m ρ c (Proc.devRef .tc main_v47) = gain (m ((c : Thread nD τ).loc main_arg2)) := by
  unfold gain
  after_results <;> rfl

theorem at1_v9 (c : Dev nD) : W1 m ρ c (Proc.devRef .tc main_v9) = weight (m ((c : Thread nD τ).loc main_arg3)) := by
  unfold weight columns
  after_results <;> rfl

theorem at1_v16 (c : Dev nD) : W1 m ρ c (Proc.devRef .tc main_v16) = bias (m ((c : Thread nD τ).loc main_arg4)) := by
  unfold bias entries
  after_results <;> rfl

theorem at1_v42 (c : Dev nD) : W1 m ρ c (Proc.devRef .tc main_v42) = table := by
  unfold table angles positions freqs
  after_results <;> rfl

theorem at3_v48 (c : Dev nD) : W3 m ρ c (Proc.devRef .tc main_v48) = hn m c :=
  (W3_of m ρ c main_v48 (by decide)).trans ((W2_arr m ρ c 2).trans ((final0 (V1 m ρ) c).trans (congrArg₂ normed (at1_v45 m ρ c) (at1_v47 m ρ c))))

theorem at3_v9 (c : Dev nD) : W3 m ρ c (Proc.devRef .tc main_v9) = weight (m ((c : Thread nD τ).loc main_arg3)) :=
  (W3_of m ρ c main_v9 (by decide)).trans ((W2_of m ρ c main_v9 (by decide)).trans (at1_v9 m ρ c))

theorem at3_v42 (c : Dev nD) : W3 m ρ c (Proc.devRef .tc main_v42) = table :=
  (W3_of m ρ c main_v42 (by decide)).trans ((W2_of m ρ c main_v42 (by decide)).trans (at1_v42 m ρ c))

theorem at2_v16 (c : Dev nD) : W2 m ρ c (Proc.devRef .tc main_v16) = bias (m ((c : Thread nD τ).loc main_arg4)) :=
  (W2_of m ρ c main_v16 (by decide)).trans (at1_v16 m ρ c)

theorem at3_v49 (c : Dev nD) : W3 m ρ c (Proc.devRef .tc main_v49) = shapeCast S1x128 (bias (m ((c : Thread nD τ).loc main_arg4))) shapeCasts_S128_S1x128 := by
  rw [← at2_v16 m ρ c]
  after_results <;> rfl

/-- What the second call leaves. -/
def key (c : Dev nD) : FVec Ideal S18432x128 .f32 :=
  folded (hn m c) (weight (m ((c : Thread nD τ).loc main_arg3))) (shapeCast S1x128 (bias (m ((c : Thread nD τ).loc main_arg4))) shapeCasts_S128_S1x128) table

theorem at4_v50 (c : Dev nD) : W4 m ρ c (Proc.devRef .tc main_v50) = key m c := by
  refine (W4_arr m ρ c 4).trans ((final1 (V3 m ρ) c).trans ?_)
  unfold key
  rw [show V3 m ρ c main_v48 = hn m c from at3_v48 m ρ c, show V3 m ρ c main_v9 = _ from at3_v9 m ρ c, show V3 m ρ c main_v49 = _ from at3_v49 m ρ c,
    show V3 m ρ c main_v42 = _ from at3_v42 m ρ c]

/-- The keys in the caller's shape. -/
def keyPrompt (c : Dev nD) : FVec Ideal S1x4x4096x64 .f32 :=
  shapeCast S1x4x4096x64 (extractStridedSlice S16384x64 ![0, 0] (key m c) slices_S18432x128_S16384x64_0_0) shapeCasts_S16384x64_S1x4x4096x64
def keySample (c : Dev nD) : FVec Ideal S1x32x64x64 .f32 :=
  shapeCast S1x32x64x64 (extractStridedSlice S2048x64 ![16384, 0] (key m c) slices_S18432x128_S2048x64_16384_0) shapeCasts_S2048x64_S1x32x64x64

theorem at5_v52 (c : Dev nD) : W5 m ρ c (Proc.devRef .tc main_v52) = keyPrompt m c := by
  unfold keyPrompt
  rw [← at4_v50 m ρ c]
  after_results <;> rfl

theorem at5_v54 (c : Dev nD) : W5 m ρ c (Proc.devRef .tc main_v54) = keySample m c := by
  unfold keySample
  rw [← at4_v50 m ρ c]
  after_results <;> rfl

end Cert.RopeKernelIdeal.Value

end
-- ==== Proof.Rotary.lean ====
/- A rotated row over the extended reals, and that a normed row with a finite gain is finite. -/
module

public import proofs.«01_k».proof.Proof.Layers
public import Idealize.ShloMosaic.Lib.Pointwise

@[expose] public section

noncomputable section

namespace Cert.Layers

open Idealize.ShloMosaic

/-- The step of column `j`'s angle: 10000 to the power of `-j / 32`. -/
def freq (j : Fin 32) : EReal :=
  Ideal.pow (Ideal.ofBits .f32 0x461C4000#32) (Ideal.div (-(FloatOps.sitofp (F := Ideal) .f32 (BitVec.ofNat 32 j.val))) (Ideal.ofBits .f32 0x42000000#32))

/-- The angle of column `j` at position `p`. -/
def angle (p : BitVec 32) (j : Fin 32) : EReal := FloatOps.sitofp (F := Ideal) .f32 p * freq j

/-- A row of 64 whose halves are turned into one another by the angles at position `p`. -/
def rotated (p : BitVec 32) (u : Fin 64 → EReal) (j : Fin 64) : EReal :=
  if h : j.val < 32 then u j * Ideal.cos (angle p ⟨j.val, h⟩) - u ⟨32 + j.val, by omega⟩ * Ideal.sin (angle p ⟨j.val, h⟩)
  else u ⟨j.val - 32, by omega⟩ * Ideal.sin (angle p ⟨j.val - 32, by omega⟩) + u j * Ideal.cos (angle p ⟨j.val - 32, by omega⟩)

/-- No entry is an infinity. -/
def Bounded {s : Shape} (x : FVec Ideal s .f32) : Prop := ∀ i, x i ≠ ⊥ ∧ x i ≠ ⊤

theorem width_eq : width = ((2048 : ℝ) : EReal) := by
  unfold width
  simp [Ideal.ofBits, Ideal.ieee]
  norm_num
  rw [← EReal.coe_mul]
  norm_num

theorem eps_pos : ∃ e : ℝ, 0 < e ∧ eps = (e : EReal) := by
  unfold eps
  simp [Ideal.ofBits, Ideal.ieee]
  norm_num
  exact ⟨8796093 * (1 / 8796093022208), by norm_num, (EReal.coe_mul _ _).symm⟩

theorem sum_coe {n : ℕ} (f : Fin n → ℝ) : (∑ d, (f d : EReal)) = ((∑ d, f d : ℝ) : EReal) :=
  (map_sum (⟨⟨fun x : ℝ => (x : EReal), rfl⟩, EReal.coe_add⟩ : ℝ →+ EReal) f Finset.univ).symm

theorem square_nonneg (x : EReal) : 0 ≤ x * x := by
  induction x with
  | bot => simp
  | top => simp
  | coe r => exact_mod_cast mul_self_nonneg r

/-- With a finite gain a normed row is finite: an infinity in the row makes its root mean square infinite, and the row zero. -/
theorem rms_finite {n : ℕ} (x g : Fin n → EReal) (hg : ∀ d, g d ≠ ⊥ ∧ g d ≠ ⊤) (j : Fin n) : ∃ r : ℝ, rms width eps x g j = (r : EReal) := by
  obtain ⟨e, he, hE⟩ := eps_pos
  lift g to Fin n → ℝ using fun d => ⟨(hg d).2, (hg d).1⟩
  unfold rms
  rw [width_eq, hE]
  by_cases hx : ∀ d, x d ≠ ⊤ ∧ x d ≠ ⊥
  · lift x to Fin n → ℝ using hx
    have hs : (∑ d, (x d : EReal) * (x d : EReal)) = ((∑ d, x d * x d : ℝ) : EReal) := by
      rw [← sum_coe]; exact Finset.sum_congr rfl fun d _ => (EReal.coe_mul _ _).symm
    have hp : 0 < (∑ d, x d * x d) / 2048 + e := by
      have : 0 ≤ ∑ d, x d * x d := Finset.sum_nonneg fun d _ => mul_self_nonneg _
      positivity
    have hq : Ideal.div (∑ d, (x d : EReal) * (x d : EReal)) ((2048 : ℝ) : EReal) + (e : EReal) = (((∑ d, x d * x d) / 2048 + e : ℝ) : EReal) := by
      rw [hs]
      unfold Ideal.div
      rw [if_neg (by norm_num), ← EReal.coe_inv, ← EReal.coe_mul, ← EReal.coe_add, div_eq_mul_inv]
    rw [hq]
    refine ⟨x j * (Real.sqrt ((∑ d, x d * x d) / 2048 + e))⁻¹ * g j, ?_⟩
    rw [show Ideal.rsqrt (((∑ d, x d * x d) / 2048 + e : ℝ) : EReal) = (((Real.sqrt ((∑ d, x d * x d) / 2048 + e))⁻¹ : ℝ) : EReal) from by
      show (if _ then _ else if _ then _ else _) = _
      rw [if_neg hp.not_gt, if_neg hp.ne']]
    rw [EReal.coe_mul, EReal.coe_mul]
  · obtain ⟨d, hd⟩ := not_forall.1 hx
    have hd' : x d * x d = ⊤ := by
      by_cases h : x d = ⊤
      · rw [h]; rfl
      · rw [show x d = ⊥ from by by_contra hb; exact hd ⟨h, hb⟩]; rfl
    have hs : (∑ d, x d * x d) = ⊤ :=
      top_le_iff.1 (hd' ▸ Finset.single_le_sum (f := fun d => x d * x d) (fun i _ => square_nonneg (x i)) (Finset.mem_univ d))
    have hq : Ideal.div (∑ d, x d * x d) ((2048 : ℝ) : EReal) + (e : EReal) = ⊤ := by
      rw [hs]
      unfold Ideal.div
      rw [if_neg (by norm_num), ← EReal.coe_inv, EReal.top_mul_coe_of_pos (by norm_num), EReal.top_add_coe]
    rw [hq]
    exact ⟨0, by show x j * 0 * _ = _; simp⟩

/-- The product of finite rows with the column negated, less the bias, is the negated entry. -/
theorem dot_neg {n : ℕ} (h w : Fin n → EReal) (hh : ∀ d, ∃ r : ℝ, h d = (r : EReal)) (hw : ∀ d, w d ≠ ⊥ ∧ w d ≠ ⊤) (b : EReal) :
    dot h (fun d => -w d) + -b = -(dot h w + b) := by
  choose r hr using hh
  lift w to Fin n → ℝ using fun d => ⟨(hw d).2, (hw d).1⟩
  unfold dot
  have e1 : (∑ d, h d * (w d : EReal)) = ((∑ d, r d * w d : ℝ) : EReal) := by
    rw [← sum_coe]; exact Finset.sum_congr rfl fun d _ => by rw [hr d, EReal.coe_mul]
  have e2 : (∑ d, h d * -(w d : EReal)) = ((-∑ d, r d * w d : ℝ) : EReal) := by
    rw [← Finset.sum_neg_distrib, ← sum_coe]
    exact Finset.sum_congr rfl fun d _ => by rw [hr d, ← EReal.coe_neg, ← EReal.coe_mul, mul_neg]
  rw [e1, e2, EReal.neg_add (Or.inl (EReal.coe_ne_bot _)) (Or.inl (EReal.coe_ne_top _)), EReal.coe_neg, sub_eq_add_neg]

end Cert.Layers

end
-- ==== Proof.RopeEntries.lean ====
/- The entries of the rotary key's arrays. -/
module

public import proofs.«01_k».proof.Proof.RopeResult
public import proofs.«01_k».proof.Proof.Rotary
public import Idealize.ShloMosaic.Lib.Pointwise

@[expose] public section

set_option maxRecDepth 16384

noncomputable section

namespace Cert.RopeKernelIdeal.Value

open Idealize.ShloMosaic Idealize.ShloMosaic.TcCoe Idealize.SL.Sem
open Cert.RopeKernelIdeal Cert.RopeKernelIdeal.Gen Cert.Layers

theorem gain_apply (g : FVec Ideal S1x2048 .f32) (d : Fin 2048) : gain g (ix2 0 d) = g (ix2 0 d) := by
  unfold gain
  pointwise []

theorem weight_apply (w : FVec Ideal S1x2048x9280 .f32) (d : Fin 2048) (q : Fin 128) :
    weight w (ix2 d q) = if q.val < 64 then w (ix3 0 d ⟨(5120 + q.val) % 9280, Nat.mod_lt _ (by decide)⟩)
      else if q.val - 64 < 32 then -w (ix3 0 d ⟨(5120 + (32 + (q.val - 64))) % 9280, Nat.mod_lt _ (by decide)⟩)
      else w (ix3 0 d ⟨(5120 + (q.val - 64 - 32)) % 9280, Nat.mod_lt _ (by decide)⟩) := by
  have hq := q.isLt
  unfold weight columns
  pointwise []
  split_ifs
  all_goals first
    | exact congrArg (fun k => w (ix3 0 d k)) (Fin.ext (by dsimp only; omega))
    | exact congrArg (fun k => -w (ix3 0 d k)) (Fin.ext (by dsimp only; omega))

theorem bias_apply (b : FVec Ideal S1x9280 .f32) (q : Fin 128) :
    shapeCast S1x128 (bias b) shapeCasts_S128_S1x128 (ix2 0 q) = if q.val < 64 then b (ix2 0 ⟨(5120 + q.val) % 9280, Nat.mod_lt _ (by decide)⟩)
      else if q.val - 64 < 32 then -b (ix2 0 ⟨(5120 + (32 + (q.val - 64))) % 9280, Nat.mod_lt _ (by decide)⟩)
      else b (ix2 0 ⟨(5120 + (q.val - 64 - 32)) % 9280, Nat.mod_lt _ (by decide)⟩) := by
  have hq := q.isLt
  unfold bias entries
  pointwise []
  split_ifs
  all_goals first
    | exact congrArg (fun k => b (ix2 0 k)) (Fin.ext (by dsimp only; omega))
    | exact congrArg (fun k => -b (ix2 0 k)) (Fin.ext (by dsimp only; omega))

/-- The product's entry at a column: the key's, its second half negated, or its first half. -/
theorem product_low (h : Fin 2048 → EReal) (w : FVec Ideal S1x2048x9280 .f32) (b : FVec Ideal S1x9280 .f32) (q : Fin 128) (k : Fin 9280) (hq : q.val < 64) (hk : k.val = 5120 + q.val) :
    dot h (fun d => weight w (ix2 d q)) + shapeCast S1x128 (bias b) shapeCasts_S128_S1x128 (ix2 0 q) = dot h (fun d => w (ix3 0 d k)) + b (ix2 0 k) := by
  obtain rfl : k = ⟨(5120 + q.val) % 9280, Nat.mod_lt _ (by decide)⟩ := Fin.ext (by dsimp only; omega)
  simp only [weight_apply, bias_apply, if_pos hq]

theorem product_middle (h : Fin 2048 → EReal) (hh : ∀ d, ∃ r : ℝ, h d = (r : EReal)) (w : FVec Ideal S1x2048x9280 .f32) (hw : Bounded w) (b : FVec Ideal S1x9280 .f32) (q : Fin 128)
    (k : Fin 9280) (hq : 64 ≤ q.val) (hq' : q.val < 96) (hk : k.val = 5120 + (32 + (q.val - 64))) :
    dot h (fun d => weight w (ix2 d q)) + shapeCast S1x128 (bias b) shapeCasts_S128_S1x128 (ix2 0 q) = -(dot h (fun d => w (ix3 0 d k)) + b (ix2 0 k)) := by
  obtain rfl : k = ⟨(5120 + (32 + (q.val - 64))) % 9280, Nat.mod_lt _ (by decide)⟩ := Fin.ext (by dsimp only; omega)
  simp only [weight_apply, bias_apply, if_neg hq.not_gt, if_pos (show q.val - 64 < 32 by omega)]
  exact dot_neg h _ hh (fun d => hw _) _

theorem product_high (h : Fin 2048 → EReal) (w : FVec Ideal S1x2048x9280 .f32) (b : FVec Ideal S1x9280 .f32) (q : Fin 128) (k : Fin 9280) (hq : 96 ≤ q.val) (hk : k.val = 5120 + (q.val - 96)) :
    dot h (fun d => weight w (ix2 d q)) + shapeCast S1x128 (bias b) shapeCasts_S128_S1x128 (ix2 0 q) = dot h (fun d => w (ix3 0 d k)) + b (ix2 0 k) := by
  obtain rfl : k = ⟨(5120 + (q.val - 64 - 32)) % 9280, Nat.mod_lt _ (by decide)⟩ := Fin.ext (by dsimp only; omega)
  simp only [weight_apply, bias_apply, if_neg (show ¬q.val < 64 by omega), if_neg (show ¬q.val - 64 < 32 by omega)]

/-- Two vectors of positions under one another. -/
theorem joined (x : IVec S16384 32) (y : IVec S2048 32) (R : Fin 18432) :
    concatenate S18432 0 [⟨S16384, x⟩, ⟨S2048, y⟩] concatenates_S16384_S2048_S18432_d0 (ix1 R)
      = if h : R.val < 16384 then x (ix1 ⟨R.val, h⟩) else y (ix1 ⟨R.val - 16384, by omega⟩) := by
  pointwise []

theorem positions_prompt (p : Fin 4) (s : Fin 4096) (R : Fin 18432) (hR : R.val = 4096 * p.val + s.val) : positions (ix1 R) = BitVec.ofNat 32 s.val := by
  unfold positions
  rw [joined, dif_pos (by omega)]
  refine (shapeCast_apply _ _ _ (ix2 p s) ?_).trans ?_
  · rw [Shape.rowMajor_val_two, Shape.rowMajor_val_one]
    show p.val * 4096 + s.val = R.val
    omega
  · pointwise []

theorem positions_sample (p : Fin 32) (s : Fin 64) (R : Fin 18432) (hR : R.val = 16384 + (64 * p.val + s.val)) : positions (ix1 R) = 1024#32 + BitVec.ofNat 32 s.val := by
  unfold positions
  rw [joined, dif_neg (by omega)]
  refine (shapeCast_apply _ _ _ (ix2 p s) ?_).trans ?_
  · rw [Shape.rowMajor_val_two, Shape.rowMajor_val_one]
    show p.val * 64 + s.val = R.val - 16384
    omega
  · pointwise []
    rfl

theorem angles_apply (R : Fin 18432) (j : Fin 32) : angles (ix2 R j) = angle (positions (ix1 R)) j := by
  unfold angles freqs
  pointwise []
  rfl

/-- Four tables side by side. -/
theorem beside (x y z t : FVec Ideal S18432x32 .f32) (R : Fin 18432) (q : Fin 128) :
    concatenate S18432x128 1 [⟨S18432x32, x⟩, ⟨S18432x32, y⟩, ⟨S18432x32, z⟩, ⟨S18432x32, t⟩] concatenates_S18432x32_S18432x32_S18432x32_S18432x32_S18432x128_d1 (ix2 R q)
      = if h : q.val < 32 then x (ix2 R ⟨q.val, h⟩) else if h : q.val - 32 < 32 then y (ix2 R ⟨q.val - 32, h⟩)
        else if h : q.val - 32 - 32 < 32 then z (ix2 R ⟨q.val - 32 - 32, h⟩) else t (ix2 R ⟨q.val - 32 - 32 - 32, by omega⟩) := by
  pointwise []

theorem table_apply (R : Fin 18432) (q : Fin 128) (j : Fin 32) (hj : j.val = q.val % 32) :
    table (ix2 R q) = if q.val < 64 then Ideal.cos (angle (positions (ix1 R)) j) else Ideal.sin (angle (positions (ix1 R)) j) := by
  have hq := q.isLt
  have e : ∀ (n : ℕ) (hn : n < 32), n = q.val % 32 → angles (ix2 R ⟨n, hn⟩) = angle (positions (ix1 R)) j := fun n hn h =>
    (angles_apply R _).trans (congrArg (angle (positions (ix1 R))) (Fin.ext (h.trans hj.symm)))
  unfold table
  rw [beside]
  by_cases h1 : q.val < 32
  · rw [dif_pos h1, if_pos (by omega)]
    exact congrArg Ideal.cos (e _ h1 (by omega))
  rw [dif_neg h1]
  by_cases h2 : q.val - 32 < 32
  · rw [dif_pos h2, if_pos (by omega)]
    exact congrArg Ideal.cos (e _ h2 (by omega))
  rw [dif_neg h2, if_neg (by omega)]
  by_cases h3 : q.val - 32 - 32 < 32
  · rw [dif_pos h3]
    exact congrArg Ideal.sin (e _ h3 (by omega))
  · rw [dif_neg h3]
    exact congrArg Ideal.sin (e _ (by omega) (by omega))

/-- A row of the key is the projection's row rotated at the row's position. -/
theorem folded_apply (hn : FVec Ideal S18432x2048 .bf16) (w : FVec Ideal S1x2048x9280 .f32) (hw : Bounded w) (b : FVec Ideal S1x9280 .f32) (R : Fin 18432)
    (hh : ∀ d, ∃ r : ℝ, hn (ix2 R d) = (r : EReal)) (j : Fin 64) (q : Fin 128) (hq : q.val = j.val) :
    folded hn (weight w) (shapeCast S1x128 (bias b) shapeCasts_S128_S1x128) table (ix2 R q)
      = rotated (positions (ix1 R)) (fun k => dot (fun d => hn (ix2 R d)) (fun d => w (ix3 0 d ⟨5120 + k.val, by omega⟩)) + b (ix2 0 ⟨5120 + k.val, by omega⟩)) j := by
  have hj := j.isLt
  have ha : (across q).val = q.val + 64 := Nat.mod_eq_of_lt (by omega)
  show (dot (fun d => hn (ix2 R d)) (fun d => weight w (ix2 d q)) + shapeCast S1x128 (bias b) shapeCasts_S128_S1x128 (ix2 0 q)) * table (ix2 R q)
    + (dot (fun d => hn (ix2 R d)) (fun d => weight w (ix2 d (across q))) + shapeCast S1x128 (bias b) shapeCasts_S128_S1x128 (ix2 0 (across q))) * table (ix2 R (across q)) = _
  unfold rotated
  rw [product_low _ w b q ⟨5120 + j.val, by omega⟩ (by omega) (by dsimp only; omega)]
  by_cases h : j.val < 32
  · rw [dif_pos h, table_apply R q ⟨j.val, h⟩ (by dsimp only; omega), if_pos (by omega), table_apply R (across q) ⟨j.val, h⟩ (by dsimp only; omega), if_neg (by omega),
      product_middle _ hh w hw b (across q) ⟨5120 + (32 + j.val), by omega⟩ (by omega) (by omega) (by dsimp only; omega), EReal.neg_mul, ← sub_eq_add_neg]
  · rw [dif_neg h, table_apply R q ⟨j.val - 32, by omega⟩ (by dsimp only; omega), if_pos (by omega), table_apply R (across q) ⟨j.val - 32, by omega⟩ (by dsimp only; omega), if_neg (by omega),
      product_high _ w b (across q) ⟨5120 + (j.val - 32), by omega⟩ (by omega) (by dsimp only; omega), add_comm]

variable (m : (ℓ : Loc nD τ sig) → Buf (Elt Ideal) ℓ)

theorem hn_prompt (c : Dev nD) (p : Fin 4) (s : Fin 4096) (R : Fin 18432) (hR : R.val = 4096 * p.val + s.val) (d : Fin 2048) :
    hn m c (ix2 R d) = rms width eps (fun d => (m ((c : Thread nD τ).loc main_arg0) : FVec Ideal S4x4096x2048 .f32) (ix3 p s d))
      (fun d => (m ((c : Thread nD τ).loc main_arg2) : FVec Ideal S1x2048 .f32) (ix2 0 d)) d := by
  unfold hn normed
  refine congrArg₂ (fun u v => rms width eps u v d) (funext fun e => ?_) (funext fun e => gain_apply _ e)
  exact join_prompt _ _ _ _ _ p s e R hR

theorem hn_sample (c : Dev nD) (p : Fin 32) (s : Fin 64) (R : Fin 18432) (hR : R.val = 16384 + (64 * p.val + s.val)) (d : Fin 2048) :
    hn m c (ix2 R d) = rms width eps (fun d => (m ((c : Thread nD τ).loc main_arg1) : FVec Ideal S32x64x2048 .f32) (ix3 p s d))
      (fun d => (m ((c : Thread nD τ).loc main_arg2) : FVec Ideal S1x2048 .f32) (ix2 0 d)) d := by
  unfold hn normed
  refine congrArg₂ (fun u v => rms width eps u v d) (funext fun e => ?_) (funext fun e => gain_apply _ e)
  exact join_sample _ _ _ _ _ p s e R hR

theorem keyPrompt_apply (c : Dev nD) (hg : Bounded (s := S1x2048) (m ((c : Thread nD τ).loc main_arg2)))
    (hw : Bounded (s := S1x2048x9280) (m ((c : Thread nD τ).loc main_arg3)))
    (a : Fin 1) (p : Fin 4) (s : Fin 4096) (j : Fin 64) :
    keyPrompt m c (ix4 a p s j) = rotated (BitVec.ofNat 32 s.val) (fun k => entry (fun d => (m ((c : Thread nD τ).loc main_arg0) : FVec Ideal S4x4096x2048 .f32) (ix3 p s d))
      (fun d => (m ((c : Thread nD τ).loc main_arg2) : FVec Ideal S1x2048 .f32) (ix2 0 d)) (m ((c : Thread nD τ).loc main_arg3)) (m ((c : Thread nD τ).loc main_arg4)) ⟨5120 + k.val, by omega⟩) j := by
  refine Eq.trans (b := key m c (ix2 ⟨4096 * p.val + s.val, by omega⟩ ⟨j.val, by omega⟩)) ?_ ?_
  · unfold keyPrompt
    generalize key m c = y
    refine (shapeCast_apply _ _ _ (ix2 ⟨4096 * p.val + s.val, by omega⟩ j) ?_).trans ?_
    · rw [Shape.rowMajor_val_two, Shape.rowMajor_val_four]
      show (4096 * p.val + s.val) * 64 + j.val = ((a.val * 4 + p.val) * 4096 + s.val) * 64 + j.val
      omega
    · pointwise []
  · unfold key
    have hr := hn_prompt m c p s ⟨4096 * p.val + s.val, by omega⟩ rfl
    rw [folded_apply (hn m c) _ hw _ _ (fun d => (hr d).symm ▸ rms_finite _ _ (fun e => hg _) d) j _ rfl, positions_prompt p s _ rfl]
    refine congrArg (fun u => rotated _ u j) (funext fun k => ?_)
    exact congrArg₂ (· + ·) (congrArg₂ dot (funext hr) rfl) rfl

theorem keySample_apply (c : Dev nD) (hg : Bounded (s := S1x2048) (m ((c : Thread nD τ).loc main_arg2)))
    (hw : Bounded (s := S1x2048x9280) (m ((c : Thread nD τ).loc main_arg3)))
    (a : Fin 1) (p : Fin 32) (s : Fin 64) (j : Fin 64) :
    keySample m c (ix4 a p s j) = rotated (1024#32 + BitVec.ofNat 32 s.val) (fun k => entry (fun d => (m ((c : Thread nD τ).loc main_arg1) : FVec Ideal S32x64x2048 .f32) (ix3 p s d))
      (fun d => (m ((c : Thread nD τ).loc main_arg2) : FVec Ideal S1x2048 .f32) (ix2 0 d)) (m ((c : Thread nD τ).loc main_arg3)) (m ((c : Thread nD τ).loc main_arg4)) ⟨5120 + k.val, by omega⟩) j := by
  refine Eq.trans (b := key m c (ix2 ⟨16384 + (64 * p.val + s.val), by omega⟩ ⟨j.val, by omega⟩)) ?_ ?_
  · unfold keySample
    generalize key m c = y
    refine (shapeCast_apply _ _ _ (ix2 ⟨64 * p.val + s.val, by omega⟩ j) ?_).trans ?_
    · rw [Shape.rowMajor_val_two, Shape.rowMajor_val_four]
      show (64 * p.val + s.val) * 64 + j.val = ((a.val * 32 + p.val) * 64 + s.val) * 64 + j.val
      omega
    · pointwise []
  · unfold key
    have hr := hn_sample m c p s ⟨16384 + (64 * p.val + s.val), by omega⟩ rfl
    rw [folded_apply (hn m c) _ hw _ _ (fun d => (hr d).symm ▸ rms_finite _ _ (fun e => hg _) d) j _ rfl, positions_sample p s _ rfl]
    refine congrArg (fun u => rotated _ u j) (funext fun k => ?_)
    exact congrArg₂ (· + ·) (congrArg₂ dot (funext hr) rfl) rfl

end Cert.RopeKernelIdeal.Value

end
-- ==== Proof.RopeReference.lean ====
/- The entries of the rotary key's reference. -/
module

public import proofs.«01_k».proof.Proof.Join
public import proofs.«01_k».proof.Proof.Rotary
public import proofs.«01_k».proof.Proof.Gen.RopeReferenceIdeal.Run
public import Idealize.ShloMosaic.Lib.Pointwise

@[expose] public section

set_option maxRecDepth 16384

noncomputable section

namespace Cert.RopeReferenceIdeal.Value

open Cert.RopeReferenceIdeal Cert.RopeReferenceIdeal.Gen Idealize.ShloMosaic Idealize.ShloMosaic.TcCoe Idealize.SL.Sem
open Cert.Layers

/-! The rows of the prompt. -/

/-- The projection of the normed rows. -/
def promptRows (x : FVec Ideal S4x4096x2048 .f32) (g : FVec Ideal S1x2048 .f32) (w : FVec Ideal S1x2048x9280 .f32) (b : FVec Ideal S1x9280 .f32) : FVec Ideal S4x4096x9280 .f32 :=
  addf (Host.dotGeneral dot_S4x4096x2048_S2048x9280_S4x4096x9280_2_0_01_1_n_n none (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ g shapeCasts_S1x2048_S2048)))) (shapeCast _ w shapeCasts_S1x2048x9280_S2048x9280)) (broadcastInDim S4x4096x9280 ![0, 1, 2] bcast_S1x1x9280_S4x4096x9280_0_1_2 (broadcastInDim S1x1x9280 ![2] bcast_S9280_S1x1x9280_2 (shapeCast _ b shapeCasts_S1x9280_S9280)))

/-- The angles. -/
def promptAngles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The key's columns rotated. -/
def promptTurned (z : FVec Ideal S4x4096x9280 .f32) (u : FVec Ideal S4096x32 .f32) : FVec Ideal S1x4x4096x64 .f32 :=
  broadcastInDim S1x4x4096x64 ![1, 2, 3] bcast_S4x4096x64_S1x4x4096x64_1_2_3 (concatenate S4x4096x64 2 [⟨S4x4096x32, (subf (mulf (extractStridedSlice S4x4096x32 ![0, 0, 0] (extractStridedSlice S4x4096x64 ![0, 0, 5120] z slices_S4x4096x9280_S4x4096x64_0_0_5120) slices_S4x4096x64_S4x4096x32_0_0_0) (broadcastInDim S4x4096x32 ![0, 1, 2] bcast_S1x4096x32_S4x4096x32_0_1_2 (broadcastInDim S1x4096x32 ![1, 2] bcast_S4096x32_S1x4096x32_1_2 (Host.cos u)))) (mulf (extractStridedSlice S4x4096x32 ![0, 0, 32] (extractStridedSlice S4x4096x64 ![0, 0, 5120] z slices_S4x4096x9280_S4x4096x64_0_0_5120) slices_S4x4096x64_S4x4096x32_0_0_32) (broadcastInDim S4x4096x32 ![0, 1, 2] bcast_S1x4096x32_S4x4096x32_0_1_2 (broadcastInDim S1x4096x32 ![1, 2] bcast_S4096x32_S1x4096x32_1_2 (Host.sin u)))))⟩, ⟨S4x4096x32, (addf (mulf (extractStridedSlice S4x4096x32 ![0, 0, 0] (extractStridedSlice S4x4096x64 ![0, 0, 5120] z slices_S4x4096x9280_S4x4096x64_0_0_5120) slices_S4x4096x64_S4x4096x32_0_0_0) (broadcastInDim S4x4096x32 ![0, 1, 2] bcast_S1x4096x32_S4x4096x32_0_1_2 (broadcastInDim S1x4096x32 ![1, 2] bcast_S4096x32_S1x4096x32_1_2 (Host.sin u)))) (mulf (extractStridedSlice S4x4096x32 ![0, 0, 32] (extractStridedSlice S4x4096x64 ![0, 0, 5120] z slices_S4x4096x9280_S4x4096x64_0_0_5120) slices_S4x4096x64_S4x4096x32_0_0_32) (broadcastInDim S4x4096x32 ![0, 1, 2] bcast_S1x4096x32_S4x4096x32_0_1_2 (broadcastInDim S1x4096x32 ![1, 2] bcast_S4096x32_S1x4096x32_1_2 (Host.cos u)))))⟩] concatenates_S4x4096x32_S4x4096x32_S4x4096x64_d2)

theorem prompt_res (m : (ℓ : Loc nD τ sig) → Buf (Elt Ideal) ℓ) (c : Dev nD) :
    res_main_v62 m c = promptTurned (promptRows (m ((c.tc : Thread nD τ).loc main_arg0)) (m ((c.tc : Thread nD τ).loc main_arg2)) (m ((c.tc : Thread nD τ).loc main_arg3)) (m ((c.tc : Thread nD τ).loc main_arg4))) promptAngles := rfl

theorem promptRows_apply (x : FVec Ideal S4x4096x2048 .f32) (g : FVec Ideal S1x2048 .f32) (w : FVec Ideal S1x2048x9280 .f32) (b : FVec Ideal S1x9280 .f32) (p : Fin 4) (s : Fin 4096) (k : Fin 9280) :
    promptRows x g w b (ix3 p s k) = entry (fun d => x (ix3 p s d)) (fun d => g (ix2 0 d)) w b k := by
  unfold promptRows
  pointwise []
  rfl

theorem promptAngles_apply (s : Fin 4096) (j : Fin 32) : promptAngles (ix2 s j) = angle (BitVec.ofNat 32 s.val) j := by
  unfold promptAngles
  pointwise []
  rfl

theorem promptTurned_apply (z : FVec Ideal S4x4096x9280 .f32) (u : FVec Ideal S4096x32 .f32) (a : Fin 1) (p : Fin 4) (s : Fin 4096) (j : Fin 64) (n : BitVec 32)
    (hu : ∀ j, u (ix2 s j) = angle n j) :
    promptTurned z u (ix4 a p s j) = rotated n (fun k => z (ix3 p s ⟨5120 + k.val, by omega⟩)) j := by
  unfold promptTurned rotated
  pointwise []
  simp only [hu]
  split_ifs with h
  · rfl
  all_goals exact congrArg₂ (fun f l => f * _ + l * _) rfl (congrArg (fun k => z (ix3 p s k)) (Fin.ext (by dsimp only; omega)))

/-! The rows of the samples. -/

/-- The projection of the normed rows. -/
def sampleRows (x : FVec Ideal S32x64x2048 .f32) (g : FVec Ideal S1x2048 .f32) (w : FVec Ideal S1x2048x9280 .f32) (b : FVec Ideal S1x9280 .f32) : FVec Ideal S32x64x9280 .f32 :=
  addf (Host.dotGeneral dot_S32x64x2048_S2048x9280_S32x64x9280_2_0_01_1_n_n none (mulf (mulf x (broadcastInDim S32x64x2048 ![0, 1, 2] bcast_S32x64x1_S32x64x2048_0_1_2 (Host.rsqrt (addf (Host.divf (broadcastInDim S32x64x1 ![0, 1] bcast_S32x64_S32x64x1_0_1 (Host.reduceAdd (mulf x x) (constant S_ .f32 0x00000000#32) reducesTo_S32x64x2048_S32x64_d2 h_S_)) (broadcastInDim S32x64x1 ![] bcast_S_S32x64x1 (constant S_ .f32 0x45000000#32))) (broadcastInDim S32x64x1 ![] bcast_S_S32x64x1 (constant S_ .f32 0x358637BD#32)))))) (broadcastInDim S32x64x2048 ![0, 1, 2] bcast_S1x1x2048_S32x64x2048_0_1_2 (broadcastInDim S1x1x2048 ![2] bcast_S2048_S1x1x2048_2 (shapeCast _ g shapeCasts_S1x2048_S2048)))) (shapeCast _ w shapeCasts_S1x2048x9280_S2048x9280)) (broadcastInDim S32x64x9280 ![0, 1, 2] bcast_S1x1x9280_S32x64x9280_0_1_2 (broadcastInDim S1x1x9280 ![2] bcast_S9280_S1x1x9280_2 (shapeCast _ b shapeCasts_S1x9280_S9280)))

/-- The angles. -/
def sampleAngles : FVec Ideal S64x32 .f32 :=
  mulf (broadcastInDim S64x32 ![0, 1] bcast_S64x1_S64x32_0_1 (broadcastInDim S64x1 ![0] bcast_S64_S64x1_0 (sitofp .f32 (addi (broadcastInDim S64 ![] bcast_S_S64 (constantI S_ 32 1024#32)) (iotaInDim S64 32 0))))) (broadcastInDim S64x32 ![0, 1] bcast_S1x32_S64x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The key's columns rotated. -/
def sampleTurned (z : FVec Ideal S32x64x9280 .f32) (u : FVec Ideal S64x32 .f32) : FVec Ideal S1x32x64x64 .f32 :=
  broadcastInDim S1x32x64x64 ![1, 2, 3] bcast_S32x64x64_S1x32x64x64_1_2_3 (concatenate S32x64x64 2 [⟨S32x64x32, (subf (mulf (extractStridedSlice S32x64x32 ![0, 0, 0] (extractStridedSlice S32x64x64 ![0, 0, 5120] z slices_S32x64x9280_S32x64x64_0_0_5120) slices_S32x64x64_S32x64x32_0_0_0) (broadcastInDim S32x64x32 ![0, 1, 2] bcast_S1x64x32_S32x64x32_0_1_2 (broadcastInDim S1x64x32 ![1, 2] bcast_S64x32_S1x64x32_1_2 (Host.cos u)))) (mulf (extractStridedSlice S32x64x32 ![0, 0, 32] (extractStridedSlice S32x64x64 ![0, 0, 5120] z slices_S32x64x9280_S32x64x64_0_0_5120) slices_S32x64x64_S32x64x32_0_0_32) (broadcastInDim S32x64x32 ![0, 1, 2] bcast_S1x64x32_S32x64x32_0_1_2 (broadcastInDim S1x64x32 ![1, 2] bcast_S64x32_S1x64x32_1_2 (Host.sin u)))))⟩, ⟨S32x64x32, (addf (mulf (extractStridedSlice S32x64x32 ![0, 0, 0] (extractStridedSlice S32x64x64 ![0, 0, 5120] z slices_S32x64x9280_S32x64x64_0_0_5120) slices_S32x64x64_S32x64x32_0_0_0) (broadcastInDim S32x64x32 ![0, 1, 2] bcast_S1x64x32_S32x64x32_0_1_2 (broadcastInDim S1x64x32 ![1, 2] bcast_S64x32_S1x64x32_1_2 (Host.sin u)))) (mulf (extractStridedSlice S32x64x32 ![0, 0, 32] (extractStridedSlice S32x64x64 ![0, 0, 5120] z slices_S32x64x9280_S32x64x64_0_0_5120) slices_S32x64x64_S32x64x32_0_0_32) (broadcastInDim S32x64x32 ![0, 1, 2] bcast_S1x64x32_S32x64x32_0_1_2 (broadcastInDim S1x64x32 ![1, 2] bcast_S64x32_S1x64x32_1_2 (Host.cos u)))))⟩] concatenates_S32x64x32_S32x64x32_S32x64x64_d2)

theorem sample_res (m : (ℓ : Loc nD τ sig) → Buf (Elt Ideal) ℓ) (c : Dev nD) :
    res_main_v121 m c = sampleTurned (sampleRows (m ((c.tc : Thread nD τ).loc main_arg1)) (m ((c.tc : Thread nD τ).loc main_arg2)) (m ((c.tc : Thread nD τ).loc main_arg3)) (m ((c.tc : Thread nD τ).loc main_arg4))) sampleAngles := rfl

theorem sampleRows_apply (x : FVec Ideal S32x64x2048 .f32) (g : FVec Ideal S1x2048 .f32) (w : FVec Ideal S1x2048x9280 .f32) (b : FVec Ideal S1x9280 .f32) (p : Fin 32) (s : Fin 64) (k : Fin 9280) :
    sampleRows x g w b (ix3 p s k) = entry (fun d => x (ix3 p s d)) (fun d => g (ix2 0 d)) w b k := by
  unfold sampleRows
  pointwise []
  rfl

theorem sampleAngles_apply (s : Fin 64) (j : Fin 32) : sampleAngles (ix2 s j) = angle (1024#32 + BitVec.ofNat 32 s.val) j := by
  unfold sampleAngles
  pointwise []
  rfl

theorem sampleTurned_apply (z : FVec Ideal S32x64x9280 .f32) (u : FVec Ideal S64x32 .f32) (a : Fin 1) (p : Fin 32) (s : Fin 64) (j : Fin 64) (n : BitVec 32)
    (hu : ∀ j, u (ix2 s j) = angle n j) :
    sampleTurned z u (ix4 a p s j) = rotated n (fun k => z (ix3 p s ⟨5120 + k.val, by omega⟩)) j := by
  unfold sampleTurned rotated
  pointwise []
  simp only [hu]
  split_ifs with h
  · rfl
  all_goals exact congrArg₂ (fun f l => f * _ + l * _) rfl (congrArg (fun k => z (ix3 p s k)) (Fin.ext (by dsimp only; omega)))

end Cert.RopeReferenceIdeal.Value

end
-- ==== Proof.RopeClaims.lean ====
/- The claims about the rotary key. -/
module

public import proofs.«01_k».proof.Defs
public import proofs.«01_k».proof.Proof.Gen.RopeKernel.Frame
public import proofs.«01_k».proof.Proof.Gen.Pre_finite_projection
public import proofs.«01_k».proof.Proof.Args
public import proofs.«01_k».proof.Proof.RopeRun
public import proofs.«01_k».proof.Proof.RopeEntries
public import proofs.«01_k».proof.Proof.RopeReference
public import Idealize.ShloMosaic.Lib.Quiescent

@[expose] public section

set_option maxRecDepth 16384

noncomputable section

namespace Cert.RopeClaims

open Idealize.ShloMosaic Idealize.ShloMosaic.TcCoe Idealize.SL.Sem
open Cert.RopeKernelIdeal.Gen Cert.RopeKernelIdeal.Value Cert.RopeReferenceIdeal.Value Cert.Layers

theorem frame_kernel : Cert.quiescent_RopeKernel := fun m ρ _ => Cert.RopeKernel.Gen.frame m ρ
theorem frame_ideal : Cert.quiescent_RopeKernelIdeal := fun m ρ _ => Cert.RopeKernelIdeal.Gen.frame m ρ
theorem frame_ideal_pre : Cert.quiescent_RopeKernelIdeal_pre_finite_projection := fun m ρ _ => Cert.RopeKernelIdeal.Gen.frame m ρ
theorem frame_reference : Cert.quiescent_RopeReferenceIdeal := fun m ρ _ =>
  (θ_run Cert.RopeReferenceIdeal.defs _ _).mono (fun r h => ⟨fun c => (h c).2.2, sem_eq_zero_of_no_sems (by decide) r.2⟩)
    (Cert.RopeReferenceIdeal.Value.run (F := Ideal) m ρ)
theorem frame_reference_pre : Cert.quiescent_RopeReferenceIdeal_pre_finite_projection := fun m ρ _ => frame_reference m ρ trivial

theorem preserves : Cert.preserves_RopeKernel_RopeKernelIdeal := trivial

/-- What the precondition says: the gain and the weight hold no infinity. -/
theorem bounded [Cert.Pre_finite_projection.Facts] (x : FVec Ideal Cert.Pre_finite_projection.S4x4096x2048 .f32) (y : FVec Ideal Cert.Pre_finite_projection.S32x64x2048 .f32)
    (g : FVec Ideal Cert.Pre_finite_projection.S1x2048 .f32) (w : FVec Ideal Cert.Pre_finite_projection.S1x2048x9280 .f32) (b : FVec Ideal Cert.Pre_finite_projection.S1x9280 .f32)
    (h : Cert.Pre_finite_projection.fn (F := Ideal) x y g w b = fun _ => 1#1) : Bounded g ∧ Bounded w := by
  have h0 := congrFun h ix0
  unfold Cert.Pre_finite_projection.fn at h0
  dsimp only at h0
  obtain ⟨h1, h2⟩ := Cert.Args.and_one _ _ h0
  exact ⟨fun i => Cert.Args.below _ (Host.reduce_andi_all _ _ _ _ _ h1 i), fun i => Cert.Args.below _ (Host.reduce_andi_all _ _ _ _ _ h2 i)⟩

/-- Both programs end at the same two arrays. -/
theorem algebraic : Cert.algebraic_RopeKernelIdeal_RopeReferenceIdeal_pre_finite_projection := by
  intro m ρ m' ρ' hpre hagree
  refine ⟨fun c => keyPrompt m c, fun c => keySample m c, ?_, ?_⟩
  · refine (θ_run Cert.RopeKernelIdeal.defs _ _).mono (fun _ h c => ⟨?_, ?_, h.2 c⟩)
      (θ_run_and (run_all (F := Ideal) m ρ) (Cert.RopeKernelIdeal.Gen.unchanged (F := Ideal) m ρ))
    · exact (h.1.1 c _ (mem_uc Cert.RopeKernelIdeal.main_v52 (by decide))).trans (at5_v52 m ρ c)
    · exact (h.1.1 c _ (mem_uc Cert.RopeKernelIdeal.main_v54 (by decide))).trans (at5_v54 m ρ c)
  · refine (θ_run Cert.RopeReferenceIdeal.defs _ _).mono (fun _ h c => ⟨(h c).1.trans ?_, (h c).2.1.trans ?_, (h c).2.2⟩)
      (Cert.RopeReferenceIdeal.Value.run (F := Ideal) m' ρ')
    all_goals
      obtain ⟨e0, e1, e2, e3, e4⟩ := hagree c
      obtain ⟨hg, hw⟩ := bounded _ _ _ _ _ (hpre c)
    · rw [prompt_res, e0, e2, e3, e4]
      funext i
      idx_vars i
      refine (promptTurned_apply _ _ i0 i1 i2 i3 _ (promptAngles_apply i2)).trans (Eq.trans ?_ (keyPrompt_apply m c hg hw i0 i1 i2 i3).symm)
      exact congrArg (fun u => rotated _ u i3) (funext fun k => promptRows_apply _ _ _ _ i1 i2 _)
    · rw [sample_res, e1, e2, e3, e4]
      funext i
      idx_vars i
      refine (sampleTurned_apply _ _ i0 i1 i2 i3 _ (sampleAngles_apply i2)).trans (Eq.trans ?_ (keySample_apply m c hg hw i0 i1 i2 i3).symm)
      exact congrArg (fun u => rotated _ u i3) (funext fun k => sampleRows_apply _ _ _ _ i1 i2 _)

end Cert.RopeClaims

end
-- ==== Proof.KvResult.lean ====
/- The prompt's keys and values of every head: what the call leaves in its result array, and that the reference's are the
   same. -/
module

public import proofs.«01_k».proof.Proof.Gen.KvKernelIdeal.Frame
public import proofs.«01_k».proof.Proof.Gen.KvReferenceIdeal.Run
public import proofs.«01_k».proof.Proof.Layers
public import Idealize.ShloMosaic.Lib.Pipeline.ValueKit
public import Idealize.ShloMosaic.Lib.Claim
public import Idealize.ShloMosaic.Lib.Pointwise

@[expose] public section

set_option maxRecDepth 16384

noncomputable section

namespace Cert.KvKernelIdeal.Value

open Idealize.ShloMosaic Idealize.ShloMosaic.TcCoe Idealize.SL.Sem Idealize.ShloMosaic.StableHlo
open Cert.KvKernelIdeal Cert.KvKernelIdeal.Gen Cert.Layers

/-! One block of the call. -/

theorem pay (x : Vec Ideal S1024x512 .f32) (w : Vec Ideal S512x1024 .bf16) (r j : Fin 1024) :
    k0_pay1 (F := Ideal) x w (ix2 r j) = dot (fun d => x (ix2 r d)) (fun d => w (ix2 d j)) := by
  pointwise [k0_pay1]
  rfl

theorem zero2 : (![0, 0] : Fin 2 → ℕ) = fun _ => 0 := funext fun a => by fin_cases a <;> rfl

theorem out (x : Vec Ideal S1024x512 .f32) (w : Vec Ideal S512x1024 .bf16) : out0_2 (F := Ideal) x w = k0_pay1 x w := by
  unfold out0_2
  rw [View.canon_unit_zero zero2, View.ld_unit_zero zero2, View.ld_unit_zero zero2]

/-- The linear layer of the prompt's rows, the first 16384 of the latent's. -/
def linear (x : FVec Ideal S18432x512 .f32) (w : FVec Ideal S512x4096 .bf16) : FVec Ideal S16384x4096 .bf16 := fun i =>
  dot (fun d => x (ix2 ⟨(i 0).val, (i 0).isLt.trans (by decide)⟩ d)) (fun d => w (ix2 d (i 1)))

/-- The keys' and the values' weights side by side, as the matrix the call multiplies by. -/
def weights (u v : FVec Ideal S1x512x16x128 .f32) : FVec Ideal S512x4096 .bf16 :=
  truncf .bf16 (concatenate S512x4096 1
    [⟨S512x2048, shapeCast S512x2048 (shapeCast S512x16x128 u shapeCasts_S1x512x16x128_S512x16x128) shapeCasts_S512x16x128_S512x2048⟩,
     ⟨S512x2048, shapeCast S512x2048 (shapeCast S512x16x128 v shapeCasts_S1x512x16x128_S512x16x128) shapeCasts_S512x16x128_S512x2048⟩]
    concatenates_S512x2048_S512x2048_S512x4096_d1) bitsLt_bf16_f32

variable (m : (ℓ : Loc nD τ sig) → Buf (Elt Ideal) ℓ) (ρ : Dev nD → PrngReg)

theorem idx : ∀ t : Fin cfg0.N, win0_0.index t = ![t.val / 4, 0] ∧ win0_1.index t = ![0, t.val % 4] ∧ win0_2.index t = ![t.val / 4, t.val % 4]
    ∧ t.val < 64 :=
  (by decide +kernel : ∀ t : Fin grid0.N, _)

theorem blk_x (c : Dev nD) (t : Fin cfg0.N) (r : Fin 1024) (d : Fin 512) (a : Fin 18432) (ha : a.val = 1024 * (t.val / 4) + r.val) :
    iblk m c 0 t (ix2 r d) = (V m c main_arg0 : FVec Ideal S18432x512 .f32) (ix2 a d) := by
  blk_ext [iblk, idx t]

theorem blk_w (c : Dev nD) (t : Fin cfg0.N) (d : Fin 512) (j : Fin 1024) (b : Fin 4096) (hb : b.val = 1024 * (t.val % 4) + j.val) :
    iblk m c 1 t (ix2 d j) = (V m c main_v5 : FVec Ideal S512x4096 .bf16) (ix2 d b) := by
  blk_ext [iblk, idx t]

theorem at_v5 (c : Dev nD) : V m c main_v5 = weights (m ((c : Thread nD τ).loc main_arg1)) (m ((c : Thread nD τ).loc main_arg2)) := by
  unfold weights V
  after_results <;> rfl

/-- The result array, from the arguments. -/
def result (c : Dev nD) : FVec Ideal S16384x4096 .bf16 :=
  linear (m ((c : Thread nD τ).loc main_arg0)) (weights (m ((c : Thread nD τ).loc main_arg1)) (m ((c : Thread nD τ).loc main_arg2)))

theorem final (c : Dev nD) : (dats m 0 c).arrAt 2 cfg0.N = result m c := by
  unfold result
  rw [← V_main_arg0 m c, ← at_v5 m c]
  refine (dats m 0 c).arrAt_eq_of_covers 2 _ (by decide +kernel) fun t hf y => ?_
  blk_simp
  rw [after0_2, out]
  idx_vars y
  have h0 : (((win0_2.blk t).view.emb (ix2 y0 y1)) 0).val = 1024 * (t.val / 4) + y0.val := by blk_simp [idx t]; omega
  have h1 : (((win0_2.blk t).view.emb (ix2 y0 y1)) 1).val = 1024 * (t.val % 4) + y1.val := by blk_simp [idx t]; omega
  rw [pay]
  unfold linear
  refine congrArg₂ dot (funext fun d => ?_) (funext fun d => ?_)
  · exact blk_x m c t y0 d _ h0
  · exact blk_w m c t d y1 _ h1

/-- Column `j` of the weights: the keys' heads in the first 2048, the values' in the rest. -/
theorem weights_apply (u v : FVec Ideal S1x512x16x128 .f32) (d : Fin 512) (j : Fin 4096) :
    weights u v (ix2 d j)
      = (if j.val < 2048 then u else v) (ix4 0 d ⟨j.val % 2048 / 128, by omega⟩ ⟨j.val % 128, by omega⟩) := by
  unfold weights
  pointwise []
  split_ifs with h
  · exact congrArg₂ (fun p q => u (ix4 0 d p q)) (Fin.ext (by dsimp only; omega)) (Fin.ext (by dsimp only))
  · exact congrArg₂ (fun p q => v (ix4 0 d p q)) (Fin.ext (by dsimp only; omega)) (Fin.ext (by dsimp only; omega))
  · exact absurd rfl ‹_›

end Cert.KvKernelIdeal.Value

namespace Cert.KvReferenceIdeal.Value

open Cert.KvReferenceIdeal Cert.KvReferenceIdeal.Gen Idealize.ShloMosaic Idealize.ShloMosaic.TcCoe Idealize.SL.Sem
open Cert.Layers

/-- The latent's prompt rows projected by one of the two weights. -/
def heads (x : FVec Ideal S18432x512 .f32) (w : FVec Ideal S1x512x16x128 .f32) : FVec Ideal S16384x2048 .f32 :=
  shapeCast _ (Host.dotGeneral dot_S4x4096x512_S512x16x128_S4x4096x16x128_2_0_01_12_n_n none (shapeCast _ (extractStridedSlice S16384x512 ![0, 0] x slices_S18432x512_S16384x512_0_0) shapeCasts_S16384x512_S4x4096x512) (shapeCast _ w shapeCasts_S1x512x16x128_S512x16x128)) shapeCasts_S4x4096x16x128_S16384x2048

/-- The reference's result. -/
def result (x : FVec Ideal S18432x512 .f32) (u v : FVec Ideal S1x512x16x128 .f32) : FVec Ideal S16384x4096 .bf16 :=
  truncf .bf16 (concatenate S16384x4096 1 [⟨S16384x2048, heads x u⟩, ⟨S16384x2048, heads x v⟩] concatenates_S16384x2048_S16384x2048_S16384x4096_d1) bitsLt_bf16_f32

theorem heads_apply (x : FVec Ideal S18432x512 .f32) (w : FVec Ideal S1x512x16x128 .f32) (r : Fin 16384) (j : Fin 2048) :
    heads x w (ix2 r j) = dot (fun d => x (ix2 ⟨r.val, by omega⟩ d)) (fun d => w (ix4 0 d ⟨j.val / 128, by omega⟩ ⟨j.val % 128, by omega⟩)) := by
  unfold heads
  refine (shapeCast_apply _ _ (ix2 r j) (ix4 ⟨r.val / 4096, by omega⟩ ⟨r.val % 4096, by omega⟩ ⟨j.val / 128, by omega⟩ ⟨j.val % 128, by omega⟩) ?_).trans ?_
  · rw [Shape.rowMajor_val_two, Shape.rowMajor_val_four]
    show ((r.val / 4096 * 4096 + r.val % 4096) * 16 + j.val / 128) * 128 + j.val % 128 = r.val * 2048 + j.val
    omega
  · pointwise []
    unfold dot
    refine Finset.sum_congr rfl fun d _ => ?_
    refine congrArg₂ (· * ·) (congrArg (fun p => x (ix2 p d)) (Fin.ext ?_)) rfl
    dsimp only

theorem result_apply (x : FVec Ideal S18432x512 .f32) (u v : FVec Ideal S1x512x16x128 .f32) (r : Fin 16384) (j : Fin 4096) :
    result x u v (ix2 r j) = dot (fun d => x (ix2 ⟨r.val, by omega⟩ d))
      (fun d => (if j.val < 2048 then u else v) (ix4 0 d ⟨j.val % 2048 / 128, by omega⟩ ⟨j.val % 128, by omega⟩)) := by
  unfold result
  pointwise []
  split_ifs with h
  · refine (heads_apply x u r _).trans (congrArg₂ dot rfl (funext fun d => ?_))
    exact congrArg₂ (fun p q => u (ix4 0 d p q)) (Fin.ext (by dsimp only; omega)) (Fin.ext (by dsimp only))
  · refine (heads_apply x v r _).trans (congrArg₂ dot rfl (funext fun d => ?_))
    exact congrArg₂ (fun p q => v (ix4 0 d p q)) (Fin.ext (by dsimp only; omega)) (Fin.ext (by dsimp only; omega))
  · exact absurd rfl ‹_›

end Cert.KvReferenceIdeal.Value

namespace Cert.KvKernelIdeal.Value

open Idealize.ShloMosaic Idealize.ShloMosaic.TcCoe Idealize.SL.Sem
open Cert.KvKernelIdeal Cert.KvKernelIdeal.Gen Cert.Layers

variable (m : (ℓ : Loc nD τ sig) → Buf (Elt Ideal) ℓ)

/-- The call's result is the reference's. -/
theorem result_eq (c : Dev nD) : Cert.KvReferenceIdeal.Value.result (m ((c : Thread nD τ).loc main_arg0))
    (m ((c : Thread nD τ).loc main_arg1)) (m ((c : Thread nD τ).loc main_arg2)) = result m c := by
  funext i
  idx_vars i
  refine (Cert.KvReferenceIdeal.Value.result_apply _ _ _ i0 i1).trans ?_
  unfold result linear
  exact congrArg₂ dot rfl (funext fun d => (weights_apply _ _ d i1).symm)

end Cert.KvKernelIdeal.Value

end
-- ==== Proof.KvClaims.lean ====
/- The claims about the prompt's keys and values. -/
module

public import proofs.«01_k».proof.Defs
public import proofs.«01_k».proof.Proof.Gen.KvKernel.Frame
public import proofs.«01_k».proof.Proof.KvResult
public import Idealize.ShloMosaic.Lib.Quiescent

@[expose] public section

set_option maxRecDepth 16384

noncomputable section

namespace Cert.KvClaims

open Idealize.ShloMosaic Idealize.ShloMosaic.TcCoe Idealize.SL.Sem
open Cert.KvKernelIdeal.Gen

theorem frame_kernel : Cert.quiescent_KvKernel := fun m ρ _ => Cert.KvKernel.Gen.frame m ρ
theorem frame_ideal : Cert.quiescent_KvKernelIdeal := fun m ρ _ => Cert.KvKernelIdeal.Gen.frame m ρ
theorem frame_reference : Cert.quiescent_KvReferenceIdeal := fun m ρ _ =>
  (θ_run Cert.KvReferenceIdeal.defs _ _).mono (fun r h => ⟨fun c => (h c).2, sem_eq_zero_of_no_sems (by decide) r.2⟩)
    (Cert.KvReferenceIdeal.Value.run (F := Ideal) m ρ)

theorem preserves : Cert.preserves_KvKernel_KvKernelIdeal := trivial

/-- Both programs end at the same keys and values. -/
theorem algebraic : Cert.algebraic_KvKernelIdeal_KvReferenceIdeal := by
  intro m ρ m' ρ' _ hagree
  refine ⟨fun c => Cert.KvKernelIdeal.Value.result m c, ?_, ?_⟩
  · exact (θ_run Cert.KvKernelIdeal.defs _ _).mono (fun _ h c => ⟨((h.1 c).1 2).trans (Cert.KvKernelIdeal.Value.final m c), h.2 c⟩)
      (θ_run_and (Cert.KvKernelIdeal.Gen.run_main (F := Ideal) m ρ) (Cert.KvKernelIdeal.Gen.unchanged (F := Ideal) m ρ))
  · refine (θ_run Cert.KvReferenceIdeal.defs _ _).mono (fun _ h c => ⟨(h c).1.trans ?_, (h c).2⟩)
      (Cert.KvReferenceIdeal.Value.run (F := Ideal) m' ρ')
    obtain ⟨e0, e1, e2⟩ := hagree c
    rw [e0, e1, e2]
    exact Cert.KvKernelIdeal.Value.result_eq m c

end Cert.KvClaims

end
-- ==== Proof.SampleMath.lean ====
/- The mathematics of a sample's attention, for one token, one head and one output column: multiplying the query by the key
   weight before it meets the latents, and the value weight after the latents are averaged, gives what projecting the
   latents to keys and values first gives, when every number is real. -/
module

public import proofs.«01_k».proof.Proof.Softmax
public import proofs.«01_k».proof.Proof.Layers

@[expose] public section

noncomputable section

namespace Cert.SampleMath

open Idealize.ShloMosaic Cert.Layers

variable {n l d e : ℕ}

/-- The weight of key `k`: two to the score's distance below the maximum. -/
def weight (s : Fin n → EReal) (k : Fin n) : EReal := Ideal.exp2 (s k - Finset.univ.fold max ⊥ s)

/-- The score of key `k` with the query projected onto the latents: `q` the query's unrotated part, `g` its rotated one. -/
def scoreLate (q : Fin d → EReal) (g : Fin e → EReal) (lat : Fin n → Fin l → EReal) (rot : Fin n → Fin e → EReal)
    (wk : Fin d → Fin l → EReal) (k : Fin n) : EReal :=
  dot (fun c => dot q (fun j => wk j c)) (lat k) + dot g (rot k)

/-- The score of key `k` with the latents projected to keys. -/
def scoreEarly (q : Fin d → EReal) (g : Fin e → EReal) (lat : Fin n → Fin l → EReal) (rot : Fin n → Fin e → EReal)
    (wk : Fin d → Fin l → EReal) (k : Fin n) : EReal :=
  dot q (fun j => dot (lat k) (wk j)) + dot (rot k) g

/-- The result with the latents averaged first and the average projected. -/
def late (s : Fin n → EReal) (lat : Fin n → Fin l → EReal) (wv : Fin l → EReal) : EReal :=
  dot (fun c => Ideal.div (dot (weight s) (fun k => lat k c)) (∑ k, weight s k)) wv

/-- The result with the latents projected to values and the values averaged. -/
def early (s : Fin n → EReal) (lat : Fin n → Fin l → EReal) (wv : Fin l → EReal) : EReal :=
  dot (fun k => dot (lat k) wv) (fun k => Ideal.div (weight s k) (∑ k, weight s k))

theorem dot_coe {m : ℕ} (x w : Fin m → ℝ) : dot (fun i => (x i : EReal)) (fun i => (w i : EReal)) = ((∑ i, x i * w i : ℝ) : EReal) := by
  unfold dot
  rw [← Softmax.sum_coe]
  exact Finset.sum_congr rfl fun i _ => (EReal.coe_mul _ _).symm

theorem div_coe (a b : ℝ) (hb : b ≠ 0) : Ideal.div (a : EReal) (b : EReal) = ((a / b : ℝ) : EReal) := by
  have h : ((b : ℝ) : EReal) ≠ 0 := fun h => hb (EReal.coe_eq_zero.1 h)
  simp only [Ideal.div, if_neg h]
  rw [← EReal.coe_inv, ← EReal.coe_mul, div_eq_mul_inv]

/-- The scores of the two orders are one real number. -/
theorem scores (q : Fin d → ℝ) (g : Fin e → ℝ) (lat : Fin n → Fin l → ℝ) (rot : Fin n → Fin e → ℝ) (wk : Fin d → Fin l → ℝ) (k : Fin n) :
    ∃ s : ℝ, scoreLate (fun j => (q j : EReal)) (fun j => (g j : EReal)) (fun k c => (lat k c : EReal)) (fun k j => (rot k j : EReal)) (fun j c => (wk j c : EReal)) k = s
      ∧ scoreEarly (fun j => (q j : EReal)) (fun j => (g j : EReal)) (fun k c => (lat k c : EReal)) (fun k j => (rot k j : EReal)) (fun j c => (wk j c : EReal)) k = s := by
  refine ⟨(∑ c, (∑ j, q j * wk j c) * lat k c) + ∑ j, g j * rot k j, ?_, ?_⟩
  · unfold scoreLate
    simp only [dot_coe]
    rw [← EReal.coe_add]
  · unfold scoreEarly
    simp only [dot_coe]
    rw [← EReal.coe_add]
    refine congrArg _ (congrArg₂ (· + ·) ?_ (Finset.sum_congr rfl fun j _ => mul_comm _ _))
    simp only [Finset.mul_sum, Finset.sum_mul]
    rw [Finset.sum_comm]
    exact Finset.sum_congr rfl fun c _ => Finset.sum_congr rfl fun j _ => by ring

/-- Of real scores the weights are positive real numbers. -/
theorem weights_real (s : Fin n → ℝ) (k0 : Fin n) : ∃ p : Fin n → ℝ, (∀ k, 0 < p k) ∧ ∀ k, weight (fun k => (s k : EReal)) k = p k := by
  have h1 : Finset.univ.fold max ⊥ (fun k => (s k : EReal)) ≠ ⊥ := fun h =>
    absurd (le_bot_iff.1 ((Finset.le_sup (f := fun k => (s k : EReal)) (Finset.mem_univ k0)).trans (le_of_eq h))) (EReal.coe_ne_bot _)
  have h2 : Finset.univ.fold max ⊥ (fun k => (s k : EReal)) ≠ ⊤ := by
    refine ne_of_lt ?_
    rw [Softmax.fold_max_eq_sup]
    exact (Finset.sup_lt_iff (by simp)).2 fun j _ => lt_top_iff_ne_top.2 (EReal.coe_ne_top _)
  obtain ⟨t, ht⟩ : ∃ t : ℝ, Finset.univ.fold max ⊥ (fun k => (s k : EReal)) = t := ⟨_, (EReal.coe_toReal h2 h1).symm⟩
  refine ⟨fun k => Real.rpow 2 (s k - t), fun k => Real.rpow_pos_of_pos (by norm_num) _, fun k => ?_⟩
  unfold weight
  rw [ht, ← EReal.coe_sub, Ideal.exp2_coe]

/-- The two orders give one result, of real scores, latents and weights. -/
theorem late_eq_early (s : Fin n → ℝ) (k0 : Fin n) (lat : Fin n → Fin l → ℝ) (wv : Fin l → ℝ) :
    late (fun k => (s k : EReal)) (fun k c => (lat k c : EReal)) (fun c => (wv c : EReal))
      = early (fun k => (s k : EReal)) (fun k c => (lat k c : EReal)) (fun c => (wv c : EReal)) := by
  obtain ⟨p, hp, hw⟩ := weights_real s k0
  have hf : weight (fun k => (s k : EReal)) = fun k => (p k : EReal) := funext hw
  have hpos : 0 < ∑ k, p k := Finset.sum_pos (fun k _ => hp k) ⟨k0, Finset.mem_univ _⟩
  unfold late early
  rw [hf]
  simp only [Softmax.sum_coe, dot_coe, div_coe _ _ hpos.ne']
  refine congrArg _ ?_
  simp only [Finset.sum_div, Finset.sum_mul]
  rw [Finset.sum_comm]
  exact Finset.sum_congr rfl fun k _ => Finset.sum_congr rfl fun c _ => by ring

/-- The two orders give one result, of arrays without infinities. -/
theorem orders (q : Fin d → EReal) (g : Fin e → EReal) (lat : Fin n → Fin l → EReal) (rot : Fin n → Fin e → EReal)
    (wk : Fin d → Fin l → EReal) (wv : Fin l → EReal) (k0 : Fin n)
    (hq : ∀ j, q j ≠ ⊥ ∧ q j ≠ ⊤) (hg : ∀ j, g j ≠ ⊥ ∧ g j ≠ ⊤) (hl : ∀ k c, lat k c ≠ ⊥ ∧ lat k c ≠ ⊤)
    (hr : ∀ k j, rot k j ≠ ⊥ ∧ rot k j ≠ ⊤) (hk : ∀ j c, wk j c ≠ ⊥ ∧ wk j c ≠ ⊤) (hv : ∀ c, wv c ≠ ⊥ ∧ wv c ≠ ⊤) :
    late (scoreLate q g lat rot wk) lat wv = early (scoreEarly q g lat rot wk) lat wv := by
  obtain ⟨q, rfl⟩ : ∃ q' : Fin d → ℝ, q = fun j => (q' j : EReal) := ⟨_, funext fun j => (EReal.coe_toReal (hq j).2 (hq j).1).symm⟩
  obtain ⟨g, rfl⟩ : ∃ g' : Fin e → ℝ, g = fun j => (g' j : EReal) := ⟨_, funext fun j => (EReal.coe_toReal (hg j).2 (hg j).1).symm⟩
  obtain ⟨lat, rfl⟩ : ∃ l' : Fin n → Fin l → ℝ, lat = fun k c => (l' k c : EReal) :=
    ⟨_, funext fun k => funext fun c => (EReal.coe_toReal (hl k c).2 (hl k c).1).symm⟩
  obtain ⟨rot, rfl⟩ : ∃ r' : Fin n → Fin e → ℝ, rot = fun k c => (r' k c : EReal) :=
    ⟨_, funext fun k => funext fun c => (EReal.coe_toReal (hr k c).2 (hr k c).1).symm⟩
  obtain ⟨wk, rfl⟩ : ∃ w' : Fin d → Fin l → ℝ, wk = fun k c => (w' k c : EReal) :=
    ⟨_, funext fun k => funext fun c => (EReal.coe_toReal (hk k c).2 (hk k c).1).symm⟩
  obtain ⟨wv, rfl⟩ : ∃ w' : Fin l → ℝ, wv = fun c => (w' c : EReal) := ⟨_, funext fun c => (EReal.coe_toReal (hv c).2 (hv c).1).symm⟩
  choose s hs1 hs2 using scores q g lat rot wk
  rw [show scoreLate _ _ _ _ _ = fun k => (s k : EReal) from funext hs1, show scoreEarly _ _ _ _ _ = fun k => (s k : EReal) from funext hs2]
  exact late_eq_early s k0 lat wv

end Cert.SampleMath

end
-- ==== Proof.SamplePayload.lean ====
/- What the sample's attention computes in one block, from the block's arrays: each head's query projected onto the
   latents beside its rotated part, the averaged latents of all heads, and each head's columns of the result. -/
module

public import proofs.«01_k».proof.Proof.Gen.SampleKernelIdeal.Frame
public import proofs.«01_k».proof.Proof.SampleMath
public import Idealize.ShloMosaic.Lib.Pipeline.ValueKit
public import Idealize.ShloMosaic.Lib.Pointwise

@[expose] public section

set_option maxRecDepth 16384

noncomputable section

namespace Cert.SampleKernelIdeal.Value

open Idealize.ShloMosaic Idealize.ShloMosaic.TcCoe Idealize.SL.Sem
open Cert.SampleKernelIdeal Cert.SampleKernelIdeal.Gen Cert.Layers Cert.SampleMath

abbrev Queries := Vec Ideal S64x4096 .bf16
abbrev KeyWeights := Vec Ideal S16x128x512 .bf16
abbrev ValueWeights := Vec Ideal S16x512x128 .bf16

/-- Head `h` of the queries: projected onto the 512 latents, then the rotated part. -/
def headQ (x0 : Queries) (x5 : KeyWeights) (h : Fin 16) : FVec Ideal S64x640 .bf16 := fun i =>
  if hc : (i 1).val < 512 then
    dot (fun d : Fin 128 => x0 (ix2 (i 0) ⟨256 * h.val + d.val, by omega⟩)) (fun d => x5 (ix3 h d ⟨(i 1).val, hc⟩))
  else x0 (ix2 (i 0) ⟨256 * h.val + 128 + ((i 1).val - 512), by have : (i 1).val < 640 := (i 1).isLt; omega⟩)

/-- Head `h` of the result, from the averaged latents. -/
def headO (y : FVec Ideal S1024x512 .bf16) (x6 : ValueWeights) (h : Fin 16) : FVec Ideal S64x128 .f32 := fun i =>
  dot (fun c : Fin 512 => y (ix2 ⟨64 * h.val + (i 0).val, by have : (i 0).val < 64 := (i 0).isLt; omega⟩ c)) (fun c => x6 (ix3 h c (i 1)))

/-! The heads' queries. -/

theorem query0 (x0 : Queries) (x5 : KeyWeights) (hs) : k0_pay3 (F := Ideal) x0 (extractStridedSlice S1x128x512 ![0, 0, 0] x5 hs) = headQ x0 x5 0 := by
  funext i
  idx_vars i
  pointwise [k0_pay3]
  rfl

theorem query1 (x0 : Queries) (x5 : KeyWeights) (hs) : k0_pay4 (F := Ideal) x0 (extractStridedSlice S1x128x512 ![1, 0, 0] x5 hs) = headQ x0 x5 1 := by
  funext i
  idx_vars i
  pointwise [k0_pay4]
  rfl

theorem query2 (x0 : Queries) (x5 : KeyWeights) (hs) : k0_pay5 (F := Ideal) x0 (extractStridedSlice S1x128x512 ![2, 0, 0] x5 hs) = headQ x0 x5 2 := by
  funext i
  idx_vars i
  pointwise [k0_pay5]
  rfl

theorem query3 (x0 : Queries) (x5 : KeyWeights) (hs) : k0_pay6 (F := Ideal) x0 (extractStridedSlice S1x128x512 ![3, 0, 0] x5 hs) = headQ x0 x5 3 := by
  funext i
  idx_vars i
  pointwise [k0_pay6]
  rfl

theorem query4 (x0 : Queries) (x5 : KeyWeights) (hs) : k0_pay7 (F := Ideal) x0 (extractStridedSlice S1x128x512 ![4, 0, 0] x5 hs) = headQ x0 x5 4 := by
  funext i
  idx_vars i
  pointwise [k0_pay7]
  rfl

theorem query5 (x0 : Queries) (x5 : KeyWeights) (hs) : k0_pay8 (F := Ideal) x0 (extractStridedSlice S1x128x512 ![5, 0, 0] x5 hs) = headQ x0 x5 5 := by
  funext i
  idx_vars i
  pointwise [k0_pay8]
  rfl

theorem query6 (x0 : Queries) (x5 : KeyWeights) (hs) : k0_pay9 (F := Ideal) x0 (extractStridedSlice S1x128x512 ![6, 0, 0] x5 hs) = headQ x0 x5 6 := by
  funext i
  idx_vars i
  pointwise [k0_pay9]
  rfl

theorem query7 (x0 : Queries) (x5 : KeyWeights) (hs) : k0_pay10 (F := Ideal) x0 (extractStridedSlice S1x128x512 ![7, 0, 0] x5 hs) = headQ x0 x5 7 := by
  funext i
  idx_vars i
  pointwise [k0_pay10]
  rfl

theorem query9 (x0 : Queries) (x5 : KeyWeights) (hs) : k0_pay14 (F := Ideal) x0 (extractStridedSlice S1x128x512 ![9, 0, 0] x5 hs) = headQ x0 x5 9 := by
  funext i
  idx_vars i
  pointwise [k0_pay14]
  rfl

theorem query10 (x0 : Queries) (x5 : KeyWeights) (hs) : k0_pay15 (F := Ideal) x0 (extractStridedSlice S1x128x512 ![10, 0, 0] x5 hs) = headQ x0 x5 10 := by
  funext i
  idx_vars i
  pointwise [k0_pay15]
  rfl

theorem query11 (x0 : Queries) (x5 : KeyWeights) (hs) : k0_pay16 (F := Ideal) x0 (extractStridedSlice S1x128x512 ![11, 0, 0] x5 hs) = headQ x0 x5 11 := by
  funext i
  idx_vars i
  pointwise [k0_pay16]
  rfl

theorem query12 (x0 : Queries) (x5 : KeyWeights) (hs) : k0_pay17 (F := Ideal) x0 (extractStridedSlice S1x128x512 ![12, 0, 0] x5 hs) = headQ x0 x5 12 := by
  funext i
  idx_vars i
  pointwise [k0_pay17]
  rfl

theorem query8 (x0 : Queries) (x5 : KeyWeights) (hs) :
    k0_pay13 (F := Ideal) (k0_pay11 x0) (k0_pay12 x0) (extractStridedSlice S1x128x512 ![8, 0, 0] x5 hs) = headQ x0 x5 8 := by
  funext i
  idx_vars i
  pointwise [k0_pay13, k0_pay11, k0_pay12]
  rfl

theorem query13 (x0 : Queries) (x5 : KeyWeights) (hs) :
    concatenate S64x640 1 [⟨S64x512, k0_pay19 (F := Ideal) x0 (extractStridedSlice S1x128x512 ![13, 0, 0] x5 hs)⟩, ⟨S64x128, k0_pay18 (F := Ideal) x0⟩]
      concatenates_S64x512_S64x128_S64x640_d1 = headQ x0 x5 13 := by
  funext i
  idx_vars i
  pointwise [k0_pay18, k0_pay19]
  rfl

/-- A head computed with the stack of all of them, as the last two are. -/
def lastQ (x0 : Queries) (w : Vec Ideal S1x128x512 .bf16) (o1 o2 : Fin 2 → ℕ) (h1 : S64x4096.Slices o1 S64x128) (h2 : S64x4096.Slices o2 S64x128) : FVec Ideal S64x640 .bf16 :=
  concatenate S64x640 1
    [⟨S64x512, truncf .bf16 (matmul (φ₁ := .bf16) (φ₂ := .bf16) dot_S64x128_S128x512_S64x512_1_0_0_1_n_n none (extractStridedSlice S64x128 o1 x0 h1)
        (shapeCast S128x512 w shapeCasts_S1x128x512_S128x512) (constant (F := Ideal) S64x512 .f32 0x00000000#32)) bitsLt_bf16_f32⟩,
     ⟨S64x128, extractStridedSlice S64x128 o2 x0 h2⟩] concatenates_S64x512_S64x128_S64x640_d1

theorem query14 (x0 : Queries) (x5 : KeyWeights) (hs) :
    lastQ x0 (extractStridedSlice S1x128x512 ![14, 0, 0] x5 hs) ![0, 3584] ![0, 3712] slices_S64x4096_o0_3584_S64x128 slices_S64x4096_o0_3712_S64x128 = headQ x0 x5 14 := by
  funext i
  idx_vars i
  pointwise [lastQ]
  rfl

theorem query15 (x0 : Queries) (x5 : KeyWeights) (hs) :
    lastQ x0 (extractStridedSlice S1x128x512 ![15, 0, 0] x5 hs) ![0, 3840] ![0, 3968] slices_S64x4096_o0_3840_S64x128 slices_S64x4096_o0_3968_S64x128 = headQ x0 x5 15 := by
  funext i
  idx_vars i
  pointwise [lastQ]
  rfl

/-! The heads' results. -/

theorem value3 (y : FVec Ideal S1024x512 .bf16) (x6 : ValueWeights) (hs) : k0_pay25 (F := Ideal) y (extractStridedSlice S1x512x128 ![3, 0, 0] x6 hs) = headO y x6 3 := by
  funext i
  idx_vars i
  pointwise [k0_pay25]
  rfl

theorem value4 (y : FVec Ideal S1024x512 .bf16) (x6 : ValueWeights) (hs) : k0_pay26 (F := Ideal) y (extractStridedSlice S1x512x128 ![4, 0, 0] x6 hs) = headO y x6 4 := by
  funext i
  idx_vars i
  pointwise [k0_pay26]
  rfl

theorem value5 (y : FVec Ideal S1024x512 .bf16) (x6 : ValueWeights) (hs) : k0_pay27 (F := Ideal) y (extractStridedSlice S1x512x128 ![5, 0, 0] x6 hs) = headO y x6 5 := by
  funext i
  idx_vars i
  pointwise [k0_pay27]
  rfl

theorem value6 (y : FVec Ideal S1024x512 .bf16) (x6 : ValueWeights) (hs) : k0_pay28 (F := Ideal) y (extractStridedSlice S1x512x128 ![6, 0, 0] x6 hs) = headO y x6 6 := by
  funext i
  idx_vars i
  pointwise [k0_pay28]
  rfl

theorem value7 (y : FVec Ideal S1024x512 .bf16) (x6 : ValueWeights) (hs) : k0_pay29 (F := Ideal) y (extractStridedSlice S1x512x128 ![7, 0, 0] x6 hs) = headO y x6 7 := by
  funext i
  idx_vars i
  pointwise [k0_pay29]
  rfl

theorem value8 (y : FVec Ideal S1024x512 .bf16) (x6 : ValueWeights) (hs) : k0_pay30 (F := Ideal) y (extractStridedSlice S1x512x128 ![8, 0, 0] x6 hs) = headO y x6 8 := by
  funext i
  idx_vars i
  pointwise [k0_pay30]
  rfl

theorem value10 (y : FVec Ideal S1024x512 .bf16) (x6 : ValueWeights) (hs) : k0_pay33 (F := Ideal) y (extractStridedSlice S1x512x128 ![10, 0, 0] x6 hs) = headO y x6 10 := by
  funext i
  idx_vars i
  pointwise [k0_pay33]
  rfl

theorem value11 (y : FVec Ideal S1024x512 .bf16) (x6 : ValueWeights) (hs) : k0_pay34 (F := Ideal) y (extractStridedSlice S1x512x128 ![11, 0, 0] x6 hs) = headO y x6 11 := by
  funext i
  idx_vars i
  pointwise [k0_pay34]
  rfl

theorem value12 (y : FVec Ideal S1024x512 .bf16) (x6 : ValueWeights) (hs) : k0_pay35 (F := Ideal) y (extractStridedSlice S1x512x128 ![12, 0, 0] x6 hs) = headO y x6 12 := by
  funext i
  idx_vars i
  pointwise [k0_pay35]
  rfl

theorem value13 (y : FVec Ideal S1024x512 .bf16) (x6 : ValueWeights) (hs) : k0_pay36 (F := Ideal) y (extractStridedSlice S1x512x128 ![13, 0, 0] x6 hs) = headO y x6 13 := by
  funext i
  idx_vars i
  pointwise [k0_pay36]
  rfl

theorem value14 (y : FVec Ideal S1024x512 .bf16) (x6 : ValueWeights) (hs) : k0_pay37 (F := Ideal) y (extractStridedSlice S1x512x128 ![14, 0, 0] x6 hs) = headO y x6 14 := by
  funext i
  idx_vars i
  pointwise [k0_pay37]
  rfl

theorem value15 (y : FVec Ideal S1024x512 .bf16) (x6 : ValueWeights) (hs) : k0_pay38 (F := Ideal) y (extractStridedSlice S1x512x128 ![15, 0, 0] x6 hs) = headO y x6 15 := by
  funext i
  idx_vars i
  pointwise [k0_pay38]
  rfl

/-- A head of the result from the averaged latents, as the first three and the tenth are computed. -/
def takeO (y : FVec Ideal S1024x512 .bf16) (w : Vec Ideal S1x512x128 .bf16) (o : Fin 2 → ℕ) (h : S1024x512.Slices o S64x512) : FVec Ideal S64x128 .f32 :=
  matmul (φ₁ := .bf16) (φ₂ := .bf16) dot_S64x512_S512x128_S64x128_1_0_0_1_n_n none (extractStridedSlice S64x512 o y h) (shapeCast S512x128 w shapeCasts_S1x512x128_S512x128)
    (constant (F := Ideal) S64x128 .f32 0x00000000#32)

theorem take0 (y : FVec Ideal S1024x512 .bf16) (x6 : ValueWeights) (hs) :
    takeO y (extractStridedSlice S1x512x128 ![0, 0, 0] x6 hs) ![0, 0] slices_S1024x512_o0_0_S64x512 = headO y x6 0 := by
  funext i
  idx_vars i
  pointwise [takeO]
  exact Finset.sum_congr rfl fun c _ => congrArg₂ (· * ·) (congrArg (fun p => y (ix2 p c)) (Fin.ext (by show i0.val = 64 * 0 + i0.val; omega))) rfl

theorem take1 (y : FVec Ideal S1024x512 .bf16) (x6 : ValueWeights) (hs) :
    takeO y (extractStridedSlice S1x512x128 ![1, 0, 0] x6 hs) ![64, 0] slices_S1024x512_o64_0_S64x512 = headO y x6 1 := by
  funext i
  idx_vars i
  pointwise [takeO]
  rfl

theorem take2 (y : FVec Ideal S1024x512 .bf16) (x6 : ValueWeights) (hs) :
    takeO y (extractStridedSlice S1x512x128 ![2, 0, 0] x6 hs) ![128, 0] slices_S1024x512_o128_0_S64x512 = headO y x6 2 := by
  funext i
  idx_vars i
  pointwise [takeO]
  rfl

theorem take9 (y : FVec Ideal S1024x512 .bf16) (x6 : ValueWeights) (hs) :
    takeO y (extractStridedSlice S1x512x128 ![9, 0, 0] x6 hs) ![576, 0] slices_S1024x512_o576_0_S64x512 = headO y x6 9 := by
  funext i
  idx_vars i
  pointwise [takeO]
  rfl

variable (x0 : Queries) (x5 : KeyWeights) (x6 : ValueWeights) (lat : FVec Ideal S1088x512 .bf16) (kext : FVec Ideal S1088x640 .bf16)
  (q0 q1 q2 q3 q4 q5 q6 q7 q8 q9 q10 q11 q12 : FVec Ideal S64x640 .bf16) (q13r : FVec Ideal S64x128 .bf16) (q13 : FVec Ideal S64x512 .bf16) (w14 w15 : Vec Ideal S1x128x512 .bf16)

theorem value0 (w : Vec Ideal S1x512x128 .bf16) : k0_pay21 (F := Ideal) x0 lat kext q0 q1 q2 q3 q4 q5 q6 q7 q8 q9 q10 q11 q12 q13r q13 w14 w15 w
    = takeO (k0_pay20 x0 lat kext q0 q1 q2 q3 q4 q5 q6 q7 q8 q9 q10 q11 q12 q13r q13 w14 w15) w ![0, 0] slices_S1024x512_o0_0_S64x512 := by
  unfold k0_pay21 takeO; rfl

theorem value1 (w : Vec Ideal S1x512x128 .bf16) : k0_pay22 (F := Ideal) x0 lat kext q0 q1 q2 q3 q4 q5 q6 q7 q8 q9 q10 q11 q12 q13r q13 w14 w15 w
    = takeO (k0_pay20 x0 lat kext q0 q1 q2 q3 q4 q5 q6 q7 q8 q9 q10 q11 q12 q13r q13 w14 w15) w ![64, 0] slices_S1024x512_o64_0_S64x512 := by
  unfold k0_pay22 takeO; rfl

theorem value2 (w : Vec Ideal S1x512x128 .bf16) : k0_pay24 (F := Ideal) (k0_pay23 x0 lat kext q0 q1 q2 q3 q4 q5 q6 q7 q8 q9 q10 q11 q12 q13r q13 w14 w15) w
    = takeO (k0_pay20 x0 lat kext q0 q1 q2 q3 q4 q5 q6 q7 q8 q9 q10 q11 q12 q13r q13 w14 w15) w ![128, 0] slices_S1024x512_o128_0_S64x512 := by
  unfold k0_pay24 k0_pay23 takeO; rfl

theorem value9 (y : FVec Ideal S1024x512 .bf16) (w : Vec Ideal S1x512x128 .bf16) :
    matmul (φ₁ := .bf16) (φ₂ := .bf16) dot_S64x512_S512x128_S64x128_1_0_0_1_n_n none (k0_pay31 (F := Ideal) y) (k0_pay32 (F := Ideal) w) (constant (F := Ideal) S64x128 .f32 0x00000000#32)
      = takeO y w ![576, 0] slices_S1024x512_o576_0_S64x512 := by
  unfold k0_pay31 k0_pay32 takeO; rfl

/-! All heads together. -/

theorem stack_rows (p : Fin 16 → FVec Ideal S64x640 .bf16) (h) (r : Fin 1024) (c : Fin 640) :
    concatenate S1024x640 0 [⟨S64x640, p 0⟩, ⟨S64x640, p 1⟩, ⟨S64x640, p 2⟩, ⟨S64x640, p 3⟩, ⟨S64x640, p 4⟩, ⟨S64x640, p 5⟩, ⟨S64x640, p 6⟩, ⟨S64x640, p 7⟩, ⟨S64x640, p 8⟩, ⟨S64x640, p 9⟩, ⟨S64x640, p 10⟩, ⟨S64x640, p 11⟩, ⟨S64x640, p 12⟩, ⟨S64x640, p 13⟩, ⟨S64x640, p 14⟩, ⟨S64x640, p 15⟩] h (ix2 r c)
      = p ⟨r.val / 64, by omega⟩ (ix2 ⟨r.val % 64, by omega⟩ c) :=
  concatenate_ofFn_apply (t := S1024x640) (s₁ := S64x640) 0 p h rfl 64 rfl (ix2 r c) ⟨r.val / 64, by omega⟩ rfl _ rfl
    (fun b hb => by fin_cases b; exacts [absurd rfl hb, rfl])

theorem stack_columns (p : Fin 16 → FVec Ideal S64x128 .f32) (h) (r : Fin 64) (j : Fin 2048) :
    concatenate S64x2048 1 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩] h (ix2 r j)
      = p ⟨j.val / 128, by omega⟩ (ix2 r ⟨j.val % 128, by omega⟩) :=
  concatenate_ofFn_apply (t := S64x2048) (s₁ := S64x128) 1 p h rfl 128 rfl (ix2 r j) ⟨j.val / 128, by omega⟩ rfl _ rfl
    (fun b hb => by fin_cases b; exacts [rfl, absurd rfl hb])

end Cert.SampleKernelIdeal.Value

end
-- ==== Proof.SampleBlock.lean ====
/- One block of the sample's attention: what a grid step stores is, at every token, head and column, the attention with the
   query projected onto the latents. -/
module

public import proofs.«01_k».proof.Proof.SamplePayload

@[expose] public section

set_option maxRecDepth 16384

noncomputable section

namespace Cert.SampleKernelIdeal.Value

open Idealize.ShloMosaic Idealize.ShloMosaic.TcCoe Idealize.SL.Sem
open Cert.SampleKernelIdeal Cert.SampleKernelIdeal.Gen Cert.Layers Cert.SampleMath

theorem zero2 : (![0, 0] : Fin 2 → ℕ) = fun _ => 0 := funext fun a => by fin_cases a <;> rfl
theorem zero3 : (![0, 0, 0] : Fin 3 → ℕ) = fun _ => 0 := funext fun a => by fin_cases a <;> rfl

/-- One head of each of the two weights. -/
def keyHead (x5 : KeyWeights) (off : Fin 3 → ℕ) (h : S16x128x512.Slices off S1x128x512) : Vec Ideal S1x128x512 .bf16 := extractStridedSlice S1x128x512 off x5 h
def valueHead (x6 : ValueWeights) (off : Fin 3 → ℕ) (h : S16x512x128.Slices off S1x512x128) : Vec Ideal S1x512x128 .bf16 := extractStridedSlice S1x512x128 off x6 h

theorem load_key (x : Vec Ideal S16x128x512 .bf16) (off : Fin 3 → ℕ) (inb) :
    View.ld (Val := Elt Ideal) (S := S16x128x512) (e' := EltTy.bf16) x (Rect.unit (s := S16x128x512) off ![1, 128, 512] inb) = keyHead x off ⟨rfl, inb⟩ :=
  View.ld_unit _ _ _ _
theorem load_value (x : Vec Ideal S16x512x128 .bf16) (off : Fin 3 → ℕ) (inb) :
    View.ld (Val := Elt Ideal) (S := S16x512x128) (e' := EltTy.bf16) x (Rect.unit (s := S16x512x128) off ![1, 512, 128] inb) = valueHead x off ⟨rfl, inb⟩ :=
  View.ld_unit _ _ _ _

/-- The store of the whole block leaves what it stores. -/
theorem stored (P : Vec Ideal S64x2048 .bf16) :
    View.read (Elt Ideal) VO0_7 (VO0_7.writes (Elt Ideal) VO0_7.junk [⟨Rect.unit (s := S64x2048) ![0, 0] ![64, 2048] inb_S64x2048_S64x2048_0_0, P⟩]) = P := by
  refine (View.read_writes_eq_canon VO0_7 _ _ fun y => ?_).trans (View.canon_unit_zero zero2 _ P)
  exact View.cover_of_tiled [⟨Rect.unit (s := S64x2048) ![0, 0] ![64, 2048] inb_S64x2048_S64x2048_0_0, P⟩] S64x2048.size (by rfl) y

/-- The softmax of all heads' stacked queries against the keys, averaging the latents. -/
def attend (q : FVec Ideal S1024x640 .bf16) (lat : FVec Ideal S1088x512 .bf16) (kext : FVec Ideal S1088x640 .bf16) : FVec Ideal S1024x512 .bf16 :=
  have s : FVec Ideal S1024x1088 .f32 := matmul dot_S1024x640_S1088x640_S1024x1088_1_1_0_0_n_n none q kext (constant S1024x1088 .f32 0x00000000#32)
  have top : FVec Ideal S1024 .f32 := multiReduction .maximumf [1] S1024 s 0xFF800000#32 reduces_S1024x1088_S1024 (.inl rfl) rfl
  have p : FVec Ideal S1024x1088 .f32 := exp2 (subf s (broadcastTo S1024x1088 (shapeCast S1024x1 top shapeCasts_S1024_S1024x1) broadcasts_S1024x1_S1024x1088))
  have mass : FVec Ideal S1024 .f32 := multiReduction .add [1] S1024 p 0x00000000#32 reduces_S1024x1088_S1024 (.inl rfl) rfl
  truncf .bf16 (divf (matmul (φ₁ := .bf16) (φ₂ := .bf16) dot_S1024x1088_S1088x512_S1024x512_1_0_0_1_n_n none (truncf .bf16 p bitsLt_bf16_f32) lat (constant S1024x512 .f32 0x00000000#32))
    (broadcastTo S1024x512 (shapeCast S1024x1 mass shapeCasts_S1024_S1024x1) broadcasts_S1024x1_S1024x512)) bitsLt_bf16_f32

def stackQ (p : Fin 16 → FVec Ideal S64x640 .bf16) : FVec Ideal S1024x640 .bf16 :=
  concatenate S1024x640 0 [⟨S64x640, p 0⟩, ⟨S64x640, p 1⟩, ⟨S64x640, p 2⟩, ⟨S64x640, p 3⟩, ⟨S64x640, p 4⟩, ⟨S64x640, p 5⟩, ⟨S64x640, p 6⟩, ⟨S64x640, p 7⟩, ⟨S64x640, p 8⟩, ⟨S64x640, p 9⟩, ⟨S64x640, p 10⟩, ⟨S64x640, p 11⟩, ⟨S64x640, p 12⟩, ⟨S64x640, p 13⟩, ⟨S64x640, p 14⟩, ⟨S64x640, p 15⟩]
    concatenates_S64x640_S64x640_S64x640_S64x640_S64x640_S64x640_S64x640_S64x640_S64x640_S64x640_S64x640_S64x640_S64x640_S64x640_S64x640_S64x640_S1024x640_d0

def stackO (p : Fin 16 → FVec Ideal S64x128 .f32) : FVec Ideal S64x2048 .bf16 :=
  truncf .bf16 (concatenate S64x2048 1 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩]
    concatenates_S64x128_S64x128_S64x128_S64x128_S64x128_S64x128_S64x128_S64x128_S64x128_S64x128_S64x128_S64x128_S64x128_S64x128_S64x128_S64x128_S64x2048_d1) bitsLt_bf16_f32

theorem stacked (x0 : Queries) (lat : FVec Ideal S1088x512 .bf16) (kext : FVec Ideal S1088x640 .bf16)
    (q0 q1 q2 q3 q4 q5 q6 q7 q8 q9 q10 q11 q12 : FVec Ideal S64x640 .bf16) (q13r : FVec Ideal S64x128 .bf16) (q13 : FVec Ideal S64x512 .bf16) (w14 w15 : Vec Ideal S1x128x512 .bf16) :
    k0_pay20 (F := Ideal) x0 lat kext q0 q1 q2 q3 q4 q5 q6 q7 q8 q9 q10 q11 q12 q13r q13 w14 w15
      = attend (concatenate S1024x640 0 [⟨S64x640, q0⟩, ⟨S64x640, q1⟩, ⟨S64x640, q2⟩, ⟨S64x640, q3⟩, ⟨S64x640, q4⟩, ⟨S64x640, q5⟩, ⟨S64x640, q6⟩, ⟨S64x640, q7⟩, ⟨S64x640, q8⟩, ⟨S64x640, q9⟩, ⟨S64x640, q10⟩, ⟨S64x640, q11⟩, ⟨S64x640, q12⟩,
          ⟨S64x640, concatenate S64x640 1 [⟨S64x512, q13⟩, ⟨S64x128, q13r⟩] concatenates_S64x512_S64x128_S64x640_d1⟩,
          ⟨S64x640, lastQ x0 w14 ![0, 3584] ![0, 3712] slices_S64x4096_o0_3584_S64x128 slices_S64x4096_o0_3712_S64x128⟩,
          ⟨S64x640, lastQ x0 w15 ![0, 3840] ![0, 3968] slices_S64x4096_o0_3840_S64x128 slices_S64x4096_o0_3968_S64x128⟩]
        concatenates_S64x640_S64x640_S64x640_S64x640_S64x640_S64x640_S64x640_S64x640_S64x640_S64x640_S64x640_S64x640_S64x640_S64x640_S64x640_S64x640_S1024x640_d0) lat kext := by
  unfold k0_pay20 attend lastQ
  rfl

section

variable (x0 : Queries) (x1 : Vec Ideal S64x512 .f32) (x2 : Vec Ideal S64x128 .f32) (x3 : Vec Ideal S1x1024x512 .f32)
  (x4 : Vec Ideal S1x1024x128 .f32) (x5 : KeyWeights) (x6 : ValueWeights)

/-- The averaged latents of all heads. -/
def averaged : FVec Ideal S1024x512 .bf16 := attend (stackQ (headQ x0 x5)) (k0_pay1 x3 x1) (k0_pay2 x3 x1 x4 x2)

/-- The same as the step computes it. -/
def stackedMean : FVec Ideal S1024x512 .bf16 :=
  k0_pay20 (F := Ideal) x0 (k0_pay1 x3 x1) (k0_pay2 x3 x1 x4 x2)
    (k0_pay3 x0 (keyHead x5 ![0, 0, 0] (by decide))) (k0_pay4 x0 (keyHead x5 ![1, 0, 0] (by decide))) (k0_pay5 x0 (keyHead x5 ![2, 0, 0] (by decide))) (k0_pay6 x0 (keyHead x5 ![3, 0, 0] (by decide))) (k0_pay7 x0 (keyHead x5 ![4, 0, 0] (by decide))) (k0_pay8 x0 (keyHead x5 ![5, 0, 0] (by decide))) (k0_pay9 x0 (keyHead x5 ![6, 0, 0] (by decide))) (k0_pay10 x0 (keyHead x5 ![7, 0, 0] (by decide))) (k0_pay13 (k0_pay11 x0) (k0_pay12 x0) (keyHead x5 ![8, 0, 0] (by decide))) (k0_pay14 x0 (keyHead x5 ![9, 0, 0] (by decide))) (k0_pay15 x0 (keyHead x5 ![10, 0, 0] (by decide))) (k0_pay16 x0 (keyHead x5 ![11, 0, 0] (by decide))) (k0_pay17 x0 (keyHead x5 ![12, 0, 0] (by decide)))
    (k0_pay18 x0) (k0_pay19 x0 (keyHead x5 ![13, 0, 0] (by decide))) (keyHead x5 ![14, 0, 0] (by decide)) (keyHead x5 ![15, 0, 0] (by decide))

theorem averaged_eq : stackedMean x0 x1 x2 x3 x4 x5 = averaged x0 x1 x2 x3 x4 x5 := by
  unfold stackedMean
  rw [stacked]
  unfold averaged stackQ keyHead
  rw [query0, query1, query2, query3, query4, query5, query6, query7, query8, query9, query10, query11, query12, query13, query14, query15]

/-- What the step stores, from the blocks it loads. -/
def block : Vec Ideal S64x2048 .bf16 := k0_pay39
    (k0_pay21 x0 (k0_pay1 x3 x1) (k0_pay2 x3 x1 x4 x2)
    (k0_pay3 x0 (keyHead x5 ![0, 0, 0] (by decide))) (k0_pay4 x0 (keyHead x5 ![1, 0, 0] (by decide))) (k0_pay5 x0 (keyHead x5 ![2, 0, 0] (by decide))) (k0_pay6 x0 (keyHead x5 ![3, 0, 0] (by decide))) (k0_pay7 x0 (keyHead x5 ![4, 0, 0] (by decide))) (k0_pay8 x0 (keyHead x5 ![5, 0, 0] (by decide))) (k0_pay9 x0 (keyHead x5 ![6, 0, 0] (by decide))) (k0_pay10 x0 (keyHead x5 ![7, 0, 0] (by decide))) (k0_pay13 (k0_pay11 x0) (k0_pay12 x0) (keyHead x5 ![8, 0, 0] (by decide))) (k0_pay14 x0 (keyHead x5 ![9, 0, 0] (by decide))) (k0_pay15 x0 (keyHead x5 ![10, 0, 0] (by decide))) (k0_pay16 x0 (keyHead x5 ![11, 0, 0] (by decide))) (k0_pay17 x0 (keyHead x5 ![12, 0, 0] (by decide)))
    (k0_pay18 x0) (k0_pay19 x0 (keyHead x5 ![13, 0, 0] (by decide))) (keyHead x5 ![14, 0, 0] (by decide)) (keyHead x5 ![15, 0, 0] (by decide)) (valueHead x6 ![0, 0, 0] (by decide)))
  (k0_pay22 x0 (k0_pay1 x3 x1) (k0_pay2 x3 x1 x4 x2)
    (k0_pay3 x0 (keyHead x5 ![0, 0, 0] (by decide))) (k0_pay4 x0 (keyHead x5 ![1, 0, 0] (by decide))) (k0_pay5 x0 (keyHead x5 ![2, 0, 0] (by decide))) (k0_pay6 x0 (keyHead x5 ![3, 0, 0] (by decide))) (k0_pay7 x0 (keyHead x5 ![4, 0, 0] (by decide))) (k0_pay8 x0 (keyHead x5 ![5, 0, 0] (by decide))) (k0_pay9 x0 (keyHead x5 ![6, 0, 0] (by decide))) (k0_pay10 x0 (keyHead x5 ![7, 0, 0] (by decide))) (k0_pay13 (k0_pay11 x0) (k0_pay12 x0) (keyHead x5 ![8, 0, 0] (by decide))) (k0_pay14 x0 (keyHead x5 ![9, 0, 0] (by decide))) (k0_pay15 x0 (keyHead x5 ![10, 0, 0] (by decide))) (k0_pay16 x0 (keyHead x5 ![11, 0, 0] (by decide))) (k0_pay17 x0 (keyHead x5 ![12, 0, 0] (by decide)))
    (k0_pay18 x0) (k0_pay19 x0 (keyHead x5 ![13, 0, 0] (by decide))) (keyHead x5 ![14, 0, 0] (by decide)) (keyHead x5 ![15, 0, 0] (by decide)) (valueHead x6 ![1, 0, 0] (by decide)))
  (k0_pay24 (k0_pay23 x0 (k0_pay1 x3 x1) (k0_pay2 x3 x1 x4 x2)
    (k0_pay3 x0 (keyHead x5 ![0, 0, 0] (by decide))) (k0_pay4 x0 (keyHead x5 ![1, 0, 0] (by decide))) (k0_pay5 x0 (keyHead x5 ![2, 0, 0] (by decide))) (k0_pay6 x0 (keyHead x5 ![3, 0, 0] (by decide))) (k0_pay7 x0 (keyHead x5 ![4, 0, 0] (by decide))) (k0_pay8 x0 (keyHead x5 ![5, 0, 0] (by decide))) (k0_pay9 x0 (keyHead x5 ![6, 0, 0] (by decide))) (k0_pay10 x0 (keyHead x5 ![7, 0, 0] (by decide))) (k0_pay13 (k0_pay11 x0) (k0_pay12 x0) (keyHead x5 ![8, 0, 0] (by decide))) (k0_pay14 x0 (keyHead x5 ![9, 0, 0] (by decide))) (k0_pay15 x0 (keyHead x5 ![10, 0, 0] (by decide))) (k0_pay16 x0 (keyHead x5 ![11, 0, 0] (by decide))) (k0_pay17 x0 (keyHead x5 ![12, 0, 0] (by decide)))
    (k0_pay18 x0) (k0_pay19 x0 (keyHead x5 ![13, 0, 0] (by decide))) (keyHead x5 ![14, 0, 0] (by decide)) (keyHead x5 ![15, 0, 0] (by decide))) (valueHead x6 ![2, 0, 0] (by decide)))
  (k0_pay25 (stackedMean x0 x1 x2 x3 x4 x5) (valueHead x6 ![3, 0, 0] (by decide)))
  (k0_pay26 (stackedMean x0 x1 x2 x3 x4 x5) (valueHead x6 ![4, 0, 0] (by decide)))
  (k0_pay27 (stackedMean x0 x1 x2 x3 x4 x5) (valueHead x6 ![5, 0, 0] (by decide)))
  (k0_pay28 (stackedMean x0 x1 x2 x3 x4 x5) (valueHead x6 ![6, 0, 0] (by decide)))
  (k0_pay29 (stackedMean x0 x1 x2 x3 x4 x5) (valueHead x6 ![7, 0, 0] (by decide)))
  (k0_pay30 (stackedMean x0 x1 x2 x3 x4 x5) (valueHead x6 ![8, 0, 0] (by decide)))
  (matmul (φ₁ := .bf16) (φ₂ := .bf16) dot_S64x512_S512x128_S64x128_1_0_0_1_n_n none (k0_pay31 (F := Ideal) (stackedMean x0 x1 x2 x3 x4 x5)) (k0_pay32 (F := Ideal) (valueHead x6 ![9, 0, 0] (by decide))) (constant (F := Ideal) S64x128 .f32 0x00000000#32))
  (k0_pay33 (stackedMean x0 x1 x2 x3 x4 x5) (valueHead x6 ![10, 0, 0] (by decide)))
  (k0_pay34 (stackedMean x0 x1 x2 x3 x4 x5) (valueHead x6 ![11, 0, 0] (by decide)))
  (k0_pay35 (stackedMean x0 x1 x2 x3 x4 x5) (valueHead x6 ![12, 0, 0] (by decide)))
  (k0_pay36 (stackedMean x0 x1 x2 x3 x4 x5) (valueHead x6 ![13, 0, 0] (by decide)))
  (k0_pay37 (stackedMean x0 x1 x2 x3 x4 x5) (valueHead x6 ![14, 0, 0] (by decide)))
  (k0_pay38 (stackedMean x0 x1 x2 x3 x4 x5) (valueHead x6 ![15, 0, 0] (by decide)))

theorem block_eq : block x0 x1 x2 x3 x4 x5 x6 = stackO (headO (averaged x0 x1 x2 x3 x4 x5) x6) := by
  have h := averaged_eq x0 x1 x2 x3 x4 x5
  unfold stackedMean at h
  unfold block stackedMean
  rw [value0, value1, value2, value9, h]
  unfold valueHead
  rw [take0, take1, take2, value3, value4, value5, value6, value7, value8, take9, value10, value11, value12, value13, value14, value15]
  rfl

end

variable (m : (ℓ : Loc nD τ sig) → Buf (Elt Ideal) ℓ)

open kernelRun0_A in
theorem out_eq (c : Dev nD) (t : Fin cfg0.N) :
    outsAt0 m c t = block (iblk m c 0 t) (iblk m c 1 t) (iblk m c 2 t) (iblk m c 3 t) (iblk m c 4 t) (iblk m c 5 t) (iblk m c 6 t) := by
  unfold outsAt0 out0_A_7 kernelRun0_A
  dsimp only
  rw [stored]
  simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.v179, sl.v183, sl.v187, sl.v191, sl.v195, sl.v199, sl.v203, sl.cst_102, View.readAt_eq_ld, Memref.IsWhole.read_unread]
  simp only [View.ld_unit_zero (S := S64x4096) zero2, View.ld_unit_zero (S := S64x512) zero2, View.ld_unit_zero (S := S64x128) zero2,
    View.ld_unit_zero (S := S1x1024x512) zero3, View.ld_unit_zero (S := S1x1024x128) zero3]
  simp only [load_key, load_value]
  unfold block stackedMean
  rfl

end Cert.SampleKernelIdeal.Value

end
-- ==== Proof.SampleArgs.lean ====
/- The sample's attention, from the call's arguments: for one sample, token, head and column, the pieces of the arguments it
   is made of. -/
module

public import proofs.«01_k».proof.Proof.SampleMath
public import Idealize.ShloMosaic.Lib.Pipeline.ValueKit
public import Idealize.ShloMosaic.Lib.Pointwise

@[expose] public section

noncomputable section

namespace Cert.SampleArgs

open Idealize.ShloMosaic Cert.Layers Cert.SampleMath

abbrev Rows (n : ℕ) := (⟨2, ![18432, n]⟩ : Shape).Idx → EReal
abbrev Past (n : ℕ) := (⟨4, ![1, 32, 1024, n]⟩ : Shape).Idx → EReal
abbrev Weight := (⟨4, ![1, 512, 16, 128]⟩ : Shape).Idx → EReal

/-- The row of sample `s`'s token `r`: the samples follow the prompt's 16384 rows. -/
def row (s : Fin 32) (r : Fin 64) : Fin 18432 := ⟨16384 + 64 * s.val + r.val, by omega⟩

/-- Head `h` of a row's query: its unrotated part, then its rotated one. -/
def unrotated (q : Rows 4096) (R : Fin 18432) (h : Fin 16) (d : Fin 128) : EReal := q (ix2 R ⟨256 * h.val + d.val, by omega⟩)
def rotated (q : Rows 4096) (R : Fin 18432) (h : Fin 16) (d : Fin 128) : EReal := q (ix2 R ⟨256 * h.val + 128 + d.val, by omega⟩)

/-- The latents of sample `s`: the 1024 cached, then those of its own 64 tokens. -/
def latents (x : Rows 512) (p : Past 512) (s : Fin 32) (k : Fin 1088) (c : Fin 512) : EReal :=
  if h : k.val < 1024 then p (ix4 0 s ⟨k.val, h⟩ c) else x (ix2 (row s ⟨k.val - 1024, by omega⟩) c)

/-- Its rotary keys; the cache holds half of each, the other half repeats it. -/
def rotary (x : Rows 128) (p : Past 64) (s : Fin 32) (k : Fin 1088) (e : Fin 128) : EReal :=
  if h : k.val < 1024 then (if he : e.val < 64 then p (ix4 0 s ⟨k.val, h⟩ ⟨e.val, he⟩) else p (ix4 0 s ⟨k.val, h⟩ ⟨e.val - 64, by omega⟩))
  else x (ix2 (row s ⟨k.val - 1024, by omega⟩) e)

/-- One head of the keys' weight, one column of the values'. -/
def keyW (w : Weight) (h : Fin 16) (d : Fin 128) (c : Fin 512) : EReal := w (ix4 0 c h d)
def valueW (w : Weight) (h : Fin 16) (d : Fin 128) (c : Fin 512) : EReal := w (ix4 0 c h d)

/-- The result at sample `s`'s token `r`, column `j`, with the query projected onto the latents, -/
def lateAt (a0 : Rows 4096) (a1 : Rows 512) (a2 : Rows 128) (a3 : Past 512) (a4 : Past 64) (a5 a6 : Weight) (s : Fin 32) (r : Fin 64) (j : Fin 2048) : EReal :=
  late (scoreLate (unrotated a0 (row s r) ⟨j.val / 128, by omega⟩) (rotated a0 (row s r) ⟨j.val / 128, by omega⟩) (latents a1 a3 s) (rotary a2 a4 s)
    (keyW a5 ⟨j.val / 128, by omega⟩)) (latents a1 a3 s) (valueW a6 ⟨j.val / 128, by omega⟩ ⟨j.val % 128, by omega⟩)

/-- and with the latents projected to keys and values. -/
def earlyAt (a0 : Rows 4096) (a1 : Rows 512) (a2 : Rows 128) (a3 : Past 512) (a4 : Past 64) (a5 a6 : Weight) (s : Fin 32) (r : Fin 64) (j : Fin 2048) : EReal :=
  early (scoreEarly (unrotated a0 (row s r) ⟨j.val / 128, by omega⟩) (rotated a0 (row s r) ⟨j.val / 128, by omega⟩) (latents a1 a3 s) (rotary a2 a4 s)
    (keyW a5 ⟨j.val / 128, by omega⟩)) (latents a1 a3 s) (valueW a6 ⟨j.val / 128, by omega⟩ ⟨j.val % 128, by omega⟩)

/-- The array: the given rows for the prompt, the attention for the samples. -/
def whole (f : Fin 32 → Fin 64 → Fin 2048 → EReal) (o : Rows 2048) : Rows 2048 := fun i =>
  if (i 0).val < 16384 then o i
  else f ⟨((i 0).val - 16384) / 64, by have h : (i 0).val < 18432 := (i 0).isLt; omega⟩ ⟨((i 0).val - 16384) % 64, by omega⟩ (i 1)

theorem whole_sample (f : Fin 32 → Fin 64 → Fin 2048 → EReal) (o : Rows 2048) (i : (⟨2, ![18432, 2048]⟩ : Shape).Idx) (s : Fin 32) (r : Fin 64) (j : Fin 2048)
    (h0 : (i 0).val = 16384 + 64 * s.val + r.val) (h1 : (i 1).val = j.val) : whole f o i = f s r j := by
  refine (if_neg (by omega)).trans ?_
  rw [show (⟨((i 0).val - 16384) / 64, by omega⟩ : Fin 32) = s from Fin.ext (by dsimp only; omega),
    show (⟨((i 0).val - 16384) % 64, by omega⟩ : Fin 64) = r from Fin.ext (by dsimp only; omega)]
  exact congrArg (f s r) (Fin.ext h1)

theorem whole_prompt (f : Fin 32 → Fin 64 → Fin 2048 → EReal) (o : Rows 2048) (i : (⟨2, ![18432, 2048]⟩ : Shape).Idx) (h : (i 0).val < 16384) : whole f o i = o i :=
  if_pos h

/-- Neither infinity occurs. -/
def Finite {s : Shape} (x : s.Idx → EReal) : Prop := ∀ i, x i ≠ ⊥ ∧ x i ≠ ⊤

theorem late_eq_early (a0 : Rows 4096) (a1 : Rows 512) (a2 : Rows 128) (a3 : Past 512) (a4 : Past 64) (a5 a6 : Weight)
    (h0 : Finite a0) (h1 : Finite a1) (h2 : Finite a2) (h3 : Finite a3) (h4 : Finite a4) (h5 : Finite a5) (h6 : Finite a6)
    (s : Fin 32) (r : Fin 64) (j : Fin 2048) : lateAt a0 a1 a2 a3 a4 a5 a6 s r j = earlyAt a0 a1 a2 a3 a4 a5 a6 s r j := by
  refine orders _ _ _ _ _ _ 0 (fun _ => h0 _) (fun _ => h0 _) (fun k c => ?_) (fun k e => ?_) (fun _ _ => h5 _) (fun _ => h6 _)
  · unfold latents; split_ifs; exacts [h3 _, h1 _]
  · unfold rotary; split_ifs; exacts [h4 _, h4 _, h2 _]

end Cert.SampleArgs

end
-- ==== Proof.SampleResult.lean ====
/- The sample's attention: what the call leaves in its result array. -/
module

public import proofs.«01_k».proof.Proof.SampleBlock
public import proofs.«01_k».proof.Proof.SampleArgs

@[expose] public section

set_option maxRecDepth 16384

noncomputable section

namespace Cert.SampleKernelIdeal.Value

open Idealize.ShloMosaic Idealize.ShloMosaic.TcCoe Idealize.SL.Sem Idealize.ShloMosaic.StableHlo
open Cert.SampleKernelIdeal Cert.SampleKernelIdeal.Gen Cert.Layers Cert.SampleMath Cert.SampleArgs

/-! One block's entries. -/

theorem attend_apply (q : FVec Ideal S1024x640 .bf16) (lat : FVec Ideal S1088x512 .bf16) (kext : FVec Ideal S1088x640 .bf16) (R : Fin 1024) (c : Fin 512) :
    attend q lat kext (ix2 R c)
      = Ideal.div (dot (weight fun k => dot (fun x => q (ix2 R x)) (fun x => kext (ix2 k x))) (fun k => lat (ix2 k c)))
          (∑ k, weight (fun k => dot (fun x => q (ix2 R x)) (fun x => kext (ix2 k x))) k) := by
  have hb : Ideal.ofBits .f32 0xFF800000#32 = ⊥ := by simp [Ideal.ofBits, Ideal.ieee]
  pointwise [attend]
  unfold weight dot
  simp only [hb]
  rfl

theorem stackQ_apply (p : Fin 16 → FVec Ideal S64x640 .bf16) (h : Fin 16) (r : Fin 64) (R : Fin 1024) (hR : R.val = 64 * h.val + r.val) (x : Fin 640) :
    stackQ p (ix2 R x) = p h (ix2 r x) := by
  refine (stack_rows p _ R x).trans ?_
  exact congrArg₂ (fun a b => p a (ix2 b x)) (Fin.ext (by dsimp only; omega)) (Fin.ext (by dsimp only; omega))

theorem stackO_apply (p : Fin 16 → FVec Ideal S64x128 .f32) (r : Fin 64) (j : Fin 2048) :
    stackO p (ix2 r j) = p ⟨j.val / 128, by omega⟩ (ix2 r ⟨j.val % 128, by omega⟩) := by
  unfold stackO
  exact stack_columns p concatenates_S64x128_S64x128_S64x128_S64x128_S64x128_S64x128_S64x128_S64x128_S64x128_S64x128_S64x128_S64x128_S64x128_S64x128_S64x128_S64x128_S64x2048_d1 r j

section

variable (x0 : Queries) (x1 : Vec Ideal S64x512 .f32) (x2 : Vec Ideal S64x128 .f32) (x3 : Vec Ideal S1x1024x512 .f32)
  (x4 : Vec Ideal S1x1024x128 .f32) (x5 : KeyWeights) (x6 : ValueWeights)

/-- The block's latents and rotary keys. -/
def latB (k : Fin 1088) (c : Fin 512) : EReal := if h : k.val < 1024 then x3 (ix3 0 ⟨k.val, h⟩ c) else x1 (ix2 ⟨k.val - 1024, by omega⟩ c)
def rotB (k : Fin 1088) (e : Fin 128) : EReal := if h : k.val < 1024 then x4 (ix3 0 ⟨k.val, h⟩ e) else x2 (ix2 ⟨k.val - 1024, by omega⟩ e)

theorem lat_apply (k : Fin 1088) (c : Fin 512) : k0_pay1 (F := Ideal) x3 x1 (ix2 k c) = latB x1 x3 k c := by
  pointwise [k0_pay1]
  rfl

theorem kext_lat (k : Fin 1088) (c : Fin 512) : k0_pay2 (F := Ideal) x3 x1 x4 x2 (ix2 k (Fin.castAdd 128 c)) = latB x1 x3 k c := by
  have hc : (Fin.castAdd 128 c).val < 512 := c.isLt
  pointwise [k0_pay2, k0_pay1]
  rw [dif_pos hc]
  rfl

theorem kext_rot (k : Fin 1088) (e : Fin 128) : k0_pay2 (F := Ideal) x3 x1 x4 x2 (ix2 k (Fin.natAdd 512 e)) = rotB x2 x4 k e := by
  have hc : ¬ (Fin.natAdd 512 e).val < 512 := by rw [Fin.val_natAdd]; omega
  have he : (⟨(Fin.natAdd 512 e).val - 512, by rw [Fin.val_natAdd]; omega⟩ : Fin 128) = e := Fin.ext (by dsimp only [Fin.val_natAdd]; omega)
  pointwise [k0_pay2, k0_pay1]
  rw [dif_neg hc]
  unfold rotB
  simp only [he]

theorem score_apply (h : Fin 16) (r : Fin 64) (R : Fin 1024) (hR : R.val = 64 * h.val + r.val) (k : Fin 1088) :
    dot (fun x => stackQ (headQ x0 x5) (ix2 R x)) (fun x => k0_pay2 (F := Ideal) x3 x1 x4 x2 (ix2 k x))
      = scoreLate (fun d : Fin 128 => x0 (ix2 r ⟨256 * h.val + d.val, by omega⟩)) (fun d : Fin 128 => x0 (ix2 r ⟨256 * h.val + 128 + d.val, by omega⟩))
          (latB x1 x3) (rotB x2 x4) (fun d c => x5 (ix3 h d c)) k := by
  unfold scoreLate
  refine (Fin.sum_univ_add (a := 512) (b := 128) _).trans ?_
  refine congrArg₂ (· + ·) (Finset.sum_congr rfl fun c _ => ?_) (Finset.sum_congr rfl fun e _ => ?_)
  · refine congrArg₂ (· * ·) ((stackQ_apply _ h r R hR _).trans ?_) (kext_lat x1 x2 x3 x4 k c)
    exact dif_pos (show (Fin.castAdd 128 c).val < 512 from c.isLt)
  · refine congrArg₂ (· * ·) ((stackQ_apply _ h r R hR _).trans ?_) (kext_rot x1 x2 x3 x4 k e)
    refine (dif_neg (show ¬ (Fin.natAdd 512 e).val < 512 by rw [Fin.val_natAdd]; omega)).trans ?_
    exact congrArg (fun a => x0 (ix2 r a)) (Fin.ext (by show 256 * h.val + 128 + (512 + e.val - 512) = 256 * h.val + 128 + e.val; omega))

/-- What a step stores: the attention of the block's token `r`, at column `j`. -/
theorem block_apply (r : Fin 64) (j : Fin 2048) : block x0 x1 x2 x3 x4 x5 x6 (ix2 r j)
    = late (scoreLate (fun d : Fin 128 => x0 (ix2 r ⟨256 * (j.val / 128) + d.val, by omega⟩)) (fun d : Fin 128 => x0 (ix2 r ⟨256 * (j.val / 128) + 128 + d.val, by omega⟩))
        (latB x1 x3) (rotB x2 x4) (fun d c => x5 (ix3 ⟨j.val / 128, by omega⟩ d c))) (latB x1 x3) (fun c => x6 (ix3 ⟨j.val / 128, by omega⟩ c ⟨j.val % 128, by omega⟩)) := by
  rw [block_eq]
  refine (stackO_apply (headO (averaged x0 x1 x2 x3 x4 x5) x6) r j).trans ?_
  unfold late
  refine congrArg₂ dot (funext fun c => ?_) rfl
  refine (attend_apply _ _ _ _ c).trans ?_
  have hs : (fun k => dot (fun x => stackQ (headQ x0 x5) (ix2 (⟨64 * (j.val / 128) + r.val, by omega⟩ : Fin 1024) x)) (fun x => k0_pay2 (F := Ideal) x3 x1 x4 x2 (ix2 k x))) = _ :=
    funext fun k => score_apply x0 x1 x2 x3 x4 x5 ⟨j.val / 128, by omega⟩ r _ rfl k
  refine congrArg₂ Ideal.div (congrArg₂ dot (congrArg weight hs) (funext fun k => lat_apply x1 x3 k c)) ?_
  exact Finset.sum_congr rfl fun k _ => congrFun (congrArg weight hs) k

end

variable (m : (ℓ : Loc nD τ sig) → Buf (Elt Ideal) ℓ)

theorem idx : ∀ t : Fin cfg0.N, win0_0.index t = ![256 + t.val, 0] ∧ win0_1.index t = ![256 + t.val, 0] ∧ win0_2.index t = ![256 + t.val, 0]
    ∧ win0_3.index t = ![t.val, 0, 0] ∧ win0_4.index t = ![t.val, 0, 0] ∧ win0_5.index t = ![0, 0, 0] ∧ win0_6.index t = ![0, 0, 0]
    ∧ win0_7.index t = ![256 + t.val, 0] ∧ t.val < 32 :=
  (by decide +kernel : ∀ t : Fin grid0.N, _)

theorem blk0 (c : Dev nD) (t : Fin cfg0.N) (r : Fin 64) (j : Fin 4096) (a : Fin 18432) (ha : a.val = 16384 + 64 * t.val + r.val) :
    iblk m c 0 t (ix2 r j) = (V m c main_arg0 : FVec Ideal S18432x4096 .bf16) (ix2 a j) := by
  blk_ext [iblk, idx t]

theorem blk1 (c : Dev nD) (t : Fin cfg0.N) (r : Fin 64) (j : Fin 512) (a : Fin 18432) (ha : a.val = 16384 + 64 * t.val + r.val) :
    iblk m c 1 t (ix2 r j) = (V m c main_arg1 : FVec Ideal S18432x512 .f32) (ix2 a j) := by
  blk_ext [iblk, idx t]

theorem blk2 (c : Dev nD) (t : Fin cfg0.N) (r : Fin 64) (j : Fin 128) (a : Fin 18432) (ha : a.val = 16384 + 64 * t.val + r.val) :
    iblk m c 2 t (ix2 r j) = (V m c main_arg2 : FVec Ideal S18432x128 .f32) (ix2 a j) := by
  blk_ext [iblk, idx t]

theorem blk3 (c : Dev nD) (t : Fin cfg0.N) (k : Fin 1024) (j : Fin 512) (s : Fin 32) (hs : s.val = t.val) :
    iblk m c 3 t (ix3 0 k j) = (V m c main_v9 : FVec Ideal S32x1024x512 .f32) (ix3 s k j) := by
  blk_ext [iblk, idx t]

theorem blk4 (c : Dev nD) (t : Fin cfg0.N) (k : Fin 1024) (j : Fin 128) (s : Fin 32) (hs : s.val = t.val) :
    iblk m c 4 t (ix3 0 k j) = (V m c main_v8 : FVec Ideal S32x1024x128 .f32) (ix3 s k j) := by
  blk_ext [iblk, idx t]

theorem blk5 (c : Dev nD) (t : Fin cfg0.N) (h : Fin 16) (d : Fin 128) (j : Fin 512) :
    iblk m c 5 t (ix3 h d j) = (V m c main_v2 : FVec Ideal S16x128x512 .bf16) (ix3 h d j) := by
  blk_ext [iblk, idx t]

theorem blk6 (c : Dev nD) (t : Fin cfg0.N) (h : Fin 16) (d : Fin 512) (j : Fin 128) :
    iblk m c 6 t (ix3 h d j) = (V m c main_v5 : FVec Ideal S16x512x128 .bf16) (ix3 h d j) := by
  blk_ext [iblk, idx t]

/-! What the steps find: the arguments, rearranged. -/

theorem at_v10 (c : Dev nD) : V m c main_v10 = m ((c : Thread nD τ).loc main_arg7) := by
  unfold V
  after_results <;> rfl

def pastLat (p : FVec Ideal S1x32x1024x512 .f32) : FVec Ideal S32x1024x512 .f32 := shapeCast S32x1024x512 p shapeCasts_S1x32x1024x512_S32x1024x512
def pastRot (p : FVec Ideal S1x32x1024x64 .f32) : FVec Ideal S32x1024x128 .f32 :=
  concatenate S32x1024x128 2 [⟨S32x1024x64, shapeCast S32x1024x64 p shapeCasts_S1x32x1024x64_S32x1024x64⟩, ⟨S32x1024x64, shapeCast S32x1024x64 p shapeCasts_S1x32x1024x64_S32x1024x64⟩]
    concatenates_S32x1024x64_S32x1024x64_S32x1024x128_d2
def keysT (w : FVec Ideal S1x512x16x128 .f32) : FVec Ideal S16x128x512 .bf16 :=
  truncf .bf16 (transpose S16x128x512 [1, 2, 0] (shapeCast S512x16x128 w shapeCasts_S1x512x16x128_S512x16x128) transposes_S512x16x128_S16x128x512_1_2_0) bitsLt_bf16_f32
def valuesT (w : FVec Ideal S1x512x16x128 .f32) : FVec Ideal S16x512x128 .bf16 :=
  truncf .bf16 (transpose S16x512x128 [1, 0, 2] (shapeCast S512x16x128 w shapeCasts_S1x512x16x128_S512x16x128) transposes_S512x16x128_S16x512x128_1_0_2) bitsLt_bf16_f32

theorem pastLat_apply (p : FVec Ideal S1x32x1024x512 .f32) (s : Fin 32) (k : Fin 1024) (j : Fin 512) : pastLat p (ix3 s k j) = p (ix4 0 s k j) := by
  pointwise [pastLat]

theorem pastRot_apply (p : FVec Ideal S1x32x1024x64 .f32) (s : Fin 32) (k : Fin 1024) (j : Fin 128) :
    pastRot p (ix3 s k j) = if h : j.val < 64 then p (ix4 0 s k ⟨j.val, h⟩) else p (ix4 0 s k ⟨j.val - 64, by omega⟩) := by
  pointwise [pastRot]

theorem keysT_apply (w : FVec Ideal S1x512x16x128 .f32) (h : Fin 16) (d : Fin 128) (j : Fin 512) : keysT w (ix3 h d j) = w (ix4 0 j h d) := by
  pointwise [keysT]

theorem valuesT_apply (w : FVec Ideal S1x512x16x128 .f32) (h : Fin 16) (d : Fin 512) (j : Fin 128) : valuesT w (ix3 h d j) = w (ix4 0 d h j) := by
  pointwise [valuesT]

theorem at_v9 (c : Dev nD) : V m c main_v9 = pastLat (m ((c : Thread nD τ).loc main_arg3)) := by
  unfold pastLat V
  after_results <;> rfl
theorem at_v8 (c : Dev nD) : V m c main_v8 = pastRot (m ((c : Thread nD τ).loc main_arg4)) := by
  unfold pastRot V
  after_results <;> rfl
theorem at_v2 (c : Dev nD) : V m c main_v2 = keysT (m ((c : Thread nD τ).loc main_arg5)) := by
  unfold keysT V
  after_results <;> rfl
theorem at_v5 (c : Dev nD) : V m c main_v5 = valuesT (m ((c : Thread nD τ).loc main_arg6)) := by
  unfold valuesT V
  after_results <;> rfl

/-- A step's store, from the arguments. -/
theorem step_apply (c : Dev nD) (t : Fin cfg0.N) (s : Fin 32) (hs : s.val = t.val) (r : Fin 64) (j : Fin 2048) :
    outsAt0 m c t (ix2 r j) = lateAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) s r j := by
  have hrow : ∀ r : Fin 64, (row s r).val = 16384 + 64 * t.val + r.val := fun r => by rw [← hs]; rfl
  have hl : latB (iblk m c 1 t) (iblk m c 3 t) = latents (m ((c : Thread nD τ).loc main_arg1)) (m ((c : Thread nD τ).loc main_arg3)) s := by
    funext k e
    unfold latB latents
    split_ifs with h
    · rw [blk3 m c t _ _ s hs, at_v9, pastLat_apply]
    · rw [blk1 m c t _ _ _ (hrow _), V_main_arg1]
  have hr : rotB (iblk m c 2 t) (iblk m c 4 t) = rotary (m ((c : Thread nD τ).loc main_arg2)) (m ((c : Thread nD τ).loc main_arg4)) s := by
    funext k e
    unfold rotB rotary
    by_cases h : k.val < 1024
    · rw [dif_pos h, dif_pos h, blk4 m c t _ _ s hs, at_v8, pastRot_apply]
    · rw [dif_neg h, dif_neg h, blk2 m c t _ _ _ (hrow _), V_main_arg2]
  have hq : ∀ a : Fin 4096, iblk m c 0 t (ix2 r a) = (m ((c : Thread nD τ).loc main_arg0) : FVec Ideal S18432x4096 .bf16) (ix2 (row s r) a) := fun a => by
    rw [blk0 m c t _ _ _ (hrow r), V_main_arg0]
  rw [out_eq, block_apply, hl, hr]
  unfold lateAt
  refine congrArg₂ (fun a b => late a _ b) ?_ (funext fun e => (blk6 m c t _ e _).trans (by rw [at_v5, valuesT_apply]; rfl))
  congr 1
  · exact funext fun d => hq _
  · exact funext fun d => hq _
  · exact funext fun d => funext fun e => (blk5 m c t _ d e).trans (by rw [at_v2, keysT_apply]; rfl)

/-- The result array, from the arguments. -/
def result (c : Dev nD) : FVec Ideal S18432x2048 .bf16 :=
  whole (lateAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)))
    (m ((c : Thread nD τ).loc main_arg7))

theorem final (c : Dev nD) : (dats m 0 c).arrAt 7 cfg0.N = result m c := by
  funext i
  refine ((dats m 0 c).arrAt_apply_of_coversWhere 7 (result m c) (P := fun i => 16384 ≤ (i 0).val) (fun β => 256 ≤ β 0) (by decide +kernel) (fun t hf y => ?_)
    (fun j => by blk_simp [Pipeline.Window.cell_apply]; omega) i).trans ?_
  · blk_simp
    rw [after0_7]
    idx_vars y
    obtain ⟨-, -, -, -, -, -, -, -, ht⟩ := idx t
    have h0 : (((win0_7.blk t).view.emb (ix2 y0 y1)) 0).val = 16384 + 64 * t.val + y0.val := by blk_simp [idx t]; omega
    have h1 : (((win0_7.blk t).view.emb (ix2 y0 y1)) 1).val = y1.val := by blk_simp [idx t]
    rw [step_apply m c t ⟨t.val, ht⟩ rfl]
    exact (whole_sample _ _ _ ⟨t.val, ht⟩ y0 y1 h0 h1).symm
  · unfold result
    by_cases h : 16384 ≤ (i 0).val
    · exact if_pos h
    · refine (if_neg h).trans (Eq.trans ?_ (whole_prompt _ _ i (by omega)).symm)
      rw [A_eq]
      exact congrFun (at_v10 m c) i

end Cert.SampleKernelIdeal.Value

end
-- ==== Proof.SampleReference.lean ====
/- The reference's sample attention, from the call's arguments. -/
module

public import proofs.«01_k».proof.Proof.SampleArgs
public import proofs.«01_k».proof.Proof.RefValue
public import proofs.«01_k».proof.Proof.Gen.SampleReferenceIdeal.Run
public import Idealize.ShloMosaic.Lib.Pointwise

@[expose] public section

set_option maxRecDepth 16384

noncomputable section

namespace Cert.SampleReferenceIdeal.Value

open Cert.SampleReferenceIdeal Cert.SampleReferenceIdeal.Gen Idealize.ShloMosaic Idealize.ShloMosaic.TcCoe Idealize.SL.Sem
open Cert.Layers Cert.SampleMath Cert.SampleArgs

/-! ## The stages -/

def samples (a : FVec Ideal S18432x4096 .bf16) : FVec Ideal S32x64x16x256 .f32 :=
  shapeCast _ (extf .f32 (extractStridedSlice S2048x4096 ![16384, 0] a slices_S18432x4096_S2048x4096_16384_0) bitsLt_bf16_f32) shapeCasts_S2048x4096_S32x64x16x256
def ownLat (x : FVec Ideal S18432x512 .f32) : FVec Ideal S32x64x512 .f32 :=
  shapeCast _ (extractStridedSlice S2048x512 ![16384, 0] x slices_S18432x512_S2048x512_16384_0) shapeCasts_S2048x512_S32x64x512
def ownRot (x : FVec Ideal S18432x128 .f32) : FVec Ideal S32x64x128 .f32 :=
  shapeCast _ (extractStridedSlice S2048x128 ![16384, 0] x slices_S18432x128_S2048x128_16384_0) shapeCasts_S2048x128_S32x64x128
def allLat (x : FVec Ideal S18432x512 .f32) (p : FVec Ideal S1x32x1024x512 .f32) : FVec Ideal S32x1088x512 .f32 :=
  concatenate S32x1088x512 1 [⟨S32x1024x512, (shapeCast _ p shapeCasts_S1x32x1024x512_S32x1024x512)⟩, ⟨S32x64x512, ownLat x⟩]
    concatenates_S32x1024x512_S32x64x512_S32x1088x512_d1
def pastRot (p : FVec Ideal S1x32x1024x64 .f32) : FVec Ideal S32x1024x128 .f32 :=
  concatenate S32x1024x128 2 [⟨S32x1024x64, (shapeCast _ p shapeCasts_S1x32x1024x64_S32x1024x64)⟩, ⟨S32x1024x64, (shapeCast _ p shapeCasts_S1x32x1024x64_S32x1024x64)⟩]
    concatenates_S32x1024x64_S32x1024x64_S32x1024x128_d2
def allRot (x : FVec Ideal S18432x128 .f32) (p : FVec Ideal S1x32x1024x64 .f32) : FVec Ideal S32x1088x128 .f32 :=
  concatenate S32x1088x128 1 [⟨S32x1024x128, pastRot p⟩, ⟨S32x64x128, ownRot x⟩] concatenates_S32x1024x128_S32x64x128_S32x1088x128_d1
/-- The keys, or the values: the latents times a weight. -/
def projected (l : FVec Ideal S32x1088x512 .f32) (w : FVec Ideal S1x512x16x128 .f32) : FVec Ideal S32x1088x16x128 .f32 :=
  Host.dotGeneral dot_S32x1088x512_S512x16x128_S32x1088x16x128_2_0_01_12_n_n none l (shapeCast _ w shapeCasts_S1x512x16x128_S512x16x128)
def products (q : FVec Ideal S32x64x16x256 .f32) (k : FVec Ideal S32x1088x16x128 .f32) (t : FVec Ideal S32x1088x128 .f32) : FVec Ideal S32x16x64x1088 .f32 :=
  addf (Host.dotGeneral dot_S32x64x16x128_S32x1088x16x128_S32x16x64x1088_3_3_1_1_02_02 none
      (extractStridedSlice S32x64x16x128 ![0, 0, 0, 0] q slices_S32x64x16x256_S32x64x16x128_0_0_0_0) k)
    (transpose S32x16x64x1088 [0, 3, 2, 1] (Host.dotGeneral dot_S32x1088x128_S32x64x16x128_S32x1088x64x16_2_3_1_12_0_0 none t
      (extractStridedSlice S32x64x16x128 ![0, 0, 0, 128] q slices_S32x64x16x256_S32x64x16x128_0_0_0_128)) transposes_S32x1088x64x16_S32x16x64x1088_0_3_2_1)
def masked (u : FVec Ideal S32x16x64x1088 .f32) : FVec Ideal S32x16x64x1088 .f32 :=
  select (broadcastInDim S32x16x64x1088 ![0, 1, 2, 3] bcast_S1x1x64x1088_S32x16x64x1088_0_1_2_3 (broadcastInDim S1x1x64x1088 ![2, 3] bcast_S64x1088_S1x1x64x1088_2_3
    (cmpi .sle (Host.divsi (iotaInDim S64x1088 32 1) (broadcastInDim S64x1088 ![] bcast_S_S64x1088 (constantI S_ 32 64#32)))
      (Host.divsi (addi (broadcastInDim S64x1088 ![] bcast_S_S64x1088 (constantI S_ 32 1024#32)) (iotaInDim S64x1088 32 0))
        (broadcastInDim S64x1088 ![] bcast_S_S64x1088 (constantI S_ 32 64#32)))))) u
    (broadcastInDim S32x16x64x1088 ![] bcast_S_S32x16x64x1088 (id (constant S_ .f32 0xF149F2CA#32)))
def weighed (u : FVec Ideal S32x16x64x1088 .f32) : FVec Ideal S32x16x64x1088 .f32 :=
  Host.powf (broadcastInDim S32x16x64x1088 ![] bcast_S_S32x16x64x1088 (constant S_ .f32 0x40000000#32)) (subf u
    (broadcastInDim S32x16x64x1088 ![0, 1, 2, 3] bcast_S32x16x64x1_S32x16x64x1088_0_1_2_3 (broadcastInDim S32x16x64x1 ![0, 1, 2] bcast_S32x16x64_S32x16x64x1_0_1_2
      (Host.reduce FloatOps.maximumf u (constant S_ .f32 0xFF800000#32) reducesTo_S32x16x64x1088_S32x16x64_d3 h_S_))))
def divided (p : FVec Ideal S32x16x64x1088 .f32) : FVec Ideal S32x16x64x1088 .f32 :=
  Host.divf p (broadcastInDim S32x16x64x1088 ![0, 1, 2, 3] bcast_S32x16x64x1_S32x16x64x1088_0_1_2_3 (broadcastInDim S32x16x64x1 ![0, 1, 2] bcast_S32x16x64_S32x16x64x1_0_1_2
    (Host.reduceAdd p (constant S_ .f32 0x00000000#32) reducesTo_S32x16x64x1088_S32x16x64_d3 h_S_)))
def averaged (v : FVec Ideal S32x1088x16x128 .f32) (p : FVec Ideal S32x16x64x1088 .f32) : FVec Ideal S32x16x128x64 .f32 :=
  Host.dotGeneral dot_S32x1088x16x128_S32x16x64x1088_S32x16x128x64_1_3_3_2_02_01 none v p
def laid (y : FVec Ideal S32x16x128x64 .f32) : FVec Ideal S2048x2048 .bf16 :=
  truncf .bf16 (shapeCast _ (transpose S32x64x16x128 [0, 3, 1, 2] y transposes_S32x16x128x64_S32x64x16x128_0_3_1_2) shapeCasts_S32x64x16x128_S2048x2048) bitsLt_bf16_f32
def joined (o : FVec Ideal S18432x2048 .bf16) (y : FVec Ideal S2048x2048 .bf16) : FVec Ideal S18432x2048 .bf16 :=
  concatenate S18432x2048 0 [⟨S16384x2048, (extractStridedSlice S16384x2048 ![0, 0] o slices_S18432x2048_S16384x2048_0_0)⟩, ⟨S2048x2048, y⟩]
    concatenates_S16384x2048_S2048x2048_S18432x2048_d0

/-! ## Their elements -/

theorem samples_apply (a : FVec Ideal S18432x4096 .bf16) (s : Fin 32) (r : Fin 64) (h : Fin 16) (d : Fin 256) :
    samples a (ix4 s r h d) = a (ix2 (row s r) ⟨256 * h.val + d.val, by omega⟩) := by
  unfold samples
  rw [shapeCast_apply _ _ (ix4 s r h d) (ix2 ⟨64 * s.val + r.val, by omega⟩ ⟨256 * h.val + d.val, by omega⟩) (by
    rw [Shape.rowMajor_val_four, Shape.rowMajor_val_two]
    show (64 * s.val + r.val) * 4096 + (256 * h.val + d.val) = ((s.val * 64 + r.val) * 16 + h.val) * 256 + d.val
    omega)]
  pointwise []
  exact congrArg a (congrArg₂ ix2 (Fin.ext (by show 16384 + (64 * s.val + r.val) = 16384 + 64 * s.val + r.val; omega)) rfl)

theorem ownLat_apply (x : FVec Ideal S18432x512 .f32) (s : Fin 32) (r : Fin 64) (c : Fin 512) : ownLat x (ix3 s r c) = x (ix2 (row s r) c) := by
  unfold ownLat
  rw [shapeCast_apply _ _ (ix3 s r c) (ix2 ⟨64 * s.val + r.val, by omega⟩ c) (by
    rw [Shape.rowMajor_val_three, Shape.rowMajor_val_two]
    show (64 * s.val + r.val) * 512 + c.val = (s.val * 64 + r.val) * 512 + c.val
    omega)]
  pointwise []
  exact congrArg x (congrArg₂ ix2 (Fin.ext (by show 16384 + (64 * s.val + r.val) = 16384 + 64 * s.val + r.val; omega)) rfl)

theorem ownRot_apply (x : FVec Ideal S18432x128 .f32) (s : Fin 32) (r : Fin 64) (c : Fin 128) : ownRot x (ix3 s r c) = x (ix2 (row s r) c) := by
  unfold ownRot
  rw [shapeCast_apply _ _ (ix3 s r c) (ix2 ⟨64 * s.val + r.val, by omega⟩ c) (by
    rw [Shape.rowMajor_val_three, Shape.rowMajor_val_two]
    show (64 * s.val + r.val) * 128 + c.val = (s.val * 64 + r.val) * 128 + c.val
    omega)]
  pointwise []
  exact congrArg x (congrArg₂ ix2 (Fin.ext (by show 16384 + (64 * s.val + r.val) = 16384 + 64 * s.val + r.val; omega)) rfl)

theorem allLat_apply (x : FVec Ideal S18432x512 .f32) (p : FVec Ideal S1x32x1024x512 .f32) (s : Fin 32) (k : Fin 1088) (c : Fin 512) :
    allLat x p (ix3 s k c) = latents x p s k c := by
  pointwise [allLat]
  unfold latents
  by_cases h : k.val < 1024
  · rw [dif_pos h, dif_pos h]
  · rw [dif_neg h, dif_neg h]
    exact ownLat_apply x s _ c

theorem pastRot_apply (p : FVec Ideal S1x32x1024x64 .f32) (s : Fin 32) (k : Fin 1024) (e : Fin 128) :
    pastRot p (ix3 s k e) = if h : e.val < 64 then p (ix4 0 s k ⟨e.val, h⟩) else p (ix4 0 s k ⟨e.val - 64, by omega⟩) := by
  pointwise [pastRot]

theorem allRot_apply (x : FVec Ideal S18432x128 .f32) (p : FVec Ideal S1x32x1024x64 .f32) (s : Fin 32) (k : Fin 1088) (e : Fin 128) :
    allRot x p (ix3 s k e) = rotary x p s k e := by
  pointwise [allRot]
  unfold rotary
  by_cases h : k.val < 1024
  · rw [dif_pos h, dif_pos h]
    exact pastRot_apply p s _ e
  · rw [dif_neg h, dif_neg h]
    exact ownRot_apply x s _ e

theorem projected_apply (l : FVec Ideal S32x1088x512 .f32) (w : FVec Ideal S1x512x16x128 .f32) (s : Fin 32) (k : Fin 1088) (h : Fin 16) (d : Fin 128) :
    projected l w (ix4 s k h d) = dot (fun c => l (ix3 s k c)) (fun c => w (ix4 0 c h d)) := by
  pointwise [projected]
  rfl

theorem products_apply (q : FVec Ideal S32x64x16x256 .f32) (x : FVec Ideal S32x1088x16x128 .f32) (t : FVec Ideal S32x1088x128 .f32)
    (s : Fin 32) (h : Fin 16) (r : Fin 64) (k : Fin 1088) :
    products q x t (ix4 s h r k) = dot (fun d : Fin 128 => q (ix4 s r h ⟨d.val, by omega⟩)) (fun d => x (ix4 s k h d))
      + dot (fun e => t (ix3 s k e)) (fun e : Fin 128 => q (ix4 s r h ⟨128 + e.val, by omega⟩)) := by
  pointwise [products]
  rfl

/-- Every token's chunk, 16, is no earlier than any key's: nothing is masked. -/
theorem key_chunk : ∀ k : Fin 1088, IntOp.cmpi .sle (IntOp.divsi ArithUnit.host (BitVec.ofNat 32 k.val) 64#32) 16#32 = 1#1 := by decide +kernel
theorem token_chunk : ∀ r : Fin 64, IntOp.divsi ArithUnit.host (IntOp.addi 1024#32 (BitVec.ofNat 32 r.val)) 64#32 = 16#32 := by decide +kernel

theorem masked_apply (u : FVec Ideal S32x16x64x1088 .f32) (s : Fin 32) (h : Fin 16) (r : Fin 64) (k : Fin 1088) : masked u (ix4 s h r k) = u (ix4 s h r k) := by
  pointwise [masked]
  rw [token_chunk, key_chunk]
  exact if_pos rfl

theorem weighed_apply (u : FVec Ideal S32x16x64x1088 .f32) (s : Fin 32) (h : Fin 16) (r : Fin 64) (k : Fin 1088) :
    weighed u (ix4 s h r k) = weight (fun k => u (ix4 s h r k)) k := by
  pointwise [weighed]
  rw [Cert.ReferenceIdeal.Attn.pow_two, Cert.ReferenceIdeal.Attn.low_eq]
  rfl

theorem divided_apply (p : FVec Ideal S32x16x64x1088 .f32) (s : Fin 32) (h : Fin 16) (r : Fin 64) (k : Fin 1088) :
    divided p (ix4 s h r k) = Ideal.div (p (ix4 s h r k)) (∑ k, p (ix4 s h r k)) := by
  pointwise [divided]

theorem averaged_apply (v : FVec Ideal S32x1088x16x128 .f32) (p : FVec Ideal S32x16x64x1088 .f32) (s : Fin 32) (h : Fin 16) (d : Fin 128) (r : Fin 64) :
    averaged v p (ix4 s h d r) = dot (fun k => v (ix4 s k h d)) (fun k => p (ix4 s h r k)) := by
  pointwise [averaged]
  rfl

theorem laid_apply (y : FVec Ideal S32x16x128x64 .f32) (s : Fin 32) (r : Fin 64) (j : Fin 2048) :
    laid y (ix2 ⟨64 * s.val + r.val, by omega⟩ j) = y (ix4 s ⟨j.val / 128, by omega⟩ ⟨j.val % 128, by omega⟩ r) := by
  unfold laid
  show shapeCast S2048x2048 (transpose S32x64x16x128 [0, 3, 1, 2] y transposes_S32x16x128x64_S32x64x16x128_0_3_1_2) shapeCasts_S32x64x16x128_S2048x2048 _ = _
  rw [shapeCast_apply _ _ (ix2 (⟨64 * s.val + r.val, by omega⟩ : Fin 2048) j) (ix4 s r (⟨j.val / 128, by omega⟩ : Fin 16) (⟨j.val % 128, by omega⟩ : Fin 128)) (by
    rw [Shape.rowMajor_val_four, Shape.rowMajor_val_two]
    show ((s.val * 64 + r.val) * 16 + j.val / 128) * 128 + j.val % 128 = (64 * s.val + r.val) * 2048 + j.val
    omega)]
  pointwise []

/-! ## The result -/

def probabilities (a0 : FVec Ideal S18432x4096 .bf16) (l : FVec Ideal S32x1088x512 .f32) (t : FVec Ideal S32x1088x128 .f32) (a5 : FVec Ideal S1x512x16x128 .f32) :
    FVec Ideal S32x16x64x1088 .f32 :=
  divided (weighed (masked (products (samples a0) (projected l a5) t)))

def heads (a0 : FVec Ideal S18432x4096 .bf16) (l : FVec Ideal S32x1088x512 .f32) (t : FVec Ideal S32x1088x128 .f32) (a5 a6 : FVec Ideal S1x512x16x128 .f32) :
    FVec Ideal S2048x2048 .bf16 :=
  laid (averaged (projected l a6) (probabilities a0 l t a5))

theorem heads_apply (a0 : FVec Ideal S18432x4096 .bf16) (a1 : FVec Ideal S18432x512 .f32) (a2 : FVec Ideal S18432x128 .f32) (a3 : FVec Ideal S1x32x1024x512 .f32)
    (a4 : FVec Ideal S1x32x1024x64 .f32) (a5 a6 : FVec Ideal S1x512x16x128 .f32) (s : Fin 32) (r : Fin 64) (j : Fin 2048) :
    heads a0 (allLat a1 a3) (allRot a2 a4) a5 a6 (ix2 ⟨64 * s.val + r.val, by omega⟩ j) = earlyAt a0 a1 a2 a3 a4 a5 a6 s r j := by
  have hs : ∀ (h : Fin 16) (k : Fin 1088), masked (products (samples a0) (projected (allLat a1 a3) a5) (allRot a2 a4)) (ix4 s h r k)
      = scoreEarly (unrotated a0 (row s r) h) (rotated a0 (row s r) h) (latents a1 a3 s) (rotary a2 a4 s) (keyW a5 h) k := fun h k => by
    rw [masked_apply, products_apply]
    simp only [projected_apply, allLat_apply, allRot_apply, samples_apply]
    unfold scoreEarly
    refine congrArg (_ + ·) (congrArg (dot _) (funext fun e => congrArg a0 (congrArg (ix2 _) (Fin.ext ?_))))
    show 256 * h.val + (128 + e.val) = 256 * h.val + 128 + e.val
    omega
  unfold heads probabilities
  rw [laid_apply, averaged_apply]
  simp only [divided_apply, weighed_apply, hs, projected_apply, allLat_apply]
  rfl

variable (m : (ℓ : Loc nD τ sig) → Buf (Elt Idealize.ShloMosaic.Ideal) ℓ)

set_option maxHeartbeats 2000000 in
theorem res_eq (c : Dev nD) : res_main_v49 m c = joined (m (c.tc.loc main_arg7))
    (heads (m (c.tc.loc main_arg0)) (allLat (m (c.tc.loc main_arg1)) (m (c.tc.loc main_arg3))) (allRot (m (c.tc.loc main_arg2)) (m (c.tc.loc main_arg4)))
      (m (c.tc.loc main_arg5)) (m (c.tc.loc main_arg6))) := rfl

theorem joined_heads (a0 : FVec Ideal S18432x4096 .bf16) (a1 : FVec Ideal S18432x512 .f32) (a2 : FVec Ideal S18432x128 .f32) (a3 : FVec Ideal S1x32x1024x512 .f32)
    (a4 : FVec Ideal S1x32x1024x64 .f32) (a5 a6 : FVec Ideal S1x512x16x128 .f32) (a7 : FVec Ideal S18432x2048 .bf16) :
    joined a7 (heads a0 (allLat a1 a3) (allRot a2 a4) a5 a6) = whole (earlyAt a0 a1 a2 a3 a4 a5 a6) a7 := by
  funext i
  idx_vars i
  pointwise [joined]
  by_cases h : i0.val < 16384
  · rw [dif_pos h]
    exact (whole_prompt _ a7 (ix2 i0 i1) h).symm
  · rw [dif_neg h, whole_sample _ a7 (ix2 i0 i1) ⟨(i0.val - 16384) / 64, by omega⟩ ⟨(i0.val - 16384) % 64, by omega⟩ i1
      (by show i0.val = _; dsimp only; omega) rfl, ← heads_apply]
    exact congrArg _ (congrArg₂ ix2 (Fin.ext (by dsimp only; omega)) rfl)

end Cert.SampleReferenceIdeal.Value

end
-- ==== Proof.SampleClaims.lean ====
/- The claims about the samples' attention. -/
module

public import proofs.«01_k».proof.Defs
public import proofs.«01_k».proof.Proof.Gen.SampleKernel.Frame
public import proofs.«01_k».proof.Proof.Gen.Pre_finite_sample
public import proofs.«01_k».proof.Proof.Args
public import proofs.«01_k».proof.Proof.SampleResult
public import proofs.«01_k».proof.Proof.SampleReference
public import Idealize.ShloMosaic.Lib.Quiescent

@[expose] public section

set_option maxRecDepth 16384

noncomputable section

namespace Cert.SampleClaims

open Idealize.ShloMosaic Idealize.ShloMosaic.TcCoe Idealize.SL.Sem
open Cert.SampleKernelIdeal.Gen Cert.SampleArgs

theorem frame_kernel : Cert.quiescent_SampleKernel := fun m ρ _ => Cert.SampleKernel.Gen.frame m ρ
theorem frame_ideal : Cert.quiescent_SampleKernelIdeal := fun m ρ _ => Cert.SampleKernelIdeal.Gen.frame m ρ
theorem frame_ideal_pre : Cert.quiescent_SampleKernelIdeal_pre_finite_sample := fun m ρ _ => Cert.SampleKernelIdeal.Gen.frame m ρ
theorem frame_reference : Cert.quiescent_SampleReferenceIdeal := fun m ρ _ =>
  (θ_run Cert.SampleReferenceIdeal.defs _ _).mono (fun r h => ⟨fun c => (h c).2, sem_eq_zero_of_no_sems (by decide) r.2⟩)
    (Cert.SampleReferenceIdeal.Value.run (F := Ideal) m ρ)
theorem frame_reference_pre : Cert.quiescent_SampleReferenceIdeal_pre_finite_sample := fun m ρ _ => frame_reference m ρ trivial

theorem preserves : Cert.preserves_SampleKernel_SampleKernelIdeal := trivial

/-- What the precondition says: no infinity among the first seven arguments. -/
theorem finite_args [Cert.Pre_finite_sample.Facts] (a0 : Rows 4096) (a1 : Rows 512) (a2 : Rows 128) (a3 : Past 512) (a4 : Past 64) (a5 a6 : Weight) (a7 : Rows 2048)
    (h : Cert.Pre_finite_sample.fn (F := Ideal) a0 a1 a2 a3 a4 a5 a6 a7 = fun _ => 1#1) :
    Finite a0 ∧ Finite a1 ∧ Finite a2 ∧ Finite a3 ∧ Finite a4 ∧ Finite a5 ∧ Finite a6 := by
  have h := congrFun h ix0
  unfold Cert.Pre_finite_sample.fn Cert.Pre_finite_sample.fn_part1 Cert.Pre_finite_sample.fn_part2 at h
  dsimp only at h
  obtain ⟨h, h6⟩ := Cert.Args.and_one _ _ h
  obtain ⟨h, h5⟩ := Cert.Args.and_one _ _ h
  obtain ⟨h, h4⟩ := Cert.Args.and_one _ _ h
  obtain ⟨h, h3⟩ := Cert.Args.and_one _ _ h
  obtain ⟨h, h2⟩ := Cert.Args.and_one _ _ h
  obtain ⟨h0, h1⟩ := Cert.Args.and_one _ _ h
  exact ⟨fun i => Cert.Args.below _ (Host.reduce_andi_all _ _ _ _ _ h0 i), fun i => Cert.Args.below _ (Host.reduce_andi_all _ _ _ _ _ h1 i),
    fun i => Cert.Args.below _ (Host.reduce_andi_all _ _ _ _ _ h2 i), fun i => Cert.Args.below _ (Host.reduce_andi_all _ _ _ _ _ h3 i),
    fun i => Cert.Args.below _ (Host.reduce_andi_all _ _ _ _ _ h4 i), fun i => Cert.Args.below _ (Host.reduce_andi_all _ _ _ _ _ h5 i),
    fun i => Cert.Args.below _ (Host.reduce_andi_all _ _ _ _ _ h6 i)⟩

/-- Both programs end at the same array. -/
theorem algebraic : Cert.algebraic_SampleKernelIdeal_SampleReferenceIdeal_pre_finite_sample := by
  intro m ρ m' ρ' hpre hagree
  refine ⟨fun c => Cert.SampleKernelIdeal.Value.result m c, ?_, ?_⟩
  · exact (θ_run Cert.SampleKernelIdeal.defs _ _).mono (fun _ h c => ⟨((h.1 c).1 7).trans (Cert.SampleKernelIdeal.Value.final m c), h.2 c⟩)
      (θ_run_and (Cert.SampleKernelIdeal.Gen.run_main (F := Ideal) m ρ) (Cert.SampleKernelIdeal.Gen.unchanged (F := Ideal) m ρ))
  · refine (θ_run Cert.SampleReferenceIdeal.defs _ _).mono (fun _ h c => ⟨(h c).1.trans ?_, (h c).2⟩)
      (Cert.SampleReferenceIdeal.Value.run (F := Ideal) m' ρ')
    obtain ⟨e0, e1, e2, e3, e4, e5, e6, e7⟩ := hagree c
    obtain ⟨h0, h1, h2, h3, h4, h5, h6⟩ := finite_args _ _ _ _ _ _ _ _ (hpre c)
    rw [Cert.SampleReferenceIdeal.Value.res_eq, e0, e1, e2, e3, e4, e5, e6, e7]
    refine (Cert.SampleReferenceIdeal.Value.joined_heads _ _ _ _ _ _ _ _).trans ?_
    unfold Cert.SampleKernelIdeal.Value.result
    exact congrArg (fun f => whole f _) (funext fun s => funext fun r => funext fun j => (late_eq_early _ _ _ _ _ _ _ h0 h1 h2 h3 h4 h5 h6 s r j).symm)

end Cert.SampleClaims

end
-- ==== Proof.lean ====
module

public import proofs.«01_k».proof.Defs
public import proofs.«01_k».proof.Proof.AttnClaims
public import proofs.«01_k».proof.Proof.InputClaims
public import proofs.«01_k».proof.Proof.MemoryClaims
public import proofs.«01_k».proof.Proof.MergeClaims
public import proofs.«01_k».proof.Proof.UpClaims
public import proofs.«01_k».proof.Proof.RopeClaims
public import proofs.«01_k».proof.Proof.KvClaims
public import proofs.«01_k».proof.Proof.SampleClaims
public import proofs.«01_k».proof.Proof.Gen.ReferenceIdeal
public import proofs.«01_k».proof.Proof.Gen.ReferenceIdeal.Run
public import proofs.«01_k».proof.Proof.Gen.Pre_finite
public import proofs.«01_k».proof.Proof.Gen.On_prompt_rows
public import proofs.«01_k».proof.Proof.Gen.InputKernel.Frame
public import proofs.«01_k».proof.Proof.Gen.InputKernelIdeal.Frame
public import proofs.«01_k».proof.Proof.Gen.InputReferenceIdeal.Run
public import proofs.«01_k».proof.Proof.Gen.MemoryKernel.Frame
public import proofs.«01_k».proof.Proof.Gen.MemoryKernelIdeal.Frame
public import proofs.«01_k».proof.Proof.Gen.MemoryReferenceIdeal.Run
public import proofs.«01_k».proof.Proof.Gen.MergeKernel.Frame
public import proofs.«01_k».proof.Proof.Gen.MergeKernelIdeal.Frame
public import proofs.«01_k».proof.Proof.Gen.MergeReferenceIdeal.Run
public import proofs.«01_k».proof.Proof.Gen.UpKernel.Skeleton
public import proofs.«01_k».proof.Proof.Gen.UpKernel.Launch
public import proofs.«01_k».proof.Proof.Gen.UpKernelIdeal.Skeleton
public import proofs.«01_k».proof.Proof.Gen.UpKernelIdeal.Launch
public import proofs.«01_k».proof.Proof.Gen.UpReferenceIdeal.Run
public import proofs.«01_k».proof.Proof.Gen.Pre_blocks_fit
public import proofs.«01_k».proof.Proof.Gen.On_rows_used
public import proofs.«01_k».proof.Proof.Gen.RopeKernel.Frame
public import proofs.«01_k».proof.Proof.Gen.RopeKernelIdeal.Frame
public import proofs.«01_k».proof.Proof.Gen.RopeReferenceIdeal.Run
public import proofs.«01_k».proof.Proof.Gen.Pre_finite_projection
public import proofs.«01_k».proof.Proof.Gen.KvKernel.Frame
public import proofs.«01_k».proof.Proof.Gen.KvKernelIdeal.Frame
public import proofs.«01_k».proof.Proof.Gen.KvReferenceIdeal.Run
public import proofs.«01_k».proof.Proof.Gen.SampleKernel.Frame
public import proofs.«01_k».proof.Proof.Gen.SampleKernelIdeal.Frame
public import proofs.«01_k».proof.Proof.Gen.SampleReferenceIdeal.Run
public import proofs.«01_k».proof.Proof.Gen.Pre_finite_sample
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InputKernel.Gen.facts, Cert.InputKernelIdeal.Gen.facts, Cert.InputReferenceIdeal.Gen.facts, Cert.MemoryKernel.Gen.facts, Cert.MemoryKernelIdeal.Gen.facts, Cert.MemoryReferenceIdeal.Gen.facts, Cert.MergeKernel.Gen.facts, Cert.MergeKernelIdeal.Gen.facts, Cert.MergeReferenceIdeal.Gen.facts, Cert.UpKernel.Gen.facts, Cert.UpKernelIdeal.Gen.facts, Cert.UpReferenceIdeal.Gen.facts, Cert.RopeKernel.Gen.facts, Cert.RopeKernelIdeal.Gen.facts, Cert.RopeReferenceIdeal.Gen.facts, Cert.KvKernel.Gen.facts, Cert.KvKernelIdeal.Gen.facts, Cert.KvReferenceIdeal.Gen.facts, Cert.SampleKernel.Gen.facts, Cert.SampleKernelIdeal.Gen.facts, Cert.SampleReferenceIdeal.Gen.facts, Cert.Pre_finite.Gen.facts, Cert.Pre_blocks_fit.Gen.facts, Cert.Pre_finite_projection.Gen.facts, Cert.Pre_finite_sample.Gen.facts, Cert.On_prompt_rows.Gen.facts, Cert.On_rows_used.Gen.facts,
  Cert.AttnClaims.frame_kernel, Cert.AttnClaims.frame_ideal, Cert.AttnClaims.frame_ideal_pre, Cert.AttnClaims.frame_reference, Cert.AttnClaims.frame_reference_pre,
  Cert.InputClaims.frame_kernel, Cert.InputClaims.frame_ideal, Cert.InputClaims.frame_reference,
  Cert.MemoryClaims.frame_kernel, Cert.MemoryClaims.frame_ideal, Cert.MemoryClaims.frame_reference,
  Cert.MergeClaims.frame_kernel, Cert.MergeClaims.frame_ideal, Cert.MergeClaims.frame_reference,
  Cert.UpClaims.frame_kernel, Cert.UpClaims.frame_ideal, Cert.UpClaims.frame_reference, Cert.UpClaims.frame_reference_pre,
  Cert.RopeClaims.frame_kernel, Cert.RopeClaims.frame_ideal, Cert.RopeClaims.frame_ideal_pre, Cert.RopeClaims.frame_reference, Cert.RopeClaims.frame_reference_pre,
  Cert.KvClaims.frame_kernel, Cert.KvClaims.frame_ideal, Cert.KvClaims.frame_reference,
  Cert.SampleClaims.frame_kernel, Cert.SampleClaims.frame_ideal, Cert.SampleClaims.frame_ideal_pre, Cert.SampleClaims.frame_reference, Cert.SampleClaims.frame_reference_pre,
  Cert.AttnClaims.preserves, Cert.AttnClaims.algebraic, Cert.InputClaims.preserves, Cert.InputClaims.algebraic,
  Cert.MemoryClaims.preserves, Cert.MemoryClaims.algebraic,
  Cert.MergeClaims.preserves, Cert.MergeClaims.algebraic,
  Cert.UpClaims.preserves, Cert.UpClaims.algebraic,
  Cert.RopeClaims.preserves, Cert.RopeClaims.algebraic,
  Cert.KvClaims.preserves, Cert.KvClaims.algebraic,
  Cert.SampleClaims.preserves, Cert.SampleClaims.algebraic⟩

end Cert.Proof

end
